-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v7)) (v7 : (c : Dev Cert.KernelIdeal.nD) → Buf (Elt Ideal) ((c.tc : Thread Cert.KernelIdeal.nD Cert.KernelIdeal.τ).loc Cert.KernelIdeal.main_v8)) (v8 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v7) = v6 c
          ∧ r.2.mem ((c.tc : Thread Cert.KernelIdeal.nD Cert.KernelIdeal.τ).loc Cert.KernelIdeal.main_v8) = v7 c
          ∧ r.2.mem ((c.tc : Thread Cert.KernelIdeal.nD Cert.KernelIdeal.τ).loc Cert.KernelIdeal.main_v9) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_v54) = v5 c
          ∧ r.2.mem ((c.tc : Thread Cert.ReferenceIdeal.nD Cert.ReferenceIdeal.τ).loc Cert.ReferenceIdeal.main_v69) = v6 c
          ∧ r.2.mem ((c.tc : Thread Cert.ReferenceIdeal.nD Cert.ReferenceIdeal.τ).loc Cert.ReferenceIdeal.main_v63) = v7 c
          ∧ r.2.mem ((c.tc : Thread Cert.ReferenceIdeal.nD Cert.ReferenceIdeal.τ).loc Cert.ReferenceIdeal.main_v106) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v15)) (v5 : (c : Dev Cert.Kernel2Ideal.nD) → Buf (Elt Ideal) ((c.tc : Thread Cert.Kernel2Ideal.nD Cert.Kernel2Ideal.τ).loc Cert.Kernel2Ideal.main_v16)) (v6 : (c : Dev Cert.Kernel2Ideal.nD) → Buf (Elt Ideal) ((c.tc : Thread Cert.Kernel2Ideal.nD Cert.Kernel2Ideal.τ).loc Cert.Kernel2Ideal.main_v17)) (v7 : (c : Dev Cert.Kernel2Ideal.nD) → Buf (Elt Ideal) ((c.tc : Thread Cert.Kernel2Ideal.nD Cert.Kernel2Ideal.τ).loc Cert.Kernel2Ideal.main_v18)) (v8 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v15) = v4 c
          ∧ r.2.mem ((c.tc : Thread Cert.Kernel2Ideal.nD Cert.Kernel2Ideal.τ).loc Cert.Kernel2Ideal.main_v16) = v5 c
          ∧ r.2.mem ((c.tc : Thread Cert.Kernel2Ideal.nD Cert.Kernel2Ideal.τ).loc Cert.Kernel2Ideal.main_v17) = v6 c
          ∧ r.2.mem ((c.tc : Thread Cert.Kernel2Ideal.nD Cert.Kernel2Ideal.τ).loc Cert.Kernel2Ideal.main_v18) = v7 c
          ∧ r.2.mem ((c.tc : Thread Cert.Kernel2Ideal.nD Cert.Kernel2Ideal.τ).loc Cert.Kernel2Ideal.main_v19) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_v120) = v1 c
          ∧ r.2.mem ((c.tc : Thread Cert.Reference2Ideal.nD Cert.Reference2Ideal.τ).loc Cert.Reference2Ideal.main_v105) = v2 c
          ∧ r.2.mem ((c.tc : Thread Cert.Reference2Ideal.nD Cert.Reference2Ideal.τ).loc Cert.Reference2Ideal.main_v121) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_v81) = v6 c
          ∧ r.2.mem ((c.tc : Thread Cert.Reference2Ideal.nD Cert.Reference2Ideal.τ).loc Cert.Reference2Ideal.main_v75) = v7 c
          ∧ r.2.mem ((c.tc : Thread Cert.Reference2Ideal.nD Cert.Reference2Ideal.τ).loc Cert.Reference2Ideal.main_v118) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v4)) (v3 : (c : Dev Cert.Kernel6Ideal.nD) → Buf (Elt Ideal) ((c.tc : Thread Cert.Kernel6Ideal.nD Cert.Kernel6Ideal.τ).loc Cert.Kernel6Ideal.main_v5)) (v4 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v4) = v2 c
          ∧ r.2.mem ((c.tc : Thread Cert.Kernel6Ideal.nD Cert.Kernel6Ideal.τ).loc Cert.Kernel6Ideal.main_v5) = v3 c
          ∧ r.2.mem ((c.tc : Thread Cert.Kernel6Ideal.nD Cert.Kernel6Ideal.τ).loc Cert.Kernel6Ideal.main_v6) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v28) = v2 c
          ∧ r.2.mem ((c.tc : Thread Cert.Reference7Ideal.nD Cert.Reference7Ideal.τ).loc Cert.Reference7Ideal.main_v29) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v16)) (v1 : (c : Dev Cert.Kernel13Ideal.nD) → Buf (Elt Ideal) ((c.tc : Thread Cert.Kernel13Ideal.nD Cert.Kernel13Ideal.τ).loc Cert.Kernel13Ideal.main_v17)) (v2 : (c : Dev Cert.Kernel13Ideal.nD) → Buf (Elt Ideal) ((c.tc : Thread Cert.Kernel13Ideal.nD Cert.Kernel13Ideal.τ).loc Cert.Kernel13Ideal.main_v18)) (v3 : (c : Dev Cert.Kernel13Ideal.nD) → Buf (Elt Ideal) ((c.tc : Thread Cert.Kernel13Ideal.nD Cert.Kernel13Ideal.τ).loc Cert.Kernel13Ideal.main_v19)) (v4 : (c : Dev Cert.Kernel13Ideal.nD) → Buf (Elt Ideal) ((c.tc : Thread Cert.Kernel13Ideal.nD Cert.Kernel13Ideal.τ).loc Cert.Kernel13Ideal.main_v20)) (v5 : (c : Dev Cert.Kernel13Ideal.nD) → Buf (Elt Ideal) ((c.tc : Thread Cert.Kernel13Ideal.nD Cert.Kernel13Ideal.τ).loc Cert.Kernel13Ideal.main_v21)) (v6 : (c : Dev Cert.Kernel13Ideal.nD) → Buf (Elt Ideal) ((c.tc : Thread Cert.Kernel13Ideal.nD Cert.Kernel13Ideal.τ).loc Cert.Kernel13Ideal.main_v22)) (v7 : (c : Dev Cert.Kernel13Ideal.nD) → Buf (Elt Ideal) ((c.tc : Thread Cert.Kernel13Ideal.nD Cert.Kernel13Ideal.τ).loc Cert.Kernel13Ideal.main_v23)) (v8 : (c : Dev Cert.Kernel13Ideal.nD) → Buf (Elt Ideal) ((c.tc : Thread Cert.Kernel13Ideal.nD Cert.Kernel13Ideal.τ).loc Cert.Kernel13Ideal.main_v25)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16) = v0 c
          ∧ r.2.mem ((c.tc : Thread Cert.Kernel13Ideal.nD Cert.Kernel13Ideal.τ).loc Cert.Kernel13Ideal.main_v17) = v1 c
          ∧ r.2.mem ((c.tc : Thread Cert.Kernel13Ideal.nD Cert.Kernel13Ideal.τ).loc Cert.Kernel13Ideal.main_v18) = v2 c
          ∧ r.2.mem ((c.tc : Thread Cert.Kernel13Ideal.nD Cert.Kernel13Ideal.τ).loc Cert.Kernel13Ideal.main_v19) = v3 c
          ∧ r.2.mem ((c.tc : Thread Cert.Kernel13Ideal.nD Cert.Kernel13Ideal.τ).loc Cert.Kernel13Ideal.main_v20) = v4 c
          ∧ r.2.mem ((c.tc : Thread Cert.Kernel13Ideal.nD Cert.Kernel13Ideal.τ).loc Cert.Kernel13Ideal.main_v21) = v5 c
          ∧ r.2.mem ((c.tc : Thread Cert.Kernel13Ideal.nD Cert.Kernel13Ideal.τ).loc Cert.Kernel13Ideal.main_v22) = v6 c
          ∧ r.2.mem ((c.tc : Thread Cert.Kernel13Ideal.nD Cert.Kernel13Ideal.τ).loc Cert.Kernel13Ideal.main_v23) = v7 c
          ∧ r.2.mem ((c.tc : Thread Cert.Kernel13Ideal.nD Cert.Kernel13Ideal.τ).loc Cert.Kernel13Ideal.main_v25) = v8 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_v1) = v4 c
          ∧ r.2.mem ((c.tc : Thread Cert.Reference13Ideal.nD Cert.Reference13Ideal.τ).loc Cert.Reference13Ideal.main_v49) = v5 c
          ∧ r.2.mem ((c.tc : Thread Cert.Reference13Ideal.nD Cert.Reference13Ideal.τ).loc Cert.Reference13Ideal.main_v30) = v6 c
          ∧ r.2.mem ((c.tc : Thread Cert.Reference13Ideal.nD Cert.Reference13Ideal.τ).loc Cert.Reference13Ideal.main_v36) = v7 c
          ∧ r.2.mem ((c.tc : Thread Cert.Reference13Ideal.nD Cert.Reference13Ideal.τ).loc Cert.Reference13Ideal.main_v50) = v8 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  main_v39

def fn_part1 {F : FTy → Type} [FloatOps F] (main_arg4 : FVec F S8192x1024 .f32) (main_arg5 : FVec F S1x1024 .f32) (main_arg6 : FVec F S1x1024 .f32) (main_arg7 : FVec F S1x1024 .f32) (main_v14 : IVec S_ 1) (main_v15 : FVec F S8192x1024 .f32) (main_cst_5 : FVec F S_ .f32) : IVec S_ 1 :=
  let main_v16 : FVec F S8192x1024 .f32 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_v29 main_v32 main_c_12

def fn {F : FTy → Type} [FloatOps F] (main_arg0 : FVec F S8192x1024 .f32) (main_arg1 : FVec F S1024x5632 .f32) (main_arg2 : FVec F S2816x1024 .f32) (main_arg3 : FVec F S8192x1024 .f32) (main_arg4 : FVec F S8192x1024 .f32) (main_arg5 : FVec F S1x1024 .f32) (main_arg6 : FVec F S1x1024 .f32) (main_arg7 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024x5632 .f32 := Host.absf main_arg1
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_v5 main_v6
  let main_c_2 : IVec S_ 1 := constantI S_ 1 1#1
  let main_v8 : IVec S_ 1 := (fun x v => Host.reduce IntOp.andi x v reducesTo_S1024x5632_S_d0_1 h_S_) main_v7 main_c_2
  let main_v9 : IVec S_ 1 := andi main_v4 main_v8
  let main_v10 : FVec F S2816x1024 .f32 := Host.absf main_arg2
  let main_cst_3 : FVec F S_ .f32 := constant S_ .f32 0x7F800000#32
  let main_v11 : FVec F S2816x1024 .f32 := broadcastInDim S2816x1024 ![] bcast_S_S2816x1024 main_cst_3
  let main_v12 : IVec S2816x1024 1 := cmpf .olt main_v10 main_v11
  let main_c_4 : IVec S_ 1 := constantI S_ 1 1#1
  let main_v13 : IVec S_ 1 := (fun x v => Host.reduce IntOp.andi x v reducesTo_S2816x1024_S_d0_1 h_S_) main_v12 main_c_4
  let main_v14 : IVec S_ 1 := andi main_v9 main_v13
  let main_v15 : FVec F S8192x1024 .f32 := Host.absf main_arg3
  let main_cst_5 : FVec F S_ .f32 := constant S_ .f32 0x7F800000#32
  fn_part1 (F := F) main_arg4 main_arg5 main_arg6 main_arg7 main_v14 main_v15 main_cst_5
-- ==== Pre_finite2.lean ====
abbrev S8192x2816 : Shape := ⟨2, ![8192, 2816]⟩
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part3 {F : FTy → Type} [FloatOps F] (main_arg11 : FVec F S1x1024 .f32) (main_v49 : IVec S_ 1) (main_v50 : FVec F S1x1024 .f32) : IVec S_ 1 :=
  let main_cst_19 : FVec F S_ .f32 := constant S_ .f32 0x7F800000#32
  let main_v51 : FVec F S1x1024 .f32 := broadcastInDim S1x1024 ![] bcast_S_S1x1024 main_cst_19
  let main_v52 : IVec S1x1024 1 := cmpf .olt main_v50 main_v51
  let main_c_20 : IVec S_ 1 := constantI S_ 1 1#1
  let main_v53 : IVec S_ 1 := (fun x v => Host.reduce IntOp.andi x v reducesTo_S1x1024_S_d0_1 h_S_) main_v52 main_c_20
  let main_v54 : IVec S_ 1 := andi main_v49 main_v53
  let main_v55 : FVec F S1x1024 .f32 := Host.absf main_arg11
  let main_cst_21 : FVec F S_ .f32 := constant S_ .f32 0x7F800000#32
  let main_v56 : FVec F S1x1024 .f32 := broadcastInDim S1x1024 ![] bcast_S_S1x1024 main_cst_21
  let main_v57 : IVec S1x1024 1 := cmpf .olt main_v55 main_v56
  let main_c_22 : IVec S_ 1 := constantI S_ 1 1#1
  let main_v58 : IVec S_ 1 := (fun x v => Host.reduce IntOp.andi x v reducesTo_S1x1024_S_d0_1 h_S_) main_v57 main_c_22
  let main_v59 : IVec S_ 1 := andi main_v54 main_v58
  main_v59

def fn_part2 {F : FTy → Type} [FloatOps F] (main_arg7 : FVec F S1024x5632 .f32) (main_arg8 : FVec F S2816x1024 .f32) (main_arg9 : FVec F S1x1024 .f32) (main_arg10 : FVec F S1x1024 .f32) (main_arg11 : FVec F S1x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1024x5632 .f32 := Host.absf main_arg7
  let main_cst_13 : FVec F S_ .f32 := constant S_ .f32 0x7F800000#32
  let main_v36 : FVec F S1024x5632 .f32 := broadcastInDim S1024x5632 ![] bcast_S_S1024x5632 main_cst_13
  let main_v37 : IVec S1024x5632 1 := cmpf .olt main_v35 main_v36
  let main_c_14 : IVec S_ 1 := constantI S_ 1 1#1
  let main_v38 : IVec S_ 1 := (fun x v => Host.reduce IntOp.andi x v reducesTo_S1024x5632_S_d0_1 h_S_) main_v37 main_c_14
  let main_v39 : IVec S_ 1 := andi main_v34 main_v38
  let main_v40 : FVec F S2816x1024 .f32 := Host.absf main_arg8
  let main_cst_15 : FVec F S_ .f32 := constant S_ .f32 0x7F800000#32
  let main_v41 : FVec F S2816x1024 .f32 := broadcastInDim S2816x1024 ![] bcast_S_S2816x1024 main_cst_15
  let main_v42 : IVec S2816x1024 1 := cmpf .olt main_v40 main_v41
  let main_c_16 : IVec S_ 1 := constantI S_ 1 1#1
  let main_v43 : IVec S_ 1 := (fun x v => Host.reduce IntOp.andi x v reducesTo_S2816x1024_S_d0_1 h_S_) main_v42 main_c_16
  let main_v44 : IVec S_ 1 := andi main_v39 main_v43
  let main_v45 : FVec F S1x1024 .f32 := Host.absf main_arg9
  let main_cst_17 : FVec F S_ .f32 := constant S_ .f32 0x7F800000#32
  let main_v46 : FVec F S1x1024 .f32 := broadcastInDim S1x1024 ![] bcast_S_S1x1024 main_cst_17
  let main_v47 : IVec S1x1024 1 := cmpf .olt main_v45 main_v46
  let main_c_18 : IVec S_ 1 := constantI S_ 1 1#1
  let main_v48 : IVec S_ 1 := (fun x v => Host.reduce IntOp.andi x v reducesTo_S1x1024_S_d0_1 h_S_) main_v47 main_c_18
  let main_v49 : IVec S_ 1 := andi main_v44 main_v48
  let main_v50 : FVec F S1x1024 .f32 := Host.absf main_arg10
  fn_part3 (F := F) main_arg11 main_v49 main_v50

def fn_part1 {F : FTy → Type} [FloatOps F] (main_arg4 : FVec F S8192x1024 .f32) (main_arg5 : FVec F S8192x1024 .f32) (main_arg6 : FVec F S1x1024 .f32) (main_arg7 : FVec F S1024x5632 .f32) (main_arg8 : FVec F S2816x1024 .f32) (main_arg9 : FVec F S1x1024 .f32) (main_arg10 : FVec F S1x1024 .f32) (main_arg11 : FVec F S1x1024 .f32) (main_v14 : IVec S_ 1) (main_v15 : FVec F S8192x1024 .f32) (main_cst_5 : FVec F S_ .f32) : IVec S_ 1 :=
  let main_v16 : FVec F S8192x1024 .f32 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_arg8 main_arg9 main_arg10 main_arg11 main_v29 main_v32 main_c_12

def fn {F : FTy → Type} [FloatOps F] (main_arg0 : FVec F S8192x2816 .f32) (main_arg1 : FVec F S8192x2816 .f32) (main_arg2 : FVec F S8192x1024 .f32) (main_arg3 : FVec F S8192x1024 .f32) (main_arg4 : FVec F S8192x1024 .f32) (main_arg5 : FVec F S8192x1024 .f32) (main_arg6 : FVec F S1x1024 .f32) (main_arg7 : FVec F S1024x5632 .f32) (main_arg8 : FVec F S2816x1024 .f32) (main_arg9 : FVec F S1x1024 .f32) (main_arg10 : FVec F S1x1024 .f32) (main_arg11 : FVec F S1x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_c_0 : IVec S_ 1 := constantI S_ 1 1#1
  let main_v4 : IVec S_ 1 := andi main_c_0 main_v3
  let main_v5 : FVec F S8192x2816 .f32 := Host.absf main_arg1
  let main_cst_1 : FVec F S_ .f32 := constant S_ .f32 0x7F800000#32
  let main_v6 : FVec F S8192x2816 .f32 := broadcastInDim S8192x2816 ![] bcast_S_S8192x2816 main_cst_1
  let main_v7 : IVec S8192x2816 1 := cmpf .olt main_v5 main_v6
  let main_c_2 : IVec S_ 1 := constantI S_ 1 1#1
  let main_v8 : IVec S_ 1 := (fun x v => Host.reduce IntOp.andi x v reducesTo_S8192x2816_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S8192x1024 .f32 := Host.absf main_arg3
  let main_cst_5 : FVec F S_ .f32 := constant S_ .f32 0x7F800000#32
  fn_part1 (F := F) main_arg4 main_arg5 main_arg6 main_arg7 main_arg8 main_arg9 main_arg10 main_arg11 main_v14 main_v15 main_cst_5
-- ==== Kernel.lean ====
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩
abbrev S_ : Shape := ⟨0, ![]⟩
abbrev S1024 : Shape := ⟨1, ![1024]⟩

abbrev nBuf : Space → Nat
  | .hbm => 31
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S5632x1024, .f32⟩
  | .hbm, ⟨10, _⟩ => ⟨S5632x1024, .bf16⟩
  | .hbm, ⟨11, _⟩ => ⟨S2816x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x1024, .f32⟩
  | .hbm, ⟨16, _⟩ => ⟨S8192x1024, .bf16⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S5632x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_v4_8 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S8192x5632 : Shape := ⟨2, ![8192, 5632]⟩
abbrev S8192x2816 : Shape := ⟨2, ![8192, 2816]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 165
  | .vmem => 0
  | .smem => 0
  | _ => 0

abbrev hbmTy0_0 (i : Nat) : BufTy := match i % 128 with
  | 0 => ⟨S8192x1024, .f32⟩
  | 1 => ⟨S1024x5632, .f32⟩
  | 2 => ⟨S2816x1024, .f32⟩
  | 3 => ⟨S8192x1024, .f32⟩
  | 4 => ⟨S8192x1024, .f32⟩
  | 5 => ⟨S1x1024, .f32⟩
  | 6 => ⟨S1x1024, .f32⟩
  | 7 => ⟨S1x1024, .f32⟩
  | 8 => ⟨S8192x5632, .f32⟩
  | 9 => ⟨S8192x2816, .f32⟩
  | 10 => ⟨S8192x2816, .f32⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S_, .f32⟩
  | 20 => ⟨S8192x2816, .f32⟩
  | 21 => ⟨S8192x2816, .f32⟩
  | 22 => ⟨S8192x2816, .f32⟩
  | 23 => ⟨S8192x2816, .f32⟩
  | 24 => ⟨S8192x2816, .f32⟩
  | 25 => ⟨S_, .f32⟩
  | 26 => ⟨S8192x2816, .f32⟩
  | 27 => ⟨S8192x2816, .f32⟩
  | 28 => ⟨S8192x2816, .f32⟩
  | 29 => ⟨S8192x2816, .f32⟩
  | 30 => ⟨S8192x2816, .f32⟩
  | 31 => ⟨S8192x2816, .f32⟩
  | 32 => ⟨S8192x2816, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S1024, .f32⟩
  | 41 => ⟨S1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192, .f32⟩
  | 85 => ⟨S_, .f32⟩
  | 86 => ⟨S8192, .f32⟩
  | 87 => ⟨S8192, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8192, .f32⟩
  | 96 => ⟨S_, .f32⟩
  | 97 => ⟨S8192, .f32⟩
  | 98 => ⟨S8192, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S8192x1024, .f32⟩
  | 115 => ⟨S_, .f32⟩
  | 116 => ⟨S8192, .f32⟩
  | 117 => ⟨S8192x1, .f32⟩
  | 118 => ⟨S8192x1024, .f32⟩
  | 119 => ⟨S8192x1024, .f32⟩
  | 120 => ⟨S8192x1, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S_, .f32⟩
  | 1 => ⟨S8192, .f32⟩
  | 2 => ⟨S8192x1024, .f32⟩
  | 3 => ⟨S8192x1024, .f32⟩
  | 4 => ⟨S8192x1024, .f32⟩
  | 5 => ⟨S_, .f32⟩
  | 6 => ⟨S8192, .f32⟩
  | 7 => ⟨S8192x1, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S1024, .f32⟩
  | 18 => ⟨S_, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S1024, .f32⟩
  | 30 => ⟨S1x1024, .f32⟩
  | 31 => ⟨S_, .f32⟩
  | 32 => ⟨S1024, .f32⟩
  | 33 => ⟨S8192x2816, .bf16⟩
  | 34 => ⟨S8192x2816, .bf16⟩
  | 35 => ⟨S8192x2816, .bf16⟩
  | 36 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v3_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v3_1 : Ref sig .tc := ⟨.hbm, 22, rfl⟩
abbrev main_v3_0 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v8 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_cst_12 : Ref sig .tc := ⟨.hbm, 90, rfl⟩
abbrev main_v54 : Ref sig .tc := ⟨.hbm, 91, rfl⟩
abbrev main_cst_13 : Ref sig .tc := ⟨.hbm, 92, rfl⟩
abbrev main_cst_14 : Ref sig .tc := ⟨.hbm, 93, rfl⟩
abbrev main_v55 : Ref sig .tc := ⟨.hbm, 94, rfl⟩
abbrev main_v56 : Ref sig .tc := ⟨.hbm, 95, rfl⟩
abbrev main_cst_15 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_16 : Ref sig .tc := ⟨.hbm, 101, rfl⟩
abbrev main_v61 : Ref sig .tc := ⟨.hbm, 102, rfl⟩
abbrev main_v62 : Ref sig .tc := ⟨.hbm, 103, rfl⟩
abbrev main_cst_17 : Ref sig .tc := ⟨.hbm, 104, rfl⟩
abbrev main_v63 : Ref sig .tc := ⟨.hbm, 105, rfl⟩
abbrev main_v64 : Ref sig .tc := ⟨.hbm, 106, rfl⟩
abbrev main_cst_18 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_19 : Ref sig .tc := ⟨.hbm, 112, rfl⟩
abbrev main_v69 : Ref sig .tc := ⟨.hbm, 113, rfl⟩
abbrev main_v70 : Ref sig .tc := ⟨.hbm, 114, rfl⟩
abbrev main_cst_20 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_21 : Ref sig .tc := ⟨.hbm, 122, rfl⟩
abbrev main_v77 : Ref sig .tc := ⟨.hbm, 123, rfl⟩
abbrev main_v78 : Ref sig .tc := ⟨.hbm, 124, rfl⟩
abbrev main_cst_22 : Ref sig .tc := ⟨.hbm, 125, rfl⟩
abbrev main_v79 : Ref sig .tc := ⟨.hbm, 126, rfl⟩
abbrev main_v80 : Ref sig .tc := ⟨.hbm, 127, rfl⟩
abbrev main_cst_23 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_24 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_25 : Ref sig .tc := ⟨.hbm, 138, rfl⟩
abbrev main_v89 : Ref sig .tc := ⟨.hbm, 139, rfl⟩
abbrev main_v90 : Ref sig .tc := ⟨.hbm, 140, rfl⟩
abbrev main_cst_26 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_27 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_28 : Ref sig .tc := ⟨.hbm, 156, rfl⟩
abbrev main_v104 : Ref sig .tc := ⟨.hbm, 157, rfl⟩
abbrev main_v105 : Ref sig .tc := ⟨.hbm, 158, rfl⟩
abbrev main_cst_29 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S5632x1024 : Shape := ⟨2, ![5632, 1024]⟩
abbrev S8x1024 : Shape := ⟨2, ![8, 1024]⟩
abbrev S256x1024 : Shape := ⟨2, ![256, 1024]⟩
abbrev S256x2816 : Shape := ⟨2, ![256, 2816]⟩
abbrev S32x8x1024 : Shape := ⟨3, ![32, 8, 1024]⟩
abbrev S256 : Shape := ⟨1, ![256]⟩
abbrev S256x1 : Shape := ⟨2, ![256, 1]⟩
abbrev S1024 : Shape := ⟨1, ![1024]⟩

abbrev nBuf : Space → Nat
  | .hbm => 61
  | .vmem => 32
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1024x5632, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S2816x1024, .bf16⟩
  | .hbm, ⟨38, _⟩ => ⟨S8192x2816, .bf16⟩
  | .hbm, ⟨39, _⟩ => ⟨S8192x2816, .bf16⟩
  | .hbm, ⟨40, _⟩ => ⟨S5632x1024, .f32⟩
  | .hbm, ⟨41, _⟩ => ⟨S5632x1024, .bf16⟩
  | .hbm, ⟨42, _⟩ => ⟨S8192x2816, .bf16⟩
  | .hbm, ⟨43, _⟩ => ⟨S8192x2816, .bf16⟩
  | .hbm, ⟨44, _⟩ => ⟨S8192x1024, .f32⟩
  | .hbm, ⟨45, _⟩ => ⟨S8192x1024, .bf16⟩
  | .hbm, ⟨46, _⟩ => ⟨S8x1024, .f32⟩
  | .hbm, ⟨47, _⟩ => ⟨S8x1024, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S5632x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S8x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v0_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v0_1 : Ref sig .tc := ⟨.hbm, 23, rfl⟩
abbrev main_v0_0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v14_2 : Ref sig .tc := ⟨.hbm, 44, rfl⟩
abbrev main_v14_3 : Ref sig .tc := ⟨.hbm, 45, rfl⟩
abbrev main_v14_4 : Ref sig .tc := ⟨.hbm, 46, rfl⟩
abbrev main_v14_5 : Ref sig .tc := ⟨.hbm, 47, rfl⟩
abbrev main_v14_6 : Ref sig .tc := ⟨.hbm, 48, rfl⟩
abbrev main_v14_7 : Ref sig .tc := ⟨.hbm, 49, rfl⟩
abbrev main_v14_8 : Ref sig .tc := ⟨.hbm, 50, rfl⟩
abbrev main_cst_0 : Ref sig .tc := ⟨.hbm, 51, rfl⟩
abbrev main_v15 : Ref sig .tc := ⟨.hbm, 52, rfl⟩
abbrev main_cst_1 : Ref sig .tc := ⟨.hbm, 53, rfl⟩
abbrev main_v16 : Ref sig .tc := ⟨.hbm, 54, rfl⟩
abbrev main_cst_2 : Ref sig .tc := ⟨.hbm, 55, rfl⟩
abbrev main_v17 : Ref sig .tc := ⟨.hbm, 56, rfl⟩
abbrev main_cst_3 : Ref sig .tc := ⟨.hbm, 57, rfl⟩
abbrev main_v18 : Ref sig .tc := ⟨.hbm, 58, rfl⟩
abbrev main_cst_4 : Ref sig .tc := ⟨.hbm, 59, rfl⟩
abbrev main_v19 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S8192x2816 : Shape := ⟨2, ![8192, 2816]⟩
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S1024 : Shape := ⟨1, ![1024]⟩
abbrev S8192 : Shape := ⟨1, ![8192]⟩
abbrev S8192x1 : Shape := ⟨2, ![8192, 1]⟩

abbrev nBuf : Space → Nat
  | .hbm => 178
  | .vmem => 0
  | .smem => 0
  | _ => 0

abbrev hbmTy0_0 (i : Nat) : BufTy := match i % 128 with
  | 0 => ⟨S8192x2816, .f32⟩
  | 1 => ⟨S8192x2816, .f32⟩
  | 2 => ⟨S8192x1024, .f32⟩
  | 3 => ⟨S8192x1024, .f32⟩
  | 4 => ⟨S8192x1024, .f32⟩
  | 5 => ⟨S8192x1024, .f32⟩
  | 6 => ⟨S1x1024, .f32⟩
  | 7 => ⟨S1024x5632, .f32⟩
  | 8 => ⟨S2816x1024, .f32⟩
  | 9 => ⟨S1x1024, .f32⟩
  | 10 => ⟨S1x1024, .f32⟩
  | 11 => ⟨S1x1024, .f32⟩
  | 12 => ⟨S_, .f32⟩
  | 13 => ⟨S8192x2816, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x2816, .f32⟩
  | 20 => ⟨S8192x2816, .f32⟩
  | 21 => ⟨S8192x2816, .f32⟩
  | 22 => ⟨S_, .f32⟩
  | 23 => ⟨S8192x2816, .f32⟩
  | 24 => ⟨S8192x2816, .f32⟩
  | 25 => ⟨S_, .f32⟩
  | 26 => ⟨S8192x2816, .f32⟩
  | 27 => ⟨S8192x2816, .f32⟩
  | 28 => ⟨S_, .f32⟩
  | 29 => ⟨S8192x2816, .f32⟩
  | 30 => ⟨S8192x2816, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x2816, .f32⟩
  | 39 => ⟨S8192x2816, .f32⟩
  | 40 => ⟨S8192x5632, .f32⟩
  | 41 => ⟨S8192x5632, .f32⟩
  | 42 => ⟨S8192x1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S1x1024, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S1024, .f32⟩
  | 67 => ⟨S_, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S1024, .f32⟩
  | 74 => ⟨S1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S_, .f32⟩
  | 96 => ⟨S8192x1, .f32⟩
  | 97 => ⟨S8192x1, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1024, .f32⟩
  | 104 => ⟨S8192x1024, .f32⟩
  | 105 => ⟨S1x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S_, .f32⟩
  | 119 => ⟨S1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S_, .f32⟩
  | 127 => ⟨S1024, .f32⟩
  | _ => ⟨S8192x2816, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S8192x1024, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S1024, .f32⟩
  | 32 => ⟨S_, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S_, .f32⟩
  | 46 => ⟨S1024, .f32⟩
  | 47 => ⟨S8192x2816, .bf16⟩
  | 48 => ⟨S8192x2816, .bf16⟩
  | 49 => ⟨S8192x1024, .bf16⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v7_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v7_1 : Ref sig .tc := ⟨.hbm, 31, rfl⟩
abbrev main_v7_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_1 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_8 : Ref sig .tc := ⟨.hbm, 84, rfl⟩
abbrev main_v48 : Ref sig .tc := ⟨.hbm, 85, rfl⟩
abbrev main_v49 : Ref sig .tc := ⟨.hbm, 86, rfl⟩
abbrev main_cst_9 : Ref sig .tc := ⟨.hbm, 87, rfl⟩
abbrev main_v50 : Ref sig .tc := ⟨.hbm, 88, rfl⟩
abbrev main_v51 : Ref sig .tc := ⟨.hbm, 89, rfl⟩
abbrev main_cst_10 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_12 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_cst_15 : Ref sig .tc := ⟨.hbm, 118, rfl⟩
abbrev main_v75 : Ref sig .tc := ⟨.hbm, 119, rfl⟩
abbrev main_v76 : Ref sig .tc := ⟨.hbm, 120, rfl⟩
abbrev main_cst_16 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_17 : Ref sig .tc := ⟨.hbm, 126, rfl⟩
abbrev main_v81 : Ref sig .tc := ⟨.hbm, 127, rfl⟩
abbrev main_v82 : Ref sig .tc := ⟨.hbm, 128, rfl⟩
abbrev main_cst_18 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_19 : Ref sig .tc := ⟨.hbm, 136, rfl⟩
abbrev main_v89 : Ref sig .tc := ⟨.hbm, 137, rfl⟩
abbrev main_v90 : Ref sig .tc := ⟨.hbm, 138, rfl⟩
abbrev main_cst_20 : Ref sig .tc := ⟨.hbm, 139, rfl⟩
abbrev main_v91 : Ref sig .tc := ⟨.hbm, 140, rfl⟩
abbrev main_v92 : Ref sig .tc := ⟨.hbm, 141, rfl⟩
abbrev main_cst_21 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_22 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_23 : Ref sig .tc := ⟨.hbm, 152, rfl⟩
abbrev main_v101 : Ref sig .tc := ⟨.hbm, 153, rfl⟩
abbrev main_v102 : Ref sig .tc := ⟨.hbm, 154, rfl⟩
abbrev main_cst_24 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_25 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_26 : Ref sig .tc := ⟨.hbm, 170, rfl⟩
abbrev main_v116 : Ref sig .tc := ⟨.hbm, 171, rfl⟩
abbrev main_v117 : Ref sig .tc := ⟨.hbm, 172, rfl⟩
abbrev main_cst_27 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x2816, .bf16⟩
  | .hbm, ⟨4, _⟩ => ⟨S8192x1024, .bf16⟩
  | .hbm, ⟨5, _⟩ => ⟨S8192x2816, .bf16⟩
  | .hbm, ⟨6, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1792 : Shape := ⟨2, ![8192, 1792]⟩
abbrev S8192x256 : Shape := ⟨2, ![8192, 256]⟩
abbrev S1024x1792 : Shape := ⟨2, ![1024, 1792]⟩
abbrev S8192x1024 : Shape := ⟨2, ![8192, 1024]⟩
abbrev S1x1024 : Shape := ⟨2, ![1, 1024]⟩
abbrev S1792x1024 : Shape := ⟨2, ![1792, 1024]⟩
abbrev S8x1792 : Shape := ⟨2, ![8, 1792]⟩
abbrev S8x1024 : Shape := ⟨2, ![8, 1024]⟩
abbrev S512x1792 : Shape := ⟨2, ![512, 1792]⟩
abbrev S512x256 : Shape := ⟨2, ![512, 256]⟩
abbrev S512x1024 : Shape := ⟨2, ![512, 1024]⟩
abbrev S512x512 : Shape := ⟨2, ![512, 512]⟩
abbrev S64x8x1792 : Shape := ⟨3, ![64, 8, 1792]⟩
abbrev S64x8x1024 : Shape := ⟨3, ![64, 8, 1024]⟩
abbrev S_ : Shape := ⟨0, ![]⟩
abbrev S1792 : Shape := ⟨1, ![1792]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S8192x1792, .f32⟩
  | .hbm, ⟨1, _⟩ => ⟨S8192x256, .f32⟩
  | .hbm, ⟨2, _⟩ => ⟨S1024x1792, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1792, .bf16⟩
  | .hbm, ⟨7, _⟩ => ⟨S1792x1024, .f32⟩
  | .hbm, ⟨8, _⟩ => ⟨S1792x1024, .bf16⟩
  | .hbm, ⟨9, _⟩ => ⟨S8192x1024, .f32⟩
  | .hbm, ⟨10, _⟩ => ⟨S8192x1792, .bf16⟩
  | .hbm, ⟨11, _⟩ => ⟨S8x1792, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S1792, .f32⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S1024, .f32⟩
  | .local _ .vmem, ⟨0, _⟩ => ⟨S512x1792, .bf16⟩
  | .local _ .vmem, ⟨1, _⟩ => ⟨S512x1792, .bf16⟩
  | .local _ .vmem, ⟨2, _⟩ => ⟨S512x256, .f32⟩
  | .local _ .vmem, ⟨3, _⟩ => ⟨S512x256, .f32⟩
  | .local _ .vmem, ⟨4, _⟩ => ⟨S1792x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1792, .bf16⟩
  | .local _ .vmem, ⟨13, _⟩ => ⟨S512x1792, .bf16⟩
  | .local _ .vmem, ⟨14, _⟩ => ⟨S8x1792, .f32⟩
  | .local _ .vmem, ⟨15, _⟩ => ⟨S8x1024, .f32⟩
  | .local _ .vmem, ⟨16, _⟩ => ⟨S8x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x1792 : Shape := ⟨2, ![8192, 1792]⟩
abbrev S8192x256 : Shape := ⟨2, ![8192, 256]⟩
abbrev S1024x1792 : Shape := ⟨2, ![1024, 1792]⟩
abbrev S8192x1024 : Shape := ⟨2, ![8192, 1024]⟩
abbrev S1x1024 : Shape := ⟨2, ![1, 1024]⟩
abbrev S8192x512 : Shape := ⟨2, ![8192, 512]⟩
abbrev S_ : Shape := ⟨0, ![]⟩
abbrev S1792 : Shape := ⟨1, ![1792]⟩
abbrev S1x1792 : Shape := ⟨2, ![1, 1792]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x256, .f32⟩
  | .hbm, ⟨2, _⟩ => ⟨S1024x1792, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x512, .f32⟩
  | .hbm, ⟨7, _⟩ => ⟨S8192x256, .f32⟩
  | .hbm, ⟨8, _⟩ => ⟨S8192x256, .f32⟩
  | .hbm, ⟨9, _⟩ => ⟨S8192x1024, .f32⟩
  | .hbm, ⟨10, _⟩ => ⟨S8192x1792, .f32⟩
  | .hbm, ⟨11, _⟩ => ⟨S_, .f32⟩
  | .hbm, ⟨12, _⟩ => ⟨S1792, .f32⟩
  | .hbm, ⟨13, _⟩ => ⟨S8192x1792, .f32⟩
  | .hbm, ⟨14, _⟩ => ⟨S1x1792, .f32⟩
  | .hbm, ⟨15, _⟩ => ⟨S8192x1792, .f32⟩
  | .hbm, ⟨16, _⟩ => ⟨S8192x1792, .f32⟩
  | .hbm, ⟨17, _⟩ => ⟨S_, .f32⟩
  | .hbm, ⟨18, _⟩ => ⟨S1792, .f32⟩
  | .hbm, ⟨19, _⟩ => ⟨S1x1792, .f32⟩
  | .hbm, ⟨20, _⟩ => ⟨S_, .f32⟩
  | .hbm, ⟨21, _⟩ => ⟨S1792, .f32⟩
  | .hbm, ⟨22, _⟩ => ⟨S8192x1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1792, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel7.lean ====
abbrev S8x704x1024 : Shape := ⟨3, ![8, 704, 1024]⟩
abbrev S1024x704 : Shape := ⟨2, ![1024, 704]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8x704x1024 : Shape := ⟨3, ![8, 704, 1024]⟩
abbrev S1024x704 : Shape := ⟨2, ![1024, 704]⟩
abbrev S_ : Shape := ⟨0, ![]⟩
abbrev S704x1024 : Shape := ⟨2, ![704, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S704x1024, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel8.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8x224x1024 : Shape := ⟨3, ![8, 224, 1024]⟩
abbrev S1024x224 : Shape := ⟨2, ![1024, 224]⟩
abbrev S224x1024 : Shape := ⟨2, ![224, 1024]⟩
abbrev S8x112x1024 : Shape := ⟨3, ![8, 112, 1024]⟩
abbrev S112x1024 : Shape := ⟨2, ![112, 1024]⟩
abbrev S1x112x1024 : Shape := ⟨3, ![1, 112, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x224x1024, .f32⟩
  | .hbm, ⟨1, _⟩ => ⟨S1024x224, .f32⟩
  | .hbm, ⟨2, _⟩ => ⟨S1024x224, .f32⟩
  | .hbm, ⟨3, _⟩ => ⟨S1024x224, .f32⟩
  | .hbm, ⟨4, _⟩ => ⟨S8x224x1024, .bf16⟩
  | .hbm, ⟨5, _⟩ => ⟨S224x1024, .f32⟩
  | .hbm, ⟨6, _⟩ => ⟨S224x1024, .f32⟩
  | .hbm, ⟨7, _⟩ => ⟨S224x1024, .f32⟩
  | .hbm, ⟨8, _⟩ => ⟨S224x1024, .f32⟩
  | .hbm, ⟨9, _⟩ => ⟨S224x1024, .f32⟩
  | .hbm, ⟨10, _⟩ => ⟨S224x1024, .f32⟩
  | .hbm, ⟨11, _⟩ => ⟨S224x1024, .f32⟩
  | .local _ .vmem, ⟨0, _⟩ => ⟨S8x112x1024, .bf16⟩
  | .local _ .vmem, ⟨1, _⟩ => ⟨S8x112x1024, .bf16⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S112x1024, .f32⟩
  | .local _ .vmem, ⟨7, _⟩ => ⟨S112x1024, .f32⟩
  | .local _ .vmem, ⟨8, _⟩ => ⟨S112x1024, .f32⟩
  | .local _ .vmem, ⟨9, _⟩ => ⟨S112x1024, .f32⟩
  | .local _ .vmem, ⟨10, _⟩ => ⟨S112x1024, .f32⟩
  | .local _ .vmem, ⟨11, _⟩ => ⟨S112x1024, .f32⟩
  | .local _ .vmem, ⟨12, _⟩ => ⟨S112x1024, .f32⟩
  | .local _ .vmem, ⟨13, _⟩ => ⟨S112x1024, .f32⟩
  | .local _ .vmem, ⟨14, _⟩ => ⟨S112x1024, .f32⟩
  | .local _ .vmem, ⟨15, _⟩ => ⟨S112x1024, .f32⟩
  | _, _ => ⟨S8x224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x224x1024 : Shape := ⟨3, ![8, 224, 1024]⟩
abbrev S1024x224 : Shape := ⟨2, ![1024, 224]⟩
abbrev S_ : Shape := ⟨0, ![]⟩
abbrev S224x1024 : Shape := ⟨2, ![224, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x224x1024, .f32⟩
  | .hbm, ⟨1, _⟩ => ⟨S1024x224, .f32⟩
  | .hbm, ⟨2, _⟩ => ⟨S1024x224, .f32⟩
  | .hbm, ⟨3, _⟩ => ⟨S1024x224, .f32⟩
  | .hbm, ⟨4, _⟩ => ⟨S_, .f32⟩
  | .hbm, ⟨5, _⟩ => ⟨S224x1024, .f32⟩
  | .hbm, ⟨6, _⟩ => ⟨S1024x224, .f32⟩
  | .hbm, ⟨7, _⟩ => ⟨S_, .f32⟩
  | .hbm, ⟨8, _⟩ => ⟨S1024x224, .f32⟩
  | .hbm, ⟨9, _⟩ => ⟨S1024x224, .f32⟩
  | .hbm, ⟨10, _⟩ => ⟨S_, .f32⟩
  | .hbm, ⟨11, _⟩ => ⟨S1024x224, .f32⟩
  | .hbm, ⟨12, _⟩ => ⟨S1024x224, .f32⟩
  | .hbm, ⟨13, _⟩ => ⟨S1024x224, .f32⟩
  | .hbm, ⟨14, _⟩ => ⟨S_, .f32⟩
  | .hbm, ⟨15, _⟩ => ⟨S1024x224, .f32⟩
  | .hbm, ⟨16, _⟩ => ⟨S1024x224, .f32⟩
  | .hbm, ⟨17, _⟩ => ⟨S1024x224, .f32⟩
  | .hbm, ⟨18, _⟩ => ⟨S_, .f32⟩
  | .hbm, ⟨19, _⟩ => ⟨S1024x224, .f32⟩
  | .hbm, ⟨20, _⟩ => ⟨S1024x224, .f32⟩
  | .hbm, ⟨21, _⟩ => ⟨S1024x224, .f32⟩
  | .hbm, ⟨22, _⟩ => ⟨S_, .f32⟩
  | .hbm, ⟨23, _⟩ => ⟨S1024x224, .f32⟩
  | .hbm, ⟨24, _⟩ => ⟨S1024x224, .f32⟩
  | .hbm, ⟨25, _⟩ => ⟨S_, .f32⟩
  | .hbm, ⟨26, _⟩ => ⟨S1024x224, .f32⟩
  | .hbm, ⟨27, _⟩ => ⟨S1024x224, .f32⟩
  | .hbm, ⟨28, _⟩ => ⟨S1024x224, .f32⟩
  | .hbm, ⟨29, _⟩ => ⟨S_, .f32⟩
  | .hbm, ⟨30, _⟩ => ⟨S1024x224, .f32⟩
  | .hbm, ⟨31, _⟩ => ⟨S1024x224, .f32⟩
  | .hbm, ⟨32, _⟩ => ⟨S1024x224, .f32⟩
  | .hbm, ⟨33, _⟩ => ⟨S_, .f32⟩
  | .hbm, ⟨34, _⟩ => ⟨S1024x224, .f32⟩
  | .hbm, ⟨35, _⟩ => ⟨S1024x224, .f32⟩
  | .hbm, ⟨36, _⟩ => ⟨S1024x224, .f32⟩
  | .hbm, ⟨37, _⟩ => ⟨S_, .f32⟩
  | .hbm, ⟨38, _⟩ => ⟨S1024x224, .f32⟩
  | .hbm, ⟨39, _⟩ => ⟨S1024x224, .f32⟩
  | .hbm, ⟨40, _⟩ => ⟨S224x1024, .f32⟩
  | .hbm, ⟨41, _⟩ => ⟨S224x1024, .f32⟩
  | .hbm, ⟨42, _⟩ => ⟨S224x1024, .f32⟩
  | .hbm, ⟨43, _⟩ => ⟨S224x1024, .f32⟩
  | _, _ => ⟨S8x224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel11.lean ====
abbrev S8x1024x128 : Shape := ⟨3, ![8, 1024, 128]⟩
abbrev S1024x128 : Shape := ⟨2, ![1024, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x1024x128, .bf16⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x1024x128 : Shape := ⟨3, ![8, 1024, 128]⟩
abbrev S1024x128 : Shape := ⟨2, ![1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S8x1x6144 : Shape := ⟨3, ![8, 1, 6144]⟩
abbrev S8x1x1792 : Shape := ⟨3, ![8, 1, 1792]⟩
abbrev S8x1 : Shape := ⟨2, ![8, 1]⟩
abbrev S1x6144 : Shape := ⟨2, ![1, 6144]⟩
abbrev S1x1792 : Shape := ⟨2, ![1, 1792]⟩
abbrev S8x6144 : Shape := ⟨2, ![8, 6144]⟩
abbrev S_ : Shape := ⟨0, ![]⟩
abbrev S8x48x128 : Shape := ⟨3, ![8, 48, 128]⟩
abbrev S8x1792 : Shape := ⟨2, ![8, 1792]⟩
abbrev S8x2048 : Shape := ⟨2, ![8, 2048]⟩
abbrev S8x16x128 : Shape := ⟨3, ![8, 16, 128]⟩
abbrev S8x1024 : Shape := ⟨2, ![8, 1024]⟩
abbrev S8x8x128 : Shape := ⟨3, ![8, 8, 128]⟩
abbrev S8x72x128 : Shape := ⟨3, ![8, 72, 128]⟩
abbrev S48x128 : Shape := ⟨2, ![48, 128]⟩
abbrev S14x128 : Shape := ⟨2, ![14, 128]⟩
abbrev S8x128 : Shape := ⟨2, ![8, 128]⟩
abbrev S1x48x128 : Shape := ⟨3, ![1, 48, 128]⟩
abbrev S1x14x128 : Shape := ⟨3, ![1, 14, 128]⟩
abbrev S1x8x128 : Shape := ⟨3, ![1, 8, 128]⟩
abbrev S1x1 : Shape := ⟨2, ![1, 1]⟩

abbrev nBuf : Space → Nat
  | .hbm => 49
  | .vmem => 16
  | .smem => 0
  | _ => 0

abbrev bufTy : (tb : Table) → Fin (tcTables nBuf tb) → BufTy
  | .hbm, ⟨0, _⟩ => ⟨S8x1x6144, .f32⟩
  | .hbm, ⟨1, _⟩ => ⟨S8x1x1792, .f32⟩
  | .hbm, ⟨2, _⟩ => ⟨S8x1, .f32⟩
  | .hbm, ⟨3, _⟩ => ⟨S1x6144, .f32⟩
  | .hbm, ⟨4, _⟩ => ⟨S1x1792, .f32⟩
  | .hbm, ⟨5, _⟩ => ⟨S1x6144, .f32⟩
  | .hbm, ⟨6, _⟩ => ⟨S1x1792, .f32⟩
  | .hbm, ⟨7, _⟩ => ⟨S1x6144, .f32⟩
  | .hbm, ⟨8, _⟩ => ⟨S1x1792, .f32⟩
  | .hbm, ⟨9, _⟩ => ⟨S8x6144, .f32⟩
  | .hbm, ⟨10, _⟩ => ⟨S_, .i32⟩
  | .hbm, ⟨11, _⟩ => ⟨S_, .f32⟩
  | .hbm, ⟨12, _⟩ => ⟨S8x6144, .f32⟩
  | .hbm, ⟨13, _⟩ => ⟨S8x48x128, .f32⟩
  | .hbm, ⟨14, _⟩ => ⟨S8x1792, .f32⟩
  | .hbm, ⟨15, _⟩ => ⟨S_, .i32⟩
  | .hbm, ⟨16, _⟩ => ⟨S_, .f32⟩
  | .hbm, ⟨17, _⟩ => ⟨S8x2048, .f32⟩
  | .hbm, ⟨18, _⟩ => ⟨S8x16x128, .f32⟩
  | .hbm, ⟨19, _⟩ => ⟨S_, .i32⟩
  | .hbm, ⟨20, _⟩ => ⟨S_, .f32⟩
  | .hbm, ⟨21, _⟩ => ⟨S8x1024, .f32⟩
  | .hbm, ⟨22, _⟩ => ⟨S8x8x128, .f32⟩
  | .hbm, ⟨23, _⟩ => ⟨S8x72x128, .f32⟩
  | .hbm, ⟨24, _⟩ => ⟨S48x128, .f32⟩
  | .hbm, ⟨25, _⟩ => ⟨S48x128, .f32⟩
  | .hbm, ⟨26, _⟩ => ⟨S48x128, .f32⟩
  | .hbm, ⟨27, _⟩ => ⟨S14x128, .f32⟩
  | .hbm, ⟨28, _⟩ => ⟨S14x128, .f32⟩
  | .hbm, ⟨29, _⟩ => ⟨S14x128, .f32⟩
  | .hbm, ⟨30, _⟩ => ⟨S48x128, .f32⟩
  | .hbm, ⟨31, _⟩ => ⟨S48x128, .f32⟩
  | .hbm, ⟨32, _⟩ => ⟨S48x128, .f32⟩
  | .hbm, ⟨33, _⟩ => ⟨S48x128, .f32⟩
  | .hbm, ⟨34, _⟩ => ⟨S14x128, .f32⟩
  | .hbm, ⟨35, _⟩ => ⟨S14x128, .f32⟩
  | .hbm, ⟨36, _⟩ => ⟨S14x128, .f32⟩
  | .hbm, ⟨37, _⟩ => ⟨S14x128, .f32⟩
  | .hbm, ⟨38, _⟩ => ⟨S8x128, .f32⟩
  | .hbm, ⟨39, _⟩ => ⟨S1x6144, .f32⟩
  | .hbm, ⟨40, _⟩ => ⟨S1x6144, .f32⟩
  | .hbm, ⟨41, _⟩ => ⟨S1x6144, .f32⟩
  | .hbm, ⟨42, _⟩ => ⟨S1x6144, .f32⟩
  | .hbm, ⟨43, _⟩ => ⟨S1x1792, .f32⟩
  | .hbm, ⟨44, _⟩ => ⟨S1x1792, .f32⟩
  | .hbm, ⟨45, _⟩ => ⟨S1x1792, .f32⟩
  | .hbm, ⟨46, _⟩ => ⟨S1x1792, .f32⟩
  | .hbm, ⟨47, _⟩ => ⟨S1x1, .f32⟩
  | .hbm, ⟨48, _⟩ => ⟨S_, .f32⟩
  | .local _ .vmem, ⟨0, _⟩ => ⟨S8x72x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S14x128, .f32⟩
  | .local _ .vmem, ⟨5, _⟩ => ⟨S14x128, .f32⟩
  | .local _ .vmem, ⟨6, _⟩ => ⟨S14x128, .f32⟩
  | .local _ .vmem, ⟨7, _⟩ => ⟨S48x128, .f32⟩
  | .local _ .vmem, ⟨8, _⟩ => ⟨S48x128, .f32⟩
  | .local _ .vmem, ⟨9, _⟩ => ⟨S48x128, .f32⟩
  | .local _ .vmem, ⟨10, _⟩ => ⟨S48x128, .f32⟩
  | .local _ .vmem, ⟨11, _⟩ => ⟨S14x128, .f32⟩
  | .local _ .vmem, ⟨12, _⟩ => ⟨S14x128, .f32⟩
  | .local _ .vmem, ⟨13, _⟩ => ⟨S14x128, .f32⟩
  | .local _ .vmem, ⟨14, _⟩ => ⟨S14x128, .f32⟩
  | .local _ .vmem, ⟨15, _⟩ => ⟨S8x128, .f32⟩
  | _, _ => ⟨S8x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev main_v15_5 : Ref sig .tc := ⟨.hbm, 35, rfl⟩
abbrev main_v15_6 : Ref sig .tc := ⟨.hbm, 36, rfl⟩
abbrev main_v15_7 : Ref sig .tc := ⟨.hbm, 37, rfl⟩
abbrev main_v15_8 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S14x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S48x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S14x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S14x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S14x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S14x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference13Ideal.lean ====
abbrev S8x1x6144 : Shape := ⟨3, ![8, 1, 6144]⟩
abbrev S8x1x1792 : Shape := ⟨3, ![8, 1, 1792]⟩
abbrev S8x1 : Shape := ⟨2, ![8, 1]⟩
abbrev S1x6144 : Shape := ⟨2, ![1, 6144]⟩
abbrev S1x1792 : Shape := ⟨2, ![1, 1792]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S8x1x6144, .f32⟩
  | .hbm, ⟨1, _⟩ => ⟨S8x1x1792, .f32⟩
  | .hbm, ⟨2, _⟩ => ⟨S8x1, .f32⟩
  | .hbm, ⟨3, _⟩ => ⟨S1x6144, .f32⟩
  | .hbm, ⟨4, _⟩ => ⟨S1x1792, .f32⟩
  | .hbm, ⟨5, _⟩ => ⟨S1x6144, .f32⟩
  | .hbm, ⟨6, _⟩ => ⟨S1x1792, .f32⟩
  | .hbm, ⟨7, _⟩ => ⟨S1x6144, .f32⟩
  | .hbm, ⟨8, _⟩ => ⟨S1x1792, .f32⟩
  | .hbm, ⟨9, _⟩ => ⟨S_, .f32⟩
  | .hbm, ⟨10, _⟩ => ⟨S1x6144, .f32⟩
  | .hbm, ⟨11, _⟩ => ⟨S_, .f32⟩
  | .hbm, ⟨12, _⟩ => ⟨S1x1792, .f32⟩
  | .hbm, ⟨13, _⟩ => ⟨S_, .f32⟩
  | .hbm, ⟨14, _⟩ => ⟨S1x6144, .f32⟩
  | .hbm, ⟨15, _⟩ => ⟨S1x6144, .f32⟩
  | .hbm, ⟨16, _⟩ => ⟨S_, .f32⟩
  | .hbm, ⟨17, _⟩ => ⟨S1x6144, .f32⟩
  | .hbm, ⟨18, _⟩ => ⟨S1x6144, .f32⟩
  | .hbm, ⟨19, _⟩ => ⟨S1x6144, .f32⟩
  | .hbm, ⟨20, _⟩ => ⟨S_, .f32⟩
  | .hbm, ⟨21, _⟩ => ⟨S1x6144, .f32⟩
  | .hbm, ⟨22, _⟩ => ⟨S1x6144, .f32⟩
  | .hbm, ⟨23, _⟩ => ⟨S1x6144, .f32⟩
  | .hbm, ⟨24, _⟩ => ⟨S_, .f32⟩
  | .hbm, ⟨25, _⟩ => ⟨S1x6144, .f32⟩
  | .hbm, ⟨26, _⟩ => ⟨S1x6144, .f32⟩
  | .hbm, ⟨27, _⟩ => ⟨S1x6144, .f32⟩
  | .hbm, ⟨28, _⟩ => ⟨S_, .f32⟩
  | .hbm, ⟨29, _⟩ => ⟨S1x6144, .f32⟩
  | .hbm, ⟨30, _⟩ => ⟨S1x6144, .f32⟩
  | .hbm, ⟨31, _⟩ => ⟨S_, .f32⟩
  | .hbm, ⟨32, _⟩ => ⟨S1x6144, .f32⟩
  | .hbm, ⟨33, _⟩ => ⟨S1x6144, .f32⟩
  | .hbm, ⟨34, _⟩ => ⟨S1x6144, .f32⟩
  | .hbm, ⟨35, _⟩ => ⟨S_, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S_, .f32⟩
  | .hbm, ⟨40, _⟩ => ⟨S1x6144, .f32⟩
  | .hbm, ⟨41, _⟩ => ⟨S1x6144, .f32⟩
  | .hbm, ⟨42, _⟩ => ⟨S1x6144, .f32⟩
  | .hbm, ⟨43, _⟩ => ⟨S_, .f32⟩
  | .hbm, ⟨44, _⟩ => ⟨S1x6144, .f32⟩
  | .hbm, ⟨45, _⟩ => ⟨S1x6144, .f32⟩
  | .hbm, ⟨46, _⟩ => ⟨S_, .f32⟩
  | .hbm, ⟨47, _⟩ => ⟨S1x1792, .f32⟩
  | .hbm, ⟨48, _⟩ => ⟨S1x1792, .f32⟩
  | .hbm, ⟨49, _⟩ => ⟨S_, .f32⟩
  | .hbm, ⟨50, _⟩ => ⟨S1x1792, .f32⟩
  | .hbm, ⟨51, _⟩ => ⟨S1x1792, .f32⟩
  | .hbm, ⟨52, _⟩ => ⟨S1x1792, .f32⟩
  | .hbm, ⟨53, _⟩ => ⟨S_, .f32⟩
  | .hbm, ⟨54, _⟩ => ⟨S1x1792, .f32⟩
  | .hbm, ⟨55, _⟩ => ⟨S1x1792, .f32⟩
  | .hbm, ⟨56, _⟩ => ⟨S1x1792, .f32⟩
  | .hbm, ⟨57, _⟩ => ⟨S_, .f32⟩
  | .hbm, ⟨58, _⟩ => ⟨S1x1792, .f32⟩
  | .hbm, ⟨59, _⟩ => ⟨S1x1792, .f32⟩
  | .hbm, ⟨60, _⟩ => ⟨S1x1792, .f32⟩
  | .hbm, ⟨61, _⟩ => ⟨S_, .f32⟩
  | .hbm, ⟨62, _⟩ => ⟨S1x1792, .f32⟩
  | .hbm, ⟨63, _⟩ => ⟨S1x1792, .f32⟩
  | .hbm, ⟨64, _⟩ => ⟨S_, .f32⟩
  | .hbm, ⟨65, _⟩ => ⟨S1x1792, .f32⟩
  | .hbm, ⟨66, _⟩ => ⟨S1x1792, .f32⟩
  | .hbm, ⟨67, _⟩ => ⟨S1x1792, .f32⟩
  | .hbm, ⟨68, _⟩ => ⟨S_, .f32⟩
  | .hbm, ⟨69, _⟩ => ⟨S1x1792, .f32⟩
  | .hbm, ⟨70, _⟩ => ⟨S1x1792, .f32⟩
  | .hbm, ⟨71, _⟩ => ⟨S1x1792, .f32⟩
  | .hbm, ⟨72, _⟩ => ⟨S_, .f32⟩
  | .hbm, ⟨73, _⟩ => ⟨S1x1792, .f32⟩
  | .hbm, ⟨74, _⟩ => ⟨S1x1792, .f32⟩
  | .hbm, ⟨75, _⟩ => ⟨S1x1792, .f32⟩
  | .hbm, ⟨76, _⟩ => ⟨S_, .f32⟩
  | .hbm, ⟨77, _⟩ => ⟨S1x1792, .f32⟩
  | .hbm, ⟨78, _⟩ => ⟨S1x1792, .f32⟩
  | .hbm, ⟨79, _⟩ => ⟨S_, .f32⟩
  | .hbm, ⟨80, _⟩ => ⟨S_, .f32⟩
  | _, _ => ⟨S8x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_9 : Ref sig .tc := ⟨.hbm, 43, rfl⟩
abbrev main_v24 : Ref sig .tc := ⟨.hbm, 44, rfl⟩
abbrev main_v25 : Ref sig .tc := ⟨.hbm, 45, rfl⟩
abbrev main_cst_10 : Ref sig .tc := ⟨.hbm, 46, rfl⟩
abbrev main_v26 : Ref sig .tc := ⟨.hbm, 47, rfl⟩
abbrev main_v27 : Ref sig .tc := ⟨.hbm, 48, rfl⟩
abbrev main_cst_11 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_14 : Ref sig .tc := ⟨.hbm, 61, rfl⟩
abbrev main_v37 : Ref sig .tc := ⟨.hbm, 62, rfl⟩
abbrev main_v38 : Ref sig .tc := ⟨.hbm, 63, rfl⟩
abbrev main_cst_15 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_16 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_17 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_v48 : Ref sig .tc := ⟨.hbm, 77, rfl⟩
abbrev main_v49 : Ref sig .tc := ⟨.hbm, 78, rfl⟩
abbrev main_cst_19 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Kernel14.lean ====
abbrev S8x1024 : Shape := ⟨2, ![8, 1024]⟩
abbrev S8x768 : Shape := ⟨2, ![8, 768]⟩
abbrev S1024x768 : Shape := ⟨2, ![1024, 768]⟩
abbrev S1024x8 : Shape := ⟨2, ![1024, 8]⟩
abbrev S_ : Shape := ⟨0, ![]⟩
abbrev S1024x128 : Shape := ⟨2, ![1024, 128]⟩
abbrev S128x768 : Shape := ⟨2, ![128, 768]⟩

abbrev nBuf : Space → Nat
  | .hbm => 16
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S_, .i32⟩
  | .hbm, ⟨10, _⟩ => ⟨S_, .f32⟩
  | .hbm, ⟨11, _⟩ => ⟨S128x768, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S1024x768, .f32⟩
  | .local _ .vmem, ⟨0, _⟩ => ⟨S1024x128, .f32⟩
  | .local _ .vmem, ⟨1, _⟩ => ⟨S128x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel15.lean ====
abbrev S8192x1792 : Shape := ⟨2, ![8192, 1792]⟩
abbrev S8192x1024 : Shape := ⟨2, ![8192, 1024]⟩
abbrev S1792x1024 : Shape := ⟨2, ![1792, 1024]⟩
abbrev S4096x896 : Shape := ⟨2, ![4096, 896]⟩
abbrev S4096x1024 : Shape := ⟨2, ![4096, 1024]⟩
abbrev S896x1024 : Shape := ⟨2, ![896, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S8192x1792, .bf16⟩
  | .hbm, ⟨3, _⟩ => ⟨S8192x1024, .bf16⟩
  | .hbm, ⟨4, _⟩ => ⟨S1792x1024, .bf16⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S4096x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S8192x1792 : Shape := ⟨2, ![8192, 1792]⟩
abbrev S8192x1024 : Shape := ⟨2, ![8192, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S_, .f32⟩
  | .hbm, ⟨3, _⟩ => ⟨S1024x1792, .f32⟩
  | .hbm, ⟨4, _⟩ => ⟨S8192x1792, .f32⟩
  | .hbm, ⟨5, _⟩ => ⟨S1792x1024, .f32⟩
  | .hbm, ⟨6, _⟩ => ⟨S1024x1792, .f32⟩
  | .hbm, ⟨7, _⟩ => ⟨S1792x1024, .f32⟩
  | .hbm, ⟨8, _⟩ => ⟨S1792x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Lift.Reals.lean ====
/- Reading an operation of the ideal values at real operands: where every operand is a real number, so is the result, and
   it is the real operation of the operands. A program's value at finite arguments is then a formula over the reals. -/
module

public import Idealize.ShloMosaic.Lib.Pipeline.Value
public import Idealize.ShloMosaic.Lib.ValueIdx
public import Idealize.ShloMosaic.Lib.ValueIdxRank1
public import Idealize.ShloMosaic.PureOps.Ideal.Laws

@[expose] public section

noncomputable section

namespace Cert.Lift

open Idealize.ShloMosaic

variable {φ ψ : FTy} {x y z : EReal} {a b c : ℝ}

theorem add (hx : x = (a : EReal)) (hy : y = (b : EReal)) : x + y = ((a + b : ℝ) : EReal) := by
  rw [hx, hy]; exact (EReal.coe_add a b).symm
theorem sub (hx : x = (a : EReal)) (hy : y = (b : EReal)) : x - y = ((a - b : ℝ) : EReal) := by
  rw [hx, hy]; exact (EReal.coe_sub a b).symm
theorem mul (hx : x = (a : EReal)) (hy : y = (b : EReal)) : x * y = ((a * b : ℝ) : EReal) := by
  rw [hx, hy]; exact (EReal.coe_mul a b).symm
theorem neg (hx : x = (a : EReal)) : -x = ((-a : ℝ) : EReal) := by
  rw [hx]; exact (EReal.coe_neg a).symm
theorem exp (hx : x = (a : EReal)) : Ideal.exp x = ((Real.exp a : ℝ) : EReal) := by
  rw [hx]; rfl
theorem div (hb : b ≠ 0) (hx : x = (a : EReal)) (hy : y = (b : EReal)) : Ideal.div x y = ((a / b : ℝ) : EReal) := by
  rw [hx, hy, Ideal.div_coe hb, ← EReal.coe_mul, mul_one_div]
theorem rsqrt (ha : 0 < a) (hx : x = (a : EReal)) : Ideal.rsqrt x = (((Real.sqrt a)⁻¹ : ℝ) : EReal) := by
  rw [hx, Ideal.rsqrt_coe, if_neg (not_lt.mpr ha.le), if_neg ha.ne']
theorem sqrt (ha : 0 ≤ a) (hx : x = (a : EReal)) : Ideal.sqrt x = ((Real.sqrt a : ℝ) : EReal) := by
  rw [hx, Ideal.sqrt_coe, if_neg (not_lt.mpr ha)]
theorem tanh (hx : x = (a : EReal)) : Ideal.tanh x = ((Real.tanh a : ℝ) : EReal) := by
  rw [hx]; rfl
theorem maxi (hx : x = (a : EReal)) (hy : y = (b : EReal)) : max x y = ((max a b : ℝ) : EReal) := by
  rw [hx, hy]; exact (EReal.coe_strictMono.monotone.map_max).symm

/-- A sum of reals. -/
theorem sum {ι : Type} [Fintype ι] {f : ι → EReal} {g : ι → ℝ} (h : ∀ k, f k = (g k : EReal)) :
    ∑ k, f k = ((∑ k, g k : ℝ) : EReal) := by
  rw [Finset.sum_congr rfl fun k _ => h k]
  classical
  refine Finset.induction_on (Finset.univ : Finset ι) (by simp) fun k s hk ih => ?_
  rw [Finset.sum_insert hk, Finset.sum_insert hk, ih, EReal.coe_add]

/-- A contraction of reals. -/
theorem dot {ι : Type} [Fintype ι] {f g : ι → EReal} {p q : ι → ℝ} (hf : ∀ k, f k = (p k : EReal)) (hg : ∀ k, g k = (q k : EReal)) :
    ∑ k, f k * g k = ((∑ k, p k * q k : ℝ) : EReal) :=
  sum fun k => mul (hf k) (hg k)

/-- A sum over the indices of a vector. -/
theorem sum1 {n : ℕ} {f : (⟨1, ![n]⟩ : Shape).Idx → EReal} {g : Fin n → ℝ} (h : ∀ j, f j = (g (j 0) : EReal)) :
    ∑ j, f j = ((∑ k, g k : ℝ) : EReal) := by
  rw [sum (g := fun j => g (j 0)) h]
  refine congrArg _ (Fintype.sum_equiv ValueIdx.idxEquiv1 _ _ fun j => ?_)
  rfl

end Cert.Lift

end
-- ==== Proof.Lift.Ref.lean ====
/- The reference read over the reals: at arguments all of whose elements are real numbers, every value the reference
   computes is a real number, given here by a formula `r_<value>` over the arguments' reals, one operation at a time. -/
module

public import proofs.«01_k».proof.Proof.Gen.ReferenceIdeal.Read
public import proofs.«01_k».proof.Proof.Lift.Reals

@[expose] public section

set_option maxRecDepth 16384

noncomputable section

namespace Cert.ReferenceIdeal.Reals

open Cert.ReferenceIdeal Cert.ReferenceIdeal.Gen Cert.ReferenceIdeal.Read Idealize.ShloMosaic Idealize.ShloMosaic.TcCoe Idealize.SL.Sem Idealize.ShloMosaic.StableHlo

/-- The arguments' elements as reals. -/
structure Args where
  x0 : Fin 8192 → Fin 1024 → ℝ
  x1 : Fin 1024 → Fin 5632 → ℝ
  x2 : Fin 2816 → Fin 1024 → ℝ
  x3 : Fin 8192 → Fin 1024 → ℝ
  x4 : Fin 8192 → Fin 1024 → ℝ
  x5 : Fin 1 → Fin 1024 → ℝ
  x6 : Fin 1 → Fin 1024 → ℝ
  x7 : Fin 1 → Fin 1024 → ℝ

/-- The arguments `X` hold the reals `A`. -/
structure Holds (A : Args) (X0 : (⟨S8192x1024, .f32⟩ : BufTy).Contents (Elt Ideal)) (X1 : (⟨S1024x5632, .f32⟩ : BufTy).Contents (Elt Ideal)) (X2 : (⟨S2816x1024, .f32⟩ : BufTy).Contents (Elt Ideal)) (X3 : (⟨S8192x1024, .f32⟩ : BufTy).Contents (Elt Ideal)) (X4 : (⟨S8192x1024, .f32⟩ : BufTy).Contents (Elt Ideal)) (X5 : (⟨S1x1024, .f32⟩ : BufTy).Contents (Elt Ideal)) (X6 : (⟨S1x1024, .f32⟩ : BufTy).Contents (Elt Ideal)) (X7 : (⟨S1x1024, .f32⟩ : BufTy).Contents (Elt Ideal)) : Prop where
  x0 : ∀ i, X0 i = ((A.x0 (i 0) (i 1) : ℝ) : EReal)
  x1 : ∀ i, X1 i = ((A.x1 (i 0) (i 1) : ℝ) : EReal)
  x2 : ∀ i, X2 i = ((A.x2 (i 0) (i 1) : ℝ) : EReal)
  x3 : ∀ i, X3 i = ((A.x3 (i 0) (i 1) : ℝ) : EReal)
  x4 : ∀ i, X4 i = ((A.x4 (i 0) (i 1) : ℝ) : EReal)
  x5 : ∀ i, X5 i = ((A.x5 (i 0) (i 1) : ℝ) : EReal)
  x6 : ∀ i, X6 i = ((A.x6 (i 0) (i 1) : ℝ) : EReal)
  x7 : ∀ i, X7 i = ((A.x7 (i 0) (i 1) : ℝ) : EReal)

def r_v0 (A : Args) (i0 : Fin 8192) (i1 : Fin 5632) : ℝ := ∑ k : Fin 1024, A.x0 i0 k * A.x1 k i1
theorem l_v0 {A : Args} {X0 X1 X2 X3 X4 X5 X6 X7} (h : Holds A X0 X1 X2 X3 X4 X5 X6 X7) (i : S8192x5632.Idx) : val_main_v0 (F := Ideal) X0 X1 i = ((r_v0 A (i 0) (i 1) : ℝ) : EReal) :=
  (val_main_v0_apply X0 X1 i).trans (Cert.Lift.dot (fun k => h.x0 (lidx_main_v0 i k)) (fun k => h.x1 (ridx_main_v0 i k)))

def r_v1 (A : Args) (i0 : Fin 8192) (i1 : Fin 2816) : ℝ := r_v0 A i0 ⟨i1.val, by omega⟩
theorem l_v1 {A : Args} {X0 X1 X2 X3 X4 X5 X6 X7} (h : Holds A X0 X1 X2 X3 X4 X5 X6 X7) (i : S8192x2816.Idx) : val_main_v1 (F := Ideal) X0 X1 i = ((r_v1 A (i 0) (i 1) : ℝ) : EReal) :=
  (val_main_v1_apply X0 X1 i).trans (l_v0 h (idx_main_v1 i))

def r_v2 (A : Args) (i0 : Fin 8192) (i1 : Fin 2816) : ℝ := r_v0 A i0 ⟨2816 + i1.val, by omega⟩
theorem l_v2 {A : Args} {X0 X1 X2 X3 X4 X5 X6 X7} (h : Holds A X0 X1 X2 X3 X4 X5 X6 X7) (i : S8192x2816.Idx) : val_main_v2 (F := Ideal) X0 X1 i = ((r_v2 A (i 0) (i 1) : ℝ) : EReal) :=
  (val_main_v2_apply X0 X1 i).trans (l_v0 h (idx_main_v2 i))

def r_call0_v0 (A : Args) (i0 : Fin 8192) (i1 : Fin 2816) : ℝ := -(r_v1 A i0 i1)
theorem l_call0_v0 {A : Args} {X0 X1 X2 X3 X4 X5 X6 X7} (h : Holds A X0 X1 X2 X3 X4 X5 X6 X7) (i : S8192x2816.Idx) : val_main_call0_v0 (F := Ideal) X0 X1 i = ((r_call0_v0 A (i 0) (i 1) : ℝ) : EReal) :=
  Cert.Lift.neg (l_v1 h i)

def r_call0_v1 (A : Args) (i0 : Fin 8192) (i1 : Fin 2816) : ℝ := Real.exp (r_call0_v0 A i0 i1)
theorem l_call0_v1 {A : Args} {X0 X1 X2 X3 X4 X5 X6 X7} (h : Holds A X0 X1 X2 X3 X4 X5 X6 X7) (i : S8192x2816.Idx) : val_main_call0_v1 (F := Ideal) X0 X1 i = ((r_call0_v1 A (i 0) (i 1) : ℝ) : EReal) :=
  Cert.Lift.exp (l_call0_v0 h i)

theorem lit_3F800000 : (Ideal.ofBits .f32 0x3F800000#32 : EReal) = (((1 : ℝ) : ℝ) : EReal) := by
  simp [Ideal.ofBits, Ideal.ieee, -EReal.coe_mul] <;> norm_num

def r_call0_cst (A : Args)  : ℝ := (1 : ℝ)
theorem l_call0_cst {A : Args} {X0 X1 X2 X3 X4 X5 X6 X7} (h : Holds A X0 X1 X2 X3 X4 X5 X6 X7) (i : S_.Idx) : val_main_call0_cst (F := Ideal) i = ((r_call0_cst A  : ℝ) : EReal) :=
  lit_3F800000

def r_call0_v2 (A : Args) (i0 : Fin 8192) (i1 : Fin 2816) : ℝ := r_call0_cst A
theorem l_call0_v2 {A : Args} {X0 X1 X2 X3 X4 X5 X6 X7} (h : Holds A X0 X1 X2 X3 X4 X5 X6 X7) (i : S8192x2816.Idx) : val_main_call0_v2 (F := Ideal) i = ((r_call0_v2 A (i 0) (i 1) : ℝ) : EReal) :=
  (val_main_call0_v2_apply i).trans (l_call0_cst h (idx_main_call0_v2 i))

def r_call0_v3 (A : Args) (i0 : Fin 8192) (i1 : Fin 2816) : ℝ := r_call0_v2 A i0 i1 + r_call0_v1 A i0 i1
theorem l_call0_v3 {A : Args} {X0 X1 X2 X3 X4 X5 X6 X7} (h : Holds A X0 X1 X2 X3 X4 X5 X6 X7) (i : S8192x2816.Idx) : val_main_call0_v3 (F := Ideal) X0 X1 i = ((r_call0_v3 A (i 0) (i 1) : ℝ) : EReal) :=
  Cert.Lift.add (l_call0_v2 h i) (l_call0_v1 h i)

def r_call0_cst_0 (A : Args)  : ℝ := (1 : ℝ)
theorem l_call0_cst_0 {A : Args} {X0 X1 X2 X3 X4 X5 X6 X7} (h : Holds A X0 X1 X2 X3 X4 X5 X6 X7) (i : S_.Idx) : val_main_call0_cst_0 (F := Ideal) i = ((r_call0_cst_0 A  : ℝ) : EReal) :=
  lit_3F800000

def r_call0_v4 (A : Args) (i0 : Fin 8192) (i1 : Fin 2816) : ℝ := r_call0_cst_0 A
theorem l_call0_v4 {A : Args} {X0 X1 X2 X3 X4 X5 X6 X7} (h : Holds A X0 X1 X2 X3 X4 X5 X6 X7) (i : S8192x2816.Idx) : val_main_call0_v4 (F := Ideal) i = ((r_call0_v4 A (i 0) (i 1) : ℝ) : EReal) :=
  (val_main_call0_v4_apply i).trans (l_call0_cst_0 h (idx_main_call0_v4 i))

theorem nz_call0_v3 (A : Args) (i0 : Fin 8192) (i1 : Fin 2816) : r_call0_v3 A i0 i1 ≠ 0 := by
  have := Real.exp_pos (-(r_v1 A i0 i1)); show (1 : ℝ) + Real.exp (-(r_v1 A i0 i1)) ≠ 0; positivity

def r_v3_2 (A : Args) (i0 : Fin 8192) (i1 : Fin 2816) : ℝ := r_call0_v4 A i0 i1 / r_call0_v3 A i0 i1
theorem l_v3_2 {A : Args} {X0 X1 X2 X3 X4 X5 X6 X7} (h : Holds A X0 X1 X2 X3 X4 X5 X6 X7) (i : S8192x2816.Idx) : val_main_v3_2 (F := Ideal) X0 X1 i = ((r_v3_2 A (i 0) (i 1) : ℝ) : EReal) :=
  Cert.Lift.div (nz_call0_v3 A (i 0) (i 1)) (l_call0_v4 h i) (l_call0_v3 h i)

def r_call0_cst_1 (A : Args)  : ℝ := (1 : ℝ)
theorem l_call0_cst_1 {A : Args} {X0 X1 X2 X3 X4 X5 X6 X7} (h : Holds A X0 X1 X2 X3 X4 X5 X6 X7) (i : S_.Idx) : val_main_call0_cst_1 (F := Ideal) i = ((r_call0_cst_1 A  : ℝ) : EReal) :=
  lit_3F800000

def r_call0_v6 (A : Args) (i0 : Fin 8192) (i1 : Fin 2816) : ℝ := r_call0_cst_1 A
theorem l_call0_v6 {A : Args} {X0 X1 X2 X3 X4 X5 X6 X7} (h : Holds A X0 X1 X2 X3 X4 X5 X6 X7) (i : S8192x2816.Idx) : val_main_call0_v6 (F := Ideal) i = ((r_call0_v6 A (i 0) (i 1) : ℝ) : EReal) :=
  (val_main_call0_v6_apply i).trans (l_call0_cst_1 h (idx_main_call0_v6 i))

def r_call0_v7 (A : Args) (i0 : Fin 8192) (i1 : Fin 2816) : ℝ := r_call0_v6 A i0 i1 - r_v3_2 A i0 i1
theorem l_call0_v7 {A : Args} {X0 X1 X2 X3 X4 X5 X6 X7} (h : Holds A X0 X1 X2 X3 X4 X5 X6 X7) (i : S8192x2816.Idx) : val_main_call0_v7 (F := Ideal) X0 X1 i = ((r_call0_v7 A (i 0) (i 1) : ℝ) : EReal) :=
  Cert.Lift.sub (l_call0_v6 h i) (l_v3_2 h i)

def r_v3_1 (A : Args) (i0 : Fin 8192) (i1 : Fin 2816) : ℝ := r_v3_2 A i0 i1 * r_call0_v7 A i0 i1
theorem l_v3_1 {A : Args} {X0 X1 X2 X3 X4 X5 X6 X7} (h : Holds A X0 X1 X2 X3 X4 X5 X6 X7) (i : S8192x2816.Idx) : val_main_v3_1 (F := Ideal) X0 X1 i = ((r_v3_1 A (i 0) (i 1) : ℝ) : EReal) :=
  Cert.Lift.mul (l_v3_2 h i) (l_call0_v7 h i)

def r_v3_0 (A : Args) (i0 : Fin 8192) (i1 : Fin 2816) : ℝ := r_v1 A i0 i1 * r_v3_2 A i0 i1
theorem l_v3_0 {A : Args} {X0 X1 X2 X3 X4 X5 X6 X7} (h : Holds A X0 X1 X2 X3 X4 X5 X6 X7) (i : S8192x2816.Idx) : val_main_v3_0 (F := Ideal) X0 X1 i = ((r_v3_0 A (i 0) (i 1) : ℝ) : EReal) :=
  Cert.Lift.mul (l_v1 h i) (l_v3_2 h i)

def r_v4 (A : Args) (i0 : Fin 8192) (i1 : Fin 2816) : ℝ := r_v3_0 A i0 i1 * r_v2 A i0 i1
theorem l_v4 {A : Args} {X0 X1 X2 X3 X4 X5 X6 X7} (h : Holds A X0 X1 X2 X3 X4 X5 X6 X7) (i : S8192x2816.Idx) : val_main_v4 (F := Ideal) X0 X1 i = ((r_v4 A (i 0) (i 1) : ℝ) : EReal) :=
  Cert.Lift.mul (l_v3_0 h i) (l_v2 h i)

def r_cst (A : Args)  : ℝ := (1 : ℝ)
theorem l_cst {A : Args} {X0 X1 X2 X3 X4 X5 X6 X7} (h : Holds A X0 X1 X2 X3 X4 X5 X6 X7) (i : S_.Idx) : val_main_cst (F := Ideal) i = ((r_cst A  : ℝ) : EReal) :=
  lit_3F800000

def r_v5 (A : Args) (i0 : Fin 8192) (i1 : Fin 2816) : ℝ := r_cst A
theorem l_v5 {A : Args} {X0 X1 X2 X3 X4 X5 X6 X7} (h : Holds A X0 X1 X2 X3 X4 X5 X6 X7) (i : S8192x2816.Idx) : val_main_v5 (F := Ideal) i = ((r_v5 A (i 0) (i 1) : ℝ) : EReal) :=
  (val_main_v5_apply i).trans (l_cst h (idx_main_v5 i))

def r_v6 (A : Args) (i0 : Fin 8192) (i1 : Fin 2816) : ℝ := r_v3_0 A i0 i1 * r_v5 A i0 i1
theorem l_v6 {A : Args} {X0 X1 X2 X3 X4 X5 X6 X7} (h : Holds A X0 X1 X2 X3 X4 X5 X6 X7) (i : S8192x2816.Idx) : val_main_v6 (F := Ideal) X0 X1 i = ((r_v6 A (i 0) (i 1) : ℝ) : EReal) :=
  Cert.Lift.mul (l_v3_0 h i) (l_v5 h i)

def r_v7 (A : Args) (i0 : Fin 8192) (i1 : Fin 2816) : ℝ := r_v5 A i0 i1 * r_v2 A i0 i1
theorem l_v7 {A : Args} {X0 X1 X2 X3 X4 X5 X6 X7} (h : Holds A X0 X1 X2 X3 X4 X5 X6 X7) (i : S8192x2816.Idx) : val_main_v7 (F := Ideal) X0 X1 i = ((r_v7 A (i 0) (i 1) : ℝ) : EReal) :=
  Cert.Lift.mul (l_v5 h i) (l_v2 h i)

def r_call1_v0 (A : Args) (i0 : Fin 8192) (i1 : Fin 2816) : ℝ := r_v1 A i0 i1 * r_v7 A i0 i1
theorem l_call1_v0 {A : Args} {X0 X1 X2 X3 X4 X5 X6 X7} (h : Holds A X0 X1 X2 X3 X4 X5 X6 X7) (i : S8192x2816.Idx) : val_main_call1_v0 (F := Ideal) X0 X1 i = ((r_call1_v0 A (i 0) (i 1) : ℝ) : EReal) :=
  Cert.Lift.mul (l_v1 h i) (l_v7 h i)

def r_call1_v1 (A : Args) (i0 : Fin 8192) (i1 : Fin 2816) : ℝ := r_v7 A i0 i1 * r_v3_2 A i0 i1
theorem l_call1_v1 {A : Args} {X0 X1 X2 X3 X4 X5 X6 X7} (h : Holds A X0 X1 X2 X3 X4 X5 X6 X7) (i : S8192x2816.Idx) : val_main_call1_v1 (F := Ideal) X0 X1 i = ((r_call1_v1 A (i 0) (i 1) : ℝ) : EReal) :=
  Cert.Lift.mul (l_v7 h i) (l_v3_2 h i)

def r_call1_v2 (A : Args) (i0 : Fin 8192) (i1 : Fin 2816) : ℝ := r_call1_v0 A i0 i1 * r_v3_1 A i0 i1
theorem l_call1_v2 {A : Args} {X0 X1 X2 X3 X4 X5 X6 X7} (h : Holds A X0 X1 X2 X3 X4 X5 X6 X7) (i : S8192x2816.Idx) : val_main_call1_v2 (F := Ideal) X0 X1 i = ((r_call1_v2 A (i 0) (i 1) : ℝ) : EReal) :=
  Cert.Lift.mul (l_call1_v0 h i) (l_v3_1 h i)

def r_v8 (A : Args) (i0 : Fin 8192) (i1 : Fin 2816) : ℝ := r_call1_v1 A i0 i1 + r_call1_v2 A i0 i1
theorem l_v8 {A : Args} {X0 X1 X2 X3 X4 X5 X6 X7} (h : Holds A X0 X1 X2 X3 X4 X5 X6 X7) (i : S8192x2816.Idx) : val_main_v8 (F := Ideal) X0 X1 i = ((r_v8 A (i 0) (i 1) : ℝ) : EReal) :=
  Cert.Lift.add (l_call1_v1 h i) (l_call1_v2 h i)

def r_v9 (A : Args) (i0 : Fin 8192) (i1 : Fin 1024) : ℝ := ∑ k : Fin 2816, r_v4 A i0 k * A.x2 k i1
theorem l_v9 {A : Args} {X0 X1 X2 X3 X4 X5 X6 X7} (h : Holds A X0 X1 X2 X3 X4 X5 X6 X7) (i : S8192x1024.Idx) : val_main_v9 (F := Ideal) X0 X1 X2 i = ((r_v9 A (i 0) (i 1) : ℝ) : EReal) :=
  (val_main_v9_apply X0 X1 X2 i).trans (Cert.Lift.dot (fun k => l_v4 h (lidx_main_v9 i k)) (fun k => h.x2 (ridx_main_v9 i k)))

theorem lit_3F9837F0 : (Ideal.ofBits .f32 0x3F9837F0#32 : EReal) = (((623487 / 524288 : ℝ) : ℝ) : EReal) := by
  simp [Ideal.ofBits, Ideal.ieee, -EReal.coe_mul] <;> norm_num

def r_cst_0 (A : Args)  : ℝ := (623487 / 524288 : ℝ)
theorem l_cst_0 {A : Args} {X0 X1 X2 X3 X4 X5 X6 X7} (h : Holds A X0 X1 X2 X3 X4 X5 X6 X7) (i : S_.Idx) : val_main_cst_0 (F := Ideal) i = ((r_cst_0 A  : ℝ) : EReal) :=
  lit_3F9837F0

def r_v10 (A : Args) (i0 : Fin 8192) (i1 : Fin 1024) : ℝ := r_cst_0 A
theorem l_v10 {A : Args} {X0 X1 X2 X3 X4 X5 X6 X7} (h : Holds A X0 X1 X2 X3 X4 X5 X6 X7) (i : S8192x1024.Idx) : val_main_v10 (F := Ideal) i = ((r_v10 A (i 0) (i 1) : ℝ) : EReal) :=
  (val_main_v10_apply i).trans (l_cst_0 h (idx_main_v10 i))

def r_v11 (A : Args) (i0 : Fin 8192) (i1 : Fin 1024) : ℝ := r_v10 A i0 i1 * A.x3 i0 i1
theorem l_v11 {A : Args} {X0 X1 X2 X3 X4 X5 X6 X7} (h : Holds A X0 X1 X2 X3 X4 X5 X6 X7) (i : S8192x1024.Idx) : val_main_v11 (F := Ideal) X3 i = ((r_v11 A (i 0) (i 1) : ℝ) : EReal) :=
  Cert.Lift.mul (l_v10 h i) (h.x3 i)

def r_v12 (A : Args) (i0 : Fin 8192) (i1 : Fin 1024) : ℝ := A.x5 0 i1
theorem l_v12 {A : Args} {X0 X1 X2 X3 X4 X5 X6 X7} (h : Holds A X0 X1 X2 X3 X4 X5 X6 X7) (i : S8192x1024.Idx) : val_main_v12 (F := Ideal) X5 i = ((r_v12 A (i 0) (i 1) : ℝ) : EReal) :=
  (val_main_v12_apply X5 i).trans (h.x5 (idx_main_v12 i))

def r_v13 (A : Args) (i0 : Fin 8192) (i1 : Fin 1024) : ℝ := r_v12 A i0 i1 * r_v9 A i0 i1
theorem l_v13 {A : Args} {X0 X1 X2 X3 X4 X5 X6 X7} (h : Holds A X0 X1 X2 X3 X4 X5 X6 X7) (i : S8192x1024.Idx) : val_main_v13 (F := Ideal) X0 X1 X2 X5 i = ((r_v13 A (i 0) (i 1) : ℝ) : EReal) :=
  Cert.Lift.mul (l_v12 h i) (l_v9 h i)

def r_v14 (A : Args) (i0 : Fin 8192) (i1 : Fin 1024) : ℝ := r_v11 A i0 i1 + r_v13 A i0 i1
theorem l_v14 {A : Args} {X0 X1 X2 X3 X4 X5 X6 X7} (h : Holds A X0 X1 X2 X3 X4 X5 X6 X7) (i : S8192x1024.Idx) : val_main_v14 (F := Ideal) X0 X1 X2 X3 X5 i = ((r_v14 A (i 0) (i 1) : ℝ) : EReal) :=
  Cert.Lift.add (l_v11 h i) (l_v13 h i)

def r_v15 (A : Args) (i0 : Fin 1024) : ℝ := A.x6 0 i0
theorem l_v15 {A : Args} {X0 X1 X2 X3 X4 X5 X6 X7} (h : Holds A X0 X1 X2 X3 X4 X5 X6 X7) (i : S1024.Idx) : val_main_v15 (F := Ideal) X6 i = ((r_v15 A (i 0) : ℝ) : EReal) :=
  (val_main_v15_apply X6 i).trans ((h.x6 (idx_main_v15 i)).trans (congrArg Real.toEReal (congr (congr ((rfl : A.x6 = _)) (rfl : ((idx_main_v15 i) 0 : Fin 1) = _)) (Fin.ext (by have h0 : (i 0).val < 1024 := (i 0).isLt; show ((i 0).val) % 1024 = (i 0).val; omega) : ((idx_main_v15 i) 1 : Fin 1024) = (i 0 : Fin 1024)))))

def r_v16 (A : Args) (i0 : Fin 1024) : ℝ := A.x7 0 i0
theorem l_v16 {A : Args} {X0 X1 X2 X3 X4 X5 X6 X7} (h : Holds A X0 X1 X2 X3 X4 X5 X6 X7) (i : S1024.Idx) : val_main_v16 (F := Ideal) X7 i = ((r_v16 A (i 0) : ℝ) : EReal) :=
  (val_main_v16_apply X7 i).trans ((h.x7 (idx_main_v16 i)).trans (congrArg Real.toEReal (congr (congr ((rfl : A.x7 = _)) (rfl : ((idx_main_v16 i) 0 : Fin 1) = _)) (Fin.ext (by have h0 : (i 0).val < 1024 := (i 0).isLt; show ((i 0).val) % 1024 = (i 0).val; omega) : ((idx_main_v16 i) 1 : Fin 1024) = (i 0 : Fin 1024)))))

theorem lit_00000000 : (Ideal.ofBits .f32 0x00000000#32 : EReal) = (((0 : ℝ) : ℝ) : EReal) := by
  simp [Ideal.ofBits, Ideal.ieee, -EReal.coe_mul] <;> norm_num

def r_cst_1 (A : Args)  : ℝ := (0 : ℝ)
theorem l_cst_1 {A : Args} {X0 X1 X2 X3 X4 X5 X6 X7} (h : Holds A X0 X1 X2 X3 X4 X5 X6 X7) (i : S_.Idx) : val_main_cst_1 (F := Ideal) i = ((r_cst_1 A  : ℝ) : EReal) :=
  lit_00000000

def r_v17 (A : Args) (i0 : Fin 8192) : ℝ := r_cst_1 A + ∑ k : Fin 1024, r_v14 A i0 k
theorem l_v17 {A : Args} {X0 X1 X2 X3 X4 X5 X6 X7} (h : Holds A X0 X1 X2 X3 X4 X5 X6 X7) (i : S8192.Idx) : val_main_v17 (F := Ideal) X0 X1 X2 X3 X5 i = ((r_v17 A (i 0) : ℝ) : EReal) :=
  (val_main_v17_apply X0 X1 X2 X3 X5 i).trans (Cert.Lift.add (l_cst_1 h (Shape.Idx.first h_S_)) (Cert.Lift.sum fun k => l_v14 h (idx_main_v17 i k)))

def r_v18 (A : Args) (i0 : Fin 8192) (i1 : Fin 1) : ℝ := r_v17 A i0
theorem l_v18 {A : Args} {X0 X1 X2 X3 X4 X5 X6 X7} (h : Holds A X0 X1 X2 X3 X4 X5 X6 X7) (i : S8192x1.Idx) : val_main_v18 (F := Ideal) X0 X1 X2 X3 X5 i = ((r_v18 A (i 0) (i 1) : ℝ) : EReal) :=
  (val_main_v18_apply X0 X1 X2 X3 X5 i).trans (l_v17 h (idx_main_v18 i))

theorem lit_44800000 : (Ideal.ofBits .f32 0x44800000#32 : EReal) = (((1024 : ℝ) : ℝ) : EReal) := by
  simp [Ideal.ofBits, Ideal.ieee, -EReal.coe_mul] <;> norm_num

def r_cst_2 (A : Args)  : ℝ := (1024 : ℝ)
theorem l_cst_2 {A : Args} {X0 X1 X2 X3 X4 X5 X6 X7} (h : Holds A X0 X1 X2 X3 X4 X5 X6 X7) (i : S_.Idx) : val_main_cst_2 (F := Ideal) i = ((r_cst_2 A  : ℝ) : EReal) :=
  lit_44800000

def r_v19 (A : Args) (i0 : Fin 8192) (i1 : Fin 1) : ℝ := r_cst_2 A
theorem l_v19 {A : Args} {X0 X1 X2 X3 X4 X5 X6 X7} (h : Holds A X0 X1 X2 X3 X4 X5 X6 X7) (i : S8192x1.Idx) : val_main_v19 (F := Ideal) i = ((r_v19 A (i 0) (i 1) : ℝ) : EReal) :=
  (val_main_v19_apply i).trans (l_cst_2 h (idx_main_v19 i))

theorem nz_v19 (A : Args) (i0 : Fin 8192) (i1 : Fin 1) : r_v19 A i0 i1 ≠ 0 := by rw [show r_v19 A i0 i1 = 1024 from rfl]; norm_num

def r_v20 (A : Args) (i0 : Fin 8192) (i1 : Fin 1) : ℝ := r_v18 A i0 i1 / r_v19 A i0 i1
theorem l_v20 {A : Args} {X0 X1 X2 X3 X4 X5 X6 X7} (h : Holds A X0 X1 X2 X3 X4 X5 X6 X7) (i : S8192x1.Idx) : val_main_v20 (F := Ideal) X0 X1 X2 X3 X5 i = ((r_v20 A (i 0) (i 1) : ℝ) : EReal) :=
  Cert.Lift.div (nz_v19 A (i 0) (i 1)) (l_v18 h i) (l_v19 h i)

def r_v21 (A : Args) (i0 : Fin 8192) (i1 : Fin 1024) : ℝ := r_v20 A i0 0
theorem l_v21 {A : Args} {X0 X1 X2 X3 X4 X5 X6 X7} (h : Holds A X0 X1 X2 X3 X4 X5 X6 X7) (i : S8192x1024.Idx) : val_main_v21 (F := Ideal) X0 X1 X2 X3 X5 i = ((r_v21 A (i 0) (i 1) : ℝ) : EReal) :=
  (val_main_v21_apply X0 X1 X2 X3 X5 i).trans (l_v20 h (idx_main_v21 i))

def r_v22 (A : Args) (i0 : Fin 8192) (i1 : Fin 1024) : ℝ := r_v14 A i0 i1 - r_v21 A i0 i1
theorem l_v22 {A : Args} {X0 X1 X2 X3 X4 X5 X6 X7} (h : Holds A X0 X1 X2 X3 X4 X5 X6 X7) (i : S8192x1024.Idx) : val_main_v22 (F := Ideal) X0 X1 X2 X3 X5 i = ((r_v22 A (i 0) (i 1) : ℝ) : EReal) :=
  Cert.Lift.sub (l_v14 h i) (l_v21 h i)

def r_v23 (A : Args) (i0 : Fin 8192) (i1 : Fin 1024) : ℝ := r_v22 A i0 i1 * r_v22 A i0 i1
theorem l_v23 {A : Args} {X0 X1 X2 X3 X4 X5 X6 X7} (h : Holds A X0 X1 X2 X3 X4 X5 X6 X7) (i : S8192x1024.Idx) : val_main_v23 (F := Ideal) X0 X1 X2 X3 X5 i = ((r_v23 A (i 0) (i 1) : ℝ) : EReal) :=
  Cert.Lift.mul (l_v22 h i) (l_v22 h i)

theorem lit_40000000 : (Ideal.ofBits .f32 0x40000000#32 : EReal) = (((2 : ℝ) : ℝ) : EReal) := by
  simp [Ideal.ofBits, Ideal.ieee, -EReal.coe_mul] <;> norm_num

def r_cst_3 (A : Args)  : ℝ := (2 : ℝ)
theorem l_cst_3 {A : Args} {X0 X1 X2 X3 X4 X5 X6 X7} (h : Holds A X0 X1 X2 X3 X4 X5 X6 X7) (i : S_.Idx) : val_main_cst_3 (F := Ideal) i = ((r_cst_3 A  : ℝ) : EReal) :=
  lit_40000000

def r_v24 (A : Args) (i0 : Fin 8192) (i1 : Fin 1024) : ℝ := r_cst_3 A
theorem l_v24 {A : Args} {X0 X1 X2 X3 X4 X5 X6 X7} (h : Holds A X0 X1 X2 X3 X4 X5 X6 X7) (i : S8192x1024.Idx) : val_main_v24 (F := Ideal) i = ((r_v24 A (i 0) (i 1) : ℝ) : EReal) :=
  (val_main_v24_apply i).trans (l_cst_3 h (idx_main_v24 i))

def r_v25 (A : Args) (i0 : Fin 8192) (i1 : Fin 1024) : ℝ := r_v24 A i0 i1 * r_v22 A i0 i1
theorem l_v25 {A : Args} {X0 X1 X2 X3 X4 X5 X6 X7} (h : Holds A X0 X1 X2 X3 X4 X5 X6 X7) (i : S8192x1024.Idx) : val_main_v25 (F := Ideal) X0 X1 X2 X3 X5 i = ((r_v25 A (i 0) (i 1) : ℝ) : EReal) :=
  Cert.Lift.mul (l_v24 h i) (l_v22 h i)

def r_cst_4 (A : Args)  : ℝ := (0 : ℝ)
theorem l_cst_4 {A : Args} {X0 X1 X2 X3 X4 X5 X6 X7} (h : Holds A X0 X1 X2 X3 X4 X5 X6 X7) (i : S_.Idx) : val_main_cst_4 (F := Ideal) i = ((r_cst_4 A  : ℝ) : EReal) :=
  lit_00000000

def r_v26 (A : Args) (i0 : Fin 8192) : ℝ := r_cst_4 A + ∑ k : Fin 1024, r_v23 A i0 k
theorem l_v26 {A : Args} {X0 X1 X2 X3 X4 X5 X6 X7} (h : Holds A X0 X1 X2 X3 X4 X5 X6 X7) (i : S8192.Idx) : val_main_v26 (F := Ideal) X0 X1 X2 X3 X5 i = ((r_v26 A (i 0) : ℝ) : EReal) :=
  (val_main_v26_apply X0 X1 X2 X3 X5 i).trans (Cert.Lift.add (l_cst_4 h (Shape.Idx.first h_S_)) (Cert.Lift.sum fun k => l_v23 h (idx_main_v26 i k)))

def r_v27 (A : Args) (i0 : Fin 8192) (i1 : Fin 1) : ℝ := r_v26 A i0
theorem l_v27 {A : Args} {X0 X1 X2 X3 X4 X5 X6 X7} (h : Holds A X0 X1 X2 X3 X4 X5 X6 X7) (i : S8192x1.Idx) : val_main_v27 (F := Ideal) X0 X1 X2 X3 X5 i = ((r_v27 A (i 0) (i 1) : ℝ) : EReal) :=
  (val_main_v27_apply X0 X1 X2 X3 X5 i).trans (l_v26 h (idx_main_v27 i))

def r_cst_5 (A : Args)  : ℝ := (1024 : ℝ)
theorem l_cst_5 {A : Args} {X0 X1 X2 X3 X4 X5 X6 X7} (h : Holds A X0 X1 X2 X3 X4 X5 X6 X7) (i : S_.Idx) : val_main_cst_5 (F := Ideal) i = ((r_cst_5 A  : ℝ) : EReal) :=
  lit_44800000

def r_v28 (A : Args) (i0 : Fin 8192) (i1 : Fin 1) : ℝ := r_cst_5 A
theorem l_v28 {A : Args} {X0 X1 X2 X3 X4 X5 X6 X7} (h : Holds A X0 X1 X2 X3 X4 X5 X6 X7) (i : S8192x1.Idx) : val_main_v28 (F := Ideal) i = ((r_v28 A (i 0) (i 1) : ℝ) : EReal) :=
  (val_main_v28_apply i).trans (l_cst_5 h (idx_main_v28 i))

theorem nz_v28 (A : Args) (i0 : Fin 8192) (i1 : Fin 1) : r_v28 A i0 i1 ≠ 0 := by rw [show r_v28 A i0 i1 = 1024 from rfl]; norm_num

def r_v29 (A : Args) (i0 : Fin 8192) (i1 : Fin 1) : ℝ := r_v27 A i0 i1 / r_v28 A i0 i1
theorem l_v29 {A : Args} {X0 X1 X2 X3 X4 X5 X6 X7} (h : Holds A X0 X1 X2 X3 X4 X5 X6 X7) (i : S8192x1.Idx) : val_main_v29 (F := Ideal) X0 X1 X2 X3 X5 i = ((r_v29 A (i 0) (i 1) : ℝ) : EReal) :=
  Cert.Lift.div (nz_v28 A (i 0) (i 1)) (l_v27 h i) (l_v28 h i)

def r_v30 (A : Args) (i0 : Fin 8192) (i1 : Fin 1024) : ℝ := r_v20 A i0 0
theorem l_v30 {A : Args} {X0 X1 X2 X3 X4 X5 X6 X7} (h : Holds A X0 X1 X2 X3 X4 X5 X6 X7) (i : S8192x1024.Idx) : val_main_v30 (F := Ideal) X0 X1 X2 X3 X5 i = ((r_v30 A (i 0) (i 1) : ℝ) : EReal) :=
  (val_main_v30_apply X0 X1 X2 X3 X5 i).trans (l_v20 h (idx_main_v30 i))

def r_v31 (A : Args) (i0 : Fin 8192) (i1 : Fin 1024) : ℝ := r_v14 A i0 i1 - r_v30 A i0 i1
theorem l_v31 {A : Args} {X0 X1 X2 X3 X4 X5 X6 X7} (h : Holds A X0 X1 X2 X3 X4 X5 X6 X7) (i : S8192x1024.Idx) : val_main_v31 (F := Ideal) X0 X1 X2 X3 X5 i = ((r_v31 A (i 0) (i 1) : ℝ) : EReal) :=
  Cert.Lift.sub (l_v14 h i) (l_v30 h i)

theorem lit_3727C5AC : (Ideal.ofBits .f32 0x3727C5AC#32 : EReal) = (((2748779 / 274877906944 : ℝ) : ℝ) : EReal) := by
  simp [Ideal.ofBits, Ideal.ieee, -EReal.coe_mul] <;> norm_num

def r_cst_6 (A : Args)  : ℝ := (2748779 / 274877906944 : ℝ)
theorem l_cst_6 {A : Args} {X0 X1 X2 X3 X4 X5 X6 X7} (h : Holds A X0 X1 X2 X3 X4 X5 X6 X7) (i : S_.Idx) : val_main_cst_6 (F := Ideal) i = ((r_cst_6 A  : ℝ) : EReal) :=
  lit_3727C5AC

def r_v32 (A : Args) (i0 : Fin 8192) (i1 : Fin 1) : ℝ := r_cst_6 A
theorem l_v32 {A : Args} {X0 X1 X2 X3 X4 X5 X6 X7} (h : Holds A X0 X1 X2 X3 X4 X5 X6 X7) (i : S8192x1.Idx) : val_main_v32 (F := Ideal) i = ((r_v32 A (i 0) (i 1) : ℝ) : EReal) :=
  (val_main_v32_apply i).trans (l_cst_6 h (idx_main_v32 i))

def r_v33 (A : Args) (i0 : Fin 8192) (i1 : Fin 1) : ℝ := r_v29 A i0 i1 + r_v32 A i0 i1
theorem l_v33 {A : Args} {X0 X1 X2 X3 X4 X5 X6 X7} (h : Holds A X0 X1 X2 X3 X4 X5 X6 X7) (i : S8192x1.Idx) : val_main_v33 (F := Ideal) X0 X1 X2 X3 X5 i = ((r_v33 A (i 0) (i 1) : ℝ) : EReal) :=
  Cert.Lift.add (l_v29 h i) (l_v32 h i)

theorem pos_v33 (A : Args) (i0 : Fin 8192) (i1 : Fin 1) : 0 < r_v33 A i0 i1 := by
  have h : 0 ≤ r_v29 A i0 i1 := by
    show (0 : ℝ) ≤ ((0 : ℝ) + ∑ k : Fin 1024, r_v22 A i0 k * r_v22 A i0 k) / (1024 : ℝ)
    exact div_nonneg (add_nonneg le_rfl (Finset.sum_nonneg fun k _ => mul_self_nonneg _)) (by norm_num)
  have h2 : (0 : ℝ) < r_v32 A i0 i1 := by
    rw [show r_v32 A i0 i1 = 2748779 / 274877906944 from rfl]; norm_num
  exact add_pos_of_nonneg_of_pos h h2

def r_v34 (A : Args) (i0 : Fin 8192) (i1 : Fin 1) : ℝ := (Real.sqrt (r_v33 A i0 i1))⁻¹
theorem l_v34 {A : Args} {X0 X1 X2 X3 X4 X5 X6 X7} (h : Holds A X0 X1 X2 X3 X4 X5 X6 X7) (i : S8192x1.Idx) : val_main_v34 (F := Ideal) X0 X1 X2 X3 X5 i = ((r_v34 A (i 0) (i 1) : ℝ) : EReal) :=
  Cert.Lift.rsqrt (pos_v33 A (i 0) (i 1)) (l_v33 h i)

theorem nz_v33 (A : Args) (i0 : Fin 8192) (i1 : Fin 1) : r_v33 A i0 i1 ≠ 0 := (pos_v33 A i0 i1).ne'

def r_v35 (A : Args) (i0 : Fin 8192) (i1 : Fin 1) : ℝ := r_v34 A i0 i1 / r_v33 A i0 i1
theorem l_v35 {A : Args} {X0 X1 X2 X3 X4 X5 X6 X7} (h : Holds A X0 X1 X2 X3 X4 X5 X6 X7) (i : S8192x1.Idx) : val_main_v35 (F := Ideal) X0 X1 X2 X3 X5 i = ((r_v35 A (i 0) (i 1) : ℝ) : EReal) :=
  Cert.Lift.div (nz_v33 A (i 0) (i 1)) (l_v34 h i) (l_v33 h i)

theorem lit_BF000000 : (Ideal.ofBits .f32 0xBF000000#32 : EReal) = (((-1 / 2 : ℝ) : ℝ) : EReal) := by
  simp [Ideal.ofBits, Ideal.ieee, -EReal.coe_mul] <;> norm_num

def r_cst_7 (A : Args)  : ℝ := (-1 / 2 : ℝ)
theorem l_cst_7 {A : Args} {X0 X1 X2 X3 X4 X5 X6 X7} (h : Holds A X0 X1 X2 X3 X4 X5 X6 X7) (i : S_.Idx) : val_main_cst_7 (F := Ideal) i = ((r_cst_7 A  : ℝ) : EReal) :=
  lit_BF000000

def r_v36 (A : Args) (i0 : Fin 8192) (i1 : Fin 1) : ℝ := r_cst_7 A
theorem l_v36 {A : Args} {X0 X1 X2 X3 X4 X5 X6 X7} (h : Holds A X0 X1 X2 X3 X4 X5 X6 X7) (i : S8192x1.Idx) : val_main_v36 (F := Ideal) i = ((r_v36 A (i 0) (i 1) : ℝ) : EReal) :=
  (val_main_v36_apply i).trans (l_cst_7 h (idx_main_v36 i))

def r_v37 (A : Args) (i0 : Fin 8192) (i1 : Fin 1) : ℝ := r_v36 A i0 i1 * r_v35 A i0 i1
theorem l_v37 {A : Args} {X0 X1 X2 X3 X4 X5 X6 X7} (h : Holds A X0 X1 X2 X3 X4 X5 X6 X7) (i : S8192x1.Idx) : val_main_v37 (F := Ideal) X0 X1 X2 X3 X5 i = ((r_v37 A (i 0) (i 1) : ℝ) : EReal) :=
  Cert.Lift.mul (l_v36 h i) (l_v35 h i)

def r_v38 (A : Args) (i0 : Fin 8192) (i1 : Fin 1024) : ℝ := r_v34 A i0 0
theorem l_v38 {A : Args} {X0 X1 X2 X3 X4 X5 X6 X7} (h : Holds A X0 X1 X2 X3 X4 X5 X6 X7) (i : S8192x1024.Idx) : val_main_v38 (F := Ideal) X0 X1 X2 X3 X5 i = ((r_v38 A (i 0) (i 1) : ℝ) : EReal) :=
  (val_main_v38_apply X0 X1 X2 X3 X5 i).trans (l_v34 h (idx_main_v38 i))

def r_v39 (A : Args) (i0 : Fin 8192) (i1 : Fin 1024) : ℝ := r_v31 A i0 i1 * r_v38 A i0 i1
theorem l_v39 {A : Args} {X0 X1 X2 X3 X4 X5 X6 X7} (h : Holds A X0 X1 X2 X3 X4 X5 X6 X7) (i : S8192x1024.Idx) : val_main_v39 (F := Ideal) X0 X1 X2 X3 X5 i = ((r_v39 A (i 0) (i 1) : ℝ) : EReal) :=
  Cert.Lift.mul (l_v31 h i) (l_v38 h i)

def r_v40 (A : Args) (i0 : Fin 1) (i1 : Fin 1024) : ℝ := r_v15 A i1
theorem l_v40 {A : Args} {X0 X1 X2 X3 X4 X5 X6 X7} (h : Holds A X0 X1 X2 X3 X4 X5 X6 X7) (i : S1x1024.Idx) : val_main_v40 (F := Ideal) X6 i = ((r_v40 A (i 0) (i 1) : ℝ) : EReal) :=
  (val_main_v40_apply X6 i).trans (l_v15 h (idx_main_v40 i))

def r_v41 (A : Args) (i0 : Fin 8192) (i1 : Fin 1024) : ℝ := r_v40 A 0 i1
theorem l_v41 {A : Args} {X0 X1 X2 X3 X4 X5 X6 X7} (h : Holds A X0 X1 X2 X3 X4 X5 X6 X7) (i : S8192x1024.Idx) : val_main_v41 (F := Ideal) X6 i = ((r_v41 A (i 0) (i 1) : ℝ) : EReal) :=
  (val_main_v41_apply X6 i).trans (l_v40 h (idx_main_v41 i))

def r_v42 (A : Args) (i0 : Fin 8192) (i1 : Fin 1024) : ℝ := r_v39 A i0 i1 * r_v41 A i0 i1
theorem l_v42 {A : Args} {X0 X1 X2 X3 X4 X5 X6 X7} (h : Holds A X0 X1 X2 X3 X4 X5 X6 X7) (i : S8192x1024.Idx) : val_main_v42 (F := Ideal) X0 X1 X2 X3 X5 X6 i = ((r_v42 A (i 0) (i 1) : ℝ) : EReal) :=
  Cert.Lift.mul (l_v39 h i) (l_v41 h i)

def r_v43 (A : Args) (i0 : Fin 1) (i1 : Fin 1024) : ℝ := r_v16 A i1
theorem l_v43 {A : Args} {X0 X1 X2 X3 X4 X5 X6 X7} (h : Holds A X0 X1 X2 X3 X4 X5 X6 X7) (i : S1x1024.Idx) : val_main_v43 (F := Ideal) X7 i = ((r_v43 A (i 0) (i 1) : ℝ) : EReal) :=
  (val_main_v43_apply X7 i).trans (l_v16 h (idx_main_v43 i))

def r_v44 (A : Args) (i0 : Fin 8192) (i1 : Fin 1024) : ℝ := r_v43 A 0 i1
theorem l_v44 {A : Args} {X0 X1 X2 X3 X4 X5 X6 X7} (h : Holds A X0 X1 X2 X3 X4 X5 X6 X7) (i : S8192x1024.Idx) : val_main_v44 (F := Ideal) X7 i = ((r_v44 A (i 0) (i 1) : ℝ) : EReal) :=
  (val_main_v44_apply X7 i).trans (l_v43 h (idx_main_v44 i))

def r_v45 (A : Args) (i0 : Fin 8192) (i1 : Fin 1024) : ℝ := r_v42 A i0 i1 + r_v44 A i0 i1
theorem l_v45 {A : Args} {X0 X1 X2 X3 X4 X5 X6 X7} (h : Holds A X0 X1 X2 X3 X4 X5 X6 X7) (i : S8192x1024.Idx) : val_main_v45 (F := Ideal) X0 X1 X2 X3 X5 X6 X7 i = ((r_v45 A (i 0) (i 1) : ℝ) : EReal) :=
  Cert.Lift.add (l_v42 h i) (l_v44 h i)

def r_v46 (A : Args) (i0 : Fin 8192) (i1 : Fin 1024) : ℝ := r_v45 A i0 i1 - A.x4 i0 i1
theorem l_v46 {A : Args} {X0 X1 X2 X3 X4 X5 X6 X7} (h : Holds A X0 X1 X2 X3 X4 X5 X6 X7) (i : S8192x1024.Idx) : val_main_v46 (F := Ideal) X0 X1 X2 X3 X4 X5 X6 X7 i = ((r_v46 A (i 0) (i 1) : ℝ) : EReal) :=
  Cert.Lift.sub (l_v45 h i) (h.x4 i)

def r_v47 (A : Args) (i0 : Fin 8192) (i1 : Fin 1024) : ℝ := r_v46 A i0 i1 * r_v46 A i0 i1
theorem l_v47 {A : Args} {X0 X1 X2 X3 X4 X5 X6 X7} (h : Holds A X0 X1 X2 X3 X4 X5 X6 X7) (i : S8192x1024.Idx) : val_main_v47 (F := Ideal) X0 X1 X2 X3 X4 X5 X6 X7 i = ((r_v47 A (i 0) (i 1) : ℝ) : EReal) :=
  Cert.Lift.mul (l_v46 h i) (l_v46 h i)

def r_cst_8 (A : Args)  : ℝ := (2 : ℝ)
theorem l_cst_8 {A : Args} {X0 X1 X2 X3 X4 X5 X6 X7} (h : Holds A X0 X1 X2 X3 X4 X5 X6 X7) (i : S_.Idx) : val_main_cst_8 (F := Ideal) i = ((r_cst_8 A  : ℝ) : EReal) :=
  lit_40000000

def r_v48 (A : Args) (i0 : Fin 8192) (i1 : Fin 1024) : ℝ := r_cst_8 A
theorem l_v48 {A : Args} {X0 X1 X2 X3 X4 X5 X6 X7} (h : Holds A X0 X1 X2 X3 X4 X5 X6 X7) (i : S8192x1024.Idx) : val_main_v48 (F := Ideal) i = ((r_v48 A (i 0) (i 1) : ℝ) : EReal) :=
  (val_main_v48_apply i).trans (l_cst_8 h (idx_main_v48 i))

def r_v49 (A : Args) (i0 : Fin 8192) (i1 : Fin 1024) : ℝ := r_v48 A i0 i1 * r_v46 A i0 i1
theorem l_v49 {A : Args} {X0 X1 X2 X3 X4 X5 X6 X7} (h : Holds A X0 X1 X2 X3 X4 X5 X6 X7) (i : S8192x1024.Idx) : val_main_v49 (F := Ideal) X0 X1 X2 X3 X4 X5 X6 X7 i = ((r_v49 A (i 0) (i 1) : ℝ) : EReal) :=
  Cert.Lift.mul (l_v48 h i) (l_v46 h i)

def r_cst_9 (A : Args)  : ℝ := (0 : ℝ)
theorem l_cst_9 {A : Args} {X0 X1 X2 X3 X4 X5 X6 X7} (h : Holds A X0 X1 X2 X3 X4 X5 X6 X7) (i : S_.Idx) : val_main_cst_9 (F := Ideal) i = ((r_cst_9 A  : ℝ) : EReal) :=
  lit_00000000

def r_v50 (A : Args) (i0 : Fin 8192) : ℝ := r_cst_9 A + ∑ k : Fin 1024, r_v47 A i0 k
theorem l_v50 {A : Args} {X0 X1 X2 X3 X4 X5 X6 X7} (h : Holds A X0 X1 X2 X3 X4 X5 X6 X7) (i : S8192.Idx) : val_main_v50 (F := Ideal) X0 X1 X2 X3 X4 X5 X6 X7 i = ((r_v50 A (i 0) : ℝ) : EReal) :=
  (val_main_v50_apply X0 X1 X2 X3 X4 X5 X6 X7 i).trans (Cert.Lift.add (l_cst_9 h (Shape.Idx.first h_S_)) (Cert.Lift.sum fun k => l_v47 h (idx_main_v50 i k)))

def r_cst_10 (A : Args)  : ℝ := (1024 : ℝ)
theorem l_cst_10 {A : Args} {X0 X1 X2 X3 X4 X5 X6 X7} (h : Holds A X0 X1 X2 X3 X4 X5 X6 X7) (i : S_.Idx) : val_main_cst_10 (F := Ideal) i = ((r_cst_10 A  : ℝ) : EReal) :=
  lit_44800000

def r_v51 (A : Args) (i0 : Fin 8192) : ℝ := r_cst_10 A
theorem l_v51 {A : Args} {X0 X1 X2 X3 X4 X5 X6 X7} (h : Holds A X0 X1 X2 X3 X4 X5 X6 X7) (i : S8192.Idx) : val_main_v51 (F := Ideal) i = ((r_v51 A (i 0) : ℝ) : EReal) :=
  (val_main_v51_apply i).trans (l_cst_10 h (idx_main_v51 i))

theorem nz_v51 (A : Args) (i0 : Fin 8192) : r_v51 A i0 ≠ 0 := by rw [show r_v51 A i0 = 1024 from rfl]; norm_num

def r_v52 (A : Args) (i0 : Fin 8192) : ℝ := r_v50 A i0 / r_v51 A i0
theorem l_v52 {A : Args} {X0 X1 X2 X3 X4 X5 X6 X7} (h : Holds A X0 X1 X2 X3 X4 X5 X6 X7) (i : S8192.Idx) : val_main_v52 (F := Ideal) X0 X1 X2 X3 X4 X5 X6 X7 i = ((r_v52 A (i 0) : ℝ) : EReal) :=
  Cert.Lift.div (nz_v51 A (i 0)) (l_v50 h i) (l_v51 h i)

def r_cst_11 (A : Args)  : ℝ := (0 : ℝ)
theorem l_cst_11 {A : Args} {X0 X1 X2 X3 X4 X5 X6 X7} (h : Holds A X0 X1 X2 X3 X4 X5 X6 X7) (i : S_.Idx) : val_main_cst_11 (F := Ideal) i = ((r_cst_11 A  : ℝ) : EReal) :=
  lit_00000000

def r_v53 (A : Args)  : ℝ := r_cst_11 A + ∑ k : Fin 8192, r_v52 A k
theorem l_v53 {A : Args} {X0 X1 X2 X3 X4 X5 X6 X7} (h : Holds A X0 X1 X2 X3 X4 X5 X6 X7) (i : S_.Idx) : val_main_v53 (F := Ideal) X0 X1 X2 X3 X4 X5 X6 X7 i = ((r_v53 A  : ℝ) : EReal) :=
  (val_main_v53_apply X0 X1 X2 X3 X4 X5 X6 X7 i).trans (Cert.Lift.add (l_cst_11 h (Shape.Idx.first h_S_)) (Cert.Lift.sum1 (g := fun k => r_v52 A k) fun j => l_v52 h j))

theorem lit_3F000000 : (Ideal.ofBits .f32 0x3F000000#32 : EReal) = (((1 / 2 : ℝ) : ℝ) : EReal) := by
  simp [Ideal.ofBits, Ideal.ieee, -EReal.coe_mul] <;> norm_num

def r_cst_12 (A : Args)  : ℝ := (1 / 2 : ℝ)
theorem l_cst_12 {A : Args} {X0 X1 X2 X3 X4 X5 X6 X7} (h : Holds A X0 X1 X2 X3 X4 X5 X6 X7) (i : S_.Idx) : val_main_cst_12 (F := Ideal) i = ((r_cst_12 A  : ℝ) : EReal) :=
  lit_3F000000

def r_v54 (A : Args)  : ℝ := r_cst_12 A * r_v53 A
theorem l_v54 {A : Args} {X0 X1 X2 X3 X4 X5 X6 X7} (h : Holds A X0 X1 X2 X3 X4 X5 X6 X7) (i : S_.Idx) : val_main_v54 (F := Ideal) X0 X1 X2 X3 X4 X5 X6 X7 i = ((r_v54 A  : ℝ) : EReal) :=
  Cert.Lift.mul (l_cst_12 h i) (l_v53 h i)

def r_cst_13 (A : Args)  : ℝ := (1 / 2 : ℝ)
theorem l_cst_13 {A : Args} {X0 X1 X2 X3 X4 X5 X6 X7} (h : Holds A X0 X1 X2 X3 X4 X5 X6 X7) (i : S_.Idx) : val_main_cst_13 (F := Ideal) i = ((r_cst_13 A  : ℝ) : EReal) :=
  lit_3F000000

def r_cst_14 (A : Args)  : ℝ := (1 : ℝ)
theorem l_cst_14 {A : Args} {X0 X1 X2 X3 X4 X5 X6 X7} (h : Holds A X0 X1 X2 X3 X4 X5 X6 X7) (i : S_.Idx) : val_main_cst_14 (F := Ideal) i = ((r_cst_14 A  : ℝ) : EReal) :=
  lit_3F800000

def r_v55 (A : Args)  : ℝ := r_cst_13 A * r_cst_14 A
theorem l_v55 {A : Args} {X0 X1 X2 X3 X4 X5 X6 X7} (h : Holds A X0 X1 X2 X3 X4 X5 X6 X7) (i : S_.Idx) : val_main_v55 (F := Ideal) i = ((r_v55 A  : ℝ) : EReal) :=
  Cert.Lift.mul (l_cst_13 h i) (l_cst_14 h i)

def r_v56 (A : Args) (i0 : Fin 8192) : ℝ := r_v55 A
theorem l_v56 {A : Args} {X0 X1 X2 X3 X4 X5 X6 X7} (h : Holds A X0 X1 X2 X3 X4 X5 X6 X7) (i : S8192.Idx) : val_main_v56 (F := Ideal) i = ((r_v56 A (i 0) : ℝ) : EReal) :=
  (val_main_v56_apply i).trans (l_v55 h (idx_main_v56 i))

def r_cst_15 (A : Args)  : ℝ := (1024 : ℝ)
theorem l_cst_15 {A : Args} {X0 X1 X2 X3 X4 X5 X6 X7} (h : Holds A X0 X1 X2 X3 X4 X5 X6 X7) (i : S_.Idx) : val_main_cst_15 (F := Ideal) i = ((r_cst_15 A  : ℝ) : EReal) :=
  lit_44800000

def r_v57 (A : Args) (i0 : Fin 8192) : ℝ := r_cst_15 A
theorem l_v57 {A : Args} {X0 X1 X2 X3 X4 X5 X6 X7} (h : Holds A X0 X1 X2 X3 X4 X5 X6 X7) (i : S8192.Idx) : val_main_v57 (F := Ideal) i = ((r_v57 A (i 0) : ℝ) : EReal) :=
  (val_main_v57_apply i).trans (l_cst_15 h (idx_main_v57 i))

theorem nz_v57 (A : Args) (i0 : Fin 8192) : r_v57 A i0 ≠ 0 := by rw [show r_v57 A i0 = 1024 from rfl]; norm_num

def r_v58 (A : Args) (i0 : Fin 8192) : ℝ := r_v56 A i0 / r_v57 A i0
theorem l_v58 {A : Args} {X0 X1 X2 X3 X4 X5 X6 X7} (h : Holds A X0 X1 X2 X3 X4 X5 X6 X7) (i : S8192.Idx) : val_main_v58 (F := Ideal) i = ((r_v58 A (i 0) : ℝ) : EReal) :=
  Cert.Lift.div (nz_v57 A (i 0)) (l_v56 h i) (l_v57 h i)

def r_v59 (A : Args) (i0 : Fin 8192) (i1 : Fin 1024) : ℝ := r_v58 A i0
theorem l_v59 {A : Args} {X0 X1 X2 X3 X4 X5 X6 X7} (h : Holds A X0 X1 X2 X3 X4 X5 X6 X7) (i : S8192x1024.Idx) : val_main_v59 (F := Ideal) i = ((r_v59 A (i 0) (i 1) : ℝ) : EReal) :=
  (val_main_v59_apply i).trans (l_v58 h (idx_main_v59 i))

def r_v60 (A : Args) (i0 : Fin 8192) (i1 : Fin 1024) : ℝ := r_v59 A i0 i1 * r_v49 A i0 i1
theorem l_v60 {A : Args} {X0 X1 X2 X3 X4 X5 X6 X7} (h : Holds A X0 X1 X2 X3 X4 X5 X6 X7) (i : S8192x1024.Idx) : val_main_v60 (F := Ideal) X0 X1 X2 X3 X4 X5 X6 X7 i = ((r_v60 A (i 0) (i 1) : ℝ) : EReal) :=
  Cert.Lift.mul (l_v59 h i) (l_v49 h i)

def r_cst_16 (A : Args)  : ℝ := (0 : ℝ)
theorem l_cst_16 {A : Args} {X0 X1 X2 X3 X4 X5 X6 X7} (h : Holds A X0 X1 X2 X3 X4 X5 X6 X7) (i : S_.Idx) : val_main_cst_16 (F := Ideal) i = ((r_cst_16 A  : ℝ) : EReal) :=
  lit_00000000

def r_v61 (A : Args) (i0 : Fin 1024) : ℝ := r_cst_16 A + ∑ k : Fin 8192, r_v60 A k i0
theorem l_v61 {A : Args} {X0 X1 X2 X3 X4 X5 X6 X7} (h : Holds A X0 X1 X2 X3 X4 X5 X6 X7) (i : S1024.Idx) : val_main_v61 (F := Ideal) X0 X1 X2 X3 X4 X5 X6 X7 i = ((r_v61 A (i 0) : ℝ) : EReal) :=
  (val_main_v61_apply X0 X1 X2 X3 X4 X5 X6 X7 i).trans (Cert.Lift.add (l_cst_16 h (Shape.Idx.first h_S_)) (Cert.Lift.sum fun k => l_v60 h (idx_main_v61 i k)))

def r_v62 (A : Args) (i0 : Fin 1) (i1 : Fin 1024) : ℝ := r_v61 A i1
theorem l_v62 {A : Args} {X0 X1 X2 X3 X4 X5 X6 X7} (h : Holds A X0 X1 X2 X3 X4 X5 X6 X7) (i : S1x1024.Idx) : val_main_v62 (F := Ideal) X0 X1 X2 X3 X4 X5 X6 X7 i = ((r_v62 A (i 0) (i 1) : ℝ) : EReal) :=
  (val_main_v62_apply X0 X1 X2 X3 X4 X5 X6 X7 i).trans ((l_v61 h (idx_main_v62 i)).trans (congrArg Real.toEReal (congr ((rfl : r_v61 A = _)) (Fin.ext (by have h0 : (i 0).val < 1 := (i 0).isLt; have h1 : (i 1).val < 1024 := (i 1).isLt; show (i 0).val * 1024 + (i 1).val = (i 1).val; omega) : ((idx_main_v62 i) 0 : Fin 1024) = (i 1 : Fin 1024)))))

def r_cst_17 (A : Args)  : ℝ := (0 : ℝ)
theorem l_cst_17 {A : Args} {X0 X1 X2 X3 X4 X5 X6 X7} (h : Holds A X0 X1 X2 X3 X4 X5 X6 X7) (i : S_.Idx) : val_main_cst_17 (F := Ideal) i = ((r_cst_17 A  : ℝ) : EReal) :=
  lit_00000000

def r_v63 (A : Args) (i0 : Fin 1024) : ℝ := r_cst_17 A + ∑ k : Fin 1, r_v62 A 0 i0
theorem l_v63 {A : Args} {X0 X1 X2 X3 X4 X5 X6 X7} (h : Holds A X0 X1 X2 X3 X4 X5 X6 X7) (i : S1024.Idx) : val_main_v63 (F := Ideal) X0 X1 X2 X3 X4 X5 X6 X7 i = ((r_v63 A (i 0) : ℝ) : EReal) :=
  (val_main_v63_apply X0 X1 X2 X3 X4 X5 X6 X7 i).trans (Cert.Lift.add (l_cst_17 h (Shape.Idx.first h_S_)) (Cert.Lift.sum fun k => l_v62 h (idx_main_v63 i k)))

def r_v64 (A : Args) (i0 : Fin 8192) (i1 : Fin 1024) : ℝ := r_v39 A i0 i1 * r_v60 A i0 i1
theorem l_v64 {A : Args} {X0 X1 X2 X3 X4 X5 X6 X7} (h : Holds A X0 X1 X2 X3 X4 X5 X6 X7) (i : S8192x1024.Idx) : val_main_v64 (F := Ideal) X0 X1 X2 X3 X4 X5 X6 X7 i = ((r_v64 A (i 0) (i 1) : ℝ) : EReal) :=
  Cert.Lift.mul (l_v39 h i) (l_v60 h i)

def r_cst_18 (A : Args)  : ℝ := (0 : ℝ)
theorem l_cst_18 {A : Args} {X0 X1 X2 X3 X4 X5 X6 X7} (h : Holds A X0 X1 X2 X3 X4 X5 X6 X7) (i : S_.Idx) : val_main_cst_18 (F := Ideal) i = ((r_cst_18 A  : ℝ) : EReal) :=
  lit_00000000

def r_v65 (A : Args) (i0 : Fin 1024) : ℝ := r_cst_18 A + ∑ k : Fin 8192, r_v64 A k i0
theorem l_v65 {A : Args} {X0 X1 X2 X3 X4 X5 X6 X7} (h : Holds A X0 X1 X2 X3 X4 X5 X6 X7) (i : S1024.Idx) : val_main_v65 (F := Ideal) X0 X1 X2 X3 X4 X5 X6 X7 i = ((r_v65 A (i 0) : ℝ) : EReal) :=
  (val_main_v65_apply X0 X1 X2 X3 X4 X5 X6 X7 i).trans (Cert.Lift.add (l_cst_18 h (Shape.Idx.first h_S_)) (Cert.Lift.sum fun k => l_v64 h (idx_main_v65 i k)))

def r_v66 (A : Args) (i0 : Fin 1) (i1 : Fin 1024) : ℝ := r_v65 A i1
theorem l_v66 {A : Args} {X0 X1 X2 X3 X4 X5 X6 X7} (h : Holds A X0 X1 X2 X3 X4 X5 X6 X7) (i : S1x1024.Idx) : val_main_v66 (F := Ideal) X0 X1 X2 X3 X4 X5 X6 X7 i = ((r_v66 A (i 0) (i 1) : ℝ) : EReal) :=
  (val_main_v66_apply X0 X1 X2 X3 X4 X5 X6 X7 i).trans ((l_v65 h (idx_main_v66 i)).trans (congrArg Real.toEReal (congr ((rfl : r_v65 A = _)) (Fin.ext (by have h0 : (i 0).val < 1 := (i 0).isLt; have h1 : (i 1).val < 1024 := (i 1).isLt; show (i 0).val * 1024 + (i 1).val = (i 1).val; omega) : ((idx_main_v66 i) 0 : Fin 1024) = (i 1 : Fin 1024)))))

def r_v67 (A : Args) (i0 : Fin 8192) (i1 : Fin 1024) : ℝ := r_v40 A 0 i1
theorem l_v67 {A : Args} {X0 X1 X2 X3 X4 X5 X6 X7} (h : Holds A X0 X1 X2 X3 X4 X5 X6 X7) (i : S8192x1024.Idx) : val_main_v67 (F := Ideal) X6 i = ((r_v67 A (i 0) (i 1) : ℝ) : EReal) :=
  (val_main_v67_apply X6 i).trans (l_v40 h (idx_main_v67 i))

def r_v68 (A : Args) (i0 : Fin 8192) (i1 : Fin 1024) : ℝ := r_v60 A i0 i1 * r_v67 A i0 i1
theorem l_v68 {A : Args} {X0 X1 X2 X3 X4 X5 X6 X7} (h : Holds A X0 X1 X2 X3 X4 X5 X6 X7) (i : S8192x1024.Idx) : val_main_v68 (F := Ideal) X0 X1 X2 X3 X4 X5 X6 X7 i = ((r_v68 A (i 0) (i 1) : ℝ) : EReal) :=
  Cert.Lift.mul (l_v60 h i) (l_v67 h i)

def r_cst_19 (A : Args)  : ℝ := (0 : ℝ)
theorem l_cst_19 {A : Args} {X0 X1 X2 X3 X4 X5 X6 X7} (h : Holds A X0 X1 X2 X3 X4 X5 X6 X7) (i : S_.Idx) : val_main_cst_19 (F := Ideal) i = ((r_cst_19 A  : ℝ) : EReal) :=
  lit_00000000

def r_v69 (A : Args) (i0 : Fin 1024) : ℝ := r_cst_19 A + ∑ k : Fin 1, r_v66 A 0 i0
theorem l_v69 {A : Args} {X0 X1 X2 X3 X4 X5 X6 X7} (h : Holds A X0 X1 X2 X3 X4 X5 X6 X7) (i : S1024.Idx) : val_main_v69 (F := Ideal) X0 X1 X2 X3 X4 X5 X6 X7 i = ((r_v69 A (i 0) : ℝ) : EReal) :=
  (val_main_v69_apply X0 X1 X2 X3 X4 X5 X6 X7 i).trans (Cert.Lift.add (l_cst_19 h (Shape.Idx.first h_S_)) (Cert.Lift.sum fun k => l_v66 h (idx_main_v69 i k)))

def r_v70 (A : Args) (i0 : Fin 8192) (i1 : Fin 1024) : ℝ := r_v31 A i0 i1 * r_v68 A i0 i1
theorem l_v70 {A : Args} {X0 X1 X2 X3 X4 X5 X6 X7} (h : Holds A X0 X1 X2 X3 X4 X5 X6 X7) (i : S8192x1024.Idx) : val_main_v70 (F := Ideal) X0 X1 X2 X3 X4 X5 X6 X7 i = ((r_v70 A (i 0) (i 1) : ℝ) : EReal) :=
  Cert.Lift.mul (l_v31 h i) (l_v68 h i)

def r_cst_20 (A : Args)  : ℝ := (0 : ℝ)
theorem l_cst_20 {A : Args} {X0 X1 X2 X3 X4 X5 X6 X7} (h : Holds A X0 X1 X2 X3 X4 X5 X6 X7) (i : S_.Idx) : val_main_cst_20 (F := Ideal) i = ((r_cst_20 A  : ℝ) : EReal) :=
  lit_00000000

def r_v71 (A : Args) (i0 : Fin 8192) : ℝ := r_cst_20 A + ∑ k : Fin 1024, r_v70 A i0 k
theorem l_v71 {A : Args} {X0 X1 X2 X3 X4 X5 X6 X7} (h : Holds A X0 X1 X2 X3 X4 X5 X6 X7) (i : S8192.Idx) : val_main_v71 (F := Ideal) X0 X1 X2 X3 X4 X5 X6 X7 i = ((r_v71 A (i 0) : ℝ) : EReal) :=
  (val_main_v71_apply X0 X1 X2 X3 X4 X5 X6 X7 i).trans (Cert.Lift.add (l_cst_20 h (Shape.Idx.first h_S_)) (Cert.Lift.sum fun k => l_v70 h (idx_main_v71 i k)))

def r_v72 (A : Args) (i0 : Fin 8192) (i1 : Fin 1) : ℝ := r_v71 A i0
theorem l_v72 {A : Args} {X0 X1 X2 X3 X4 X5 X6 X7} (h : Holds A X0 X1 X2 X3 X4 X5 X6 X7) (i : S8192x1.Idx) : val_main_v72 (F := Ideal) X0 X1 X2 X3 X4 X5 X6 X7 i = ((r_v72 A (i 0) (i 1) : ℝ) : EReal) :=
  (val_main_v72_apply X0 X1 X2 X3 X4 X5 X6 X7 i).trans ((l_v71 h (idx_main_v72 i)).trans (congrArg Real.toEReal (congr ((rfl : r_v71 A = _)) (Fin.ext (by have h0 : (i 0).val < 8192 := (i 0).isLt; have h1 : (i 1).val < 1 := (i 1).isLt; show (i 0).val * 1 + (i 1).val = (i 0).val; omega) : ((idx_main_v72 i) 0 : Fin 8192) = (i 0 : Fin 8192)))))

def r_v73 (A : Args) (i0 : Fin 8192) (i1 : Fin 1024) : ℝ := r_v34 A i0 0
theorem l_v73 {A : Args} {X0 X1 X2 X3 X4 X5 X6 X7} (h : Holds A X0 X1 X2 X3 X4 X5 X6 X7) (i : S8192x1024.Idx) : val_main_v73 (F := Ideal) X0 X1 X2 X3 X5 i = ((r_v73 A (i 0) (i 1) : ℝ) : EReal) :=
  (val_main_v73_apply X0 X1 X2 X3 X5 i).trans (l_v34 h (idx_main_v73 i))

def r_v74 (A : Args) (i0 : Fin 8192) (i1 : Fin 1024) : ℝ := r_v68 A i0 i1 * r_v73 A i0 i1
theorem l_v74 {A : Args} {X0 X1 X2 X3 X4 X5 X6 X7} (h : Holds A X0 X1 X2 X3 X4 X5 X6 X7) (i : S8192x1024.Idx) : val_main_v74 (F := Ideal) X0 X1 X2 X3 X4 X5 X6 X7 i = ((r_v74 A (i 0) (i 1) : ℝ) : EReal) :=
  Cert.Lift.mul (l_v68 h i) (l_v73 h i)

def r_v75 (A : Args) (i0 : Fin 8192) (i1 : Fin 1) : ℝ := r_v72 A i0 i1 * r_v37 A i0 i1
theorem l_v75 {A : Args} {X0 X1 X2 X3 X4 X5 X6 X7} (h : Holds A X0 X1 X2 X3 X4 X5 X6 X7) (i : S8192x1.Idx) : val_main_v75 (F := Ideal) X0 X1 X2 X3 X4 X5 X6 X7 i = ((r_v75 A (i 0) (i 1) : ℝ) : EReal) :=
  Cert.Lift.mul (l_v72 h i) (l_v37 h i)

def r_v76 (A : Args) (i0 : Fin 8192) (i1 : Fin 1024) : ℝ := -(r_v74 A i0 i1)
theorem l_v76 {A : Args} {X0 X1 X2 X3 X4 X5 X6 X7} (h : Holds A X0 X1 X2 X3 X4 X5 X6 X7) (i : S8192x1024.Idx) : val_main_v76 (F := Ideal) X0 X1 X2 X3 X4 X5 X6 X7 i = ((r_v76 A (i 0) (i 1) : ℝ) : EReal) :=
  Cert.Lift.neg (l_v74 h i)

def r_cst_21 (A : Args)  : ℝ := (0 : ℝ)
theorem l_cst_21 {A : Args} {X0 X1 X2 X3 X4 X5 X6 X7} (h : Holds A X0 X1 X2 X3 X4 X5 X6 X7) (i : S_.Idx) : val_main_cst_21 (F := Ideal) i = ((r_cst_21 A  : ℝ) : EReal) :=
  lit_00000000

def r_v77 (A : Args) (i0 : Fin 8192) : ℝ := r_cst_21 A + ∑ k : Fin 1024, r_v76 A i0 k
theorem l_v77 {A : Args} {X0 X1 X2 X3 X4 X5 X6 X7} (h : Holds A X0 X1 X2 X3 X4 X5 X6 X7) (i : S8192.Idx) : val_main_v77 (F := Ideal) X0 X1 X2 X3 X4 X5 X6 X7 i = ((r_v77 A (i 0) : ℝ) : EReal) :=
  (val_main_v77_apply X0 X1 X2 X3 X4 X5 X6 X7 i).trans (Cert.Lift.add (l_cst_21 h (Shape.Idx.first h_S_)) (Cert.Lift.sum fun k => l_v76 h (idx_main_v77 i k)))

def r_v78 (A : Args) (i0 : Fin 8192) (i1 : Fin 1) : ℝ := r_v77 A i0
theorem l_v78 {A : Args} {X0 X1 X2 X3 X4 X5 X6 X7} (h : Holds A X0 X1 X2 X3 X4 X5 X6 X7) (i : S8192x1.Idx) : val_main_v78 (F := Ideal) X0 X1 X2 X3 X4 X5 X6 X7 i = ((r_v78 A (i 0) (i 1) : ℝ) : EReal) :=
  (val_main_v78_apply X0 X1 X2 X3 X4 X5 X6 X7 i).trans ((l_v77 h (idx_main_v78 i)).trans (congrArg Real.toEReal (congr ((rfl : r_v77 A = _)) (Fin.ext (by have h0 : (i 0).val < 8192 := (i 0).isLt; have h1 : (i 1).val < 1 := (i 1).isLt; show (i 0).val * 1 + (i 1).val = (i 0).val; omega) : ((idx_main_v78 i) 0 : Fin 8192) = (i 0 : Fin 8192)))))

def r_cst_22 (A : Args)  : ℝ := (1024 : ℝ)
theorem l_cst_22 {A : Args} {X0 X1 X2 X3 X4 X5 X6 X7} (h : Holds A X0 X1 X2 X3 X4 X5 X6 X7) (i : S_.Idx) : val_main_cst_22 (F := Ideal) i = ((r_cst_22 A  : ℝ) : EReal) :=
  lit_44800000

def r_v79 (A : Args) (i0 : Fin 8192) (i1 : Fin 1) : ℝ := r_cst_22 A
theorem l_v79 {A : Args} {X0 X1 X2 X3 X4 X5 X6 X7} (h : Holds A X0 X1 X2 X3 X4 X5 X6 X7) (i : S8192x1.Idx) : val_main_v79 (F := Ideal) i = ((r_v79 A (i 0) (i 1) : ℝ) : EReal) :=
  (val_main_v79_apply i).trans (l_cst_22 h (idx_main_v79 i))

theorem nz_v79 (A : Args) (i0 : Fin 8192) (i1 : Fin 1) : r_v79 A i0 i1 ≠ 0 := by rw [show r_v79 A i0 i1 = 1024 from rfl]; norm_num

def r_v80 (A : Args) (i0 : Fin 8192) (i1 : Fin 1) : ℝ := r_v75 A i0 i1 / r_v79 A i0 i1
theorem l_v80 {A : Args} {X0 X1 X2 X3 X4 X5 X6 X7} (h : Holds A X0 X1 X2 X3 X4 X5 X6 X7) (i : S8192x1.Idx) : val_main_v80 (F := Ideal) X0 X1 X2 X3 X4 X5 X6 X7 i = ((r_v80 A (i 0) (i 1) : ℝ) : EReal) :=
  Cert.Lift.div (nz_v79 A (i 0) (i 1)) (l_v75 h i) (l_v79 h i)

def r_cst_23 (A : Args)  : ℝ := (0 : ℝ)
theorem l_cst_23 {A : Args} {X0 X1 X2 X3 X4 X5 X6 X7} (h : Holds A X0 X1 X2 X3 X4 X5 X6 X7) (i : S_.Idx) : val_main_cst_23 (F := Ideal) i = ((r_cst_23 A  : ℝ) : EReal) :=
  lit_00000000

def r_v81 (A : Args) (i0 : Fin 8192) : ℝ := r_cst_23 A + ∑ k : Fin 1, r_v80 A i0 0
theorem l_v81 {A : Args} {X0 X1 X2 X3 X4 X5 X6 X7} (h : Holds A X0 X1 X2 X3 X4 X5 X6 X7) (i : S8192.Idx) : val_main_v81 (F := Ideal) X0 X1 X2 X3 X4 X5 X6 X7 i = ((r_v81 A (i 0) : ℝ) : EReal) :=
  (val_main_v81_apply X0 X1 X2 X3 X4 X5 X6 X7 i).trans (Cert.Lift.add (l_cst_23 h (Shape.Idx.first h_S_)) (Cert.Lift.sum fun k => l_v80 h (idx_main_v81 i k)))

def r_v82 (A : Args) (i0 : Fin 8192) (i1 : Fin 1024) : ℝ := r_v81 A i0
theorem l_v82 {A : Args} {X0 X1 X2 X3 X4 X5 X6 X7} (h : Holds A X0 X1 X2 X3 X4 X5 X6 X7) (i : S8192x1024.Idx) : val_main_v82 (F := Ideal) X0 X1 X2 X3 X4 X5 X6 X7 i = ((r_v82 A (i 0) (i 1) : ℝ) : EReal) :=
  (val_main_v82_apply X0 X1 X2 X3 X4 X5 X6 X7 i).trans (l_v81 h (idx_main_v82 i))

def r_v83 (A : Args) (i0 : Fin 8192) (i1 : Fin 1024) : ℝ := r_v82 A i0 i1 * r_v25 A i0 i1
theorem l_v83 {A : Args} {X0 X1 X2 X3 X4 X5 X6 X7} (h : Holds A X0 X1 X2 X3 X4 X5 X6 X7) (i : S8192x1024.Idx) : val_main_v83 (F := Ideal) X0 X1 X2 X3 X4 X5 X6 X7 i = ((r_v83 A (i 0) (i 1) : ℝ) : EReal) :=
  Cert.Lift.mul (l_v82 h i) (l_v25 h i)

def r_v84 (A : Args) (i0 : Fin 8192) (i1 : Fin 1024) : ℝ := -(r_v83 A i0 i1)
theorem l_v84 {A : Args} {X0 X1 X2 X3 X4 X5 X6 X7} (h : Holds A X0 X1 X2 X3 X4 X5 X6 X7) (i : S8192x1024.Idx) : val_main_v84 (F := Ideal) X0 X1 X2 X3 X4 X5 X6 X7 i = ((r_v84 A (i 0) (i 1) : ℝ) : EReal) :=
  Cert.Lift.neg (l_v83 h i)

def r_cst_24 (A : Args)  : ℝ := (0 : ℝ)
theorem l_cst_24 {A : Args} {X0 X1 X2 X3 X4 X5 X6 X7} (h : Holds A X0 X1 X2 X3 X4 X5 X6 X7) (i : S_.Idx) : val_main_cst_24 (F := Ideal) i = ((r_cst_24 A  : ℝ) : EReal) :=
  lit_00000000

def r_v85 (A : Args) (i0 : Fin 8192) : ℝ := r_cst_24 A + ∑ k : Fin 1024, r_v84 A i0 k
theorem l_v85 {A : Args} {X0 X1 X2 X3 X4 X5 X6 X7} (h : Holds A X0 X1 X2 X3 X4 X5 X6 X7) (i : S8192.Idx) : val_main_v85 (F := Ideal) X0 X1 X2 X3 X4 X5 X6 X7 i = ((r_v85 A (i 0) : ℝ) : EReal) :=
  (val_main_v85_apply X0 X1 X2 X3 X4 X5 X6 X7 i).trans (Cert.Lift.add (l_cst_24 h (Shape.Idx.first h_S_)) (Cert.Lift.sum fun k => l_v84 h (idx_main_v85 i k)))

def r_v86 (A : Args) (i0 : Fin 8192) (i1 : Fin 1) : ℝ := r_v85 A i0
theorem l_v86 {A : Args} {X0 X1 X2 X3 X4 X5 X6 X7} (h : Holds A X0 X1 X2 X3 X4 X5 X6 X7) (i : S8192x1.Idx) : val_main_v86 (F := Ideal) X0 X1 X2 X3 X4 X5 X6 X7 i = ((r_v86 A (i 0) (i 1) : ℝ) : EReal) :=
  (val_main_v86_apply X0 X1 X2 X3 X4 X5 X6 X7 i).trans ((l_v85 h (idx_main_v86 i)).trans (congrArg Real.toEReal (congr ((rfl : r_v85 A = _)) (Fin.ext (by have h0 : (i 0).val < 8192 := (i 0).isLt; have h1 : (i 1).val < 1 := (i 1).isLt; show (i 0).val * 1 + (i 1).val = (i 0).val; omega) : ((idx_main_v86 i) 0 : Fin 8192) = (i 0 : Fin 8192)))))

def r_v87 (A : Args) (i0 : Fin 8192) (i1 : Fin 1024) : ℝ := r_v74 A i0 i1 + r_v83 A i0 i1
theorem l_v87 {A : Args} {X0 X1 X2 X3 X4 X5 X6 X7} (h : Holds A X0 X1 X2 X3 X4 X5 X6 X7) (i : S8192x1024.Idx) : val_main_v87 (F := Ideal) X0 X1 X2 X3 X4 X5 X6 X7 i = ((r_v87 A (i 0) (i 1) : ℝ) : EReal) :=
  Cert.Lift.add (l_v74 h i) (l_v83 h i)

def r_v88 (A : Args) (i0 : Fin 8192) (i1 : Fin 1) : ℝ := r_v78 A i0 i1 + r_v86 A i0 i1
theorem l_v88 {A : Args} {X0 X1 X2 X3 X4 X5 X6 X7} (h : Holds A X0 X1 X2 X3 X4 X5 X6 X7) (i : S8192x1.Idx) : val_main_v88 (F := Ideal) X0 X1 X2 X3 X4 X5 X6 X7 i = ((r_v88 A (i 0) (i 1) : ℝ) : EReal) :=
  Cert.Lift.add (l_v78 h i) (l_v86 h i)

def r_cst_25 (A : Args)  : ℝ := (1024 : ℝ)
theorem l_cst_25 {A : Args} {X0 X1 X2 X3 X4 X5 X6 X7} (h : Holds A X0 X1 X2 X3 X4 X5 X6 X7) (i : S_.Idx) : val_main_cst_25 (F := Ideal) i = ((r_cst_25 A  : ℝ) : EReal) :=
  lit_44800000

def r_v89 (A : Args) (i0 : Fin 8192) (i1 : Fin 1) : ℝ := r_cst_25 A
theorem l_v89 {A : Args} {X0 X1 X2 X3 X4 X5 X6 X7} (h : Holds A X0 X1 X2 X3 X4 X5 X6 X7) (i : S8192x1.Idx) : val_main_v89 (F := Ideal) i = ((r_v89 A (i 0) (i 1) : ℝ) : EReal) :=
  (val_main_v89_apply i).trans (l_cst_25 h (idx_main_v89 i))

theorem nz_v89 (A : Args) (i0 : Fin 8192) (i1 : Fin 1) : r_v89 A i0 i1 ≠ 0 := by rw [show r_v89 A i0 i1 = 1024 from rfl]; norm_num

def r_v90 (A : Args) (i0 : Fin 8192) (i1 : Fin 1) : ℝ := r_v88 A i0 i1 / r_v89 A i0 i1
theorem l_v90 {A : Args} {X0 X1 X2 X3 X4 X5 X6 X7} (h : Holds A X0 X1 X2 X3 X4 X5 X6 X7) (i : S8192x1.Idx) : val_main_v90 (F := Ideal) X0 X1 X2 X3 X4 X5 X6 X7 i = ((r_v90 A (i 0) (i 1) : ℝ) : EReal) :=
  Cert.Lift.div (nz_v89 A (i 0) (i 1)) (l_v88 h i) (l_v89 h i)

def r_cst_26 (A : Args)  : ℝ := (0 : ℝ)
theorem l_cst_26 {A : Args} {X0 X1 X2 X3 X4 X5 X6 X7} (h : Holds A X0 X1 X2 X3 X4 X5 X6 X7) (i : S_.Idx) : val_main_cst_26 (F := Ideal) i = ((r_cst_26 A  : ℝ) : EReal) :=
  lit_00000000

def r_v91 (A : Args) (i0 : Fin 8192) : ℝ := r_cst_26 A + ∑ k : Fin 1, r_v90 A i0 0
theorem l_v91 {A : Args} {X0 X1 X2 X3 X4 X5 X6 X7} (h : Holds A X0 X1 X2 X3 X4 X5 X6 X7) (i : S8192.Idx) : val_main_v91 (F := Ideal) X0 X1 X2 X3 X4 X5 X6 X7 i = ((r_v91 A (i 0) : ℝ) : EReal) :=
  (val_main_v91_apply X0 X1 X2 X3 X4 X5 X6 X7 i).trans (Cert.Lift.add (l_cst_26 h (Shape.Idx.first h_S_)) (Cert.Lift.sum fun k => l_v90 h (idx_main_v91 i k)))

def r_v92 (A : Args) (i0 : Fin 8192) (i1 : Fin 1024) : ℝ := r_v91 A i0
theorem l_v92 {A : Args} {X0 X1 X2 X3 X4 X5 X6 X7} (h : Holds A X0 X1 X2 X3 X4 X5 X6 X7) (i : S8192x1024.Idx) : val_main_v92 (F := Ideal) X0 X1 X2 X3 X4 X5 X6 X7 i = ((r_v92 A (i 0) (i 1) : ℝ) : EReal) :=
  (val_main_v92_apply X0 X1 X2 X3 X4 X5 X6 X7 i).trans (l_v91 h (idx_main_v92 i))

def r_v93 (A : Args) (i0 : Fin 8192) (i1 : Fin 1024) : ℝ := r_v87 A i0 i1 + r_v92 A i0 i1
theorem l_v93 {A : Args} {X0 X1 X2 X3 X4 X5 X6 X7} (h : Holds A X0 X1 X2 X3 X4 X5 X6 X7) (i : S8192x1024.Idx) : val_main_v93 (F := Ideal) X0 X1 X2 X3 X4 X5 X6 X7 i = ((r_v93 A (i 0) (i 1) : ℝ) : EReal) :=
  Cert.Lift.add (l_v87 h i) (l_v92 h i)

def r_v94 (A : Args) (i0 : Fin 1024) : ℝ := A.x5 0 i0
theorem l_v94 {A : Args} {X0 X1 X2 X3 X4 X5 X6 X7} (h : Holds A X0 X1 X2 X3 X4 X5 X6 X7) (i : S1024.Idx) : val_main_v94 (F := Ideal) X5 i = ((r_v94 A (i 0) : ℝ) : EReal) :=
  (val_main_v94_apply X5 i).trans ((h.x5 (idx_main_v94 i)).trans (congrArg Real.toEReal (congr (congr ((rfl : A.x5 = _)) (rfl : ((idx_main_v94 i) 0 : Fin 1) = _)) (Fin.ext (by have h0 : (i 0).val < 1024 := (i 0).isLt; show ((i 0).val) % 1024 = (i 0).val; omega) : ((idx_main_v94 i) 1 : Fin 1024) = (i 0 : Fin 1024)))))

def r_cst_27 (A : Args)  : ℝ := (623487 / 524288 : ℝ)
theorem l_cst_27 {A : Args} {X0 X1 X2 X3 X4 X5 X6 X7} (h : Holds A X0 X1 X2 X3 X4 X5 X6 X7) (i : S_.Idx) : val_main_cst_27 (F := Ideal) i = ((r_cst_27 A  : ℝ) : EReal) :=
  lit_3F9837F0

def r_v95 (A : Args) (i0 : Fin 8192) (i1 : Fin 1024) : ℝ := r_cst_27 A
theorem l_v95 {A : Args} {X0 X1 X2 X3 X4 X5 X6 X7} (h : Holds A X0 X1 X2 X3 X4 X5 X6 X7) (i : S8192x1024.Idx) : val_main_v95 (F := Ideal) i = ((r_v95 A (i 0) (i 1) : ℝ) : EReal) :=
  (val_main_v95_apply i).trans (l_cst_27 h (idx_main_v95 i))

def r_v96 (A : Args) (i0 : Fin 8192) (i1 : Fin 1024) : ℝ := r_v95 A i0 i1 * A.x3 i0 i1
theorem l_v96 {A : Args} {X0 X1 X2 X3 X4 X5 X6 X7} (h : Holds A X0 X1 X2 X3 X4 X5 X6 X7) (i : S8192x1024.Idx) : val_main_v96 (F := Ideal) X3 i = ((r_v96 A (i 0) (i 1) : ℝ) : EReal) :=
  Cert.Lift.mul (l_v95 h i) (h.x3 i)

def r_v97 (A : Args) (i0 : Fin 1) (i1 : Fin 1024) : ℝ := r_v94 A i1
theorem l_v97 {A : Args} {X0 X1 X2 X3 X4 X5 X6 X7} (h : Holds A X0 X1 X2 X3 X4 X5 X6 X7) (i : S1x1024.Idx) : val_main_v97 (F := Ideal) X5 i = ((r_v97 A (i 0) (i 1) : ℝ) : EReal) :=
  (val_main_v97_apply X5 i).trans (l_v94 h (idx_main_v97 i))

def r_v98 (A : Args) (i0 : Fin 8192) (i1 : Fin 1024) : ℝ := r_v97 A 0 i1
theorem l_v98 {A : Args} {X0 X1 X2 X3 X4 X5 X6 X7} (h : Holds A X0 X1 X2 X3 X4 X5 X6 X7) (i : S8192x1024.Idx) : val_main_v98 (F := Ideal) X5 i = ((r_v98 A (i 0) (i 1) : ℝ) : EReal) :=
  (val_main_v98_apply X5 i).trans (l_v97 h (idx_main_v98 i))

def r_v99 (A : Args) (i0 : Fin 8192) (i1 : Fin 1024) : ℝ := r_v98 A i0 i1 * r_v9 A i0 i1
theorem l_v99 {A : Args} {X0 X1 X2 X3 X4 X5 X6 X7} (h : Holds A X0 X1 X2 X3 X4 X5 X6 X7) (i : S8192x1024.Idx) : val_main_v99 (F := Ideal) X0 X1 X2 X5 i = ((r_v99 A (i 0) (i 1) : ℝ) : EReal) :=
  Cert.Lift.mul (l_v98 h i) (l_v9 h i)

def r_v100 (A : Args) (i0 : Fin 8192) (i1 : Fin 1024) : ℝ := r_v96 A i0 i1 + r_v99 A i0 i1
theorem l_v100 {A : Args} {X0 X1 X2 X3 X4 X5 X6 X7} (h : Holds A X0 X1 X2 X3 X4 X5 X6 X7) (i : S8192x1024.Idx) : val_main_v100 (F := Ideal) X0 X1 X2 X3 X5 i = ((r_v100 A (i 0) (i 1) : ℝ) : EReal) :=
  Cert.Lift.add (l_v96 h i) (l_v99 h i)

def r_v101 (A : Args) (i0 : Fin 8192) (i1 : Fin 1024) : ℝ := r_v97 A 0 i1
theorem l_v101 {A : Args} {X0 X1 X2 X3 X4 X5 X6 X7} (h : Holds A X0 X1 X2 X3 X4 X5 X6 X7) (i : S8192x1024.Idx) : val_main_v101 (F := Ideal) X5 i = ((r_v101 A (i 0) (i 1) : ℝ) : EReal) :=
  (val_main_v101_apply X5 i).trans (l_v97 h (idx_main_v101 i))

def r_v102 (A : Args) (i0 : Fin 8192) (i1 : Fin 1024) : ℝ := r_v101 A i0 i1 * r_v93 A i0 i1
theorem l_v102 {A : Args} {X0 X1 X2 X3 X4 X5 X6 X7} (h : Holds A X0 X1 X2 X3 X4 X5 X6 X7) (i : S8192x1024.Idx) : val_main_v102 (F := Ideal) X0 X1 X2 X3 X4 X5 X6 X7 i = ((r_v102 A (i 0) (i 1) : ℝ) : EReal) :=
  Cert.Lift.mul (l_v101 h i) (l_v93 h i)

def r_v103 (A : Args) (i0 : Fin 8192) (i1 : Fin 1024) : ℝ := r_v93 A i0 i1 * r_v9 A i0 i1
theorem l_v103 {A : Args} {X0 X1 X2 X3 X4 X5 X6 X7} (h : Holds A X0 X1 X2 X3 X4 X5 X6 X7) (i : S8192x1024.Idx) : val_main_v103 (F := Ideal) X0 X1 X2 X3 X4 X5 X6 X7 i = ((r_v103 A (i 0) (i 1) : ℝ) : EReal) :=
  Cert.Lift.mul (l_v93 h i) (l_v9 h i)

def r_cst_28 (A : Args)  : ℝ := (0 : ℝ)
theorem l_cst_28 {A : Args} {X0 X1 X2 X3 X4 X5 X6 X7} (h : Holds A X0 X1 X2 X3 X4 X5 X6 X7) (i : S_.Idx) : val_main_cst_28 (F := Ideal) i = ((r_cst_28 A  : ℝ) : EReal) :=
  lit_00000000

def r_v104 (A : Args) (i0 : Fin 1024) : ℝ := r_cst_28 A + ∑ k : Fin 8192, r_v103 A k i0
theorem l_v104 {A : Args} {X0 X1 X2 X3 X4 X5 X6 X7} (h : Holds A X0 X1 X2 X3 X4 X5 X6 X7) (i : S1024.Idx) : val_main_v104 (F := Ideal) X0 X1 X2 X3 X4 X5 X6 X7 i = ((r_v104 A (i 0) : ℝ) : EReal) :=
  (val_main_v104_apply X0 X1 X2 X3 X4 X5 X6 X7 i).trans (Cert.Lift.add (l_cst_28 h (Shape.Idx.first h_S_)) (Cert.Lift.sum fun k => l_v103 h (idx_main_v104 i k)))

def r_v105 (A : Args) (i0 : Fin 1) (i1 : Fin 1024) : ℝ := r_v104 A i1
theorem l_v105 {A : Args} {X0 X1 X2 X3 X4 X5 X6 X7} (h : Holds A X0 X1 X2 X3 X4 X5 X6 X7) (i : S1x1024.Idx) : val_main_v105 (F := Ideal) X0 X1 X2 X3 X4 X5 X6 X7 i = ((r_v105 A (i 0) (i 1) : ℝ) : EReal) :=
  (val_main_v105_apply X0 X1 X2 X3 X4 X5 X6 X7 i).trans ((l_v104 h (idx_main_v105 i)).trans (congrArg Real.toEReal (congr ((rfl : r_v104 A = _)) (Fin.ext (by have h0 : (i 0).val < 1 := (i 0).isLt; have h1 : (i 1).val < 1024 := (i 1).isLt; show (i 0).val * 1024 + (i 1).val = (i 1).val; omega) : ((idx_main_v105 i) 0 : Fin 1024) = (i 1 : Fin 1024)))))

def r_cst_29 (A : Args)  : ℝ := (0 : ℝ)
theorem l_cst_29 {A : Args} {X0 X1 X2 X3 X4 X5 X6 X7} (h : Holds A X0 X1 X2 X3 X4 X5 X6 X7) (i : S_.Idx) : val_main_cst_29 (F := Ideal) i = ((r_cst_29 A  : ℝ) : EReal) :=
  lit_00000000

def r_v106 (A : Args) (i0 : Fin 1024) : ℝ := r_cst_29 A + ∑ k : Fin 1, r_v105 A 0 i0
theorem l_v106 {A : Args} {X0 X1 X2 X3 X4 X5 X6 X7} (h : Holds A X0 X1 X2 X3 X4 X5 X6 X7) (i : S1024.Idx) : val_main_v106 (F := Ideal) X0 X1 X2 X3 X4 X5 X6 X7 i = ((r_v106 A (i 0) : ℝ) : EReal) :=
  (val_main_v106_apply X0 X1 X2 X3 X4 X5 X6 X7 i).trans (Cert.Lift.add (l_cst_29 h (Shape.Idx.first h_S_)) (Cert.Lift.sum fun k => l_v105 h (idx_main_v106 i k)))

def r_v107 (A : Args) (i0 : Fin 8192) (i1 : Fin 2816) : ℝ := r_v8 A i0 i1
theorem l_v107 {A : Args} {X0 X1 X2 X3 X4 X5 X6 X7} (h : Holds A X0 X1 X2 X3 X4 X5 X6 X7) (i : S8192x2816.Idx) : val_main_v107 (F := Ideal) X0 X1 i = ((r_v107 A (i 0) (i 1) : ℝ) : EReal) :=
  l_v8 h i

def r_v108 (A : Args) (i0 : Fin 8192) (i1 : Fin 2816) : ℝ := r_v6 A i0 i1
theorem l_v108 {A : Args} {X0 X1 X2 X3 X4 X5 X6 X7} (h : Holds A X0 X1 X2 X3 X4 X5 X6 X7) (i : S8192x2816.Idx) : val_main_v108 (F := Ideal) X0 X1 i = ((r_v108 A (i 0) (i 1) : ℝ) : EReal) :=
  l_v6 h i

def r_v109 (A : Args) (i0 : Fin 8192) (i1 : Fin 2816) : ℝ := r_v4 A i0 i1
theorem l_v109 {A : Args} {X0 X1 X2 X3 X4 X5 X6 X7} (h : Holds A X0 X1 X2 X3 X4 X5 X6 X7) (i : S8192x2816.Idx) : val_main_v109 (F := Ideal) X0 X1 i = ((r_v109 A (i 0) (i 1) : ℝ) : EReal) :=
  l_v4 h i

def r_v110 (A : Args) (i0 : Fin 8192) (i1 : Fin 1024) : ℝ := r_v102 A i0 i1
theorem l_v110 {A : Args} {X0 X1 X2 X3 X4 X5 X6 X7} (h : Holds A X0 X1 X2 X3 X4 X5 X6 X7) (i : S8192x1024.Idx) : val_main_v110 (F := Ideal) X0 X1 X2 X3 X4 X5 X6 X7 i = ((r_v110 A (i 0) (i 1) : ℝ) : EReal) :=
  l_v102 h i

end Cert.ReferenceIdeal.Reals

end
-- ==== Proof.Lift.LayerNorm.lean ====
/- The derivative of a layer norm over the reals: the form autodiff writes, through the mean, the variance and the
   reciprocal square root, equals the closed form with the two row means. -/
module

public import proofs.«01_k».proof.Proof.Lift.Reals

@[expose] public section

noncomputable section

namespace Cert.Lift

variable {n : ℕ}

/-- The centred row sums to zero. -/
theorem sum_centred (hn : (n : ℝ) ≠ 0) (z : Fin n → ℝ) : ∑ k, (z k - (∑ j, z j) / n) = 0 := by
  rw [Finset.sum_sub_distrib, Finset.sum_const, Finset.card_univ, Fintype.card_fin, nsmul_eq_mul]
  field_simp
  ring

/-- The reciprocal square root over its argument is its cube. -/
theorem rsqrt_div {V : ℝ} (hV : 0 < V) : (Real.sqrt V)⁻¹ / V = (Real.sqrt V)⁻¹ * (Real.sqrt V)⁻¹ * (Real.sqrt V)⁻¹ := by
  have h : (Real.sqrt V)⁻¹ * (Real.sqrt V)⁻¹ = V⁻¹ := by
    rw [← mul_inv, Real.mul_self_sqrt hV.le]
  rw [h, div_eq_mul_inv, mul_comm]

/-- The two forms of the layer norm's derivative: `c` the centred row, `s` the reciprocal deviation, `V` the variance with
    its epsilon, `g` the derivative by the normalised row. -/
theorem layerNorm_bwd (hn : (n : ℝ) ≠ 0) (c g : Fin n → ℝ) (s V : ℝ) (hc : ∑ k, c k = 0) (hV : s / V = s * s * s) (q : Fin n) :
    g q * s + (∑ k, c k * g k) * (-1 / 2 * (s / V)) / n * (2 * c q)
      + (∑ k, -(g k * s) + ∑ k, -((∑ k, c k * g k) * (-1 / 2 * (s / V)) / n * (2 * c k))) / n
    = s * (g q - (∑ k, g k) / n - c q * s * ((∑ k, g k * (c k * s)) / n)) := by
  have h1 : ∑ k, -(g k * s) = -(s * ∑ k, g k) := by
    rw [Finset.sum_neg_distrib, ← Finset.sum_mul, mul_comm]
  have h2 : ∑ k, -((∑ k, c k * g k) * (-1 / 2 * (s / V)) / n * (2 * c k)) = 0 := by
    rw [Finset.sum_neg_distrib, ← Finset.mul_sum, ← Finset.mul_sum, hc]; simp
  have h3 : ∑ k, g k * (c k * s) = s * ∑ k, c k * g k := by
    rw [Finset.mul_sum]; exact Finset.sum_congr rfl fun k _ => by ring
  rw [h1, h2, h3, hV]
  ring

end Cert.Lift

end
-- ==== Proof.Lift.Ffn.lean ====
/- The feed-forward body's values read over the reals: at blocks holding the reals of the arguments' rows `ρ p`, each
   payload's element is the reference's value at that row. -/
module

public import proofs.«01_k».proof.Proof.Gen.KernelIdeal.Skeleton
public import proofs.«01_k».proof.Proof.Lift.Ref
public import proofs.«01_k».proof.Proof.Lift.LayerNorm
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Reals

/-- The blocks of one grid point hold the reals of the rows `ρ`. -/
structure Blk (A : Args) (ρ : Fin 256 → Fin 8192) (x0 : FVec Ideal S256x1024 .bf16) (wg wu x2 : FVec Ideal S2816x1024 .bf16)
    (x3 x4 : FVec Ideal S256x1024 .f32) (x5 x6 x7 : FVec Ideal S1x1024 .f32) : Prop where
  h0 : ∀ p k, x0 (ix2 p k) = ((A.x0 (ρ p) k : ℝ) : EReal)
  hg : ∀ (f : Fin 2816) k, wg (ix2 f k) = ((A.x1 k ⟨f.val, by omega⟩ : ℝ) : EReal)
  hu : ∀ (f : Fin 2816) k, wu (ix2 f k) = ((A.x1 k ⟨2816 + f.val, by omega⟩ : ℝ) : EReal)
  h2 : ∀ f k, x2 (ix2 f k) = ((A.x2 f k : ℝ) : EReal)
  h3 : ∀ p k, x3 (ix2 p k) = ((A.x3 (ρ p) k : ℝ) : EReal)
  h4 : ∀ p k, x4 (ix2 p k) = ((A.x4 (ρ p) k : ℝ) : EReal)
  h5 : ∀ k, x5 (ix2 0 k) = ((A.x5 0 k : ℝ) : EReal)
  h6 : ∀ k, x6 (ix2 0 k) = ((A.x6 0 k : ℝ) : EReal)
  h7 : ∀ k, x7 (ix2 0 k) = ((A.x7 0 k : ℝ) : EReal)

theorem one : (1 : EReal) = ((1 : ℝ) : EReal) := rfl
theorem zero : (0 : EReal) = ((0 : ℝ) : EReal) := rfl
theorem lit_rows : (Ideal.ofBits .f32 0x3A800000#32 : EReal) = ((1 / 1024 : ℝ) : EReal) := by
  simp [Ideal.ofBits, Ideal.ieee, -EReal.coe_mul] <;> norm_num
theorem card : ((1024 : ℕ) : ℝ) ≠ 0 := by norm_num

/-- The centred row of the reference sums to zero. -/
theorem centred_sum (A : Args) (R : Fin 8192) : ∑ k, r_v22 A R k = 0 := by
  have h := Cert.Lift.sum_centred (n := 1024) card (r_v14 A R)
  refine Eq.trans (Finset.sum_congr rfl fun k _ => ?_) h
  show r_v14 A R k - ((0 : ℝ) + ∑ j, r_v14 A R j) / (1024 : ℝ) = _
  rw [zero_add]; norm_num

/-- The reference's layer norm derivative in closed form. -/
theorem r_v93_eq (A : Args) (R : Fin 8192) (q : Fin 1024) :
    r_v93 A R q = r_v34 A R 0 * (r_v60 A R q * A.x6 0 q - (∑ k, r_v60 A R k * A.x6 0 k) / 1024
      - r_v39 A R q * ((∑ k, r_v60 A R k * A.x6 0 k * r_v39 A R k) / 1024)) := by
  have h := Cert.Lift.layerNorm_bwd (n := 1024) card (r_v22 A R) (fun k => r_v60 A R k * A.x6 0 k) (r_v34 A R 0) (r_v33 A R 0)
    (centred_sum A R) (Cert.Lift.rsqrt_div (pos_v33 A R 0)) q
  rw [show ((1024 : ℕ) : ℝ) = 1024 by norm_num] at h
  refine Eq.trans ?_ h
  have e0 : ∀ k, r_v68 A R k = r_v60 A R k * A.x6 0 k := fun k => rfl
  have e1 : r_v81 A R = (∑ k, r_v22 A R k * (r_v60 A R k * A.x6 0 k)) * (-1 / 2 * (r_v34 A R 0 / r_v33 A R 0)) / 1024 := by
    show (0 : ℝ) + ∑ k : Fin 1, (((0 : ℝ) + ∑ k, r_v31 A R k * r_v68 A R k) * ((-1 / 2 : ℝ) * (r_v34 A R 0 / r_v33 A R 0))) / (1024 : ℝ) = _
    rw [Fin.sum_univ_one, zero_add, zero_add]; rfl
  have e2 : ∀ k, r_v83 A R k = (∑ k, r_v22 A R k * (r_v60 A R k * A.x6 0 k)) * (-1 / 2 * (r_v34 A R 0 / r_v33 A R 0)) / 1024 * (2 * r_v22 A R k) := fun k => by
    show r_v81 A R * ((2 : ℝ) * r_v22 A R k) = _
    rw [e1]
  have e3 : r_v91 A R = (∑ k, -(r_v60 A R k * A.x6 0 k * r_v34 A R 0) + ∑ k, -r_v83 A R k) / 1024 := by
    show (0 : ℝ) + ∑ k : Fin 1, (((0 : ℝ) + ∑ k, -(r_v68 A R k * r_v34 A R 0)) + ((0 : ℝ) + ∑ k, -r_v83 A R k)) / (1024 : ℝ) = _
    rw [Fin.sum_univ_one, zero_add, zero_add, zero_add]; rfl
  show (r_v60 A R q * A.x6 0 q * r_v34 A R 0 + r_v83 A R q) + r_v91 A R = _
  simp only [e3, e2]

section
variable {A : Args} {ρ : Fin 256 → Fin 8192} {x0 : FVec Ideal S256x1024 .bf16} {wg wu x2 : FVec Ideal S2816x1024 .bf16}
    {x3 x4 : FVec Ideal S256x1024 .f32} {x5 x6 x7 : FVec Ideal S1x1024 .f32} (B : Blk A ρ x0 wg wu x2 x3 x4 x5 x6 x7)
include B

theorem p8 (p : Fin 256) (f : Fin 2816) : k0_pay8 (F := Ideal) x0 wg (ix2 p f) = ((r_v1 A (ρ p) f : ℝ) : EReal) := by
  pointwise [k0_pay8, k0_pay7]
  exact Cert.Lift.dot (fun k => B.h0 p k) (fun k => B.hg f k)

theorem p9 (p : Fin 256) (f : Fin 2816) : k0_pay9 (F := Ideal) x0 wu (ix2 p f) = ((r_v2 A (ρ p) f : ℝ) : EReal) := by
  pointwise [k0_pay9, k0_pay7]
  exact Cert.Lift.dot (fun k => B.h0 p k) (fun k => B.hu f k)

theorem p10 (p : Fin 256) (f : Fin 2816) : k0_pay10 (F := Ideal) x0 wg (ix2 p f) = ((r_v3_2 A (ρ p) f : ℝ) : EReal) := by
  pointwise [k0_pay10]
  have e : (1 : ℝ) + Real.exp (0 - r_v1 A (ρ p) f) = r_call0_v3 A (ρ p) f := by rw [zero_sub]; rfl
  refine (Cert.Lift.div (e ▸ nz_call0_v3 A (ρ p) f) one (Cert.Lift.add one (Cert.Lift.exp (Cert.Lift.sub zero (p8 B p f))))).trans ?_
  rw [e]; rfl

theorem p11 (p : Fin 256) (f : Fin 2816) : k0_pay11 (F := Ideal) x0 wg (ix2 p f) = ((r_v3_0 A (ρ p) f : ℝ) : EReal) := by
  pointwise [k0_pay11]
  exact Cert.Lift.mul (p8 B p f) (p10 B p f)

theorem p12 (p : Fin 256) (f : Fin 2816) : k0_pay12 (F := Ideal) x0 wg wu (ix2 p f) = ((r_v4 A (ρ p) f : ℝ) : EReal) := by
  pointwise [k0_pay12]
  exact Cert.Lift.mul (p11 B p f) (p9 B p f)

theorem p13 (p : Fin 256) (f : Fin 2816) : k0_pay13 (F := Ideal) x0 wg wu (ix2 p f) = ((r_v107 A (ρ p) f : ℝ) : EReal) := by
  pointwise [k0_pay13]
  refine (Cert.Lift.mul (p9 B p f) (Cert.Lift.mul (p10 B p f) (Cert.Lift.add one (Cert.Lift.mul (p8 B p f) (Cert.Lift.sub one (p10 B p f)))))).trans ?_
  refine congrArg Real.toEReal ?_
  show _ = (1 * r_v2 A (ρ p) f) * r_v3_2 A (ρ p) f + (r_v1 A (ρ p) f * (1 * r_v2 A (ρ p) f)) * (r_v3_2 A (ρ p) f * (1 - r_v3_2 A (ρ p) f))
  ring

theorem p14 (p : Fin 256) (f : Fin 2816) : k0_pay14 (F := Ideal) x0 wg (ix2 p f) = ((r_v108 A (ρ p) f : ℝ) : EReal) := by
  pointwise [k0_pay14]
  refine (p11 B p f).trans (congrArg Real.toEReal ?_)
  show _ = r_v3_0 A (ρ p) f * 1
  rw [mul_one]

theorem p15 (p : Fin 256) (q : Fin 1024) : k0_pay15 (F := Ideal) (k0_pay12 x0 wg wu) x2 (ix2 p q) = ((r_v9 A (ρ p) q : ℝ) : EReal) := by
  pointwise [k0_pay15]
  exact Cert.Lift.dot (fun k => p12 B p k) (fun k => B.h2 k q)

theorem p16 (p : Fin 256) (q : Fin 1024) : k0_pay16 (F := Ideal) (k0_pay12 x0 wg wu) x2 x5 x3 (ix2 p q) = ((r_v22 A (ρ p) q : ℝ) : EReal) := by
  pointwise [k0_pay16]
  have hz : ∀ k, Ideal.ofBits FTy.f32 0x3F9837F0#32 * x3 (ix2 p k) + x5 (ix2 0 k) * k0_pay15 (F := Ideal) (k0_pay12 x0 wg wu) x2 (ix2 p k)
      = ((r_v14 A (ρ p) k : ℝ) : EReal) := fun k =>
    Cert.Lift.add (Cert.Lift.mul lit_3F9837F0 (B.h3 p k)) (Cert.Lift.mul (B.h5 k) (p15 B p k))
  refine (Cert.Lift.sub (hz q) (Cert.Lift.div (by norm_num) (Cert.Lift.sum hz) lit_44800000)).trans (congrArg Real.toEReal ?_)
  show _ = r_v14 A (ρ p) q - ((0 : ℝ) + ∑ k, r_v14 A (ρ p) k) / (1024 : ℝ)
  rw [zero_add]

theorem p17 (p : Fin 256) : k0_pay17 (F := Ideal) (k0_pay12 x0 wg wu) x2 x5 x3 (ix2 p 0) = ((r_v34 A (ρ p) 0 : ℝ) : EReal) := by
  pointwise [k0_pay17]
  have e : (∑ k, r_v22 A (ρ p) k * r_v22 A (ρ p) k) / (1024 : ℝ) + (2748779 / 274877906944 : ℝ) = r_v33 A (ρ p) 0 := by
    show _ = ((0 : ℝ) + ∑ k, r_v22 A (ρ p) k * r_v22 A (ρ p) k) / (1024 : ℝ) + (2748779 / 274877906944 : ℝ)
    rw [zero_add]
  refine (Cert.Lift.rsqrt (e ▸ pos_v33 A (ρ p) 0) (Cert.Lift.add (Cert.Lift.div (by norm_num) (Cert.Lift.sum fun k => Cert.Lift.mul (p16 B p k) (p16 B p k)) lit_44800000) lit_3727C5AC)).trans ?_
  rw [e]; rfl

theorem p18 (p : Fin 256) (q : Fin 1024) : k0_pay18 (F := Ideal) (k0_pay12 x0 wg wu) x2 x5 x3 (ix2 p q) = ((r_v39 A (ρ p) q : ℝ) : EReal) := by
  pointwise [k0_pay18]
  exact Cert.Lift.mul (p16 B p q) (p17 B p)

theorem p19 (p : Fin 256) (q : Fin 1024) : k0_pay19 (F := Ideal) (k0_pay12 x0 wg wu) x2 x5 x6 x3 x7 x4 (ix2 p q) = ((r_v46 A (ρ p) q : ℝ) : EReal) := by
  pointwise [k0_pay19]
  exact Cert.Lift.sub (Cert.Lift.add (Cert.Lift.mul (p18 B p q) (B.h6 q)) (B.h7 q)) (B.h4 p q)

theorem p23 (p : Fin 256) (q : Fin 1024) : k0_pay23 (F := Ideal) (k0_pay19 (k0_pay12 x0 wg wu) x2 x5 x6 x3 x7 x4) (ix2 p q) = ((r_v60 A (ρ p) q : ℝ) : EReal) := by
  pointwise [k0_pay23]
  refine (Cert.Lift.mul (p19 B p q) lit_rows).trans (congrArg Real.toEReal ?_)
  show _ = ((1 / 2 : ℝ) * 1 / 1024) * ((2 : ℝ) * r_v46 A (ρ p) q)
  ring

theorem p26 (p : Fin 256) (q : Fin 1024) : k0_pay26 (F := Ideal) x6 (k0_pay17 (k0_pay12 x0 wg wu) x2 x5 x3) (k0_pay18 (k0_pay12 x0 wg wu) x2 x5 x3)
    (k0_pay19 (k0_pay12 x0 wg wu) x2 x5 x6 x3 x7 x4) (ix2 p q) = ((r_v93 A (ρ p) q : ℝ) : EReal) := by
  pointwise [k0_pay26]
  have hg : ∀ k, k0_pay23 (F := Ideal) (k0_pay19 (k0_pay12 x0 wg wu) x2 x5 x6 x3 x7 x4) (ix2 p k) * x6 (ix2 0 k) = ((r_v60 A (ρ p) k * A.x6 0 k : ℝ) : EReal) :=
    fun k => Cert.Lift.mul (p23 B p k) (B.h6 k)
  rw [r_v93_eq]
  exact Cert.Lift.mul (p17 B p) (Cert.Lift.sub (Cert.Lift.sub (hg q) (Cert.Lift.div (by norm_num) (Cert.Lift.sum hg) lit_44800000))
    (Cert.Lift.mul (p18 B p q) (Cert.Lift.div (by norm_num) (Cert.Lift.sum fun k => Cert.Lift.mul (hg k) (p18 B p k)) lit_44800000)))

theorem p28 (p : Fin 256) (q : Fin 1024) : k0_pay28 (F := Ideal) (k0_pay15 (k0_pay12 x0 wg wu) x2) x6 (k0_pay17 (k0_pay12 x0 wg wu) x2 x5 x3) (k0_pay18 (k0_pay12 x0 wg wu) x2 x5 x3)
    (k0_pay19 (k0_pay12 x0 wg wu) x2 x5 x6 x3 x7 x4) (ix2 p q) = ((r_v103 A (ρ p) q : ℝ) : EReal) := by
  pointwise [k0_pay28]
  exact Cert.Lift.mul (p26 B p q) (p15 B p q)

theorem p2 (p : Fin 256) (q : Fin 1024) : k0_pay2 (F := Ideal) x5 (k0_pay26 (F := Ideal) x6 (k0_pay17 (k0_pay12 x0 wg wu) x2 x5 x3) (k0_pay18 (k0_pay12 x0 wg wu) x2 x5 x3)
    (k0_pay19 (k0_pay12 x0 wg wu) x2 x5 x6 x3 x7 x4)) (ix2 p q) = ((r_v110 A (ρ p) q : ℝ) : EReal) := by
  pointwise [k0_pay2]
  exact Cert.Lift.mul (B.h5 q) (p26 B p q)

end

end Cert.KernelIdeal.Value

end
-- ==== Proof.Lift.Blocks.lean ====
/- The blocks of a grid point read from arguments holding reals. -/
module

public import proofs.«01_k».proof.Proof.Gen.KernelIdeal.Frame
public import proofs.«01_k».proof.Proof.Lift.Ffn

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Reals

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0]
    ∧ win0_5.index t = ![0, 0] ∧ win0_6.index t = ![0, 0] ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0] ∧ win0_15.index t = ![0, 0] ∧ win0_16.index t = ![0, 0] :=
  (by decide +kernel : ∀ t : Fin grid0.N, _)

theorem points (t : Fin cfg0.N) : t.val < 32 := lt_of_lt_of_eq t.isLt (show cfg0.N = 32 from N_0)

/-- The row of the arrays that row `p` of point `t`'s blocks is. -/
def row (t : Fin cfg0.N) (p : Fin 256) : Fin 8192 := ⟨t.val * 256 + p.val, by have := points t; omega⟩

/-- The arguments on device `c` hold the reals `A`. -/
abbrev Args' (A : Args) (c : Dev nD) : Prop :=
  Holds A (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Two positions of a matrix with the same coordinates are equal. -/
theorem ext2 {a b : ℕ} {i j : (⟨2, ![a, b]⟩ : Shape).Idx} (h0 : (i 0).val = (j 0).val) (h1 : (i 1).val = (j 1).val) : i = j := by
  rw [eq_ix2 i, eq_ix2 j, show i 0 = j 0 from Fin.ext h0, show i 1 = j 1 from Fin.ext h1]

/-- The transposed gate and up weights at the region's entry. -/
theorem entry_v2 (c : Dev nD) (i : S5632x1024.Idx) : V m c main_v2 i = m ((c : Thread nD τ).loc main_arg1) (ix2 (i 1) (i 0)) := by
  show StableHlo.after hostOps0 (fun b => m (c, b)) (Proc.tc.devRef main_v2) i = _
  unfold hostOps0
  entry_read
  pointwise []

section
variable {A : Args} {c : Dev nD} (H : Args' m A c)
include H

theorem blk (t : Fin cfg0.N) : Blk A (row t) (iblk m c 0 t) (View.ld (iblk m c 1 t) (Rect.unit ![0, 0] ![2816, 1024] inb_S5632x1024_S2816x1024_0_0))
    (View.ld (iblk m c 1 t) (Rect.unit ![2816, 0] ![2816, 1024] inb_S5632x1024_S2816x1024_2816_0)) (iblk m c 2 t) (iblk m c 3 t) (iblk m c 4 t) (iblk m c 5 t) (iblk m c 6 t) (iblk m c 7 t) where
  h0 p k := by refine Eq.trans ?_ (H.x0 (ix2 (row t p) k)); blk_point [iblk, V, idx t, row]
  hg f k := by refine Eq.trans ?_ (H.x1 (ix2 k ⟨f.val, by omega⟩)); refine Eq.trans ?_ (entry_v2 m c (ix2 ⟨f.val, by omega⟩ k)); exact congrArg (V m c main_v2) (ext2 (by blk_simp [idx t]; show 0 + 1 * f.val = _; dsimp only; omega) (by blk_simp [idx t]; show 0 + 1 * k.val = _; omega))
  hu f k := by refine Eq.trans ?_ (H.x1 (ix2 k ⟨2816 + f.val, by omega⟩)); refine Eq.trans ?_ (entry_v2 m c (ix2 ⟨2816 + f.val, by omega⟩ k)); exact congrArg (V m c main_v2) (ext2 (by blk_simp [idx t]; show 2816 + 1 * f.val = _; dsimp only; omega) (by blk_simp [idx t]; show 0 + 1 * k.val = _; omega))
  h2 f k := by refine Eq.trans ?_ (H.x2 (ix2 f k)); blk_point [iblk, V, idx t]
  h3 p k := by refine Eq.trans ?_ (H.x3 (ix2 (row t p) k)); blk_point [iblk, V, idx t, row]
  h4 p k := by refine Eq.trans ?_ (H.x4 (ix2 (row t p) k)); blk_point [iblk, V, idx t, row]
  h5 k := by refine Eq.trans ?_ (H.x5 (ix2 0 k)); blk_point [iblk, V, idx t]
  h6 k := by refine Eq.trans ?_ (H.x6 (ix2 0 k)); blk_point [iblk, V, idx t]
  h7 k := by refine Eq.trans ?_ (H.x7 (ix2 0 k)); blk_point [iblk, V, idx t]

end

end Cert.KernelIdeal.Value

end
-- ==== Proof.Lift.Finals.lean ====
/- What the feed-forward body leaves in its result arrays: at arguments holding reals, the reference's reals. -/
module

public import proofs.«01_k».proof.Proof.Lift.Blocks

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Reals

variable (m : (ℓ : Loc nD τ sig) → Buf (Elt Ideal) ℓ)

/-- The gate's and the up product's weights of a point. -/
abbrev wg (c : Dev nD) (t : Fin cfg0.N) : FVec Ideal S2816x1024 .bf16 := View.ld (iblk m c 1 t) (Rect.unit ![0, 0] ![2816, 1024] inb_S5632x1024_S2816x1024_0_0)
abbrev wu (c : Dev nD) (t : Fin cfg0.N) : FVec Ideal S2816x1024 .bf16 := View.ld (iblk m c 1 t) (Rect.unit ![2816, 0] ![2816, 1024] inb_S5632x1024_S2816x1024_2816_0)
/-- The activation, the reciprocal deviation, the normalised rows and the error of a point. -/
abbrev act (c : Dev nD) (t : Fin cfg0.N) := k0_pay12 (F := Ideal) (iblk m c 0 t) (wg m c t) (wu m c t)
abbrev rstd (c : Dev nD) (t : Fin cfg0.N) := k0_pay17 (F := Ideal) (act m c t) (iblk m c 2 t) (iblk m c 5 t) (iblk m c 3 t)
abbrev xhat (c : Dev nD) (t : Fin cfg0.N) := k0_pay18 (F := Ideal) (act m c t) (iblk m c 2 t) (iblk m c 5 t) (iblk m c 3 t)
abbrev err (c : Dev nD) (t : Fin cfg0.N) := k0_pay19 (F := Ideal) (act m c t) (iblk m c 2 t) (iblk m c 5 t) (iblk m c 6 t) (iblk m c 3 t) (iblk m c 7 t) (iblk m c 4 t)
abbrev dz (c : Dev nD) (t : Fin cfg0.N) := k0_pay26 (F := Ideal) (iblk m c 6 t) (rstd m c t) (xhat m c t) (err m c t)

section
variable {A : Args} {c : Dev nD} (H : Args' m A c)
include H

theorem f8 : (dats m 0 c).arrAt 8 (cfgs 0).N = (fun i => ((r_v107 A (i 0) (i 1) : ℝ) : EReal)) := by
  refine (dats m 0 c).arrAt_eq_of_covers 8 _ (by decide +kernel) fun t _ y => ?_
  blk_simp [idx t]
  rw [after0_8]
  have key : (outsAt0 m c t.val t.isLt).1 = k0_pay13 (iblk m c 0 t) (wg m c t) (wu m c t) := by
    by_cases h : t.val % 32 = 0
    · rw [outsAt0_A m c t h]; frame_out; rfl
    · rw [outsAt0_B m c t h]; frame_out; rfl
  have e : (win0_8.blk t).view.emb y = ix2 (row t (y 0)) (y 1) := by blk_ext [idx t, row]
  rw [key, e, eq_ix2 y]
  exact p13 (blk m H t) (y 0) (y 1)

theorem f9 : (dats m 0 c).arrAt 9 (cfgs 0).N = (fun i => ((r_v108 A (i 0) (i 1) : ℝ) : EReal)) := by
  refine (dats m 0 c).arrAt_eq_of_covers 9 _ (by decide +kernel) fun t _ y => ?_
  blk_simp [idx t]
  rw [after0_9]
  have key : (outsAt0 m c t.val t.isLt).2.1 = k0_pay14 (iblk m c 0 t) (wg m c t) := by
    by_cases h : t.val % 32 = 0
    · rw [outsAt0_A m c t h]; frame_out; rfl
    · rw [outsAt0_B m c t h]; frame_out; rfl
  have e : (win0_9.blk t).view.emb y = ix2 (row t (y 0)) (y 1) := by blk_ext [idx t, row]
  rw [key, e, eq_ix2 y]
  exact p14 (blk m H t) (y 0) (y 1)

theorem f10 : (dats m 0 c).arrAt 10 (cfgs 0).N = (fun i => ((r_v109 A (i 0) (i 1) : ℝ) : EReal)) := by
  refine (dats m 0 c).arrAt_eq_of_covers 10 _ (by decide +kernel) fun t _ y => ?_
  blk_simp [idx t]
  rw [after0_10]
  have key : (outsAt0 m c t.val t.isLt).2.2.1 = act m c t := by
    by_cases h : t.val % 32 = 0
    · rw [outsAt0_A m c t h]; frame_out; rfl
    · rw [outsAt0_B m c t h]; frame_out; rfl
  have e : (win0_10.blk t).view.emb y = ix2 (row t (y 0)) (y 1) := by blk_ext [idx t, row]
  rw [key, e, eq_ix2 y]
  exact p12 (blk m H t) (y 0) (y 1)

theorem f11 : (dats m 0 c).arrAt 11 (cfgs 0).N = (fun i => ((r_v93 A (i 0) (i 1) : ℝ) : EReal)) := by
  refine (dats m 0 c).arrAt_eq_of_covers 11 _ (by decide +kernel) fun t _ y => ?_
  blk_simp [idx t]
  rw [after0_11]
  have key : (outsAt0 m c t.val t.isLt).2.2.2.1 = dz m c t := by
    by_cases h : t.val % 32 = 0
    · rw [outsAt0_A m c t h]; frame_out; rfl
    · rw [outsAt0_B m c t h]; frame_out; rfl
  have e : (win0_11.blk t).view.emb y = ix2 (row t (y 0)) (y 1) := by blk_ext [idx t, row]
  rw [key, e, eq_ix2 y]
  exact p26 (blk m H t) (y 0) (y 1)

theorem f12 : (dats m 0 c).arrAt 12 (cfgs 0).N = (fun i => ((r_v110 A (i 0) (i 1) : ℝ) : EReal)) := by
  refine (dats m 0 c).arrAt_eq_of_covers 12 _ (by decide +kernel) fun t _ y => ?_
  blk_simp [idx t]
  rw [after0_12]
  have key : (outsAt0 m c t.val t.isLt).2.2.2.2.1 = k0_pay2 (iblk m c 5 t) (dz m c t) := by
    by_cases h : t.val % 32 = 0
    · rw [outsAt0_A m c t h]; frame_out; rfl
    · rw [outsAt0_B m c t h]; frame_out; rfl
  have e : (win0_12.blk t).view.emb y = ix2 (row t (y 0)) (y 1) := by blk_ext [idx t, row]
  rw [key, e, eq_ix2 y]
  exact p2 (blk m H t) (y 0) (y 1)

end

end Cert.KernelIdeal.Value

end
-- ==== Proof.Lift.Accs.lean ====
/- The feed-forward body's four accumulators: partial sums over a point's rows, added up over the points. -/
module

public import proofs.«01_k».proof.Proof.Lift.Finals

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Reals

theorem zero3 (i : S8x1024.Idx) : k0_pay3 (F := Ideal) i = 0 := by pointwise [k0_pay3]
theorem zero4 (i : S8x1024.Idx) : k0_pay4 (F := Ideal) i = 0 := by pointwise [k0_pay4]
theorem zero5 (i : S8x1024.Idx) : k0_pay5 (F := Ideal) i = 0 := by pointwise [k0_pay5]
theorem zero6 (i : S8x1024.Idx) : k0_pay6 (F := Ideal) i = 0 := by pointwise [k0_pay6]

section
variable {A : Args} {ρ : Fin 256 → Fin 8192} {x0 : FVec Ideal S256x1024 .bf16} {wg wu x2 : FVec Ideal S2816x1024 .bf16}
    {x3 x4 : FVec Ideal S256x1024 .f32} {x5 x6 x7 : FVec Ideal S1x1024 .f32} (B : Blk A ρ x0 wg wu x2 x3 x4 x5 x6 x7)
include B

theorem a13 (v : FVec Ideal S8x1024 .f32) (p : Fin 8) (q : Fin 1024) :
    k0_pay22 (F := Ideal) (k0_pay20 v) (k0_pay21 (k0_pay12 x0 wg wu) x2 x5 x6 x3 x7 x4) (ix2 p q)
      = v (ix2 p q) + ((∑ x : Fin 32, r_v47 A (ρ ⟨x.val * 8 + p.val, by omega⟩) q : ℝ) : EReal) := by
  pointwise [k0_pay22, k0_pay20, k0_pay21]
  exact congrArg _ (Cert.Lift.sum fun x => Cert.Lift.mul (p19 B _ q) (p19 B _ q))

theorem a14 (v : FVec Ideal S8x1024 .f32) (p : Fin 8) (q : Fin 1024) :
    k0_pay24 (F := Ideal) (k0_pay18 (k0_pay12 x0 wg wu) x2 x5 x3) (k0_pay19 (k0_pay12 x0 wg wu) x2 x5 x6 x3 x7 x4) v (ix2 p q)
      = v (ix2 p q) + ((∑ x : Fin 32, r_v64 A (ρ ⟨x.val * 8 + p.val, by omega⟩) q : ℝ) : EReal) := by
  pointwise [k0_pay24]
  exact congrArg _ (Cert.Lift.sum fun x => (Cert.Lift.mul (p23 B _ q) (p18 B _ q)).trans (congrArg Real.toEReal (mul_comm _ _)))

theorem a15 (v : FVec Ideal S8x1024 .f32) (p : Fin 8) (q : Fin 1024) :
    k0_pay25 (F := Ideal) (k0_pay19 (k0_pay12 x0 wg wu) x2 x5 x6 x3 x7 x4) v (ix2 p q)
      = v (ix2 p q) + ((∑ x : Fin 32, r_v60 A (ρ ⟨x.val * 8 + p.val, by omega⟩) q : ℝ) : EReal) := by
  pointwise [k0_pay25]
  exact congrArg _ (Cert.Lift.sum fun x => p23 B _ q)

theorem a16 (v : FVec Ideal S8x1024 .f32) (p : Fin 8) (q : Fin 1024) :
    k0_pay1 (F := Ideal) (k0_pay27 v) (k0_pay28 (k0_pay15 (k0_pay12 x0 wg wu) x2) x6 (k0_pay17 (k0_pay12 x0 wg wu) x2 x5 x3) (k0_pay18 (k0_pay12 x0 wg wu) x2 x5 x3)
    (k0_pay19 (k0_pay12 x0 wg wu) x2 x5 x6 x3 x7 x4)) (ix2 p q)
      = v (ix2 p q) + ((∑ x : Fin 32, r_v103 A (ρ ⟨x.val * 8 + p.val, by omega⟩) q : ℝ) : EReal) := by
  pointwise [k0_pay1, k0_pay27]
  exact congrArg _ (Cert.Lift.sum fun x => p28 B _ q)

end

/-- Row `x * 8 + p` of each point's rows, summed over the rows and the points. -/
def acc (f : Fin 8192 → Fin 1024 → ℝ) (p : Fin 8) (q : Fin 1024) : ℝ :=
  ∑ s : Fin 32, ∑ x : Fin 32, f ⟨s.val * 256 + (x.val * 8 + p.val), by omega⟩ q

/-- All the rows' sum, taken by points, groups and lanes. -/
theorem sum_acc (f : Fin 8192 → Fin 1024 → ℝ) (q : Fin 1024) : ∑ p : Fin 8, acc f p q = ∑ r, f r q := by
  unfold acc
  rw [Finset.sum_comm]
  simp only [← Fintype.sum_prod_type']
  refine Fintype.sum_equiv
    { toFun := fun a : Fin 32 × (Fin 8 × Fin 32) => (⟨a.1.val * 256 + (a.2.2.val * 8 + a.2.1.val), by omega⟩ : Fin 8192)
      invFun := fun r => (⟨r.val / 256, by omega⟩, (⟨r.val % 8, by omega⟩, ⟨r.val % 256 / 8, by omega⟩))
      left_inv := fun a => by ext <;> simp only <;> omega
      right_inv := fun r => by ext; simp only; omega } _ _ fun a => rfl

variable (m : (ℓ : Loc nD τ sig) → Buf (Elt Ideal) ℓ)

section
variable {A : Args} {c : Dev nD} (H : Args' m A c)
include H

theorem f13 : (dats m 0 c).arrAt 13 (cfgs 0).N = (fun i => ((acc (r_v47 A) (i 0) (i 1) : ℝ) : EReal)) := by
  refine (dats m 0 c).arrAt_eq_of_covers 13 _ (by decide +kernel) fun t hf y => ?_
  blk_simp [idx t]
  rw [after0_13]
  have keyA : ∀ t : Fin cfg0.N, t.val % 32 = 0 → (outsAt0 m c t.val t.isLt).2.2.2.2.2.1 = k0_pay22 (k0_pay20 (k0_pay3 (F := Ideal))) (k0_pay21 (act m c t) (iblk m c 2 t) (iblk m c 5 t) (iblk m c 6 t) (iblk m c 3 t) (iblk m c 7 t) (iblk m c 4 t)) := fun t h => by
    rw [outsAt0_A m c t h]; frame_out; rfl
  have keyB : ∀ t : Fin cfg0.N, ¬t.val % 32 = 0 → (outsAt0 m c t.val t.isLt).2.2.2.2.2.1
      = k0_pay22 (k0_pay20 (outsAt0 m c (t.val - 1) (Nat.lt_of_le_of_lt (Nat.sub_le _ _) t.isLt)).2.2.2.2.2.1) (k0_pay21 (act m c t) (iblk m c 2 t) (iblk m c 5 t) (iblk m c 6 t) (iblk m c 3 t) (iblk m c 7 t) (iblk m c 4 t)) := fun t h => by
    rw [outsAt0_B m c t h]; frame_out; rfl
  rw [Pipeline.eq_sum_fin_of_reset_step_apply_of_flush (fun n h => (outsAt0 m c n h).2.2.2.2.2.1) 32 (fun _ => 0)
    (fun t j => ((∑ x : Fin 32, r_v47 A (row t ⟨x.val * 8 + (j 0).val, by have : (j 0).val < 8 := (j 0).isLt; omega⟩) (j 1) : ℝ) : EReal))
    (fun t h j => by rw [keyA t h, eq_ix2 j]; exact (a13 (blk m H t) _ (j 0) (j 1)).trans (congrArg (· + _) (zero3 _)))
    (fun t h j => by rw [keyB t h, eq_ix2 j]; exact a13 (blk m H t) _ (j 0) (j 1))
    t ((flush0_13 t).mp hf) y, zero_add, Cert.Lift.sum fun _ => rfl]
  have e : (win0_13.blk t).view.emb y = ix2 (y 0) (y 1) := by blk_ext [idx t]
  rw [e]
  refine congrArg Real.toEReal (Finset.sum_congr rfl fun s _ => Finset.sum_congr rfl fun x _ => ?_)
  have := points t
  refine congrArg (r_v47 A · (y 1)) (Fin.ext ?_)
  show (32 * (t.val / 32) + s.val) * 256 + (x.val * 8 + (y 0).val) = s.val * 256 + (x.val * 8 + (y 0).val)
  omega

theorem f14 : (dats m 0 c).arrAt 14 (cfgs 0).N = (fun i => ((acc (r_v64 A) (i 0) (i 1) : ℝ) : EReal)) := by
  refine (dats m 0 c).arrAt_eq_of_covers 14 _ (by decide +kernel) fun t hf y => ?_
  blk_simp [idx t]
  rw [after0_14]
  have keyA : ∀ t : Fin cfg0.N, t.val % 32 = 0 → (outsAt0 m c t.val t.isLt).2.2.2.2.2.2.1 = k0_pay24 (xhat m c t) (err m c t) (k0_pay4 (F := Ideal)) := fun t h => by
    rw [outsAt0_A m c t h]; frame_out; rfl
  have keyB : ∀ t : Fin cfg0.N, ¬t.val % 32 = 0 → (outsAt0 m c t.val t.isLt).2.2.2.2.2.2.1
      = k0_pay24 (xhat m c t) (err m c t) (outsAt0 m c (t.val - 1) (Nat.lt_of_le_of_lt (Nat.sub_le _ _) t.isLt)).2.2.2.2.2.2.1 := fun t h => by
    rw [outsAt0_B m c t h]; frame_out; rfl
  rw [Pipeline.eq_sum_fin_of_reset_step_apply_of_flush (fun n h => (outsAt0 m c n h).2.2.2.2.2.2.1) 32 (fun _ => 0)
    (fun t j => ((∑ x : Fin 32, r_v64 A (row t ⟨x.val * 8 + (j 0).val, by have : (j 0).val < 8 := (j 0).isLt; omega⟩) (j 1) : ℝ) : EReal))
    (fun t h j => by rw [keyA t h, eq_ix2 j]; exact (a14 (blk m H t) _ (j 0) (j 1)).trans (congrArg (· + _) (zero4 _)))
    (fun t h j => by rw [keyB t h, eq_ix2 j]; exact a14 (blk m H t) _ (j 0) (j 1))
    t ((flush0_14 t).mp hf) y, zero_add, Cert.Lift.sum fun _ => rfl]
  have e : (win0_14.blk t).view.emb y = ix2 (y 0) (y 1) := by blk_ext [idx t]
  rw [e]
  refine congrArg Real.toEReal (Finset.sum_congr rfl fun s _ => Finset.sum_congr rfl fun x _ => ?_)
  have := points t
  refine congrArg (r_v64 A · (y 1)) (Fin.ext ?_)
  show (32 * (t.val / 32) + s.val) * 256 + (x.val * 8 + (y 0).val) = s.val * 256 + (x.val * 8 + (y 0).val)
  omega

theorem f15 : (dats m 0 c).arrAt 15 (cfgs 0).N = (fun i => ((acc (r_v60 A) (i 0) (i 1) : ℝ) : EReal)) := by
  refine (dats m 0 c).arrAt_eq_of_covers 15 _ (by decide +kernel) fun t hf y => ?_
  blk_simp [idx t]
  rw [after0_15]
  have keyA : ∀ t : Fin cfg0.N, t.val % 32 = 0 → (outsAt0 m c t.val t.isLt).2.2.2.2.2.2.2.1 = k0_pay25 (err m c t) (k0_pay5 (F := Ideal)) := fun t h => by
    rw [outsAt0_A m c t h]; frame_out; rfl
  have keyB : ∀ t : Fin cfg0.N, ¬t.val % 32 = 0 → (outsAt0 m c t.val t.isLt).2.2.2.2.2.2.2.1
      = k0_pay25 (err m c t) (outsAt0 m c (t.val - 1) (Nat.lt_of_le_of_lt (Nat.sub_le _ _) t.isLt)).2.2.2.2.2.2.2.1 := fun t h => by
    rw [outsAt0_B m c t h]; frame_out; rfl
  rw [Pipeline.eq_sum_fin_of_reset_step_apply_of_flush (fun n h => (outsAt0 m c n h).2.2.2.2.2.2.2.1) 32 (fun _ => 0)
    (fun t j => ((∑ x : Fin 32, r_v60 A (row t ⟨x.val * 8 + (j 0).val, by have : (j 0).val < 8 := (j 0).isLt; omega⟩) (j 1) : ℝ) : EReal))
    (fun t h j => by rw [keyA t h, eq_ix2 j]; exact (a15 (blk m H t) _ (j 0) (j 1)).trans (congrArg (· + _) (zero5 _)))
    (fun t h j => by rw [keyB t h, eq_ix2 j]; exact a15 (blk m H t) _ (j 0) (j 1))
    t ((flush0_15 t).mp hf) y, zero_add, Cert.Lift.sum fun _ => rfl]
  have e : (win0_15.blk t).view.emb y = ix2 (y 0) (y 1) := by blk_ext [idx t]
  rw [e]
  refine congrArg Real.toEReal (Finset.sum_congr rfl fun s _ => Finset.sum_congr rfl fun x _ => ?_)
  have := points t
  refine congrArg (r_v60 A · (y 1)) (Fin.ext ?_)
  show (32 * (t.val / 32) + s.val) * 256 + (x.val * 8 + (y 0).val) = s.val * 256 + (x.val * 8 + (y 0).val)
  omega

theorem f16 : (dats m 0 c).arrAt 16 (cfgs 0).N = (fun i => ((acc (r_v103 A) (i 0) (i 1) : ℝ) : EReal)) := by
  refine (dats m 0 c).arrAt_eq_of_covers 16 _ (by decide +kernel) fun t hf y => ?_
  blk_simp [idx t]
  rw [after0_16]
  have keyA : ∀ t : Fin cfg0.N, t.val % 32 = 0 → (outsAt0 m c t.val t.isLt).2.2.2.2.2.2.2.2 = k0_pay1 (k0_pay27 (k0_pay6 (F := Ideal))) (k0_pay28 (k0_pay15 (act m c t) (iblk m c 2 t)) (iblk m c 6 t) (rstd m c t) (xhat m c t) (err m c t)) := fun t h => by
    rw [outsAt0_A m c t h]; frame_out; rfl
  have keyB : ∀ t : Fin cfg0.N, ¬t.val % 32 = 0 → (outsAt0 m c t.val t.isLt).2.2.2.2.2.2.2.2
      = k0_pay1 (k0_pay27 (outsAt0 m c (t.val - 1) (Nat.lt_of_le_of_lt (Nat.sub_le _ _) t.isLt)).2.2.2.2.2.2.2.2) (k0_pay28 (k0_pay15 (act m c t) (iblk m c 2 t)) (iblk m c 6 t) (rstd m c t) (xhat m c t) (err m c t)) := fun t h => by
    rw [outsAt0_B m c t h]; frame_out; rfl
  rw [Pipeline.eq_sum_fin_of_reset_step_apply_of_flush (fun n h => (outsAt0 m c n h).2.2.2.2.2.2.2.2) 32 (fun _ => 0)
    (fun t j => ((∑ x : Fin 32, r_v103 A (row t ⟨x.val * 8 + (j 0).val, by have : (j 0).val < 8 := (j 0).isLt; omega⟩) (j 1) : ℝ) : EReal))
    (fun t h j => by rw [keyA t h, eq_ix2 j]; exact (a16 (blk m H t) _ (j 0) (j 1)).trans (congrArg (· + _) (zero6 _)))
    (fun t h j => by rw [keyB t h, eq_ix2 j]; exact a16 (blk m H t) _ (j 0) (j 1))
    t ((flush0_16 t).mp hf) y, zero_add, Cert.Lift.sum fun _ => rfl]
  have e : (win0_16.blk t).view.emb y = ix2 (y 0) (y 1) := by blk_ext [idx t]
  rw [e]
  refine congrArg Real.toEReal (Finset.sum_congr rfl fun s _ => Finset.sum_congr rfl fun x _ => ?_)
  have := points t
  refine congrArg (r_v103 A · (y 1)) (Fin.ext ?_)
  show (32 * (t.val / 32) + s.val) * 256 + (x.val * 8 + (y 0).val) = s.val * 256 + (x.val * 8 + (y 0).val)
  omega

end

end Cert.KernelIdeal.Value

end
-- ==== Proof.Lift.Run.lean ====
/- The feed-forward program's results at arguments holding reals. -/
module

public import proofs.«01_k».proof.Proof.Lift.Accs

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Reals

variable (m : (ℓ : Loc nD τ sig) → Buf (Elt Ideal) ℓ)

theorem exit13 (c : Dev nD) : Pipeline.withArrays (cfgs 0).spec c (V0 m c) (fun w => (dats m 0 c).arrAt w (cfgs 0).N) (Proc.tc.devRef main_v4_5) = (dats m 0 c).arrAt 13 (cfgs 0).N :=
  Pipeline.withArrays_arr (cfgs 0).spec (by decide) c _ _ 13

theorem exit14 (c : Dev nD) : Pipeline.withArrays (cfgs 0).spec c (V0 m c) (fun w => (dats m 0 c).arrAt w (cfgs 0).N) (Proc.tc.devRef main_v4_6) = (dats m 0 c).arrAt 14 (cfgs 0).N :=
  Pipeline.withArrays_arr (cfgs 0).spec (by decide) c _ _ 14

theorem exit15 (c : Dev nD) : Pipeline.withArrays (cfgs 0).spec c (V0 m c) (fun w => (dats m 0 c).arrAt w (cfgs 0).N) (Proc.tc.devRef main_v4_7) = (dats m 0 c).arrAt 15 (cfgs 0).N :=
  Pipeline.withArrays_arr (cfgs 0).spec (by decide) c _ _ 15

theorem exit16 (c : Dev nD) : Pipeline.withArrays (cfgs 0).spec c (V0 m c) (fun w => (dats m 0 c).arrAt w (cfgs 0).N) (Proc.tc.devRef main_v4_8) = (dats m 0 c).arrAt 16 (cfgs 0).N :=
  Pipeline.withArrays_arr (cfgs 0).spec (by decide) c _ _ 16

theorem lit_half : (Ideal.ofBits .f32 0x3A000000#32 : EReal) = ((1 / 2048 : ℝ) : EReal) := by
  simp [Ideal.ofBits, Ideal.ieee, -EReal.coe_mul] <;> norm_num

theorem zero_sums (x : ℝ) : (0 : ℝ) + ∑ _k : Fin 1, ((0 : ℝ) + x) = x := by simp

section
variable {A : Args} {c : Dev nD} (H : Args' m A c)
include H

theorem v6 : Pipeline.afterTail₀ cfgs (dats m) 0 (V0 m) [hostOps1] c main_v6 = (fun _ => ((r_v54 A : ℝ) : EReal)) := by
  show StableHlo.after hostOps1 (Pipeline.withArrays (cfgs 0).spec c (V0 m c) fun w => (dats m 0 c).arrAt w (cfgs 0).N) (Proc.tc.devRef main_v6) = _
  have e := exit13 m c
  rw [f13 m H] at e
  generalize Pipeline.withArrays (cfgs 0).spec c (V0 m c) (fun w => (dats m 0 c).arrAt w (cfgs 0).N) = W at e ⊢
  entry_read
  rw [e]
  funext i
  pointwise []
  refine (Cert.Lift.mul lit_half (Cert.Lift.sum fun p => Cert.Lift.sum fun q => rfl)).trans (congrArg Real.toEReal ?_)
  show _ = (1 / 2 : ℝ) * ((0 : ℝ) + ∑ r, ((0 : ℝ) + ∑ k, r_v47 A r k) / (1024 : ℝ))
  rw [Finset.sum_comm, Finset.sum_congr rfl fun q _ => sum_acc (r_v47 A) q, Finset.sum_comm, zero_add, ← Finset.sum_div, Finset.sum_congr rfl fun r _ => zero_add _]
  ring

theorem v7 : Pipeline.afterTail₀ cfgs (dats m) 0 (V0 m) [hostOps1] c main_v7 = (fun i => ((r_v69 A (i 0) : ℝ) : EReal)) := by
  show StableHlo.after hostOps1 (Pipeline.withArrays (cfgs 0).spec c (V0 m c) fun w => (dats m 0 c).arrAt w (cfgs 0).N) (Proc.tc.devRef main_v7) = _
  have e := exit14 m c
  rw [f14 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v64 A r (i 0))
  exact (sum_acc (r_v64 A) (i 0)).trans (zero_sums _).symm

theorem v8 : Pipeline.afterTail₀ cfgs (dats m) 0 (V0 m) [hostOps1] c main_v8 = (fun i => ((r_v63 A (i 0) : ℝ) : EReal)) := by
  show StableHlo.after hostOps1 (Pipeline.withArrays (cfgs 0).spec c (V0 m c) fun w => (dats m 0 c).arrAt w (cfgs 0).N) (Proc.tc.devRef main_v8) = _
  have e := exit15 m c
  rw [f15 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v60 A r (i 0))
  exact (sum_acc (r_v60 A) (i 0)).trans (zero_sums _).symm

theorem v9 : Pipeline.afterTail₀ cfgs (dats m) 0 (V0 m) [hostOps1] c main_v9 = (fun i => ((r_v106 A (i 0) : ℝ) : EReal)) := by
  show StableHlo.after hostOps1 (Pipeline.withArrays (cfgs 0).spec c (V0 m c) fun w => (dats m 0 c).arrAt w (cfgs 0).N) (Proc.tc.devRef main_v9) = _
  have e := exit16 m c
  rw [f16 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v103 A r (i 0))
  exact (sum_acc (r_v103 A) (i 0)).trans (zero_sums _).symm

end

end Cert.KernelIdeal.Value

end
-- ==== Proof.Lift.Finite.lean ====
/- An array whose elements all compare below infinity in absolute value holds reals. -/
module

public import Idealize.ShloMosaic.Lib.ReduceAll
public import Idealize.ShloMosaic.Lib.Pipeline.ValueKit

@[expose] public section

noncomputable section

namespace Cert.Lift

open Idealize.ShloMosaic

theorem inf : Ideal.ofBits .f32 0x7F800000#32 = ⊤ := by simp [Ideal.ofBits, Ideal.ieee]

theorem real_of_abs_lt {x : EReal} (h : Ideal.cmp .olt (max x (-x)) (Ideal.ofBits .f32 0x7F800000#32) = 1#1) : x = ((x.toReal : ℝ) : EReal) := by
  rw [inf] at h
  induction x with
  | coe r => rfl
  | bot => simp [Ideal.cmp] at h
  | top => simp [Ideal.cmp] at h

theorem and_one {a b : BitVec 1} (h : IntOp.andi a b = 1#1) : a = 1#1 ∧ b = 1#1 := by
  revert a b; decide

abbrev S0 : Shape := ⟨0, ![]⟩

instance : Subsingleton S0.Idx := ⟨fun a b => funext fun i => i.elim0⟩

/-- `jnp.all(jnp.abs(x) < jnp.inf)` being 1 says that every element is a real. -/
theorem real_of_all {s : Shape} {axes : List (Fin s.rank)} (x : FVec Ideal s .f32) (bc : S0.BroadcastsInDim s (![] : Fin 0 → Fin s.rank)) (red : s.ReducesTo axes S0) (hu : 0 < S0.numel)
    (j : S0.Idx) (e : Host.reduce IntOp.andi (cmpf .olt (Host.absf x) (broadcastInDim s ![] bc (constant (F := Ideal) S0 .f32 0x7F800000#32))) (constantI S0 1 1#1) red hu j = 1#1)
    (i : s.Idx) : x i = (((x i).toReal : ℝ) : EReal) :=
  real_of_abs_lt (Host.reduce_andi_all _ _ red hu j e i)

/-- The same for a matrix, by coordinates. -/
theorem real_of_all2 {a b : ℕ} {axes : List (Fin 2)} (x : FVec Ideal ⟨2, ![a, b]⟩ .f32) (bc : S0.BroadcastsInDim ⟨2, ![a, b]⟩ (![] : Fin 0 → Fin 2)) (red : (⟨2, ![a, b]⟩ : Shape).ReducesTo axes S0) (hu : 0 < S0.numel)
    (j : S0.Idx) (e : Host.reduce IntOp.andi (cmpf .olt (Host.absf x) (broadcastInDim ⟨2, ![a, b]⟩ ![] bc (constant (F := Ideal) S0 .f32 0x7F800000#32))) (constantI S0 1 1#1) red hu j = 1#1)
    (i : (⟨2, ![a, b]⟩ : Shape).Idx) : x i = (((x (ix2 (i 0) (i 1))).toReal : ℝ) : EReal) := by
  exact (real_of_all x bc red hu j e i).trans (congrArg (fun k => (((x k).toReal : ℝ) : EReal)) (eq_ix2 i))

end Cert.Lift

end
-- ==== Proof.Lift.Pre.lean ====
/- The precondition read: the arguments hold reals. -/
module

public import proofs.«01_k».proof.Defs
public import proofs.«01_k».proof.Proof.Gen.Pre_finite
public import proofs.«01_k».proof.Proof.Lift.Finite
public import proofs.«01_k».proof.Proof.Lift.Blocks

@[expose] public section

noncomputable section

namespace Cert.KernelIdeal.Value

open Cert.KernelIdeal Cert.KernelIdeal.Gen Idealize.ShloMosaic Idealize.ShloMosaic.TcCoe Idealize.SL.Sem
open Cert.ReferenceIdeal.Reals

variable (m : (ℓ : Loc nD τ sig) → Buf (Elt Ideal) ℓ)

/-- The reals the arguments hold on a device. -/
def args (c : Dev nD) : Args where
  x0 i j := (m ((c : Thread nD τ).loc main_arg0) (ix2 i j)).toReal
  x1 i j := (m ((c : Thread nD τ).loc main_arg1) (ix2 i j)).toReal
  x2 i j := (m ((c : Thread nD τ).loc main_arg2) (ix2 i j)).toReal
  x3 i j := (m ((c : Thread nD τ).loc main_arg3) (ix2 i j)).toReal
  x4 i j := (m ((c : Thread nD τ).loc main_arg4) (ix2 i j)).toReal
  x5 i j := (m ((c : Thread nD τ).loc main_arg5) (ix2 i j)).toReal
  x6 i j := (m ((c : Thread nD τ).loc main_arg6) (ix2 i j)).toReal
  x7 i j := (m ((c : Thread nD τ).loc main_arg7) (ix2 i j)).toReal

theorem holds (h : Cert.Pre_KernelIdeal_finite m) (c : Dev nD) : Args' m (args m c) c := by
  have e := congrFun (h c) fun i => i.elim0
  obtain ⟨e, e7⟩ := Cert.Lift.and_one e
  obtain ⟨e, e6⟩ := Cert.Lift.and_one e
  obtain ⟨e, e5⟩ := Cert.Lift.and_one e
  obtain ⟨e, e4⟩ := Cert.Lift.and_one e
  obtain ⟨e, e3⟩ := Cert.Lift.and_one e
  obtain ⟨e, e2⟩ := Cert.Lift.and_one e
  obtain ⟨e, e1⟩ := Cert.Lift.and_one e
  obtain ⟨-, e0⟩ := Cert.Lift.and_one e
  exact ⟨Cert.Lift.real_of_all2 _ _ _ _ _ e0, Cert.Lift.real_of_all2 _ _ _ _ _ e1, Cert.Lift.real_of_all2 _ _ _ _ _ e2, Cert.Lift.real_of_all2 _ _ _ _ _ e3,
    Cert.Lift.real_of_all2 _ _ _ _ _ e4, Cert.Lift.real_of_all2 _ _ _ _ _ e5, Cert.Lift.real_of_all2 _ _ _ _ _ e6, Cert.Lift.real_of_all2 _ _ _ _ _ e7⟩

end Cert.KernelIdeal.Value

end
-- ==== Proof.Lift.FfnProof.lean ====
/- The feed-forward kernel agrees with its reference at finite arguments. -/
module

public import proofs.«01_k».proof.Defs
public import proofs.«01_k».proof.Proof.Gen.Kernel
public import proofs.«01_k».proof.Proof.Gen.ReferenceIdeal.Run
public import proofs.«01_k».proof.Proof.Gen.ReferenceIdeal.Read
public import proofs.«01_k».proof.Proof.Lift.Run
public import proofs.«01_k».proof.Proof.Lift.Pre
public import Idealize.ShloMosaic.Adequacy
public import Idealize.ShloMosaic.Init

@[expose] public section

noncomputable section

namespace Cert.Proof

open Idealize.ShloMosaic Idealize.SL.Sem Cert.ReferenceIdeal.Reals Cert.KernelIdeal.Value

theorem frame_reference : Cert.quiescent_ReferenceIdeal := fun m ρ _ =>
  (θ_run Cert.ReferenceIdeal.defs _ _).mono (fun r h => ⟨fun c => (h c).2.2.2.2.2.2.2.2.2, sem_eq_zero_of_no_sems (by decide) r.2⟩) (Cert.ReferenceIdeal.Value.run m ρ)

theorem algebraic : Cert.algebraic_KernelIdeal_ReferenceIdeal_pre_finite := by
  intro m g m' g' hpre hargs
  have H := fun c => Cert.KernelIdeal.Value.holds m hpre c
  have e : ∀ c, Cert.ReferenceIdeal.Reals.Holds (args m c) (m' (c.tc.loc Cert.ReferenceIdeal.main_arg0)) (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) := fun c => by
    obtain ⟨h0, h1, h2, h3, h4, h5, h6, h7⟩ := hargs c
    rw [h0, h1, h2, h3, h4, h5, h6, h7]
    exact H c
  refine ⟨fun c i => ((r_v107 (args m c) (i 0) (i 1) : ℝ) : EReal), fun c i => ((r_v108 (args m c) (i 0) (i 1) : ℝ) : EReal), fun c i => ((r_v109 (args m c) (i 0) (i 1) : ℝ) : EReal),
    fun c i => ((r_v93 (args m c) (i 0) (i 1) : ℝ) : EReal), fun c i => ((r_v110 (args m c) (i 0) (i 1) : ℝ) : EReal), fun c i => ((r_v54 (args m c) : ℝ) : EReal),
    fun c i => ((r_v69 (args m c) (i 0) : ℝ) : EReal), fun c i => ((r_v63 (args m c) (i 0) : ℝ) : EReal), fun c i => ((r_v106 (args m c) (i 0) : ℝ) : EReal), ?_, ?_⟩
  · refine (θ_run Cert.KernelIdeal.defs _ _).mono (fun r h c => ?_) (θ_run_and (Cert.KernelIdeal.Gen.run_main m g) (Cert.KernelIdeal.Gen.unchanged m g))
    exact ⟨((h.1 c).1 8).trans (f8 m (H c)), ((h.1 c).1 9).trans (f9 m (H c)), ((h.1 c).1 10).trans (f10 m (H c)), ((h.1 c).1 11).trans (f11 m (H c)), ((h.1 c).1 12).trans (f12 m (H c)),
      ((h.1 c).2 _ (by decide)).trans (v6 m (H c)), ((h.1 c).2 _ (by decide)).trans (v7 m (H c)), ((h.1 c).2 _ (by decide)).trans (v8 m (H c)), ((h.1 c).2 _ (by decide)).trans (v9 m (H c)), h.2 c⟩
  · refine (θ_run Cert.ReferenceIdeal.defs _ _).mono (fun r h c => ?_) (Cert.ReferenceIdeal.Value.run m' g')
    obtain ⟨h0, h1, h2, h3, h4, h5, h6, h7, h8, h9⟩ := h c
    exact ⟨h0.trans (funext fun i => l_v107 (e c) i), h1.trans (funext fun i => l_v108 (e c) i), h2.trans (funext fun i => l_v109 (e c) i),
      (h3.trans (Cert.ReferenceIdeal.Read.val_main_v93_eq m' c)).trans (funext fun i => l_v93 (e c) i), (h4.trans (Cert.ReferenceIdeal.Read.val_main_v110_eq m' c)).trans (funext fun i => l_v110 (e c) i),
      (h5.trans (Cert.ReferenceIdeal.Read.val_main_v54_eq m' c)).trans (funext fun i => l_v54 (e c) i), (h6.trans (Cert.ReferenceIdeal.Read.val_main_v69_eq m' c)).trans (funext fun i => l_v69 (e c) i),
      (h7.trans (Cert.ReferenceIdeal.Read.val_main_v63_eq m' c)).trans (funext fun i => l_v63 (e c) i), (h8.trans (Cert.ReferenceIdeal.Read.val_main_v106_eq m' c)).trans (funext fun i => l_v106 (e c) i), h9⟩

end Cert.Proof

end
-- ==== Proof.Lift.Ref2.lean ====
/- The reference read over the reals: at arguments all of whose elements are real numbers, every value the reference
   computes is a real number, given here by a formula `r_<value>` over the arguments' reals, one operation at a time. -/
module

public import proofs.«01_k».proof.Proof.Gen.Reference2Ideal.Read
public import proofs.«01_k».proof.Proof.Lift.Reals

@[expose] public section

set_option maxRecDepth 16384

noncomputable section

namespace Cert.Reference2Ideal.Reals

open Cert.Reference2Ideal Cert.Reference2Ideal.Gen Cert.Reference2Ideal.Read Idealize.ShloMosaic Idealize.ShloMosaic.TcCoe Idealize.SL.Sem Idealize.ShloMosaic.StableHlo

/-- The arguments' elements as reals. -/
structure Args where
  x0 : Fin 8192 → Fin 2816 → ℝ
  x1 : Fin 8192 → Fin 2816 → ℝ
  x2 : Fin 8192 → Fin 1024 → ℝ
  x3 : Fin 8192 → Fin 1024 → ℝ
  x4 : Fin 8192 → Fin 1024 → ℝ
  x5 : Fin 8192 → Fin 1024 → ℝ
  x6 : Fin 1 → Fin 1024 → ℝ
  x7 : Fin 1024 → Fin 5632 → ℝ
  x8 : Fin 2816 → Fin 1024 → ℝ
  x9 : Fin 1 → Fin 1024 → ℝ
  x10 : Fin 1 → Fin 1024 → ℝ
  x11 : Fin 1 → Fin 1024 → ℝ

/-- The arguments `X` hold the reals `A`. -/
structure Holds (A : Args) (X0 : (⟨S8192x2816, .f32⟩ : BufTy).Contents (Elt Ideal)) (X1 : (⟨S8192x2816, .f32⟩ : BufTy).Contents (Elt Ideal)) (X2 : (⟨S8192x1024, .f32⟩ : BufTy).Contents (Elt Ideal)) (X3 : (⟨S8192x1024, .f32⟩ : BufTy).Contents (Elt Ideal)) (X4 : (⟨S8192x1024, .f32⟩ : BufTy).Contents (Elt Ideal)) (X5 : (⟨S8192x1024, .f32⟩ : BufTy).Contents (Elt Ideal)) (X6 : (⟨S1x1024, .f32⟩ : BufTy).Contents (Elt Ideal)) (X7 : (⟨S1024x5632, .f32⟩ : BufTy).Contents (Elt Ideal)) (X8 : (⟨S2816x1024, .f32⟩ : BufTy).Contents (Elt Ideal)) (X9 : (⟨S1x1024, .f32⟩ : BufTy).Contents (Elt Ideal)) (X10 : (⟨S1x1024, .f32⟩ : BufTy).Contents (Elt Ideal)) (X11 : (⟨S1x1024, .f32⟩ : BufTy).Contents (Elt Ideal)) : Prop where
  x0 : ∀ i, X0 i = ((A.x0 (i 0) (i 1) : ℝ) : EReal)
  x1 : ∀ i, X1 i = ((A.x1 (i 0) (i 1) : ℝ) : EReal)
  x2 : ∀ i, X2 i = ((A.x2 (i 0) (i 1) : ℝ) : EReal)
  x3 : ∀ i, X3 i = ((A.x3 (i 0) (i 1) : ℝ) : EReal)
  x4 : ∀ i, X4 i = ((A.x4 (i 0) (i 1) : ℝ) : EReal)
  x5 : ∀ i, X5 i = ((A.x5 (i 0) (i 1) : ℝ) : EReal)
  x6 : ∀ i, X6 i = ((A.x6 (i 0) (i 1) : ℝ) : EReal)
  x7 : ∀ i, X7 i = ((A.x7 (i 0) (i 1) : ℝ) : EReal)
  x8 : ∀ i, X8 i = ((A.x8 (i 0) (i 1) : ℝ) : EReal)
  x9 : ∀ i, X9 i = ((A.x9 (i 0) (i 1) : ℝ) : EReal)
  x10 : ∀ i, X10 i = ((A.x10 (i 0) (i 1) : ℝ) : EReal)
  x11 : ∀ i, X11 i = ((A.x11 (i 0) (i 1) : ℝ) : EReal)

def r_v4 (A : Args) (i0 : Fin 8192) (i1 : Fin 1024) : ℝ := A.x6 0 i1
theorem l_v4 {A : Args} {X0 X1 X2 X3 X4 X5 X6 X7 X8 X9 X10 X11} (h : Holds A X0 X1 X2 X3 X4 X5 X6 X7 X8 X9 X10 X11) (i : S8192x1024.Idx) : val_main_v4 (F := Ideal) X6 i = ((r_v4 A (i 0) (i 1) : ℝ) : EReal) :=
  (val_main_v4_apply X6 i).trans (h.x6 (idx_main_v4 i))

def r_v5 (A : Args) (i0 : Fin 8192) (i1 : Fin 1024) : ℝ := r_v4 A i0 i1 * A.x5 i0 i1
theorem l_v5 {A : Args} {X0 X1 X2 X3 X4 X5 X6 X7 X8 X9 X10 X11} (h : Holds A X0 X1 X2 X3 X4 X5 X6 X7 X8 X9 X10 X11) (i : S8192x1024.Idx) : val_main_v5 (F := Ideal) X5 X6 i = ((r_v5 A (i 0) (i 1) : ℝ) : EReal) :=
  Cert.Lift.mul (l_v4 h i) (h.x5 i)

def r_v6 (A : Args) (i0 : Fin 8192) (i1 : Fin 2816) : ℝ := ∑ k : Fin 1024, r_v5 A i0 k * A.x8 i1 k
theorem l_v6 {A : Args} {X0 X1 X2 X3 X4 X5 X6 X7 X8 X9 X10 X11} (h : Holds A X0 X1 X2 X3 X4 X5 X6 X7 X8 X9 X10 X11) (i : S8192x2816.Idx) : val_main_v6 (F := Ideal) X5 X6 X8 i = ((r_v6 A (i 0) (i 1) : ℝ) : EReal) :=
  (val_main_v6_apply X5 X6 X8 i).trans (Cert.Lift.dot (fun k => l_v5 h (lidx_main_v6 i k)) (fun k => h.x8 (ridx_main_v6 i k)))

def r_call0_v0 (A : Args) (i0 : Fin 8192) (i1 : Fin 2816) : ℝ := -(A.x0 i0 i1)
theorem l_call0_v0 {A : Args} {X0 X1 X2 X3 X4 X5 X6 X7 X8 X9 X10 X11} (h : Holds A X0 X1 X2 X3 X4 X5 X6 X7 X8 X9 X10 X11) (i : S8192x2816.Idx) : val_main_call0_v0 (F := Ideal) X0 i = ((r_call0_v0 A (i 0) (i 1) : ℝ) : EReal) :=
  Cert.Lift.neg (h.x0 i)

def r_call0_v1 (A : Args) (i0 : Fin 8192) (i1 : Fin 2816) : ℝ := Real.exp (r_call0_v0 A i0 i1)
theorem l_call0_v1 {A : Args} {X0 X1 X2 X3 X4 X5 X6 X7 X8 X9 X10 X11} (h : Holds A X0 X1 X2 X3 X4 X5 X6 X7 X8 X9 X10 X11) (i : S8192x2816.Idx) : val_main_call0_v1 (F := Ideal) X0 i = ((r_call0_v1 A (i 0) (i 1) : ℝ) : EReal) :=
  Cert.Lift.exp (l_call0_v0 h i)

theorem lit_3F800000 : (Ideal.ofBits .f32 0x3F800000#32 : EReal) = (((1 : ℝ) : ℝ) : EReal) := by
  simp [Ideal.ofBits, Ideal.ieee, -EReal.coe_mul] <;> norm_num

def r_call0_cst (A : Args)  : ℝ := (1 : ℝ)
theorem l_call0_cst {A : Args} {X0 X1 X2 X3 X4 X5 X6 X7 X8 X9 X10 X11} (h : Holds A X0 X1 X2 X3 X4 X5 X6 X7 X8 X9 X10 X11) (i : S_.Idx) : val_main_call0_cst (F := Ideal) i = ((r_call0_cst A  : ℝ) : EReal) :=
  lit_3F800000

def r_call0_v2 (A : Args) (i0 : Fin 8192) (i1 : Fin 2816) : ℝ := r_call0_cst A
theorem l_call0_v2 {A : Args} {X0 X1 X2 X3 X4 X5 X6 X7 X8 X9 X10 X11} (h : Holds A X0 X1 X2 X3 X4 X5 X6 X7 X8 X9 X10 X11) (i : S8192x2816.Idx) : val_main_call0_v2 (F := Ideal) i = ((r_call0_v2 A (i 0) (i 1) : ℝ) : EReal) :=
  (val_main_call0_v2_apply i).trans (l_call0_cst h (idx_main_call0_v2 i))

def r_call0_v3 (A : Args) (i0 : Fin 8192) (i1 : Fin 2816) : ℝ := r_call0_v2 A i0 i1 + r_call0_v1 A i0 i1
theorem l_call0_v3 {A : Args} {X0 X1 X2 X3 X4 X5 X6 X7 X8 X9 X10 X11} (h : Holds A X0 X1 X2 X3 X4 X5 X6 X7 X8 X9 X10 X11) (i : S8192x2816.Idx) : val_main_call0_v3 (F := Ideal) X0 i = ((r_call0_v3 A (i 0) (i 1) : ℝ) : EReal) :=
  Cert.Lift.add (l_call0_v2 h i) (l_call0_v1 h i)

def r_call0_cst_0 (A : Args)  : ℝ := (1 : ℝ)
theorem l_call0_cst_0 {A : Args} {X0 X1 X2 X3 X4 X5 X6 X7 X8 X9 X10 X11} (h : Holds A X0 X1 X2 X3 X4 X5 X6 X7 X8 X9 X10 X11) (i : S_.Idx) : val_main_call0_cst_0 (F := Ideal) i = ((r_call0_cst_0 A  : ℝ) : EReal) :=
  lit_3F800000

def r_call0_v4 (A : Args) (i0 : Fin 8192) (i1 : Fin 2816) : ℝ := r_call0_cst_0 A
theorem l_call0_v4 {A : Args} {X0 X1 X2 X3 X4 X5 X6 X7 X8 X9 X10 X11} (h : Holds A X0 X1 X2 X3 X4 X5 X6 X7 X8 X9 X10 X11) (i : S8192x2816.Idx) : val_main_call0_v4 (F := Ideal) i = ((r_call0_v4 A (i 0) (i 1) : ℝ) : EReal) :=
  (val_main_call0_v4_apply i).trans (l_call0_cst_0 h (idx_main_call0_v4 i))

theorem nz_call0_v3 (A : Args) (i0 : Fin 8192) (i1 : Fin 2816) : r_call0_v3 A i0 i1 ≠ 0 := by
  have := Real.exp_pos (-(A.x0 i0 i1)); show (1 : ℝ) + Real.exp (-(A.x0 i0 i1)) ≠ 0; positivity

def r_v7_2 (A : Args) (i0 : Fin 8192) (i1 : Fin 2816) : ℝ := r_call0_v4 A i0 i1 / r_call0_v3 A i0 i1
theorem l_v7_2 {A : Args} {X0 X1 X2 X3 X4 X5 X6 X7 X8 X9 X10 X11} (h : Holds A X0 X1 X2 X3 X4 X5 X6 X7 X8 X9 X10 X11) (i : S8192x2816.Idx) : val_main_v7_2 (F := Ideal) X0 i = ((r_v7_2 A (i 0) (i 1) : ℝ) : EReal) :=
  Cert.Lift.div (nz_call0_v3 A (i 0) (i 1)) (l_call0_v4 h i) (l_call0_v3 h i)

def r_call0_cst_1 (A : Args)  : ℝ := (1 : ℝ)
theorem l_call0_cst_1 {A : Args} {X0 X1 X2 X3 X4 X5 X6 X7 X8 X9 X10 X11} (h : Holds A X0 X1 X2 X3 X4 X5 X6 X7 X8 X9 X10 X11) (i : S_.Idx) : val_main_call0_cst_1 (F := Ideal) i = ((r_call0_cst_1 A  : ℝ) : EReal) :=
  lit_3F800000

def r_call0_v6 (A : Args) (i0 : Fin 8192) (i1 : Fin 2816) : ℝ := r_call0_cst_1 A
theorem l_call0_v6 {A : Args} {X0 X1 X2 X3 X4 X5 X6 X7 X8 X9 X10 X11} (h : Holds A X0 X1 X2 X3 X4 X5 X6 X7 X8 X9 X10 X11) (i : S8192x2816.Idx) : val_main_call0_v6 (F := Ideal) i = ((r_call0_v6 A (i 0) (i 1) : ℝ) : EReal) :=
  (val_main_call0_v6_apply i).trans (l_call0_cst_1 h (idx_main_call0_v6 i))

def r_call0_v7 (A : Args) (i0 : Fin 8192) (i1 : Fin 2816) : ℝ := r_call0_v6 A i0 i1 - r_v7_2 A i0 i1
theorem l_call0_v7 {A : Args} {X0 X1 X2 X3 X4 X5 X6 X7 X8 X9 X10 X11} (h : Holds A X0 X1 X2 X3 X4 X5 X6 X7 X8 X9 X10 X11) (i : S8192x2816.Idx) : val_main_call0_v7 (F := Ideal) X0 i = ((r_call0_v7 A (i 0) (i 1) : ℝ) : EReal) :=
  Cert.Lift.sub (l_call0_v6 h i) (l_v7_2 h i)

def r_v7_1 (A : Args) (i0 : Fin 8192) (i1 : Fin 2816) : ℝ := r_v7_2 A i0 i1 * r_call0_v7 A i0 i1
theorem l_v7_1 {A : Args} {X0 X1 X2 X3 X4 X5 X6 X7 X8 X9 X10 X11} (h : Holds A X0 X1 X2 X3 X4 X5 X6 X7 X8 X9 X10 X11) (i : S8192x2816.Idx) : val_main_v7_1 (F := Ideal) X0 i = ((r_v7_1 A (i 0) (i 1) : ℝ) : EReal) :=
  Cert.Lift.mul (l_v7_2 h i) (l_call0_v7 h i)

def r_v7_0 (A : Args) (i0 : Fin 8192) (i1 : Fin 2816) : ℝ := A.x0 i0 i1 * r_v7_2 A i0 i1
theorem l_v7_0 {A : Args} {X0 X1 X2 X3 X4 X5 X6 X7 X8 X9 X10 X11} (h : Holds A X0 X1 X2 X3 X4 X5 X6 X7 X8 X9 X10 X11) (i : S8192x2816.Idx) : val_main_v7_0 (F := Ideal) X0 i = ((r_v7_0 A (i 0) (i 1) : ℝ) : EReal) :=
  Cert.Lift.mul (h.x0 i) (l_v7_2 h i)

def r_v9 (A : Args) (i0 : Fin 8192) (i1 : Fin 2816) : ℝ := r_v7_0 A i0 i1 * r_v6 A i0 i1
theorem l_v9 {A : Args} {X0 X1 X2 X3 X4 X5 X6 X7 X8 X9 X10 X11} (h : Holds A X0 X1 X2 X3 X4 X5 X6 X7 X8 X9 X10 X11) (i : S8192x2816.Idx) : val_main_v9 (F := Ideal) X0 X5 X6 X8 i = ((r_v9 A (i 0) (i 1) : ℝ) : EReal) :=
  Cert.Lift.mul (l_v7_0 h i) (l_v6 h i)

def r_v10 (A : Args) (i0 : Fin 8192) (i1 : Fin 2816) : ℝ := r_v6 A i0 i1 * A.x1 i0 i1
theorem l_v10 {A : Args} {X0 X1 X2 X3 X4 X5 X6 X7 X8 X9 X10 X11} (h : Holds A X0 X1 X2 X3 X4 X5 X6 X7 X8 X9 X10 X11) (i : S8192x2816.Idx) : val_main_v10 (F := Ideal) X1 X5 X6 X8 i = ((r_v10 A (i 0) (i 1) : ℝ) : EReal) :=
  Cert.Lift.mul (l_v6 h i) (h.x1 i)

def r_call1_v0 (A : Args) (i0 : Fin 8192) (i1 : Fin 2816) : ℝ := A.x0 i0 i1 * r_v10 A i0 i1
theorem l_call1_v0 {A : Args} {X0 X1 X2 X3 X4 X5 X6 X7 X8 X9 X10 X11} (h : Holds A X0 X1 X2 X3 X4 X5 X6 X7 X8 X9 X10 X11) (i : S8192x2816.Idx) : val_main_call1_v0 (F := Ideal) X0 X1 X5 X6 X8 i = ((r_call1_v0 A (i 0) (i 1) : ℝ) : EReal) :=
  Cert.Lift.mul (h.x0 i) (l_v10 h i)

def r_call1_v1 (A : Args) (i0 : Fin 8192) (i1 : Fin 2816) : ℝ := r_v10 A i0 i1 * r_v7_2 A i0 i1
theorem l_call1_v1 {A : Args} {X0 X1 X2 X3 X4 X5 X6 X7 X8 X9 X10 X11} (h : Holds A X0 X1 X2 X3 X4 X5 X6 X7 X8 X9 X10 X11) (i : S8192x2816.Idx) : val_main_call1_v1 (F := Ideal) X0 X1 X5 X6 X8 i = ((r_call1_v1 A (i 0) (i 1) : ℝ) : EReal) :=
  Cert.Lift.mul (l_v10 h i) (l_v7_2 h i)

def r_call1_v2 (A : Args) (i0 : Fin 8192) (i1 : Fin 2816) : ℝ := r_call1_v0 A i0 i1 * r_v7_1 A i0 i1
theorem l_call1_v2 {A : Args} {X0 X1 X2 X3 X4 X5 X6 X7 X8 X9 X10 X11} (h : Holds A X0 X1 X2 X3 X4 X5 X6 X7 X8 X9 X10 X11) (i : S8192x2816.Idx) : val_main_call1_v2 (F := Ideal) X0 X1 X5 X6 X8 i = ((r_call1_v2 A (i 0) (i 1) : ℝ) : EReal) :=
  Cert.Lift.mul (l_call1_v0 h i) (l_v7_1 h i)

def r_v11 (A : Args) (i0 : Fin 8192) (i1 : Fin 2816) : ℝ := r_call1_v1 A i0 i1 + r_call1_v2 A i0 i1
theorem l_v11 {A : Args} {X0 X1 X2 X3 X4 X5 X6 X7 X8 X9 X10 X11} (h : Holds A X0 X1 X2 X3 X4 X5 X6 X7 X8 X9 X10 X11) (i : S8192x2816.Idx) : val_main_v11 (F := Ideal) X0 X1 X5 X6 X8 i = ((r_v11 A (i 0) (i 1) : ℝ) : EReal) :=
  Cert.Lift.add (l_call1_v1 h i) (l_call1_v2 h i)

def r_v13 (A : Args) (i0 : Fin 8192) (i1 : Fin 5632) : ℝ := if h : i1.val < 2816 then r_v11 A i0 ⟨i1.val, h⟩ else r_v9 A i0 ⟨i1.val - 2816, by omega⟩

theorem l_v13 {A : Args} {X0 X1 X2 X3 X4 X5 X6 X7 X8 X9 X10 X11} (h : Holds A X0 X1 X2 X3 X4 X5 X6 X7 X8 X9 X10 X11) (i : S8192x5632.Idx) : val_main_v13 (F := Ideal) X0 X1 X5 X6 X8 i = ((r_v13 A (i 0) (i 1) : ℝ) : EReal) := by
  have hi : (i 1).val < 5632 := (i 1).isLt
  unfold val_main_v13 r_v13
  by_cases g : (i 1).val < 2816
  · rw [dif_pos g]
    exact (concatenate_pair_apply_left (t := S8192x5632) 1 (val_main_v11 (F := Ideal) X0 X1 X5 X6 X8) (val_main_v9 (F := Ideal) X0 X5 X6 X8) concatenates_S8192x2816_S8192x2816_S8192x5632_d1 i rfl (ValueIdx.ix2 (i 0) ⟨(i 1).val, g⟩) (fun b => match b with
      | ⟨0, _⟩ => rfl
      | ⟨1, _⟩ => rfl)).trans (l_v11 h _)
  · rw [dif_neg g]
    exact (concatenate_pair_apply_right (t := S8192x5632) 1 (val_main_v11 (F := Ideal) X0 X1 X5 X6 X8) (val_main_v9 (F := Ideal) X0 X5 X6 X8) concatenates_S8192x2816_S8192x2816_S8192x5632_d1 i rfl rfl (ValueIdx.ix2 (i 0) ⟨(i 1).val - 2816, by omega⟩) (fun b hb => match b with
      | ⟨0, _⟩ => rfl
      | ⟨1, _⟩ => absurd rfl hb) (by show (i 1).val - 2816 + 2816 = (i 1).val; omega)).trans (l_v9 h _)

def r_v14 (A : Args) (i0 : Fin 8192) (i1 : Fin 1024) : ℝ := ∑ k : Fin 5632, r_v13 A i0 k * A.x7 i1 k
theorem l_v14 {A : Args} {X0 X1 X2 X3 X4 X5 X6 X7 X8 X9 X10 X11} (h : Holds A X0 X1 X2 X3 X4 X5 X6 X7 X8 X9 X10 X11) (i : S8192x1024.Idx) : val_main_v14 (F := Ideal) X0 X1 X5 X6 X7 X8 i = ((r_v14 A (i 0) (i 1) : ℝ) : EReal) :=
  (val_main_v14_apply X0 X1 X5 X6 X7 X8 i).trans (Cert.Lift.dot (fun k => l_v13 h (lidx_main_v14 i k)) (fun k => h.x7 (ridx_main_v14 i k)))

def r_v15 (A : Args) (i0 : Fin 1024) : ℝ := A.x9 0 i0
theorem l_v15 {A : Args} {X0 X1 X2 X3 X4 X5 X6 X7 X8 X9 X10 X11} (h : Holds A X0 X1 X2 X3 X4 X5 X6 X7 X8 X9 X10 X11) (i : S1024.Idx) : val_main_v15 (F := Ideal) X9 i = ((r_v15 A (i 0) : ℝ) : EReal) :=
  (val_main_v15_apply X9 i).trans ((h.x9 (idx_main_v15 i)).trans (congrArg Real.toEReal (congr (congr ((rfl : A.x9 = _)) (rfl : ((idx_main_v15 i) 0 : Fin 1) = _)) (Fin.ext (by have h0 : (i 0).val < 1024 := (i 0).isLt; show ((i 0).val) % 1024 = (i 0).val; omega) : ((idx_main_v15 i) 1 : Fin 1024) = (i 0 : Fin 1024)))))

def r_cst_0 (A : Args)  : ℝ := (1 : ℝ)
theorem l_cst_0 {A : Args} {X0 X1 X2 X3 X4 X5 X6 X7 X8 X9 X10 X11} (h : Holds A X0 X1 X2 X3 X4 X5 X6 X7 X8 X9 X10 X11) (i : S_.Idx) : val_main_cst_0 (F := Ideal) i = ((r_cst_0 A  : ℝ) : EReal) :=
  lit_3F800000

def r_v17 (A : Args) (i0 : Fin 1024) : ℝ := r_cst_0 A
theorem l_v17 {A : Args} {X0 X1 X2 X3 X4 X5 X6 X7 X8 X9 X10 X11} (h : Holds A X0 X1 X2 X3 X4 X5 X6 X7 X8 X9 X10 X11) (i : S1024.Idx) : val_main_v17 (F := Ideal) i = ((r_v17 A (i 0) : ℝ) : EReal) :=
  (val_main_v17_apply i).trans (l_cst_0 h (idx_main_v17 i))

def r_v18 (A : Args) (i0 : Fin 1024) : ℝ := r_v17 A i0 + r_v15 A i0
theorem l_v18 {A : Args} {X0 X1 X2 X3 X4 X5 X6 X7 X8 X9 X10 X11} (h : Holds A X0 X1 X2 X3 X4 X5 X6 X7 X8 X9 X10 X11) (i : S1024.Idx) : val_main_v18 (F := Ideal) X9 i = ((r_v18 A (i 0) : ℝ) : EReal) :=
  Cert.Lift.add (l_v17 h i) (l_v15 h i)

def r_v19 (A : Args) (i0 : Fin 1) (i1 : Fin 1024) : ℝ := r_v18 A i1
theorem l_v19 {A : Args} {X0 X1 X2 X3 X4 X5 X6 X7 X8 X9 X10 X11} (h : Holds A X0 X1 X2 X3 X4 X5 X6 X7 X8 X9 X10 X11) (i : S1x1024.Idx) : val_main_v19 (F := Ideal) X9 i = ((r_v19 A (i 0) (i 1) : ℝ) : EReal) :=
  (val_main_v19_apply X9 i).trans (l_v18 h (idx_main_v19 i))

theorem lit_00000000 : (Ideal.ofBits .f32 0x00000000#32 : EReal) = (((0 : ℝ) : ℝ) : EReal) := by
  simp [Ideal.ofBits, Ideal.ieee, -EReal.coe_mul] <;> norm_num

def r_cst_1 (A : Args)  : ℝ := (0 : ℝ)
theorem l_cst_1 {A : Args} {X0 X1 X2 X3 X4 X5 X6 X7 X8 X9 X10 X11} (h : Holds A X0 X1 X2 X3 X4 X5 X6 X7 X8 X9 X10 X11) (i : S_.Idx) : val_main_cst_1 (F := Ideal) i = ((r_cst_1 A  : ℝ) : EReal) :=
  lit_00000000

def r_v25 (A : Args) (i0 : Fin 1024) : ℝ := r_cst_1 A + ∑ k : Fin 8192, r_v14 A k i0
theorem l_v25 {A : Args} {X0 X1 X2 X3 X4 X5 X6 X7 X8 X9 X10 X11} (h : Holds A X0 X1 X2 X3 X4 X5 X6 X7 X8 X9 X10 X11) (i : S1024.Idx) : val_main_v25 (F := Ideal) X0 X1 X5 X6 X7 X8 i = ((r_v25 A (i 0) : ℝ) : EReal) :=
  (val_main_v25_apply X0 X1 X5 X6 X7 X8 i).trans (Cert.Lift.add (l_cst_1 h (Shape.Idx.first h_S_)) (Cert.Lift.sum fun k => l_v14 h (idx_main_v25 i k)))

def r_v26 (A : Args) (i0 : Fin 1) (i1 : Fin 1024) : ℝ := r_v25 A i1
theorem l_v26 {A : Args} {X0 X1 X2 X3 X4 X5 X6 X7 X8 X9 X10 X11} (h : Holds A X0 X1 X2 X3 X4 X5 X6 X7 X8 X9 X10 X11) (i : S1x1024.Idx) : val_main_v26 (F := Ideal) X0 X1 X5 X6 X7 X8 i = ((r_v26 A (i 0) (i 1) : ℝ) : EReal) :=
  (val_main_v26_apply X0 X1 X5 X6 X7 X8 i).trans ((l_v25 h (idx_main_v26 i)).trans (congrArg Real.toEReal (congr ((rfl : r_v25 A = _)) (Fin.ext (by have h0 : (i 0).val < 1 := (i 0).isLt; have h1 : (i 1).val < 1024 := (i 1).isLt; show (i 0).val * 1024 + (i 1).val = (i 1).val; omega) : ((idx_main_v26 i) 0 : Fin 1024) = (i 1 : Fin 1024)))))

def r_cst_2 (A : Args)  : ℝ := (0 : ℝ)
theorem l_cst_2 {A : Args} {X0 X1 X2 X3 X4 X5 X6 X7 X8 X9 X10 X11} (h : Holds A X0 X1 X2 X3 X4 X5 X6 X7 X8 X9 X10 X11) (i : S_.Idx) : val_main_cst_2 (F := Ideal) i = ((r_cst_2 A  : ℝ) : EReal) :=
  lit_00000000

def r_v27 (A : Args) (i0 : Fin 1024) : ℝ := r_cst_2 A + ∑ k : Fin 1, r_v26 A 0 i0
theorem l_v27 {A : Args} {X0 X1 X2 X3 X4 X5 X6 X7 X8 X9 X10 X11} (h : Holds A X0 X1 X2 X3 X4 X5 X6 X7 X8 X9 X10 X11) (i : S1024.Idx) : val_main_v27 (F := Ideal) X0 X1 X5 X6 X7 X8 i = ((r_v27 A (i 0) : ℝ) : EReal) :=
  (val_main_v27_apply X0 X1 X5 X6 X7 X8 i).trans (Cert.Lift.add (l_cst_2 h (Shape.Idx.first h_S_)) (Cert.Lift.sum fun k => l_v26 h (idx_main_v27 i k)))

def r_v28 (A : Args) (i0 : Fin 8192) (i1 : Fin 1024) : ℝ := A.x2 i0 i1 * r_v14 A i0 i1
theorem l_v28 {A : Args} {X0 X1 X2 X3 X4 X5 X6 X7 X8 X9 X10 X11} (h : Holds A X0 X1 X2 X3 X4 X5 X6 X7 X8 X9 X10 X11) (i : S8192x1024.Idx) : val_main_v28 (F := Ideal) X0 X1 X2 X5 X6 X7 X8 i = ((r_v28 A (i 0) (i 1) : ℝ) : EReal) :=
  Cert.Lift.mul (h.x2 i) (l_v14 h i)

def r_cst_3 (A : Args)  : ℝ := (0 : ℝ)
theorem l_cst_3 {A : Args} {X0 X1 X2 X3 X4 X5 X6 X7 X8 X9 X10 X11} (h : Holds A X0 X1 X2 X3 X4 X5 X6 X7 X8 X9 X10 X11) (i : S_.Idx) : val_main_cst_3 (F := Ideal) i = ((r_cst_3 A  : ℝ) : EReal) :=
  lit_00000000

def r_v29 (A : Args) (i0 : Fin 1024) : ℝ := r_cst_3 A + ∑ k : Fin 8192, r_v28 A k i0
theorem l_v29 {A : Args} {X0 X1 X2 X3 X4 X5 X6 X7 X8 X9 X10 X11} (h : Holds A X0 X1 X2 X3 X4 X5 X6 X7 X8 X9 X10 X11) (i : S1024.Idx) : val_main_v29 (F := Ideal) X0 X1 X2 X5 X6 X7 X8 i = ((r_v29 A (i 0) : ℝ) : EReal) :=
  (val_main_v29_apply X0 X1 X2 X5 X6 X7 X8 i).trans (Cert.Lift.add (l_cst_3 h (Shape.Idx.first h_S_)) (Cert.Lift.sum fun k => l_v28 h (idx_main_v29 i k)))

def r_v30 (A : Args) (i0 : Fin 1) (i1 : Fin 1024) : ℝ := r_v29 A i1
theorem l_v30 {A : Args} {X0 X1 X2 X3 X4 X5 X6 X7 X8 X9 X10 X11} (h : Holds A X0 X1 X2 X3 X4 X5 X6 X7 X8 X9 X10 X11) (i : S1x1024.Idx) : val_main_v30 (F := Ideal) X0 X1 X2 X5 X6 X7 X8 i = ((r_v30 A (i 0) (i 1) : ℝ) : EReal) :=
  (val_main_v30_apply X0 X1 X2 X5 X6 X7 X8 i).trans ((l_v29 h (idx_main_v30 i)).trans (congrArg Real.toEReal (congr ((rfl : r_v29 A = _)) (Fin.ext (by have h0 : (i 0).val < 1 := (i 0).isLt; have h1 : (i 1).val < 1024 := (i 1).isLt; show (i 0).val * 1024 + (i 1).val = (i 1).val; omega) : ((idx_main_v30 i) 0 : Fin 1024) = (i 1 : Fin 1024)))))

def r_v31 (A : Args) (i0 : Fin 8192) (i1 : Fin 1024) : ℝ := r_v19 A 0 i1
theorem l_v31 {A : Args} {X0 X1 X2 X3 X4 X5 X6 X7 X8 X9 X10 X11} (h : Holds A X0 X1 X2 X3 X4 X5 X6 X7 X8 X9 X10 X11) (i : S8192x1024.Idx) : val_main_v31 (F := Ideal) X9 i = ((r_v31 A (i 0) (i 1) : ℝ) : EReal) :=
  (val_main_v31_apply X9 i).trans (l_v19 h (idx_main_v31 i))

def r_v32 (A : Args) (i0 : Fin 8192) (i1 : Fin 1024) : ℝ := r_v14 A i0 i1 * r_v31 A i0 i1
theorem l_v32 {A : Args} {X0 X1 X2 X3 X4 X5 X6 X7 X8 X9 X10 X11} (h : Holds A X0 X1 X2 X3 X4 X5 X6 X7 X8 X9 X10 X11) (i : S8192x1024.Idx) : val_main_v32 (F := Ideal) X0 X1 X5 X6 X7 X8 X9 i = ((r_v32 A (i 0) (i 1) : ℝ) : EReal) :=
  Cert.Lift.mul (l_v14 h i) (l_v31 h i)

def r_cst_4 (A : Args)  : ℝ := (0 : ℝ)
theorem l_cst_4 {A : Args} {X0 X1 X2 X3 X4 X5 X6 X7 X8 X9 X10 X11} (h : Holds A X0 X1 X2 X3 X4 X5 X6 X7 X8 X9 X10 X11) (i : S_.Idx) : val_main_cst_4 (F := Ideal) i = ((r_cst_4 A  : ℝ) : EReal) :=
  lit_00000000

def r_v33 (A : Args) (i0 : Fin 1024) : ℝ := r_cst_4 A + ∑ k : Fin 1, r_v30 A 0 i0
theorem l_v33 {A : Args} {X0 X1 X2 X3 X4 X5 X6 X7 X8 X9 X10 X11} (h : Holds A X0 X1 X2 X3 X4 X5 X6 X7 X8 X9 X10 X11) (i : S1024.Idx) : val_main_v33 (F := Ideal) X0 X1 X2 X5 X6 X7 X8 i = ((r_v33 A (i 0) : ℝ) : EReal) :=
  (val_main_v33_apply X0 X1 X2 X5 X6 X7 X8 i).trans (Cert.Lift.add (l_cst_4 h (Shape.Idx.first h_S_)) (Cert.Lift.sum fun k => l_v30 h (idx_main_v33 i k)))

theorem lit_3F9837F0 : (Ideal.ofBits .f32 0x3F9837F0#32 : EReal) = (((623487 / 524288 : ℝ) : ℝ) : EReal) := by
  simp [Ideal.ofBits, Ideal.ieee, -EReal.coe_mul] <;> norm_num

def r_cst_5 (A : Args)  : ℝ := (623487 / 524288 : ℝ)
theorem l_cst_5 {A : Args} {X0 X1 X2 X3 X4 X5 X6 X7 X8 X9 X10 X11} (h : Holds A X0 X1 X2 X3 X4 X5 X6 X7 X8 X9 X10 X11) (i : S_.Idx) : val_main_cst_5 (F := Ideal) i = ((r_cst_5 A  : ℝ) : EReal) :=
  lit_3F9837F0

def r_v34 (A : Args) (i0 : Fin 8192) (i1 : Fin 1024) : ℝ := r_cst_5 A
theorem l_v34 {A : Args} {X0 X1 X2 X3 X4 X5 X6 X7 X8 X9 X10 X11} (h : Holds A X0 X1 X2 X3 X4 X5 X6 X7 X8 X9 X10 X11) (i : S8192x1024.Idx) : val_main_v34 (F := Ideal) i = ((r_v34 A (i 0) (i 1) : ℝ) : EReal) :=
  (val_main_v34_apply i).trans (l_cst_5 h (idx_main_v34 i))

def r_v35 (A : Args) (i0 : Fin 8192) (i1 : Fin 1024) : ℝ := r_v34 A i0 i1 * A.x3 i0 i1
theorem l_v35 {A : Args} {X0 X1 X2 X3 X4 X5 X6 X7 X8 X9 X10 X11} (h : Holds A X0 X1 X2 X3 X4 X5 X6 X7 X8 X9 X10 X11) (i : S8192x1024.Idx) : val_main_v35 (F := Ideal) X3 i = ((r_v35 A (i 0) (i 1) : ℝ) : EReal) :=
  Cert.Lift.mul (l_v34 h i) (h.x3 i)

def r_v36 (A : Args) (i0 : Fin 8192) (i1 : Fin 1024) : ℝ := A.x10 0 i1
theorem l_v36 {A : Args} {X0 X1 X2 X3 X4 X5 X6 X7 X8 X9 X10 X11} (h : Holds A X0 X1 X2 X3 X4 X5 X6 X7 X8 X9 X10 X11) (i : S8192x1024.Idx) : val_main_v36 (F := Ideal) X10 i = ((r_v36 A (i 0) (i 1) : ℝ) : EReal) :=
  (val_main_v36_apply X10 i).trans (h.x10 (idx_main_v36 i))

def r_v37 (A : Args) (i0 : Fin 8192) (i1 : Fin 1024) : ℝ := r_v36 A i0 i1 * A.x4 i0 i1
theorem l_v37 {A : Args} {X0 X1 X2 X3 X4 X5 X6 X7 X8 X9 X10 X11} (h : Holds A X0 X1 X2 X3 X4 X5 X6 X7 X8 X9 X10 X11) (i : S8192x1024.Idx) : val_main_v37 (F := Ideal) X4 X10 i = ((r_v37 A (i 0) (i 1) : ℝ) : EReal) :=
  Cert.Lift.mul (l_v36 h i) (h.x4 i)

def r_v38 (A : Args) (i0 : Fin 8192) (i1 : Fin 1024) : ℝ := r_v35 A i0 i1 + r_v37 A i0 i1
theorem l_v38 {A : Args} {X0 X1 X2 X3 X4 X5 X6 X7 X8 X9 X10 X11} (h : Holds A X0 X1 X2 X3 X4 X5 X6 X7 X8 X9 X10 X11) (i : S8192x1024.Idx) : val_main_v38 (F := Ideal) X3 X4 X10 i = ((r_v38 A (i 0) (i 1) : ℝ) : EReal) :=
  Cert.Lift.add (l_v35 h i) (l_v37 h i)

def r_v39 (A : Args) (i0 : Fin 1024) : ℝ := A.x11 0 i0
theorem l_v39 {A : Args} {X0 X1 X2 X3 X4 X5 X6 X7 X8 X9 X10 X11} (h : Holds A X0 X1 X2 X3 X4 X5 X6 X7 X8 X9 X10 X11) (i : S1024.Idx) : val_main_v39 (F := Ideal) X11 i = ((r_v39 A (i 0) : ℝ) : EReal) :=
  (val_main_v39_apply X11 i).trans ((h.x11 (idx_main_v39 i)).trans (congrArg Real.toEReal (congr (congr ((rfl : A.x11 = _)) (rfl : ((idx_main_v39 i) 0 : Fin 1) = _)) (Fin.ext (by have h0 : (i 0).val < 1024 := (i 0).isLt; show ((i 0).val) % 1024 = (i 0).val; omega) : ((idx_main_v39 i) 1 : Fin 1024) = (i 0 : Fin 1024)))))

def r_cst_6 (A : Args)  : ℝ := (0 : ℝ)
theorem l_cst_6 {A : Args} {X0 X1 X2 X3 X4 X5 X6 X7 X8 X9 X10 X11} (h : Holds A X0 X1 X2 X3 X4 X5 X6 X7 X8 X9 X10 X11) (i : S_.Idx) : val_main_cst_6 (F := Ideal) i = ((r_cst_6 A  : ℝ) : EReal) :=
  lit_00000000

def r_v41 (A : Args) (i0 : Fin 8192) : ℝ := r_cst_6 A + ∑ k : Fin 1024, r_v38 A i0 k
theorem l_v41 {A : Args} {X0 X1 X2 X3 X4 X5 X6 X7 X8 X9 X10 X11} (h : Holds A X0 X1 X2 X3 X4 X5 X6 X7 X8 X9 X10 X11) (i : S8192.Idx) : val_main_v41 (F := Ideal) X3 X4 X10 i = ((r_v41 A (i 0) : ℝ) : EReal) :=
  (val_main_v41_apply X3 X4 X10 i).trans (Cert.Lift.add (l_cst_6 h (Shape.Idx.first h_S_)) (Cert.Lift.sum fun k => l_v38 h (idx_main_v41 i k)))

def r_v42 (A : Args) (i0 : Fin 8192) (i1 : Fin 1) : ℝ := r_v41 A i0
theorem l_v42 {A : Args} {X0 X1 X2 X3 X4 X5 X6 X7 X8 X9 X10 X11} (h : Holds A X0 X1 X2 X3 X4 X5 X6 X7 X8 X9 X10 X11) (i : S8192x1.Idx) : val_main_v42 (F := Ideal) X3 X4 X10 i = ((r_v42 A (i 0) (i 1) : ℝ) : EReal) :=
  (val_main_v42_apply X3 X4 X10 i).trans (l_v41 h (idx_main_v42 i))

theorem lit_44800000 : (Ideal.ofBits .f32 0x44800000#32 : EReal) = (((1024 : ℝ) : ℝ) : EReal) := by
  simp [Ideal.ofBits, Ideal.ieee, -EReal.coe_mul] <;> norm_num

def r_cst_7 (A : Args)  : ℝ := (1024 : ℝ)
theorem l_cst_7 {A : Args} {X0 X1 X2 X3 X4 X5 X6 X7 X8 X9 X10 X11} (h : Holds A X0 X1 X2 X3 X4 X5 X6 X7 X8 X9 X10 X11) (i : S_.Idx) : val_main_cst_7 (F := Ideal) i = ((r_cst_7 A  : ℝ) : EReal) :=
  lit_44800000

def r_v43 (A : Args) (i0 : Fin 8192) (i1 : Fin 1) : ℝ := r_cst_7 A
theorem l_v43 {A : Args} {X0 X1 X2 X3 X4 X5 X6 X7 X8 X9 X10 X11} (h : Holds A X0 X1 X2 X3 X4 X5 X6 X7 X8 X9 X10 X11) (i : S8192x1.Idx) : val_main_v43 (F := Ideal) i = ((r_v43 A (i 0) (i 1) : ℝ) : EReal) :=
  (val_main_v43_apply i).trans (l_cst_7 h (idx_main_v43 i))

theorem nz_v43 (A : Args) (i0 : Fin 8192) (i1 : Fin 1) : r_v43 A i0 i1 ≠ 0 := by rw [show r_v43 A i0 i1 = 1024 from rfl]; norm_num

def r_v44 (A : Args) (i0 : Fin 8192) (i1 : Fin 1) : ℝ := r_v42 A i0 i1 / r_v43 A i0 i1
theorem l_v44 {A : Args} {X0 X1 X2 X3 X4 X5 X6 X7 X8 X9 X10 X11} (h : Holds A X0 X1 X2 X3 X4 X5 X6 X7 X8 X9 X10 X11) (i : S8192x1.Idx) : val_main_v44 (F := Ideal) X3 X4 X10 i = ((r_v44 A (i 0) (i 1) : ℝ) : EReal) :=
  Cert.Lift.div (nz_v43 A (i 0) (i 1)) (l_v42 h i) (l_v43 h i)

def r_v45 (A : Args) (i0 : Fin 8192) (i1 : Fin 1024) : ℝ := r_v44 A i0 0
theorem l_v45 {A : Args} {X0 X1 X2 X3 X4 X5 X6 X7 X8 X9 X10 X11} (h : Holds A X0 X1 X2 X3 X4 X5 X6 X7 X8 X9 X10 X11) (i : S8192x1024.Idx) : val_main_v45 (F := Ideal) X3 X4 X10 i = ((r_v45 A (i 0) (i 1) : ℝ) : EReal) :=
  (val_main_v45_apply X3 X4 X10 i).trans (l_v44 h (idx_main_v45 i))

def r_v46 (A : Args) (i0 : Fin 8192) (i1 : Fin 1024) : ℝ := r_v38 A i0 i1 - r_v45 A i0 i1
theorem l_v46 {A : Args} {X0 X1 X2 X3 X4 X5 X6 X7 X8 X9 X10 X11} (h : Holds A X0 X1 X2 X3 X4 X5 X6 X7 X8 X9 X10 X11) (i : S8192x1024.Idx) : val_main_v46 (F := Ideal) X3 X4 X10 i = ((r_v46 A (i 0) (i 1) : ℝ) : EReal) :=
  Cert.Lift.sub (l_v38 h i) (l_v45 h i)

def r_v47 (A : Args) (i0 : Fin 8192) (i1 : Fin 1024) : ℝ := r_v46 A i0 i1 * r_v46 A i0 i1
theorem l_v47 {A : Args} {X0 X1 X2 X3 X4 X5 X6 X7 X8 X9 X10 X11} (h : Holds A X0 X1 X2 X3 X4 X5 X6 X7 X8 X9 X10 X11) (i : S8192x1024.Idx) : val_main_v47 (F := Ideal) X3 X4 X10 i = ((r_v47 A (i 0) (i 1) : ℝ) : EReal) :=
  Cert.Lift.mul (l_v46 h i) (l_v46 h i)

theorem lit_40000000 : (Ideal.ofBits .f32 0x40000000#32 : EReal) = (((2 : ℝ) : ℝ) : EReal) := by
  simp [Ideal.ofBits, Ideal.ieee, -EReal.coe_mul] <;> norm_num

def r_cst_8 (A : Args)  : ℝ := (2 : ℝ)
theorem l_cst_8 {A : Args} {X0 X1 X2 X3 X4 X5 X6 X7 X8 X9 X10 X11} (h : Holds A X0 X1 X2 X3 X4 X5 X6 X7 X8 X9 X10 X11) (i : S_.Idx) : val_main_cst_8 (F := Ideal) i = ((r_cst_8 A  : ℝ) : EReal) :=
  lit_40000000

def r_v48 (A : Args) (i0 : Fin 8192) (i1 : Fin 1024) : ℝ := r_cst_8 A
theorem l_v48 {A : Args} {X0 X1 X2 X3 X4 X5 X6 X7 X8 X9 X10 X11} (h : Holds A X0 X1 X2 X3 X4 X5 X6 X7 X8 X9 X10 X11) (i : S8192x1024.Idx) : val_main_v48 (F := Ideal) i = ((r_v48 A (i 0) (i 1) : ℝ) : EReal) :=
  (val_main_v48_apply i).trans (l_cst_8 h (idx_main_v48 i))

def r_v49 (A : Args) (i0 : Fin 8192) (i1 : Fin 1024) : ℝ := r_v48 A i0 i1 * r_v46 A i0 i1
theorem l_v49 {A : Args} {X0 X1 X2 X3 X4 X5 X6 X7 X8 X9 X10 X11} (h : Holds A X0 X1 X2 X3 X4 X5 X6 X7 X8 X9 X10 X11) (i : S8192x1024.Idx) : val_main_v49 (F := Ideal) X3 X4 X10 i = ((r_v49 A (i 0) (i 1) : ℝ) : EReal) :=
  Cert.Lift.mul (l_v48 h i) (l_v46 h i)

def r_cst_9 (A : Args)  : ℝ := (0 : ℝ)
theorem l_cst_9 {A : Args} {X0 X1 X2 X3 X4 X5 X6 X7 X8 X9 X10 X11} (h : Holds A X0 X1 X2 X3 X4 X5 X6 X7 X8 X9 X10 X11) (i : S_.Idx) : val_main_cst_9 (F := Ideal) i = ((r_cst_9 A  : ℝ) : EReal) :=
  lit_00000000

def r_v50 (A : Args) (i0 : Fin 8192) : ℝ := r_cst_9 A + ∑ k : Fin 1024, r_v47 A i0 k
theorem l_v50 {A : Args} {X0 X1 X2 X3 X4 X5 X6 X7 X8 X9 X10 X11} (h : Holds A X0 X1 X2 X3 X4 X5 X6 X7 X8 X9 X10 X11) (i : S8192.Idx) : val_main_v50 (F := Ideal) X3 X4 X10 i = ((r_v50 A (i 0) : ℝ) : EReal) :=
  (val_main_v50_apply X3 X4 X10 i).trans (Cert.Lift.add (l_cst_9 h (Shape.Idx.first h_S_)) (Cert.Lift.sum fun k => l_v47 h (idx_main_v50 i k)))

def r_v51 (A : Args) (i0 : Fin 8192) (i1 : Fin 1) : ℝ := r_v50 A i0
theorem l_v51 {A : Args} {X0 X1 X2 X3 X4 X5 X6 X7 X8 X9 X10 X11} (h : Holds A X0 X1 X2 X3 X4 X5 X6 X7 X8 X9 X10 X11) (i : S8192x1.Idx) : val_main_v51 (F := Ideal) X3 X4 X10 i = ((r_v51 A (i 0) (i 1) : ℝ) : EReal) :=
  (val_main_v51_apply X3 X4 X10 i).trans (l_v50 h (idx_main_v51 i))

def r_cst_10 (A : Args)  : ℝ := (1024 : ℝ)
theorem l_cst_10 {A : Args} {X0 X1 X2 X3 X4 X5 X6 X7 X8 X9 X10 X11} (h : Holds A X0 X1 X2 X3 X4 X5 X6 X7 X8 X9 X10 X11) (i : S_.Idx) : val_main_cst_10 (F := Ideal) i = ((r_cst_10 A  : ℝ) : EReal) :=
  lit_44800000

def r_v52 (A : Args) (i0 : Fin 8192) (i1 : Fin 1) : ℝ := r_cst_10 A
theorem l_v52 {A : Args} {X0 X1 X2 X3 X4 X5 X6 X7 X8 X9 X10 X11} (h : Holds A X0 X1 X2 X3 X4 X5 X6 X7 X8 X9 X10 X11) (i : S8192x1.Idx) : val_main_v52 (F := Ideal) i = ((r_v52 A (i 0) (i 1) : ℝ) : EReal) :=
  (val_main_v52_apply i).trans (l_cst_10 h (idx_main_v52 i))

theorem nz_v52 (A : Args) (i0 : Fin 8192) (i1 : Fin 1) : r_v52 A i0 i1 ≠ 0 := by rw [show r_v52 A i0 i1 = 1024 from rfl]; norm_num

def r_v53 (A : Args) (i0 : Fin 8192) (i1 : Fin 1) : ℝ := r_v51 A i0 i1 / r_v52 A i0 i1
theorem l_v53 {A : Args} {X0 X1 X2 X3 X4 X5 X6 X7 X8 X9 X10 X11} (h : Holds A X0 X1 X2 X3 X4 X5 X6 X7 X8 X9 X10 X11) (i : S8192x1.Idx) : val_main_v53 (F := Ideal) X3 X4 X10 i = ((r_v53 A (i 0) (i 1) : ℝ) : EReal) :=
  Cert.Lift.div (nz_v52 A (i 0) (i 1)) (l_v51 h i) (l_v52 h i)

def r_v54 (A : Args) (i0 : Fin 8192) (i1 : Fin 1024) : ℝ := r_v44 A i0 0
theorem l_v54 {A : Args} {X0 X1 X2 X3 X4 X5 X6 X7 X8 X9 X10 X11} (h : Holds A X0 X1 X2 X3 X4 X5 X6 X7 X8 X9 X10 X11) (i : S8192x1024.Idx) : val_main_v54 (F := Ideal) X3 X4 X10 i = ((r_v54 A (i 0) (i 1) : ℝ) : EReal) :=
  (val_main_v54_apply X3 X4 X10 i).trans (l_v44 h (idx_main_v54 i))

def r_v55 (A : Args) (i0 : Fin 8192) (i1 : Fin 1024) : ℝ := r_v38 A i0 i1 - r_v54 A i0 i1
theorem l_v55 {A : Args} {X0 X1 X2 X3 X4 X5 X6 X7 X8 X9 X10 X11} (h : Holds A X0 X1 X2 X3 X4 X5 X6 X7 X8 X9 X10 X11) (i : S8192x1024.Idx) : val_main_v55 (F := Ideal) X3 X4 X10 i = ((r_v55 A (i 0) (i 1) : ℝ) : EReal) :=
  Cert.Lift.sub (l_v38 h i) (l_v54 h i)

theorem lit_3727C5AC : (Ideal.ofBits .f32 0x3727C5AC#32 : EReal) = (((2748779 / 274877906944 : ℝ) : ℝ) : EReal) := by
  simp [Ideal.ofBits, Ideal.ieee, -EReal.coe_mul] <;> norm_num

def r_cst_11 (A : Args)  : ℝ := (2748779 / 274877906944 : ℝ)
theorem l_cst_11 {A : Args} {X0 X1 X2 X3 X4 X5 X6 X7 X8 X9 X10 X11} (h : Holds A X0 X1 X2 X3 X4 X5 X6 X7 X8 X9 X10 X11) (i : S_.Idx) : val_main_cst_11 (F := Ideal) i = ((r_cst_11 A  : ℝ) : EReal) :=
  lit_3727C5AC

def r_v56 (A : Args) (i0 : Fin 8192) (i1 : Fin 1) : ℝ := r_cst_11 A
theorem l_v56 {A : Args} {X0 X1 X2 X3 X4 X5 X6 X7 X8 X9 X10 X11} (h : Holds A X0 X1 X2 X3 X4 X5 X6 X7 X8 X9 X10 X11) (i : S8192x1.Idx) : val_main_v56 (F := Ideal) i = ((r_v56 A (i 0) (i 1) : ℝ) : EReal) :=
  (val_main_v56_apply i).trans (l_cst_11 h (idx_main_v56 i))

def r_v57 (A : Args) (i0 : Fin 8192) (i1 : Fin 1) : ℝ := r_v53 A i0 i1 + r_v56 A i0 i1
theorem l_v57 {A : Args} {X0 X1 X2 X3 X4 X5 X6 X7 X8 X9 X10 X11} (h : Holds A X0 X1 X2 X3 X4 X5 X6 X7 X8 X9 X10 X11) (i : S8192x1.Idx) : val_main_v57 (F := Ideal) X3 X4 X10 i = ((r_v57 A (i 0) (i 1) : ℝ) : EReal) :=
  Cert.Lift.add (l_v53 h i) (l_v56 h i)

theorem pos_v57 (A : Args) (i0 : Fin 8192) (i1 : Fin 1) : 0 < r_v57 A i0 i1 := by
  have h : 0 ≤ r_v53 A i0 i1 := by
    show (0 : ℝ) ≤ ((0 : ℝ) + ∑ k : Fin 1024, r_v46 A i0 k * r_v46 A i0 k) / (1024 : ℝ)
    exact div_nonneg (add_nonneg le_rfl (Finset.sum_nonneg fun k _ => mul_self_nonneg _)) (by norm_num)
  have h2 : (0 : ℝ) < r_v56 A i0 i1 := by
    rw [show r_v56 A i0 i1 = 2748779 / 274877906944 from rfl]; norm_num
  exact add_pos_of_nonneg_of_pos h h2

def r_v58 (A : Args) (i0 : Fin 8192) (i1 : Fin 1) : ℝ := (Real.sqrt (r_v57 A i0 i1))⁻¹
theorem l_v58 {A : Args} {X0 X1 X2 X3 X4 X5 X6 X7 X8 X9 X10 X11} (h : Holds A X0 X1 X2 X3 X4 X5 X6 X7 X8 X9 X10 X11) (i : S8192x1.Idx) : val_main_v58 (F := Ideal) X3 X4 X10 i = ((r_v58 A (i 0) (i 1) : ℝ) : EReal) :=
  Cert.Lift.rsqrt (pos_v57 A (i 0) (i 1)) (l_v57 h i)

theorem nz_v57 (A : Args) (i0 : Fin 8192) (i1 : Fin 1) : r_v57 A i0 i1 ≠ 0 := (pos_v57 A i0 i1).ne'

def r_v59 (A : Args) (i0 : Fin 8192) (i1 : Fin 1) : ℝ := r_v58 A i0 i1 / r_v57 A i0 i1
theorem l_v59 {A : Args} {X0 X1 X2 X3 X4 X5 X6 X7 X8 X9 X10 X11} (h : Holds A X0 X1 X2 X3 X4 X5 X6 X7 X8 X9 X10 X11) (i : S8192x1.Idx) : val_main_v59 (F := Ideal) X3 X4 X10 i = ((r_v59 A (i 0) (i 1) : ℝ) : EReal) :=
  Cert.Lift.div (nz_v57 A (i 0) (i 1)) (l_v58 h i) (l_v57 h i)

theorem lit_BF000000 : (Ideal.ofBits .f32 0xBF000000#32 : EReal) = (((-1 / 2 : ℝ) : ℝ) : EReal) := by
  simp [Ideal.ofBits, Ideal.ieee, -EReal.coe_mul] <;> norm_num

def r_cst_12 (A : Args)  : ℝ := (-1 / 2 : ℝ)
theorem l_cst_12 {A : Args} {X0 X1 X2 X3 X4 X5 X6 X7 X8 X9 X10 X11} (h : Holds A X0 X1 X2 X3 X4 X5 X6 X7 X8 X9 X10 X11) (i : S_.Idx) : val_main_cst_12 (F := Ideal) i = ((r_cst_12 A  : ℝ) : EReal) :=
  lit_BF000000

def r_v60 (A : Args) (i0 : Fin 8192) (i1 : Fin 1) : ℝ := r_cst_12 A
theorem l_v60 {A : Args} {X0 X1 X2 X3 X4 X5 X6 X7 X8 X9 X10 X11} (h : Holds A X0 X1 X2 X3 X4 X5 X6 X7 X8 X9 X10 X11) (i : S8192x1.Idx) : val_main_v60 (F := Ideal) i = ((r_v60 A (i 0) (i 1) : ℝ) : EReal) :=
  (val_main_v60_apply i).trans (l_cst_12 h (idx_main_v60 i))

def r_v61 (A : Args) (i0 : Fin 8192) (i1 : Fin 1) : ℝ := r_v60 A i0 i1 * r_v59 A i0 i1
theorem l_v61 {A : Args} {X0 X1 X2 X3 X4 X5 X6 X7 X8 X9 X10 X11} (h : Holds A X0 X1 X2 X3 X4 X5 X6 X7 X8 X9 X10 X11) (i : S8192x1.Idx) : val_main_v61 (F := Ideal) X3 X4 X10 i = ((r_v61 A (i 0) (i 1) : ℝ) : EReal) :=
  Cert.Lift.mul (l_v60 h i) (l_v59 h i)

def r_v62 (A : Args) (i0 : Fin 8192) (i1 : Fin 1024) : ℝ := r_v58 A i0 0
theorem l_v62 {A : Args} {X0 X1 X2 X3 X4 X5 X6 X7 X8 X9 X10 X11} (h : Holds A X0 X1 X2 X3 X4 X5 X6 X7 X8 X9 X10 X11) (i : S8192x1024.Idx) : val_main_v62 (F := Ideal) X3 X4 X10 i = ((r_v62 A (i 0) (i 1) : ℝ) : EReal) :=
  (val_main_v62_apply X3 X4 X10 i).trans (l_v58 h (idx_main_v62 i))

def r_v63 (A : Args) (i0 : Fin 8192) (i1 : Fin 1024) : ℝ := r_v55 A i0 i1 * r_v62 A i0 i1
theorem l_v63 {A : Args} {X0 X1 X2 X3 X4 X5 X6 X7 X8 X9 X10 X11} (h : Holds A X0 X1 X2 X3 X4 X5 X6 X7 X8 X9 X10 X11) (i : S8192x1024.Idx) : val_main_v63 (F := Ideal) X3 X4 X10 i = ((r_v63 A (i 0) (i 1) : ℝ) : EReal) :=
  Cert.Lift.mul (l_v55 h i) (l_v62 h i)

def r_v64 (A : Args) (i0 : Fin 1) (i1 : Fin 1024) : ℝ := r_v39 A i1
theorem l_v64 {A : Args} {X0 X1 X2 X3 X4 X5 X6 X7 X8 X9 X10 X11} (h : Holds A X0 X1 X2 X3 X4 X5 X6 X7 X8 X9 X10 X11) (i : S1x1024.Idx) : val_main_v64 (F := Ideal) X11 i = ((r_v64 A (i 0) (i 1) : ℝ) : EReal) :=
  (val_main_v64_apply X11 i).trans (l_v39 h (idx_main_v64 i))

def r_cst_13 (A : Args)  : ℝ := (623487 / 524288 : ℝ)
theorem l_cst_13 {A : Args} {X0 X1 X2 X3 X4 X5 X6 X7 X8 X9 X10 X11} (h : Holds A X0 X1 X2 X3 X4 X5 X6 X7 X8 X9 X10 X11) (i : S_.Idx) : val_main_cst_13 (F := Ideal) i = ((r_cst_13 A  : ℝ) : EReal) :=
  lit_3F9837F0

def r_v70 (A : Args) (i0 : Fin 8192) (i1 : Fin 1024) : ℝ := r_cst_13 A
theorem l_v70 {A : Args} {X0 X1 X2 X3 X4 X5 X6 X7 X8 X9 X10 X11} (h : Holds A X0 X1 X2 X3 X4 X5 X6 X7 X8 X9 X10 X11) (i : S8192x1024.Idx) : val_main_v70 (F := Ideal) i = ((r_v70 A (i 0) (i 1) : ℝ) : EReal) :=
  (val_main_v70_apply i).trans (l_cst_13 h (idx_main_v70 i))

def r_v71 (A : Args) (i0 : Fin 8192) (i1 : Fin 1024) : ℝ := r_v70 A i0 i1 * A.x5 i0 i1
theorem l_v71 {A : Args} {X0 X1 X2 X3 X4 X5 X6 X7 X8 X9 X10 X11} (h : Holds A X0 X1 X2 X3 X4 X5 X6 X7 X8 X9 X10 X11) (i : S8192x1024.Idx) : val_main_v71 (F := Ideal) X5 i = ((r_v71 A (i 0) (i 1) : ℝ) : EReal) :=
  Cert.Lift.mul (l_v70 h i) (h.x5 i)

def r_v72 (A : Args) (i0 : Fin 8192) (i1 : Fin 1024) : ℝ := r_v32 A i0 i1 + r_v71 A i0 i1
theorem l_v72 {A : Args} {X0 X1 X2 X3 X4 X5 X6 X7 X8 X9 X10 X11} (h : Holds A X0 X1 X2 X3 X4 X5 X6 X7 X8 X9 X10 X11) (i : S8192x1024.Idx) : val_main_v72 (F := Ideal) X0 X1 X5 X6 X7 X8 X9 i = ((r_v72 A (i 0) (i 1) : ℝ) : EReal) :=
  Cert.Lift.add (l_v32 h i) (l_v71 h i)

def r_cst_14 (A : Args)  : ℝ := (0 : ℝ)
theorem l_cst_14 {A : Args} {X0 X1 X2 X3 X4 X5 X6 X7 X8 X9 X10 X11} (h : Holds A X0 X1 X2 X3 X4 X5 X6 X7 X8 X9 X10 X11) (i : S_.Idx) : val_main_cst_14 (F := Ideal) i = ((r_cst_14 A  : ℝ) : EReal) :=
  lit_00000000

def r_v73 (A : Args) (i0 : Fin 1024) : ℝ := r_cst_14 A + ∑ k : Fin 8192, r_v72 A k i0
theorem l_v73 {A : Args} {X0 X1 X2 X3 X4 X5 X6 X7 X8 X9 X10 X11} (h : Holds A X0 X1 X2 X3 X4 X5 X6 X7 X8 X9 X10 X11) (i : S1024.Idx) : val_main_v73 (F := Ideal) X0 X1 X5 X6 X7 X8 X9 i = ((r_v73 A (i 0) : ℝ) : EReal) :=
  (val_main_v73_apply X0 X1 X5 X6 X7 X8 X9 i).trans (Cert.Lift.add (l_cst_14 h (Shape.Idx.first h_S_)) (Cert.Lift.sum fun k => l_v72 h (idx_main_v73 i k)))

def r_v74 (A : Args) (i0 : Fin 1) (i1 : Fin 1024) : ℝ := r_v73 A i1
theorem l_v74 {A : Args} {X0 X1 X2 X3 X4 X5 X6 X7 X8 X9 X10 X11} (h : Holds A X0 X1 X2 X3 X4 X5 X6 X7 X8 X9 X10 X11) (i : S1x1024.Idx) : val_main_v74 (F := Ideal) X0 X1 X5 X6 X7 X8 X9 i = ((r_v74 A (i 0) (i 1) : ℝ) : EReal) :=
  (val_main_v74_apply X0 X1 X5 X6 X7 X8 X9 i).trans ((l_v73 h (idx_main_v74 i)).trans (congrArg Real.toEReal (congr ((rfl : r_v73 A = _)) (Fin.ext (by have h0 : (i 0).val < 1 := (i 0).isLt; have h1 : (i 1).val < 1024 := (i 1).isLt; show (i 0).val * 1024 + (i 1).val = (i 1).val; omega) : ((idx_main_v74 i) 0 : Fin 1024) = (i 1 : Fin 1024)))))

def r_cst_15 (A : Args)  : ℝ := (0 : ℝ)
theorem l_cst_15 {A : Args} {X0 X1 X2 X3 X4 X5 X6 X7 X8 X9 X10 X11} (h : Holds A X0 X1 X2 X3 X4 X5 X6 X7 X8 X9 X10 X11) (i : S_.Idx) : val_main_cst_15 (F := Ideal) i = ((r_cst_15 A  : ℝ) : EReal) :=
  lit_00000000

def r_v75 (A : Args) (i0 : Fin 1024) : ℝ := r_cst_15 A + ∑ k : Fin 1, r_v74 A 0 i0
theorem l_v75 {A : Args} {X0 X1 X2 X3 X4 X5 X6 X7 X8 X9 X10 X11} (h : Holds A X0 X1 X2 X3 X4 X5 X6 X7 X8 X9 X10 X11) (i : S1024.Idx) : val_main_v75 (F := Ideal) X0 X1 X5 X6 X7 X8 X9 i = ((r_v75 A (i 0) : ℝ) : EReal) :=
  (val_main_v75_apply X0 X1 X5 X6 X7 X8 X9 i).trans (Cert.Lift.add (l_cst_15 h (Shape.Idx.first h_S_)) (Cert.Lift.sum fun k => l_v74 h (idx_main_v75 i k)))

def r_v76 (A : Args) (i0 : Fin 8192) (i1 : Fin 1024) : ℝ := r_v63 A i0 i1 * r_v72 A i0 i1
theorem l_v76 {A : Args} {X0 X1 X2 X3 X4 X5 X6 X7 X8 X9 X10 X11} (h : Holds A X0 X1 X2 X3 X4 X5 X6 X7 X8 X9 X10 X11) (i : S8192x1024.Idx) : val_main_v76 (F := Ideal) X0 X1 X3 X4 X5 X6 X7 X8 X9 X10 i = ((r_v76 A (i 0) (i 1) : ℝ) : EReal) :=
  Cert.Lift.mul (l_v63 h i) (l_v72 h i)

def r_cst_16 (A : Args)  : ℝ := (0 : ℝ)
theorem l_cst_16 {A : Args} {X0 X1 X2 X3 X4 X5 X6 X7 X8 X9 X10 X11} (h : Holds A X0 X1 X2 X3 X4 X5 X6 X7 X8 X9 X10 X11) (i : S_.Idx) : val_main_cst_16 (F := Ideal) i = ((r_cst_16 A  : ℝ) : EReal) :=
  lit_00000000

def r_v77 (A : Args) (i0 : Fin 1024) : ℝ := r_cst_16 A + ∑ k : Fin 8192, r_v76 A k i0
theorem l_v77 {A : Args} {X0 X1 X2 X3 X4 X5 X6 X7 X8 X9 X10 X11} (h : Holds A X0 X1 X2 X3 X4 X5 X6 X7 X8 X9 X10 X11) (i : S1024.Idx) : val_main_v77 (F := Ideal) X0 X1 X3 X4 X5 X6 X7 X8 X9 X10 i = ((r_v77 A (i 0) : ℝ) : EReal) :=
  (val_main_v77_apply X0 X1 X3 X4 X5 X6 X7 X8 X9 X10 i).trans (Cert.Lift.add (l_cst_16 h (Shape.Idx.first h_S_)) (Cert.Lift.sum fun k => l_v76 h (idx_main_v77 i k)))

def r_v78 (A : Args) (i0 : Fin 1) (i1 : Fin 1024) : ℝ := r_v77 A i1
theorem l_v78 {A : Args} {X0 X1 X2 X3 X4 X5 X6 X7 X8 X9 X10 X11} (h : Holds A X0 X1 X2 X3 X4 X5 X6 X7 X8 X9 X10 X11) (i : S1x1024.Idx) : val_main_v78 (F := Ideal) X0 X1 X3 X4 X5 X6 X7 X8 X9 X10 i = ((r_v78 A (i 0) (i 1) : ℝ) : EReal) :=
  (val_main_v78_apply X0 X1 X3 X4 X5 X6 X7 X8 X9 X10 i).trans ((l_v77 h (idx_main_v78 i)).trans (congrArg Real.toEReal (congr ((rfl : r_v77 A = _)) (Fin.ext (by have h0 : (i 0).val < 1 := (i 0).isLt; have h1 : (i 1).val < 1024 := (i 1).isLt; show (i 0).val * 1024 + (i 1).val = (i 1).val; omega) : ((idx_main_v78 i) 0 : Fin 1024) = (i 1 : Fin 1024)))))

def r_v79 (A : Args) (i0 : Fin 8192) (i1 : Fin 1024) : ℝ := r_v64 A 0 i1
theorem l_v79 {A : Args} {X0 X1 X2 X3 X4 X5 X6 X7 X8 X9 X10 X11} (h : Holds A X0 X1 X2 X3 X4 X5 X6 X7 X8 X9 X10 X11) (i : S8192x1024.Idx) : val_main_v79 (F := Ideal) X11 i = ((r_v79 A (i 0) (i 1) : ℝ) : EReal) :=
  (val_main_v79_apply X11 i).trans (l_v64 h (idx_main_v79 i))

def r_v80 (A : Args) (i0 : Fin 8192) (i1 : Fin 1024) : ℝ := r_v72 A i0 i1 * r_v79 A i0 i1
theorem l_v80 {A : Args} {X0 X1 X2 X3 X4 X5 X6 X7 X8 X9 X10 X11} (h : Holds A X0 X1 X2 X3 X4 X5 X6 X7 X8 X9 X10 X11) (i : S8192x1024.Idx) : val_main_v80 (F := Ideal) X0 X1 X5 X6 X7 X8 X9 X11 i = ((r_v80 A (i 0) (i 1) : ℝ) : EReal) :=
  Cert.Lift.mul (l_v72 h i) (l_v79 h i)

def r_cst_17 (A : Args)  : ℝ := (0 : ℝ)
theorem l_cst_17 {A : Args} {X0 X1 X2 X3 X4 X5 X6 X7 X8 X9 X10 X11} (h : Holds A X0 X1 X2 X3 X4 X5 X6 X7 X8 X9 X10 X11) (i : S_.Idx) : val_main_cst_17 (F := Ideal) i = ((r_cst_17 A  : ℝ) : EReal) :=
  lit_00000000

def r_v81 (A : Args) (i0 : Fin 1024) : ℝ := r_cst_17 A + ∑ k : Fin 1, r_v78 A 0 i0
theorem l_v81 {A : Args} {X0 X1 X2 X3 X4 X5 X6 X7 X8 X9 X10 X11} (h : Holds A X0 X1 X2 X3 X4 X5 X6 X7 X8 X9 X10 X11) (i : S1024.Idx) : val_main_v81 (F := Ideal) X0 X1 X3 X4 X5 X6 X7 X8 X9 X10 i = ((r_v81 A (i 0) : ℝ) : EReal) :=
  (val_main_v81_apply X0 X1 X3 X4 X5 X6 X7 X8 X9 X10 i).trans (Cert.Lift.add (l_cst_17 h (Shape.Idx.first h_S_)) (Cert.Lift.sum fun k => l_v78 h (idx_main_v81 i k)))

def r_v82 (A : Args) (i0 : Fin 8192) (i1 : Fin 1024) : ℝ := r_v55 A i0 i1 * r_v80 A i0 i1
theorem l_v82 {A : Args} {X0 X1 X2 X3 X4 X5 X6 X7 X8 X9 X10 X11} (h : Holds A X0 X1 X2 X3 X4 X5 X6 X7 X8 X9 X10 X11) (i : S8192x1024.Idx) : val_main_v82 (F := Ideal) X0 X1 X3 X4 X5 X6 X7 X8 X9 X10 X11 i = ((r_v82 A (i 0) (i 1) : ℝ) : EReal) :=
  Cert.Lift.mul (l_v55 h i) (l_v80 h i)

def r_cst_18 (A : Args)  : ℝ := (0 : ℝ)
theorem l_cst_18 {A : Args} {X0 X1 X2 X3 X4 X5 X6 X7 X8 X9 X10 X11} (h : Holds A X0 X1 X2 X3 X4 X5 X6 X7 X8 X9 X10 X11) (i : S_.Idx) : val_main_cst_18 (F := Ideal) i = ((r_cst_18 A  : ℝ) : EReal) :=
  lit_00000000

def r_v83 (A : Args) (i0 : Fin 8192) : ℝ := r_cst_18 A + ∑ k : Fin 1024, r_v82 A i0 k
theorem l_v83 {A : Args} {X0 X1 X2 X3 X4 X5 X6 X7 X8 X9 X10 X11} (h : Holds A X0 X1 X2 X3 X4 X5 X6 X7 X8 X9 X10 X11) (i : S8192.Idx) : val_main_v83 (F := Ideal) X0 X1 X3 X4 X5 X6 X7 X8 X9 X10 X11 i = ((r_v83 A (i 0) : ℝ) : EReal) :=
  (val_main_v83_apply X0 X1 X3 X4 X5 X6 X7 X8 X9 X10 X11 i).trans (Cert.Lift.add (l_cst_18 h (Shape.Idx.first h_S_)) (Cert.Lift.sum fun k => l_v82 h (idx_main_v83 i k)))

def r_v84 (A : Args) (i0 : Fin 8192) (i1 : Fin 1) : ℝ := r_v83 A i0
theorem l_v84 {A : Args} {X0 X1 X2 X3 X4 X5 X6 X7 X8 X9 X10 X11} (h : Holds A X0 X1 X2 X3 X4 X5 X6 X7 X8 X9 X10 X11) (i : S8192x1.Idx) : val_main_v84 (F := Ideal) X0 X1 X3 X4 X5 X6 X7 X8 X9 X10 X11 i = ((r_v84 A (i 0) (i 1) : ℝ) : EReal) :=
  (val_main_v84_apply X0 X1 X3 X4 X5 X6 X7 X8 X9 X10 X11 i).trans ((l_v83 h (idx_main_v84 i)).trans (congrArg Real.toEReal (congr ((rfl : r_v83 A = _)) (Fin.ext (by have h0 : (i 0).val < 8192 := (i 0).isLt; have h1 : (i 1).val < 1 := (i 1).isLt; show (i 0).val * 1 + (i 1).val = (i 0).val; omega) : ((idx_main_v84 i) 0 : Fin 8192) = (i 0 : Fin 8192)))))

def r_v85 (A : Args) (i0 : Fin 8192) (i1 : Fin 1024) : ℝ := r_v58 A i0 0
theorem l_v85 {A : Args} {X0 X1 X2 X3 X4 X5 X6 X7 X8 X9 X10 X11} (h : Holds A X0 X1 X2 X3 X4 X5 X6 X7 X8 X9 X10 X11) (i : S8192x1024.Idx) : val_main_v85 (F := Ideal) X3 X4 X10 i = ((r_v85 A (i 0) (i 1) : ℝ) : EReal) :=
  (val_main_v85_apply X3 X4 X10 i).trans (l_v58 h (idx_main_v85 i))

def r_v86 (A : Args) (i0 : Fin 8192) (i1 : Fin 1024) : ℝ := r_v80 A i0 i1 * r_v85 A i0 i1
theorem l_v86 {A : Args} {X0 X1 X2 X3 X4 X5 X6 X7 X8 X9 X10 X11} (h : Holds A X0 X1 X2 X3 X4 X5 X6 X7 X8 X9 X10 X11) (i : S8192x1024.Idx) : val_main_v86 (F := Ideal) X0 X1 X3 X4 X5 X6 X7 X8 X9 X10 X11 i = ((r_v86 A (i 0) (i 1) : ℝ) : EReal) :=
  Cert.Lift.mul (l_v80 h i) (l_v85 h i)

def r_v87 (A : Args) (i0 : Fin 8192) (i1 : Fin 1) : ℝ := r_v84 A i0 i1 * r_v61 A i0 i1
theorem l_v87 {A : Args} {X0 X1 X2 X3 X4 X5 X6 X7 X8 X9 X10 X11} (h : Holds A X0 X1 X2 X3 X4 X5 X6 X7 X8 X9 X10 X11) (i : S8192x1.Idx) : val_main_v87 (F := Ideal) X0 X1 X3 X4 X5 X6 X7 X8 X9 X10 X11 i = ((r_v87 A (i 0) (i 1) : ℝ) : EReal) :=
  Cert.Lift.mul (l_v84 h i) (l_v61 h i)

def r_v88 (A : Args) (i0 : Fin 8192) (i1 : Fin 1024) : ℝ := -(r_v86 A i0 i1)
theorem l_v88 {A : Args} {X0 X1 X2 X3 X4 X5 X6 X7 X8 X9 X10 X11} (h : Holds A X0 X1 X2 X3 X4 X5 X6 X7 X8 X9 X10 X11) (i : S8192x1024.Idx) : val_main_v88 (F := Ideal) X0 X1 X3 X4 X5 X6 X7 X8 X9 X10 X11 i = ((r_v88 A (i 0) (i 1) : ℝ) : EReal) :=
  Cert.Lift.neg (l_v86 h i)

def r_cst_19 (A : Args)  : ℝ := (0 : ℝ)
theorem l_cst_19 {A : Args} {X0 X1 X2 X3 X4 X5 X6 X7 X8 X9 X10 X11} (h : Holds A X0 X1 X2 X3 X4 X5 X6 X7 X8 X9 X10 X11) (i : S_.Idx) : val_main_cst_19 (F := Ideal) i = ((r_cst_19 A  : ℝ) : EReal) :=
  lit_00000000

def r_v89 (A : Args) (i0 : Fin 8192) : ℝ := r_cst_19 A + ∑ k : Fin 1024, r_v88 A i0 k
theorem l_v89 {A : Args} {X0 X1 X2 X3 X4 X5 X6 X7 X8 X9 X10 X11} (h : Holds A X0 X1 X2 X3 X4 X5 X6 X7 X8 X9 X10 X11) (i : S8192.Idx) : val_main_v89 (F := Ideal) X0 X1 X3 X4 X5 X6 X7 X8 X9 X10 X11 i = ((r_v89 A (i 0) : ℝ) : EReal) :=
  (val_main_v89_apply X0 X1 X3 X4 X5 X6 X7 X8 X9 X10 X11 i).trans (Cert.Lift.add (l_cst_19 h (Shape.Idx.first h_S_)) (Cert.Lift.sum fun k => l_v88 h (idx_main_v89 i k)))

def r_v90 (A : Args) (i0 : Fin 8192) (i1 : Fin 1) : ℝ := r_v89 A i0
theorem l_v90 {A : Args} {X0 X1 X2 X3 X4 X5 X6 X7 X8 X9 X10 X11} (h : Holds A X0 X1 X2 X3 X4 X5 X6 X7 X8 X9 X10 X11) (i : S8192x1.Idx) : val_main_v90 (F := Ideal) X0 X1 X3 X4 X5 X6 X7 X8 X9 X10 X11 i = ((r_v90 A (i 0) (i 1) : ℝ) : EReal) :=
  (val_main_v90_apply X0 X1 X3 X4 X5 X6 X7 X8 X9 X10 X11 i).trans ((l_v89 h (idx_main_v90 i)).trans (congrArg Real.toEReal (congr ((rfl : r_v89 A = _)) (Fin.ext (by have h0 : (i 0).val < 8192 := (i 0).isLt; have h1 : (i 1).val < 1 := (i 1).isLt; show (i 0).val * 1 + (i 1).val = (i 0).val; omega) : ((idx_main_v90 i) 0 : Fin 8192) = (i 0 : Fin 8192)))))

def r_cst_20 (A : Args)  : ℝ := (1024 : ℝ)
theorem l_cst_20 {A : Args} {X0 X1 X2 X3 X4 X5 X6 X7 X8 X9 X10 X11} (h : Holds A X0 X1 X2 X3 X4 X5 X6 X7 X8 X9 X10 X11) (i : S_.Idx) : val_main_cst_20 (F := Ideal) i = ((r_cst_20 A  : ℝ) : EReal) :=
  lit_44800000

def r_v91 (A : Args) (i0 : Fin 8192) (i1 : Fin 1) : ℝ := r_cst_20 A
theorem l_v91 {A : Args} {X0 X1 X2 X3 X4 X5 X6 X7 X8 X9 X10 X11} (h : Holds A X0 X1 X2 X3 X4 X5 X6 X7 X8 X9 X10 X11) (i : S8192x1.Idx) : val_main_v91 (F := Ideal) i = ((r_v91 A (i 0) (i 1) : ℝ) : EReal) :=
  (val_main_v91_apply i).trans (l_cst_20 h (idx_main_v91 i))

theorem nz_v91 (A : Args) (i0 : Fin 8192) (i1 : Fin 1) : r_v91 A i0 i1 ≠ 0 := by rw [show r_v91 A i0 i1 = 1024 from rfl]; norm_num

def r_v92 (A : Args) (i0 : Fin 8192) (i1 : Fin 1) : ℝ := r_v87 A i0 i1 / r_v91 A i0 i1
theorem l_v92 {A : Args} {X0 X1 X2 X3 X4 X5 X6 X7 X8 X9 X10 X11} (h : Holds A X0 X1 X2 X3 X4 X5 X6 X7 X8 X9 X10 X11) (i : S8192x1.Idx) : val_main_v92 (F := Ideal) X0 X1 X3 X4 X5 X6 X7 X8 X9 X10 X11 i = ((r_v92 A (i 0) (i 1) : ℝ) : EReal) :=
  Cert.Lift.div (nz_v91 A (i 0) (i 1)) (l_v87 h i) (l_v91 h i)

def r_cst_21 (A : Args)  : ℝ := (0 : ℝ)
theorem l_cst_21 {A : Args} {X0 X1 X2 X3 X4 X5 X6 X7 X8 X9 X10 X11} (h : Holds A X0 X1 X2 X3 X4 X5 X6 X7 X8 X9 X10 X11) (i : S_.Idx) : val_main_cst_21 (F := Ideal) i = ((r_cst_21 A  : ℝ) : EReal) :=
  lit_00000000

def r_v93 (A : Args) (i0 : Fin 8192) : ℝ := r_cst_21 A + ∑ k : Fin 1, r_v92 A i0 0
theorem l_v93 {A : Args} {X0 X1 X2 X3 X4 X5 X6 X7 X8 X9 X10 X11} (h : Holds A X0 X1 X2 X3 X4 X5 X6 X7 X8 X9 X10 X11) (i : S8192.Idx) : val_main_v93 (F := Ideal) X0 X1 X3 X4 X5 X6 X7 X8 X9 X10 X11 i = ((r_v93 A (i 0) : ℝ) : EReal) :=
  (val_main_v93_apply X0 X1 X3 X4 X5 X6 X7 X8 X9 X10 X11 i).trans (Cert.Lift.add (l_cst_21 h (Shape.Idx.first h_S_)) (Cert.Lift.sum fun k => l_v92 h (idx_main_v93 i k)))

def r_v94 (A : Args) (i0 : Fin 8192) (i1 : Fin 1024) : ℝ := r_v93 A i0
theorem l_v94 {A : Args} {X0 X1 X2 X3 X4 X5 X6 X7 X8 X9 X10 X11} (h : Holds A X0 X1 X2 X3 X4 X5 X6 X7 X8 X9 X10 X11) (i : S8192x1024.Idx) : val_main_v94 (F := Ideal) X0 X1 X3 X4 X5 X6 X7 X8 X9 X10 X11 i = ((r_v94 A (i 0) (i 1) : ℝ) : EReal) :=
  (val_main_v94_apply X0 X1 X3 X4 X5 X6 X7 X8 X9 X10 X11 i).trans (l_v93 h (idx_main_v94 i))

def r_v95 (A : Args) (i0 : Fin 8192) (i1 : Fin 1024) : ℝ := r_v94 A i0 i1 * r_v49 A i0 i1
theorem l_v95 {A : Args} {X0 X1 X2 X3 X4 X5 X6 X7 X8 X9 X10 X11} (h : Holds A X0 X1 X2 X3 X4 X5 X6 X7 X8 X9 X10 X11) (i : S8192x1024.Idx) : val_main_v95 (F := Ideal) X0 X1 X3 X4 X5 X6 X7 X8 X9 X10 X11 i = ((r_v95 A (i 0) (i 1) : ℝ) : EReal) :=
  Cert.Lift.mul (l_v94 h i) (l_v49 h i)

def r_v96 (A : Args) (i0 : Fin 8192) (i1 : Fin 1024) : ℝ := -(r_v95 A i0 i1)
theorem l_v96 {A : Args} {X0 X1 X2 X3 X4 X5 X6 X7 X8 X9 X10 X11} (h : Holds A X0 X1 X2 X3 X4 X5 X6 X7 X8 X9 X10 X11) (i : S8192x1024.Idx) : val_main_v96 (F := Ideal) X0 X1 X3 X4 X5 X6 X7 X8 X9 X10 X11 i = ((r_v96 A (i 0) (i 1) : ℝ) : EReal) :=
  Cert.Lift.neg (l_v95 h i)

def r_cst_22 (A : Args)  : ℝ := (0 : ℝ)
theorem l_cst_22 {A : Args} {X0 X1 X2 X3 X4 X5 X6 X7 X8 X9 X10 X11} (h : Holds A X0 X1 X2 X3 X4 X5 X6 X7 X8 X9 X10 X11) (i : S_.Idx) : val_main_cst_22 (F := Ideal) i = ((r_cst_22 A  : ℝ) : EReal) :=
  lit_00000000

def r_v97 (A : Args) (i0 : Fin 8192) : ℝ := r_cst_22 A + ∑ k : Fin 1024, r_v96 A i0 k
theorem l_v97 {A : Args} {X0 X1 X2 X3 X4 X5 X6 X7 X8 X9 X10 X11} (h : Holds A X0 X1 X2 X3 X4 X5 X6 X7 X8 X9 X10 X11) (i : S8192.Idx) : val_main_v97 (F := Ideal) X0 X1 X3 X4 X5 X6 X7 X8 X9 X10 X11 i = ((r_v97 A (i 0) : ℝ) : EReal) :=
  (val_main_v97_apply X0 X1 X3 X4 X5 X6 X7 X8 X9 X10 X11 i).trans (Cert.Lift.add (l_cst_22 h (Shape.Idx.first h_S_)) (Cert.Lift.sum fun k => l_v96 h (idx_main_v97 i k)))

def r_v98 (A : Args) (i0 : Fin 8192) (i1 : Fin 1) : ℝ := r_v97 A i0
theorem l_v98 {A : Args} {X0 X1 X2 X3 X4 X5 X6 X7 X8 X9 X10 X11} (h : Holds A X0 X1 X2 X3 X4 X5 X6 X7 X8 X9 X10 X11) (i : S8192x1.Idx) : val_main_v98 (F := Ideal) X0 X1 X3 X4 X5 X6 X7 X8 X9 X10 X11 i = ((r_v98 A (i 0) (i 1) : ℝ) : EReal) :=
  (val_main_v98_apply X0 X1 X3 X4 X5 X6 X7 X8 X9 X10 X11 i).trans ((l_v97 h (idx_main_v98 i)).trans (congrArg Real.toEReal (congr ((rfl : r_v97 A = _)) (Fin.ext (by have h0 : (i 0).val < 8192 := (i 0).isLt; have h1 : (i 1).val < 1 := (i 1).isLt; show (i 0).val * 1 + (i 1).val = (i 0).val; omega) : ((idx_main_v98 i) 0 : Fin 8192) = (i 0 : Fin 8192)))))

def r_v99 (A : Args) (i0 : Fin 8192) (i1 : Fin 1024) : ℝ := r_v86 A i0 i1 + r_v95 A i0 i1
theorem l_v99 {A : Args} {X0 X1 X2 X3 X4 X5 X6 X7 X8 X9 X10 X11} (h : Holds A X0 X1 X2 X3 X4 X5 X6 X7 X8 X9 X10 X11) (i : S8192x1024.Idx) : val_main_v99 (F := Ideal) X0 X1 X3 X4 X5 X6 X7 X8 X9 X10 X11 i = ((r_v99 A (i 0) (i 1) : ℝ) : EReal) :=
  Cert.Lift.add (l_v86 h i) (l_v95 h i)

def r_v100 (A : Args) (i0 : Fin 8192) (i1 : Fin 1) : ℝ := r_v90 A i0 i1 + r_v98 A i0 i1
theorem l_v100 {A : Args} {X0 X1 X2 X3 X4 X5 X6 X7 X8 X9 X10 X11} (h : Holds A X0 X1 X2 X3 X4 X5 X6 X7 X8 X9 X10 X11) (i : S8192x1.Idx) : val_main_v100 (F := Ideal) X0 X1 X3 X4 X5 X6 X7 X8 X9 X10 X11 i = ((r_v100 A (i 0) (i 1) : ℝ) : EReal) :=
  Cert.Lift.add (l_v90 h i) (l_v98 h i)

def r_cst_23 (A : Args)  : ℝ := (1024 : ℝ)
theorem l_cst_23 {A : Args} {X0 X1 X2 X3 X4 X5 X6 X7 X8 X9 X10 X11} (h : Holds A X0 X1 X2 X3 X4 X5 X6 X7 X8 X9 X10 X11) (i : S_.Idx) : val_main_cst_23 (F := Ideal) i = ((r_cst_23 A  : ℝ) : EReal) :=
  lit_44800000

def r_v101 (A : Args) (i0 : Fin 8192) (i1 : Fin 1) : ℝ := r_cst_23 A
theorem l_v101 {A : Args} {X0 X1 X2 X3 X4 X5 X6 X7 X8 X9 X10 X11} (h : Holds A X0 X1 X2 X3 X4 X5 X6 X7 X8 X9 X10 X11) (i : S8192x1.Idx) : val_main_v101 (F := Ideal) i = ((r_v101 A (i 0) (i 1) : ℝ) : EReal) :=
  (val_main_v101_apply i).trans (l_cst_23 h (idx_main_v101 i))

theorem nz_v101 (A : Args) (i0 : Fin 8192) (i1 : Fin 1) : r_v101 A i0 i1 ≠ 0 := by rw [show r_v101 A i0 i1 = 1024 from rfl]; norm_num

def r_v102 (A : Args) (i0 : Fin 8192) (i1 : Fin 1) : ℝ := r_v100 A i0 i1 / r_v101 A i0 i1
theorem l_v102 {A : Args} {X0 X1 X2 X3 X4 X5 X6 X7 X8 X9 X10 X11} (h : Holds A X0 X1 X2 X3 X4 X5 X6 X7 X8 X9 X10 X11) (i : S8192x1.Idx) : val_main_v102 (F := Ideal) X0 X1 X3 X4 X5 X6 X7 X8 X9 X10 X11 i = ((r_v102 A (i 0) (i 1) : ℝ) : EReal) :=
  Cert.Lift.div (nz_v101 A (i 0) (i 1)) (l_v100 h i) (l_v101 h i)

def r_cst_24 (A : Args)  : ℝ := (0 : ℝ)
theorem l_cst_24 {A : Args} {X0 X1 X2 X3 X4 X5 X6 X7 X8 X9 X10 X11} (h : Holds A X0 X1 X2 X3 X4 X5 X6 X7 X8 X9 X10 X11) (i : S_.Idx) : val_main_cst_24 (F := Ideal) i = ((r_cst_24 A  : ℝ) : EReal) :=
  lit_00000000

def r_v103 (A : Args) (i0 : Fin 8192) : ℝ := r_cst_24 A + ∑ k : Fin 1, r_v102 A i0 0
theorem l_v103 {A : Args} {X0 X1 X2 X3 X4 X5 X6 X7 X8 X9 X10 X11} (h : Holds A X0 X1 X2 X3 X4 X5 X6 X7 X8 X9 X10 X11) (i : S8192.Idx) : val_main_v103 (F := Ideal) X0 X1 X3 X4 X5 X6 X7 X8 X9 X10 X11 i = ((r_v103 A (i 0) : ℝ) : EReal) :=
  (val_main_v103_apply X0 X1 X3 X4 X5 X6 X7 X8 X9 X10 X11 i).trans (Cert.Lift.add (l_cst_24 h (Shape.Idx.first h_S_)) (Cert.Lift.sum fun k => l_v102 h (idx_main_v103 i k)))

def r_v104 (A : Args) (i0 : Fin 8192) (i1 : Fin 1024) : ℝ := r_v103 A i0
theorem l_v104 {A : Args} {X0 X1 X2 X3 X4 X5 X6 X7 X8 X9 X10 X11} (h : Holds A X0 X1 X2 X3 X4 X5 X6 X7 X8 X9 X10 X11) (i : S8192x1024.Idx) : val_main_v104 (F := Ideal) X0 X1 X3 X4 X5 X6 X7 X8 X9 X10 X11 i = ((r_v104 A (i 0) (i 1) : ℝ) : EReal) :=
  (val_main_v104_apply X0 X1 X3 X4 X5 X6 X7 X8 X9 X10 X11 i).trans (l_v103 h (idx_main_v104 i))

def r_v105 (A : Args) (i0 : Fin 8192) (i1 : Fin 1024) : ℝ := r_v99 A i0 i1 + r_v104 A i0 i1
theorem l_v105 {A : Args} {X0 X1 X2 X3 X4 X5 X6 X7 X8 X9 X10 X11} (h : Holds A X0 X1 X2 X3 X4 X5 X6 X7 X8 X9 X10 X11) (i : S8192x1024.Idx) : val_main_v105 (F := Ideal) X0 X1 X3 X4 X5 X6 X7 X8 X9 X10 X11 i = ((r_v105 A (i 0) (i 1) : ℝ) : EReal) :=
  Cert.Lift.add (l_v99 h i) (l_v104 h i)

def r_v106 (A : Args) (i0 : Fin 1024) : ℝ := A.x10 0 i0
theorem l_v106 {A : Args} {X0 X1 X2 X3 X4 X5 X6 X7 X8 X9 X10 X11} (h : Holds A X0 X1 X2 X3 X4 X5 X6 X7 X8 X9 X10 X11) (i : S1024.Idx) : val_main_v106 (F := Ideal) X10 i = ((r_v106 A (i 0) : ℝ) : EReal) :=
  (val_main_v106_apply X10 i).trans ((h.x10 (idx_main_v106 i)).trans (congrArg Real.toEReal (congr (congr ((rfl : A.x10 = _)) (rfl : ((idx_main_v106 i) 0 : Fin 1) = _)) (Fin.ext (by have h0 : (i 0).val < 1024 := (i 0).isLt; show ((i 0).val) % 1024 = (i 0).val; omega) : ((idx_main_v106 i) 1 : Fin 1024) = (i 0 : Fin 1024)))))

def r_v109 (A : Args) (i0 : Fin 1) (i1 : Fin 1024) : ℝ := r_v106 A i1
theorem l_v109 {A : Args} {X0 X1 X2 X3 X4 X5 X6 X7 X8 X9 X10 X11} (h : Holds A X0 X1 X2 X3 X4 X5 X6 X7 X8 X9 X10 X11) (i : S1x1024.Idx) : val_main_v109 (F := Ideal) X10 i = ((r_v109 A (i 0) (i 1) : ℝ) : EReal) :=
  (val_main_v109_apply X10 i).trans (l_v106 h (idx_main_v109 i))

def r_v113 (A : Args) (i0 : Fin 8192) (i1 : Fin 1024) : ℝ := r_v109 A 0 i1
theorem l_v113 {A : Args} {X0 X1 X2 X3 X4 X5 X6 X7 X8 X9 X10 X11} (h : Holds A X0 X1 X2 X3 X4 X5 X6 X7 X8 X9 X10 X11) (i : S8192x1024.Idx) : val_main_v113 (F := Ideal) X10 i = ((r_v113 A (i 0) (i 1) : ℝ) : EReal) :=
  (val_main_v113_apply X10 i).trans (l_v109 h (idx_main_v113 i))

def r_v114 (A : Args) (i0 : Fin 8192) (i1 : Fin 1024) : ℝ := r_v113 A i0 i1 * r_v105 A i0 i1
theorem l_v114 {A : Args} {X0 X1 X2 X3 X4 X5 X6 X7 X8 X9 X10 X11} (h : Holds A X0 X1 X2 X3 X4 X5 X6 X7 X8 X9 X10 X11) (i : S8192x1024.Idx) : val_main_v114 (F := Ideal) X0 X1 X3 X4 X5 X6 X7 X8 X9 X10 X11 i = ((r_v114 A (i 0) (i 1) : ℝ) : EReal) :=
  Cert.Lift.mul (l_v113 h i) (l_v105 h i)

def r_v115 (A : Args) (i0 : Fin 8192) (i1 : Fin 1024) : ℝ := r_v105 A i0 i1 * A.x4 i0 i1
theorem l_v115 {A : Args} {X0 X1 X2 X3 X4 X5 X6 X7 X8 X9 X10 X11} (h : Holds A X0 X1 X2 X3 X4 X5 X6 X7 X8 X9 X10 X11) (i : S8192x1024.Idx) : val_main_v115 (F := Ideal) X0 X1 X3 X4 X5 X6 X7 X8 X9 X10 X11 i = ((r_v115 A (i 0) (i 1) : ℝ) : EReal) :=
  Cert.Lift.mul (l_v105 h i) (h.x4 i)

def r_cst_26 (A : Args)  : ℝ := (0 : ℝ)
theorem l_cst_26 {A : Args} {X0 X1 X2 X3 X4 X5 X6 X7 X8 X9 X10 X11} (h : Holds A X0 X1 X2 X3 X4 X5 X6 X7 X8 X9 X10 X11) (i : S_.Idx) : val_main_cst_26 (F := Ideal) i = ((r_cst_26 A  : ℝ) : EReal) :=
  lit_00000000

def r_v116 (A : Args) (i0 : Fin 1024) : ℝ := r_cst_26 A + ∑ k : Fin 8192, r_v115 A k i0
theorem l_v116 {A : Args} {X0 X1 X2 X3 X4 X5 X6 X7 X8 X9 X10 X11} (h : Holds A X0 X1 X2 X3 X4 X5 X6 X7 X8 X9 X10 X11) (i : S1024.Idx) : val_main_v116 (F := Ideal) X0 X1 X3 X4 X5 X6 X7 X8 X9 X10 X11 i = ((r_v116 A (i 0) : ℝ) : EReal) :=
  (val_main_v116_apply X0 X1 X3 X4 X5 X6 X7 X8 X9 X10 X11 i).trans (Cert.Lift.add (l_cst_26 h (Shape.Idx.first h_S_)) (Cert.Lift.sum fun k => l_v115 h (idx_main_v116 i k)))

def r_v117 (A : Args) (i0 : Fin 1) (i1 : Fin 1024) : ℝ := r_v116 A i1
theorem l_v117 {A : Args} {X0 X1 X2 X3 X4 X5 X6 X7 X8 X9 X10 X11} (h : Holds A X0 X1 X2 X3 X4 X5 X6 X7 X8 X9 X10 X11) (i : S1x1024.Idx) : val_main_v117 (F := Ideal) X0 X1 X3 X4 X5 X6 X7 X8 X9 X10 X11 i = ((r_v117 A (i 0) (i 1) : ℝ) : EReal) :=
  (val_main_v117_apply X0 X1 X3 X4 X5 X6 X7 X8 X9 X10 X11 i).trans ((l_v116 h (idx_main_v117 i)).trans (congrArg Real.toEReal (congr ((rfl : r_v116 A = _)) (Fin.ext (by have h0 : (i 0).val < 1 := (i 0).isLt; have h1 : (i 1).val < 1024 := (i 1).isLt; show (i 0).val * 1024 + (i 1).val = (i 1).val; omega) : ((idx_main_v117 i) 0 : Fin 1024) = (i 1 : Fin 1024)))))

def r_cst_27 (A : Args)  : ℝ := (0 : ℝ)
theorem l_cst_27 {A : Args} {X0 X1 X2 X3 X4 X5 X6 X7 X8 X9 X10 X11} (h : Holds A X0 X1 X2 X3 X4 X5 X6 X7 X8 X9 X10 X11) (i : S_.Idx) : val_main_cst_27 (F := Ideal) i = ((r_cst_27 A  : ℝ) : EReal) :=
  lit_00000000

def r_v118 (A : Args) (i0 : Fin 1024) : ℝ := r_cst_27 A + ∑ k : Fin 1, r_v117 A 0 i0
theorem l_v118 {A : Args} {X0 X1 X2 X3 X4 X5 X6 X7 X8 X9 X10 X11} (h : Holds A X0 X1 X2 X3 X4 X5 X6 X7 X8 X9 X10 X11) (i : S1024.Idx) : val_main_v118 (F := Ideal) X0 X1 X3 X4 X5 X6 X7 X8 X9 X10 X11 i = ((r_v118 A (i 0) : ℝ) : EReal) :=
  (val_main_v118_apply X0 X1 X3 X4 X5 X6 X7 X8 X9 X10 X11 i).trans (Cert.Lift.add (l_cst_27 h (Shape.Idx.first h_S_)) (Cert.Lift.sum fun k => l_v117 h (idx_main_v118 i k)))

def r_v119 (A : Args) (i0 : Fin 8192) (i1 : Fin 2816) : ℝ := r_v11 A i0 i1
theorem l_v119 {A : Args} {X0 X1 X2 X3 X4 X5 X6 X7 X8 X9 X10 X11} (h : Holds A X0 X1 X2 X3 X4 X5 X6 X7 X8 X9 X10 X11) (i : S8192x2816.Idx) : val_main_v119 (F := Ideal) X0 X1 X5 X6 X8 i = ((r_v119 A (i 0) (i 1) : ℝ) : EReal) :=
  l_v11 h i

def r_v120 (A : Args) (i0 : Fin 8192) (i1 : Fin 2816) : ℝ := r_v9 A i0 i1
theorem l_v120 {A : Args} {X0 X1 X2 X3 X4 X5 X6 X7 X8 X9 X10 X11} (h : Holds A X0 X1 X2 X3 X4 X5 X6 X7 X8 X9 X10 X11) (i : S8192x2816.Idx) : val_main_v120 (F := Ideal) X0 X5 X6 X8 i = ((r_v120 A (i 0) (i 1) : ℝ) : EReal) :=
  l_v9 h i

def r_v121 (A : Args) (i0 : Fin 8192) (i1 : Fin 1024) : ℝ := r_v114 A i0 i1
theorem l_v121 {A : Args} {X0 X1 X2 X3 X4 X5 X6 X7 X8 X9 X10 X11} (h : Holds A X0 X1 X2 X3 X4 X5 X6 X7 X8 X9 X10 X11) (i : S8192x1024.Idx) : val_main_v121 (F := Ideal) X0 X1 X3 X4 X5 X6 X7 X8 X9 X10 X11 i = ((r_v121 A (i 0) (i 1) : ℝ) : EReal) :=
  l_v114 h i

end Cert.Reference2Ideal.Reals

end
-- ==== Proof.Lift.Back.lean ====
/- The feed-forward backward body's values read over the reals: at blocks holding the reals of the arguments' rows `ρ p`,
   each payload's element is the reference's value at that row. -/
module

public import proofs.«01_k».proof.Proof.Gen.Kernel2Ideal.Skeleton
public import proofs.«01_k».proof.Proof.Lift.Ref2
public import proofs.«01_k».proof.Proof.Lift.LayerNorm
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Reference2Ideal.Reals

/-- The derivative of the gated product by the gate, at a unit derivative of the product. -/
def dsu (A : Args) (R : Fin 8192) (f : Fin 2816) : ℝ :=
  A.x1 R f * r_v7_2 A R f + A.x0 R f * A.x1 R f * (r_v7_2 A R f * (1 - r_v7_2 A R f))

/-- The blocks of one grid point hold the reals of the rows `ρ`. -/
structure Blk (A : Args) (ρ : Fin 256 → Fin 8192) (x0 : FVec Ideal S256x1024 .bf16) (x1 : FVec Ideal S2816x1024 .bf16) (x2 x3 : FVec Ideal S256x2816 .bf16)
    (wg wu : FVec Ideal S2816x1024 .bf16) (x5 x6 x7 x8 : FVec Ideal S256x1024 .f32) (x9 x10 x11 : FVec Ideal S1x1024 .f32) : Prop where
  h0 : ∀ p k, x0 (ix2 p k) = ((r_v5 A (ρ p) k : ℝ) : EReal)
  h1 : ∀ f k, x1 (ix2 f k) = ((A.x8 f k : ℝ) : EReal)
  h2 : ∀ p f, x2 (ix2 p f) = ((dsu A (ρ p) f : ℝ) : EReal)
  h3 : ∀ p f, x3 (ix2 p f) = ((r_v7_0 A (ρ p) f : ℝ) : EReal)
  hg : ∀ (f : Fin 2816) k, wg (ix2 f k) = ((A.x7 k ⟨f.val, by omega⟩ : ℝ) : EReal)
  hu : ∀ (f : Fin 2816) k, wu (ix2 f k) = ((A.x7 k ⟨2816 + f.val, by omega⟩ : ℝ) : EReal)
  h5 : ∀ p k, x5 (ix2 p k) = ((A.x2 (ρ p) k : ℝ) : EReal)
  h6 : ∀ p k, x6 (ix2 p k) = ((A.x3 (ρ p) k : ℝ) : EReal)
  h7 : ∀ p k, x7 (ix2 p k) = ((A.x4 (ρ p) k : ℝ) : EReal)
  h8 : ∀ p k, x8 (ix2 p k) = ((A.x5 (ρ p) k : ℝ) : EReal)
  h9 : ∀ k, x9 (ix2 0 k) = ((A.x9 0 k : ℝ) : EReal)
  h10 : ∀ k, x10 (ix2 0 k) = ((A.x10 0 k : ℝ) : EReal)
  h11 : ∀ k, x11 (ix2 0 k) = ((A.x11 0 k : ℝ) : EReal)

theorem one : (1 : EReal) = ((1 : ℝ) : EReal) := rfl
theorem card : ((1024 : ℕ) : ℝ) ≠ 0 := by norm_num

/-- The centred row of the reference sums to zero. -/
theorem centred_sum (A : Args) (R : Fin 8192) : ∑ k, r_v46 A R k = 0 := by
  have h := Cert.Lift.sum_centred (n := 1024) card (r_v38 A R)
  refine Eq.trans (Finset.sum_congr rfl fun k _ => ?_) h
  show r_v38 A R k - ((0 : ℝ) + ∑ j, r_v38 A R j) / (1024 : ℝ) = _
  rw [zero_add]; norm_num

/-- The reference's layer norm derivative in closed form. -/
theorem r_v105_eq (A : Args) (R : Fin 8192) (q : Fin 1024) :
    r_v105 A R q = (r_v80 A R q - (∑ k, r_v80 A R k) / 1024 - r_v63 A R q * ((∑ k, r_v80 A R k * r_v63 A R k) / 1024)) * r_v58 A R 0 := by
  have h := Cert.Lift.layerNorm_bwd (n := 1024) card (r_v46 A R) (r_v80 A R) (r_v58 A R 0) (r_v57 A R 0)
    (centred_sum A R) (Cert.Lift.rsqrt_div (pos_v57 A R 0)) q
  rw [show ((1024 : ℕ) : ℝ) = 1024 by norm_num] at h
  refine Eq.trans ?_ (h.trans (mul_comm _ _))
  have e1 : r_v93 A R = (∑ k, r_v46 A R k * r_v80 A R k) * (-1 / 2 * (r_v58 A R 0 / r_v57 A R 0)) / 1024 := by
    show (0 : ℝ) + ∑ k : Fin 1, (((0 : ℝ) + ∑ k, r_v55 A R k * r_v80 A R k) * ((-1 / 2 : ℝ) * (r_v58 A R 0 / r_v57 A R 0))) / (1024 : ℝ) = _
    rw [Fin.sum_univ_one, zero_add, zero_add]; rfl
  have e2 : ∀ k, r_v95 A R k = (∑ k, r_v46 A R k * r_v80 A R k) * (-1 / 2 * (r_v58 A R 0 / r_v57 A R 0)) / 1024 * (2 * r_v46 A R k) := fun k => by
    show r_v93 A R * ((2 : ℝ) * r_v46 A R k) = _
    rw [e1]
  have e3 : r_v103 A R = (∑ k, -(r_v80 A R k * r_v58 A R 0) + ∑ k, -r_v95 A R k) / 1024 := by
    show (0 : ℝ) + ∑ k : Fin 1, (((0 : ℝ) + ∑ k, -(r_v80 A R k * r_v58 A R 0)) + ((0 : ℝ) + ∑ k, -r_v95 A R k)) / (1024 : ℝ) = _
    rw [Fin.sum_univ_one, zero_add, zero_add, zero_add]
  show (r_v80 A R q * r_v58 A R 0 + r_v95 A R q) + r_v103 A R = _
  simp only [e3, e2]

/-- The reference's derivative of the normalised input, its two halves apart. -/
theorem r_v14_eq (A : Args) (R : Fin 8192) (q : Fin 1024) :
    r_v14 A R q = ∑ f : Fin 2816, r_v11 A R f * A.x7 q ⟨f.val, by omega⟩ + ∑ f : Fin 2816, r_v9 A R f * A.x7 q ⟨2816 + f.val, by omega⟩ := by
  show ∑ k : Fin (2816 + 2816), r_v13 A R k * A.x7 q k = _
  rw [Fin.sum_univ_add]
  refine congrArg₂ (· + ·) (Finset.sum_congr rfl fun f _ => congrArg₂ (· * ·) ?_ rfl) (Finset.sum_congr rfl fun f _ => congrArg₂ (· * ·) ?_ rfl)
  · exact dif_pos f.isLt
  · refine (dif_neg (show ¬2816 + f.val < 2816 by omega)).trans (congrArg (r_v9 A R) (Fin.ext ?_))
    show 2816 + f.val - 2816 = f.val
    omega

section
variable {A : Args} {ρ : Fin 256 → Fin 8192} {x0 : FVec Ideal S256x1024 .bf16} {x1 : FVec Ideal S2816x1024 .bf16} {x2 x3 : FVec Ideal S256x2816 .bf16}
    {wg wu : FVec Ideal S2816x1024 .bf16} {x5 x6 x7 x8 : FVec Ideal S256x1024 .f32} {x9 x10 x11 : FVec Ideal S1x1024 .f32}
    (B : Blk A ρ x0 x1 x2 x3 wg wu x5 x6 x7 x8 x9 x10 x11)
include B

theorem p9 (p : Fin 256) (f : Fin 2816) : k0_pay9 (F := Ideal) x0 x1 (ix2 p f) = ((r_v6 A (ρ p) f : ℝ) : EReal) := by
  pointwise [k0_pay9]
  exact Cert.Lift.dot (fun k => B.h0 p k) (fun k => B.h1 f k)

theorem p10 (p : Fin 256) (f : Fin 2816) : k0_pay10 (F := Ideal) x0 x1 x2 (ix2 p f) = ((r_v11 A (ρ p) f : ℝ) : EReal) := by
  pointwise [k0_pay10]
  refine (Cert.Lift.mul (p9 B p f) (B.h2 p f)).trans (congrArg Real.toEReal ?_)
  show r_v6 A (ρ p) f * dsu A (ρ p) f = (r_v6 A (ρ p) f * A.x1 (ρ p) f) * r_v7_2 A (ρ p) f
    + A.x0 (ρ p) f * (r_v6 A (ρ p) f * A.x1 (ρ p) f) * (r_v7_2 A (ρ p) f * (1 - r_v7_2 A (ρ p) f))
  unfold dsu
  ring

theorem p11 (p : Fin 256) (f : Fin 2816) : k0_pay11 (F := Ideal) x0 x1 x3 (ix2 p f) = ((r_v9 A (ρ p) f : ℝ) : EReal) := by
  pointwise [k0_pay11]
  exact (Cert.Lift.mul (p9 B p f) (B.h3 p f)).trans (congrArg Real.toEReal (mul_comm _ _))

theorem p12 (p : Fin 256) (q : Fin 1024) : k0_pay12 (F := Ideal) x0 x1 x2 x3 wg wu (ix2 p q) = ((r_v14 A (ρ p) q : ℝ) : EReal) := by
  pointwise [k0_pay12]
  rw [r_v14_eq]
  exact Cert.Lift.add (Cert.Lift.dot (fun f => p10 B p f) (fun f => B.hg f q)) (Cert.Lift.dot (fun f => p11 B p f) (fun f => B.hu f q))

theorem p15 (p : Fin 256) (q : Fin 1024) : k0_pay15 (F := Ideal) (k0_pay12 x0 x1 x2 x3 wg wu) x9 x8 (ix2 p q) = ((r_v72 A (ρ p) q : ℝ) : EReal) := by
  pointwise [k0_pay15]
  exact Cert.Lift.add (Cert.Lift.mul (p12 B p q) (Cert.Lift.add one (B.h9 q))) (Cert.Lift.mul lit_3F9837F0 (B.h8 p q))

theorem p16 (p : Fin 256) (q : Fin 1024) : k0_pay16 (F := Ideal) x7 x10 x6 (ix2 p q) = ((r_v46 A (ρ p) q : ℝ) : EReal) := by
  pointwise [k0_pay16]
  have hz : ∀ k, Ideal.ofBits FTy.f32 0x3F9837F0#32 * x6 (ix2 p k) + x10 (ix2 0 k) * x7 (ix2 p k) = ((r_v38 A (ρ p) k : ℝ) : EReal) := fun k =>
    Cert.Lift.add (Cert.Lift.mul lit_3F9837F0 (B.h6 p k)) (Cert.Lift.mul (B.h10 k) (B.h7 p k))
  refine (Cert.Lift.sub (hz q) (Cert.Lift.div (by norm_num) (Cert.Lift.sum hz) lit_44800000)).trans (congrArg Real.toEReal ?_)
  show _ = r_v38 A (ρ p) q - ((0 : ℝ) + ∑ k, r_v38 A (ρ p) k) / (1024 : ℝ)
  rw [zero_add]

theorem p17 (p : Fin 256) (q : Fin 1024) : k0_pay17 (F := Ideal) x7 x10 x6 (ix2 p q) = ((r_v47 A (ρ p) q : ℝ) : EReal) := by
  pointwise [k0_pay17]
  exact Cert.Lift.mul (p16 B p q) (p16 B p q)

theorem p18 (p : Fin 256) : k0_pay18 (F := Ideal) (k0_pay17 x7 x10 x6) (ix2 p 0) = ((r_v58 A (ρ p) 0 : ℝ) : EReal) := by
  pointwise [k0_pay18]
  have e : (∑ k, r_v47 A (ρ p) k) / (1024 : ℝ) + (2748779 / 274877906944 : ℝ) = r_v57 A (ρ p) 0 := by
    show _ = ((0 : ℝ) + ∑ k, r_v47 A (ρ p) k) / (1024 : ℝ) + (2748779 / 274877906944 : ℝ)
    rw [zero_add]
  refine (Cert.Lift.rsqrt (e ▸ pos_v57 A (ρ p) 0) (Cert.Lift.add (Cert.Lift.div (by norm_num) (Cert.Lift.sum fun k => p17 B p k) lit_44800000) lit_3727C5AC)).trans ?_
  rw [e]; rfl

theorem p19 (p : Fin 256) (q : Fin 1024) : k0_pay19 (F := Ideal) (k0_pay16 x7 x10 x6) (k0_pay17 x7 x10 x6) (ix2 p q) = ((r_v63 A (ρ p) q : ℝ) : EReal) := by
  pointwise [k0_pay19]
  exact Cert.Lift.mul (p16 B p q) (p18 B p)

theorem p23 (p : Fin 256) (q : Fin 1024) : k0_pay23 (F := Ideal) (k0_pay17 x7 x10 x6) (ix2 p q) = ((r_v58 A (ρ p) 0 : ℝ) : EReal) := by
  pointwise [k0_pay23]
  exact p18 B p

theorem p22 (p : Fin 256) (q : Fin 1024) : k0_pay22 (F := Ideal) (k0_pay15 (k0_pay12 x0 x1 x2 x3 wg wu) x9 x8) (k0_pay16 x7 x10 x6) (k0_pay17 x7 x10 x6) x11 (ix2 p q)
    = ((r_v80 A (ρ p) q - (∑ k, r_v80 A (ρ p) k) / 1024 - r_v63 A (ρ p) q * ((∑ k, r_v80 A (ρ p) k * r_v63 A (ρ p) k) / 1024) : ℝ) : EReal) := by
  pointwise [k0_pay22]
  have hg : ∀ k, k0_pay15 (F := Ideal) (k0_pay12 x0 x1 x2 x3 wg wu) x9 x8 (ix2 p k) * x11 (ix2 0 k) = ((r_v80 A (ρ p) k : ℝ) : EReal) :=
    fun k => Cert.Lift.mul (p15 B p k) (B.h11 k)
  exact Cert.Lift.sub (Cert.Lift.sub (hg q) (Cert.Lift.div (by norm_num) (Cert.Lift.sum hg) lit_44800000))
    (Cert.Lift.mul (p19 B p q) (Cert.Lift.div (by norm_num) (Cert.Lift.sum fun k => Cert.Lift.mul (hg k) (p19 B p k)) lit_44800000))

theorem p1 (p : Fin 256) (q : Fin 1024) : k0_pay1 (F := Ideal) (k0_pay22 (k0_pay15 (k0_pay12 x0 x1 x2 x3 wg wu) x9 x8) (k0_pay16 x7 x10 x6) (k0_pay17 x7 x10 x6) x11)
    (k0_pay23 (k0_pay17 x7 x10 x6)) (ix2 p q) = ((r_v105 A (ρ p) q : ℝ) : EReal) := by
  pointwise [k0_pay1]
  exact (Cert.Lift.mul (p23 B p q) (p22 B p q)).trans (congrArg Real.toEReal ((mul_comm _ _).trans (r_v105_eq A (ρ p) q).symm))

theorem p3 (p : Fin 256) (q : Fin 1024) : k0_pay3 (F := Ideal) x10 (k0_pay22 (k0_pay15 (k0_pay12 x0 x1 x2 x3 wg wu) x9 x8) (k0_pay16 x7 x10 x6) (k0_pay17 x7 x10 x6) x11)
    (k0_pay23 (k0_pay17 x7 x10 x6)) (ix2 p q) = ((r_v114 A (ρ p) q : ℝ) : EReal) := by
  pointwise [k0_pay3]
  exact Cert.Lift.mul (B.h10 q) (p1 B p q)

theorem a13 (v : FVec Ideal S8x1024 .f32) (p : Fin 8) (q : Fin 1024) : k0_pay13 (F := Ideal) (k0_pay12 x0 x1 x2 x3 wg wu) x5 v (ix2 p q)
      = v (ix2 p q) + ((∑ x : Fin 32, r_v28 A (ρ ⟨x.val * 8 + p.val, by omega⟩) q : ℝ) : EReal) := by
  pointwise [k0_pay13]
  exact congrArg _ (Cert.Lift.sum fun x => (Cert.Lift.mul (p12 B _ q) (B.h5 _ q)).trans (congrArg Real.toEReal (mul_comm _ _)))

theorem a14 (v : FVec Ideal S8x1024 .f32) (p : Fin 8) (q : Fin 1024) : k0_pay14 (F := Ideal) (k0_pay12 x0 x1 x2 x3 wg wu) v (ix2 p q)
      = v (ix2 p q) + ((∑ x : Fin 32, r_v14 A (ρ ⟨x.val * 8 + p.val, by omega⟩) q : ℝ) : EReal) := by
  pointwise [k0_pay14]
  exact congrArg _ (Cert.Lift.sum fun x => p12 B _ q)

theorem a20 (v : FVec Ideal S8x1024 .f32) (p : Fin 8) (q : Fin 1024) : k0_pay20 (F := Ideal) (k0_pay15 (k0_pay12 x0 x1 x2 x3 wg wu) x9 x8) (k0_pay16 x7 x10 x6) (k0_pay17 x7 x10 x6) v (ix2 p q)
      = v (ix2 p q) + ((∑ x : Fin 32, r_v76 A (ρ ⟨x.val * 8 + p.val, by omega⟩) q : ℝ) : EReal) := by
  pointwise [k0_pay20]
  exact congrArg _ (Cert.Lift.sum fun x => (Cert.Lift.mul (p15 B _ q) (p19 B _ q)).trans (congrArg Real.toEReal (mul_comm _ _)))

theorem a21 (v : FVec Ideal S8x1024 .f32) (p : Fin 8) (q : Fin 1024) : k0_pay21 (F := Ideal) (k0_pay15 (k0_pay12 x0 x1 x2 x3 wg wu) x9 x8) v (ix2 p q)
      = v (ix2 p q) + ((∑ x : Fin 32, r_v72 A (ρ ⟨x.val * 8 + p.val, by omega⟩) q : ℝ) : EReal) := by
  pointwise [k0_pay21]
  exact congrArg _ (Cert.Lift.sum fun x => p15 B _ q)

theorem a2 (v : FVec Ideal S8x1024 .f32) (p : Fin 8) (q : Fin 1024) : k0_pay2 (F := Ideal) x7 (k0_pay22 (k0_pay15 (k0_pay12 x0 x1 x2 x3 wg wu) x9 x8) (k0_pay16 x7 x10 x6) (k0_pay17 x7 x10 x6) x11)
    (k0_pay23 (k0_pay17 x7 x10 x6)) v (ix2 p q)
      = v (ix2 p q) + ((∑ x : Fin 32, r_v115 A (ρ ⟨x.val * 8 + p.val, by omega⟩) q : ℝ) : EReal) := by
  pointwise [k0_pay2]
  exact congrArg _ (Cert.Lift.sum fun x => Cert.Lift.mul (p1 B _ q) (B.h7 _ q))

end

end Cert.Kernel2Ideal.Value

end
-- ==== Proof.Lift.Sums.lean ====
/- Sums over rows taken block by block. -/
module

public import proofs.«01_k».proof.Defs
public import Idealize.ShloMosaic.Lib.Pipeline.ValueKit
public import Idealize.ShloMosaic.Init

@[expose] public section

namespace Cert.Lift

/-- A sum over `a` blocks of `b` rows each is the sum over all rows. -/
theorem sum_blocks {M : Type} [AddCommMonoid M] (a b n : ℕ) (hb : 0 < b) (hn : a * b = n) (h : ∀ (s : Fin a) (x : Fin b), s.val * b + x.val < n) (f : Fin n → M) :
    ∑ s : Fin a, ∑ x : Fin b, f ⟨s.val * b + x.val, h s x⟩ = ∑ r, f r := by
  rw [← Fintype.sum_prod_type']
  refine Fintype.sum_equiv
    { toFun := fun p : Fin a × Fin b => (⟨p.1.val * b + p.2.val, h p.1 p.2⟩ : Fin n)
      invFun := fun r => (⟨r.val / b, Nat.div_lt_of_lt_mul (by rw [Nat.mul_comm, hn]; exact r.isLt)⟩, ⟨r.val % b, Nat.mod_lt _ hb⟩)
      left_inv := fun p => by
        ext
        · show (p.1.val * b + p.2.val) / b = p.1.val
          rw [Nat.mul_comm, Nat.mul_add_div hb, Nat.div_eq_of_lt p.2.isLt, Nat.add_zero]
        · show (p.1.val * b + p.2.val) % b = p.2.val
          rw [Nat.mul_comm, Nat.mul_add_mod, Nat.mod_eq_of_lt p.2.isLt]
      right_inv := fun r => Fin.ext (by show r.val / b * b + r.val % b = r.val; rw [Nat.mul_comm]; exact Nat.div_add_mod _ _) } _ _ fun p => rfl

open Idealize.ShloMosaic in
/-- Two positions of a matrix with the same coordinates are equal. -/
theorem ext2 {a b : ℕ} {i j : (⟨2, ![a, b]⟩ : Shape).Idx} (h0 : (i 0).val = (j 0).val) (h1 : (i 1).val = (j 1).val) : i = j := by
  rw [eq_ix2 i, eq_ix2 j, show i 0 = j 0 from Fin.ext h0, show i 1 = j 1 from Fin.ext h1]

end Cert.Lift

end
-- ==== Proof.Lift.BackBlocks.lean ====
/- The blocks of a grid point of the backward body read from arguments holding reals. -/
module

public import proofs.«01_k».proof.Proof.Gen.Kernel2Ideal.Frame
public import proofs.«01_k».proof.Proof.Lift.Back
public import proofs.«01_k».proof.Proof.Lift.Sums

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Reals

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧ win0_4.index t = ![0, 0]
    ∧ win0_5.index t = ![t.val, 0] ∧ win0_6.index t = ![t.val, 0] ∧ win0_7.index t = ![t.val, 0] ∧ win0_8.index t = ![t.val, 0] ∧ win0_9.index t = ![0, 0] ∧ win0_10.index t = ![0, 0]
    ∧ win0_11.index t = ![0, 0] ∧ win0_12.index t = ![t.val, 0] ∧ win0_13.index t = ![t.val, 0] ∧ win0_14.index t = ![t.val, 0] ∧ win0_15.index t = ![t.val, 0] ∧ win0_16.index t = ![0, 0]
    ∧ win0_17.index t = ![0, 0] ∧ win0_18.index t = ![0, 0] ∧ win0_19.index t = ![0, 0] ∧ win0_20.index t = ![0, 0] :=
  (by decide +kernel : ∀ t : Fin grid0.N, _)

theorem points (t : Fin cfg0.N) : t.val < 32 := lt_of_lt_of_eq t.isLt (show cfg0.N = 32 from N_0)

/-- The row of the arrays that row `p` of point `t`'s blocks is. -/
def row (t : Fin cfg0.N) (p : Fin 256) : Fin 8192 := ⟨t.val * 256 + p.val, by have := points t; omega⟩

/-- The arguments on device `c` hold the reals `A`. -/
abbrev Args' (A : Args) (c : Dev nD) : Prop :=
  Holds A (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- The transposed gate and up weights at the region's entry. -/
theorem entry_v13 (c : Dev nD) (i : S5632x1024.Idx) : V m c main_v13 i = m ((c : Thread nD τ).loc main_arg7) (ix2 (i 1) (i 0)) := by
  show StableHlo.after (List.flatten [hostOps0, hostOps0_1, hostOps0_2, hostOps0_3]) (fun b => m (c, b)) (Proc.tc.devRef main_v13) i = _
  simp only [hostOps0, hostOps0_1, hostOps0_2, hostOps0_3, StableHlo.TRef.binary, StableHlo.TRef.nullary, StableHlo.TRef.unary, StableHlo.TRef.toBuf, StableHlo.TRef.ofBuf, cast_eq,
    List.flatten_cons, List.flatten_nil, List.append_nil, List.cons_append, List.nil_append]
  entry_read
  pointwise []

/-- The logistic function as the host computes it. -/
theorem sigma {A : Args} {R : Fin 8192} {f : Fin 2816} {x : EReal} (h : x = ((A.x0 R f : ℝ) : EReal)) :
    Ideal.div 1 (1 + Ideal.exp (-x)) = ((r_v7_2 A R f : ℝ) : EReal) :=
  Cert.Lift.div (nz_call0_v3 A R f) one (Cert.Lift.add one (Cert.Lift.exp (Cert.Lift.neg h)))

section
variable {A : Args} {c : Dev nD} (H : Args' m A c)
include H

/-- The scaled output derivative at the region's entry. -/
theorem entry_v8 (i : S8192x1024.Idx) : V m c main_v8 i = ((r_v5 A (i 0) (i 1) : ℝ) : EReal) := by
  show StableHlo.after (List.flatten [hostOps0, hostOps0_1, hostOps0_2, hostOps0_3]) (fun b => m (c, b)) (Proc.tc.devRef main_v8) i = _
  simp only [hostOps0, hostOps0_1, hostOps0_2, hostOps0_3, StableHlo.TRef.binary, StableHlo.TRef.nullary, StableHlo.TRef.unary, StableHlo.TRef.toBuf, StableHlo.TRef.ofBuf, cast_eq,
    List.flatten_cons, List.flatten_nil, List.append_nil, List.cons_append, List.nil_append]
  entry_read
  pointwise []
  exact Cert.Lift.mul (H.x6 (ix2 0 (i 1))) (H.x5 i)

theorem entry_v10 (i : S8192x2816.Idx) : V m c main_v10 i = ((dsu A (i 0) (i 1) : ℝ) : EReal) := by
  show StableHlo.after (List.flatten [hostOps0, hostOps0_1, hostOps0_2, hostOps0_3]) (fun b => m (c, b)) (Proc.tc.devRef main_v10) i = _
  simp only [hostOps0, hostOps0_1, hostOps0_2, hostOps0_3, StableHlo.TRef.binary, StableHlo.TRef.nullary, StableHlo.TRef.unary, StableHlo.TRef.toBuf, StableHlo.TRef.ofBuf, cast_eq,
    List.flatten_cons, List.flatten_nil, List.append_nil, List.cons_append, List.nil_append]
  entry_read
  pointwise []
  have e := sigma (H.x0 i)
  exact Cert.Lift.add (Cert.Lift.mul (H.x1 i) e) (Cert.Lift.mul (Cert.Lift.mul (H.x0 i) (H.x1 i)) (Cert.Lift.mul e (Cert.Lift.sub one e)))

theorem entry_v11 (i : S8192x2816.Idx) : V m c main_v11 i = ((r_v7_0 A (i 0) (i 1) : ℝ) : EReal) := by
  show StableHlo.after (List.flatten [hostOps0, hostOps0_1, hostOps0_2, hostOps0_3]) (fun b => m (c, b)) (Proc.tc.devRef main_v11) i = _
  simp only [hostOps0, hostOps0_1, hostOps0_2, hostOps0_3, StableHlo.TRef.binary, StableHlo.TRef.nullary, StableHlo.TRef.unary, StableHlo.TRef.toBuf, StableHlo.TRef.ofBuf, cast_eq,
    List.flatten_cons, List.flatten_nil, List.append_nil, List.cons_append, List.nil_append]
  entry_read
  pointwise []
  exact Cert.Lift.mul (H.x0 i) (sigma (H.x0 i))

set_option maxHeartbeats 2000000 in
theorem blk (t : Fin cfg0.N) : Blk A (row t) (iblk m c 0 t) (iblk m c 1 t) (iblk m c 2 t) (iblk m c 3 t)
    (View.ld (iblk m c 4 t) (Rect.unit ![0, 0] ![2816, 1024] inb_S5632x1024_S2816x1024_0_0)) (View.ld (iblk m c 4 t) (Rect.unit ![2816, 0] ![2816, 1024] inb_S5632x1024_S2816x1024_2816_0))
    (iblk m c 5 t) (iblk m c 6 t) (iblk m c 7 t) (iblk m c 8 t) (iblk m c 9 t) (iblk m c 10 t) (iblk m c 11 t) where
  h0 p k := by refine Eq.trans ?_ (entry_v8 m H (ix2 (row t p) k)); exact congrArg (V m c main_v8) (Cert.Lift.ext2 (by blk_simp [idx t]; show _ = t.val * 256 + p.val; omega) (by blk_simp [idx t]))
  h1 f k := by refine Eq.trans ?_ (H.x8 (ix2 f k)); blk_point [iblk, V, idx t]
  h2 p f := by refine Eq.trans ?_ (entry_v10 m H (ix2 (row t p) f)); exact congrArg (V m c main_v10) (Cert.Lift.ext2 (by blk_simp [idx t]; show _ = t.val * 256 + p.val; omega) (by blk_simp [idx t]))
  h3 p f := by refine Eq.trans ?_ (entry_v11 m H (ix2 (row t p) f)); exact congrArg (V m c main_v11) (Cert.Lift.ext2 (by blk_simp [idx t]; show _ = t.val * 256 + p.val; omega) (by blk_simp [idx t]))
  hg f k := by refine Eq.trans ?_ (H.x7 (ix2 k ⟨f.val, by omega⟩)); refine Eq.trans ?_ (entry_v13 m c (ix2 ⟨f.val, by omega⟩ k)); exact congrArg (V m c main_v13) (Cert.Lift.ext2 (by blk_simp [idx t]; show 0 + 1 * f.val = _; dsimp only; omega) (by blk_simp [idx t]; show 0 + 1 * k.val = _; omega))
  hu f k := by refine Eq.trans ?_ (H.x7 (ix2 k ⟨2816 + f.val, by omega⟩)); refine Eq.trans ?_ (entry_v13 m c (ix2 ⟨2816 + f.val, by omega⟩ k)); exact congrArg (V m c main_v13) (Cert.Lift.ext2 (by blk_simp [idx t]; show 2816 + 1 * f.val = _; dsimp only; omega) (by blk_simp [idx t]; show 0 + 1 * k.val = _; omega))
  h5 p k := by refine Eq.trans ?_ (H.x2 (ix2 (row t p) k)); blk_point [iblk, V, idx t, row]
  h6 p k := by refine Eq.trans ?_ (H.x3 (ix2 (row t p) k)); blk_point [iblk, V, idx t, row]
  h7 p k := by refine Eq.trans ?_ (H.x4 (ix2 (row t p) k)); blk_point [iblk, V, idx t, row]
  h8 p k := by refine Eq.trans ?_ (H.x5 (ix2 (row t p) k)); blk_point [iblk, V, idx t, row]
  h9 k := by refine Eq.trans ?_ (H.x9 (ix2 0 k)); blk_point [iblk, V, idx t]
  h10 k := by refine Eq.trans ?_ (H.x10 (ix2 0 k)); blk_point [iblk, V, idx t]
  h11 k := by refine Eq.trans ?_ (H.x11 (ix2 0 k)); blk_point [iblk, V, idx t]

end

end Cert.Kernel2Ideal.Value

end
-- ==== Proof.Lift.BackRows.lean ====
/- What the backward body leaves in its row by row result arrays: at arguments holding reals, the reference's reals. -/
module

public import proofs.«01_k».proof.Proof.Lift.BackBlocks

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Reals

variable (m : (ℓ : Loc nD τ sig) → Buf (Elt Ideal) ℓ)

/-- The gate's and the up product's weights of a point. -/
abbrev wg (c : Dev nD) (t : Fin cfg0.N) : FVec Ideal S2816x1024 .bf16 := View.ld (iblk m c 4 t) (Rect.unit ![0, 0] ![2816, 1024] inb_S5632x1024_S2816x1024_0_0)
abbrev wu (c : Dev nD) (t : Fin cfg0.N) : FVec Ideal S2816x1024 .bf16 := View.ld (iblk m c 4 t) (Rect.unit ![2816, 0] ![2816, 1024] inb_S5632x1024_S2816x1024_2816_0)
/-- The derivatives by the normalised input and by the layer norm's output, the centred rows, their squares, and the two
    factors of the layer norm's derivative at a point. -/
abbrev dh (c : Dev nD) (t : Fin cfg0.N) := k0_pay12 (F := Ideal) (iblk m c 0 t) (iblk m c 1 t) (iblk m c 2 t) (iblk m c 3 t) (wg m c t) (wu m c t)
abbrev dx (c : Dev nD) (t : Fin cfg0.N) := k0_pay15 (F := Ideal) (dh m c t) (iblk m c 9 t) (iblk m c 8 t)
abbrev cen (c : Dev nD) (t : Fin cfg0.N) := k0_pay16 (F := Ideal) (iblk m c 7 t) (iblk m c 10 t) (iblk m c 6 t)
abbrev sq (c : Dev nD) (t : Fin cfg0.N) := k0_pay17 (F := Ideal) (iblk m c 7 t) (iblk m c 10 t) (iblk m c 6 t)
abbrev inner (c : Dev nD) (t : Fin cfg0.N) := k0_pay22 (F := Ideal) (dx m c t) (cen m c t) (sq m c t) (iblk m c 11 t)
abbrev dev (c : Dev nD) (t : Fin cfg0.N) := k0_pay23 (F := Ideal) (sq m c t)

section
variable {A : Args} {c : Dev nD} (H : Args' m A c)
include H

theorem f12 : (dats m 0 c).arrAt 12 (cfgs 0).N = (fun i => ((r_v11 A (i 0) (i 1) : ℝ) : EReal)) := by
  refine (dats m 0 c).arrAt_eq_of_covers 12 _ (by decide +kernel) fun t _ y => ?_
  blk_simp [idx t]
  rw [after0_12]
  have key : (outsAt0 m c t.val t.isLt).1 = k0_pay10 (iblk m c 0 t) (iblk m c 1 t) (iblk m c 2 t) := by
    by_cases h : t.val % 32 = 0
    · rw [outsAt0_A m c t h]; frame_out <;> rfl
    · rw [outsAt0_B m c t h]; frame_out <;> rfl
  have e : (win0_12.blk t).view.emb y = ix2 (row t (y 0)) (y 1) := by blk_ext [idx t, row]
  rw [key, e, eq_ix2 y]
  exact p10 (blk m H t) (y 0) (y 1)

theorem f13 : (dats m 0 c).arrAt 13 (cfgs 0).N = (fun i => ((r_v9 A (i 0) (i 1) : ℝ) : EReal)) := by
  refine (dats m 0 c).arrAt_eq_of_covers 13 _ (by decide +kernel) fun t _ y => ?_
  blk_simp [idx t]
  rw [after0_13]
  have key : (outsAt0 m c t.val t.isLt).2.1 = k0_pay11 (iblk m c 0 t) (iblk m c 1 t) (iblk m c 3 t) := by
    by_cases h : t.val % 32 = 0
    · rw [outsAt0_A m c t h]; frame_out <;> rfl
    · rw [outsAt0_B m c t h]; frame_out <;> rfl
  have e : (win0_13.blk t).view.emb y = ix2 (row t (y 0)) (y 1) := by blk_ext [idx t, row]
  rw [key, e, eq_ix2 y]
  exact p11 (blk m H t) (y 0) (y 1)

theorem f14 : (dats m 0 c).arrAt 14 (cfgs 0).N = (fun i => ((r_v105 A (i 0) (i 1) : ℝ) : EReal)) := by
  refine (dats m 0 c).arrAt_eq_of_covers 14 _ (by decide +kernel) fun t _ y => ?_
  blk_simp [idx t]
  rw [after0_14]
  have key : (outsAt0 m c t.val t.isLt).2.2.1 = k0_pay1 (inner m c t) (dev m c t) := by
    by_cases h : t.val % 32 = 0
    · rw [outsAt0_A m c t h]; frame_out <;> rfl
    · rw [outsAt0_B m c t h]; frame_out <;> rfl
  have e : (win0_14.blk t).view.emb y = ix2 (row t (y 0)) (y 1) := by blk_ext [idx t, row]
  rw [key, e, eq_ix2 y]
  exact p1 (blk m H t) (y 0) (y 1)

theorem f15 : (dats m 0 c).arrAt 15 (cfgs 0).N = (fun i => ((r_v114 A (i 0) (i 1) : ℝ) : EReal)) := by
  refine (dats m 0 c).arrAt_eq_of_covers 15 _ (by decide +kernel) fun t _ y => ?_
  blk_simp [idx t]
  rw [after0_15]
  have key : (outsAt0 m c t.val t.isLt).2.2.2.1 = k0_pay3 (iblk m c 10 t) (inner m c t) (dev m c t) := by
    by_cases h : t.val % 32 = 0
    · rw [outsAt0_A m c t h]; frame_out <;> rfl
    · rw [outsAt0_B m c t h]; frame_out <;> rfl
  have e : (win0_15.blk t).view.emb y = ix2 (row t (y 0)) (y 1) := by blk_ext [idx t, row]
  rw [key, e, eq_ix2 y]
  exact p3 (blk m H t) (y 0) (y 1)

end

end Cert.Kernel2Ideal.Value

end
-- ==== Proof.Lift.BackAccs.lean ====
/- The backward body's five accumulators: partial sums over a point's rows, added up over the points. -/
module

public import proofs.«01_k».proof.Proof.Lift.BackRows

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Reals

variable (m : (ℓ : Loc nD τ sig) → Buf (Elt Ideal) ℓ)

theorem zero4 (i : S8x1024.Idx) : k0_pay4 (F := Ideal) i = 0 := by pointwise [k0_pay4]
theorem zero5 (i : S8x1024.Idx) : k0_pay5 (F := Ideal) i = 0 := by pointwise [k0_pay5]
theorem zero6 (i : S8x1024.Idx) : k0_pay6 (F := Ideal) i = 0 := by pointwise [k0_pay6]
theorem zero7 (i : S8x1024.Idx) : k0_pay7 (F := Ideal) i = 0 := by pointwise [k0_pay7]
theorem zero8 (i : S8x1024.Idx) : k0_pay8 (F := Ideal) i = 0 := by pointwise [k0_pay8]

/-- Row `x * 8 + p` of each point's rows, summed over the rows and the points. -/
def acc (f : Fin 8192 → Fin 1024 → ℝ) (p : Fin 8) (q : Fin 1024) : ℝ :=
  ∑ s : Fin 32, ∑ x : Fin 32, f ⟨s.val * 256 + (x.val * 8 + p.val), by omega⟩ q

/-- All the rows' sum, taken by points, groups and lanes. -/
theorem sum_acc (f : Fin 8192 → Fin 1024 → ℝ) (q : Fin 1024) : ∑ p : Fin 8, acc f p q = ∑ r, f r q := by
  unfold acc
  rw [Finset.sum_comm]
  simp only [← Fintype.sum_prod_type']
  refine Fintype.sum_equiv
    { toFun := fun a : Fin 32 × (Fin 8 × Fin 32) => (⟨a.1.val * 256 + (a.2.2.val * 8 + a.2.1.val), by omega⟩ : Fin 8192)
      invFun := fun r => (⟨r.val / 256, by omega⟩, (⟨r.val % 8, by omega⟩, ⟨r.val % 256 / 8, by omega⟩))
      left_inv := fun a => by ext <;> simp only <;> omega
      right_inv := fun r => by ext; simp only; omega } _ _ fun a => rfl

section
variable {A : Args} {c : Dev nD} (H : Args' m A c)
include H

theorem f16 : (dats m 0 c).arrAt 16 (cfgs 0).N = (fun i => ((acc (r_v28 A) (i 0) (i 1) : ℝ) : EReal)) := by
  refine (dats m 0 c).arrAt_eq_of_covers 16 _ (by decide +kernel) fun t hf y => ?_
  blk_simp [idx t]
  rw [after0_16]
  have keyA : ∀ t : Fin cfg0.N, t.val % 32 = 0 → (outsAt0 m c t.val t.isLt).2.2.2.2.1 = k0_pay13 (dh m c t) (iblk m c 5 t) (k0_pay4 (F := Ideal)) := fun t h => by
    rw [outsAt0_A m c t h]; frame_out <;> rfl
  have keyB : ∀ t : Fin cfg0.N, ¬t.val % 32 = 0 → (outsAt0 m c t.val t.isLt).2.2.2.2.1
      = k0_pay13 (dh m c t) (iblk m c 5 t) (outsAt0 m c (t.val - 1) (Nat.lt_of_le_of_lt (Nat.sub_le _ _) t.isLt)).2.2.2.2.1 := fun t h => by
    rw [outsAt0_B m c t h]; frame_out <;> rfl
  rw [Pipeline.eq_sum_fin_of_reset_step_apply_of_flush (fun n h => (outsAt0 m c n h).2.2.2.2.1) 32 (fun _ => 0)
    (fun t j => ((∑ x : Fin 32, r_v28 A (row t ⟨x.val * 8 + (j 0).val, by have : (j 0).val < 8 := (j 0).isLt; omega⟩) (j 1) : ℝ) : EReal))
    (fun t h j => by rw [keyA t h, eq_ix2 j]; exact (a13 (blk m H t) _ (j 0) (j 1)).trans (congrArg (· + _) (zero4 _)))
    (fun t h j => by rw [keyB t h, eq_ix2 j]; exact a13 (blk m H t) _ (j 0) (j 1))
    t ((flush0_16 t).mp hf) y, zero_add, Cert.Lift.sum fun _ => rfl]
  have e : (win0_16.blk t).view.emb y = ix2 (y 0) (y 1) := by blk_ext [idx t]
  rw [e]
  refine congrArg Real.toEReal (Finset.sum_congr rfl fun s _ => Finset.sum_congr rfl fun x _ => ?_)
  have := points t
  refine congrArg (r_v28 A · (y 1)) (Fin.ext ?_)
  show (32 * (t.val / 32) + s.val) * 256 + (x.val * 8 + (y 0).val) = s.val * 256 + (x.val * 8 + (y 0).val)
  omega

theorem f17 : (dats m 0 c).arrAt 17 (cfgs 0).N = (fun i => ((acc (r_v14 A) (i 0) (i 1) : ℝ) : EReal)) := by
  refine (dats m 0 c).arrAt_eq_of_covers 17 _ (by decide +kernel) fun t hf y => ?_
  blk_simp [idx t]
  rw [after0_17]
  have keyA : ∀ t : Fin cfg0.N, t.val % 32 = 0 → (outsAt0 m c t.val t.isLt).2.2.2.2.2.1 = k0_pay14 (dh m c t) (k0_pay5 (F := Ideal)) := fun t h => by
    rw [outsAt0_A m c t h]; frame_out <;> rfl
  have keyB : ∀ t : Fin cfg0.N, ¬t.val % 32 = 0 → (outsAt0 m c t.val t.isLt).2.2.2.2.2.1
      = k0_pay14 (dh m c t) (outsAt0 m c (t.val - 1) (Nat.lt_of_le_of_lt (Nat.sub_le _ _) t.isLt)).2.2.2.2.2.1 := fun t h => by
    rw [outsAt0_B m c t h]; frame_out <;> rfl
  rw [Pipeline.eq_sum_fin_of_reset_step_apply_of_flush (fun n h => (outsAt0 m c n h).2.2.2.2.2.1) 32 (fun _ => 0)
    (fun t j => ((∑ x : Fin 32, r_v14 A (row t ⟨x.val * 8 + (j 0).val, by have : (j 0).val < 8 := (j 0).isLt; omega⟩) (j 1) : ℝ) : EReal))
    (fun t h j => by rw [keyA t h, eq_ix2 j]; exact (a14 (blk m H t) _ (j 0) (j 1)).trans (congrArg (· + _) (zero5 _)))
    (fun t h j => by rw [keyB t h, eq_ix2 j]; exact a14 (blk m H t) _ (j 0) (j 1))
    t ((flush0_17 t).mp hf) y, zero_add, Cert.Lift.sum fun _ => rfl]
  have e : (win0_17.blk t).view.emb y = ix2 (y 0) (y 1) := by blk_ext [idx t]
  rw [e]
  refine congrArg Real.toEReal (Finset.sum_congr rfl fun s _ => Finset.sum_congr rfl fun x _ => ?_)
  have := points t
  refine congrArg (r_v14 A · (y 1)) (Fin.ext ?_)
  show (32 * (t.val / 32) + s.val) * 256 + (x.val * 8 + (y 0).val) = s.val * 256 + (x.val * 8 + (y 0).val)
  omega

theorem f18 : (dats m 0 c).arrAt 18 (cfgs 0).N = (fun i => ((acc (r_v76 A) (i 0) (i 1) : ℝ) : EReal)) := by
  refine (dats m 0 c).arrAt_eq_of_covers 18 _ (by decide +kernel) fun t hf y => ?_
  blk_simp [idx t]
  rw [after0_18]
  have keyA : ∀ t : Fin cfg0.N, t.val % 32 = 0 → (outsAt0 m c t.val t.isLt).2.2.2.2.2.2.1 = k0_pay20 (dx m c t) (cen m c t) (sq m c t) (k0_pay6 (F := Ideal)) := fun t h => by
    rw [outsAt0_A m c t h]; frame_out <;> rfl
  have keyB : ∀ t : Fin cfg0.N, ¬t.val % 32 = 0 → (outsAt0 m c t.val t.isLt).2.2.2.2.2.2.1
      = k0_pay20 (dx m c t) (cen m c t) (sq m c t) (outsAt0 m c (t.val - 1) (Nat.lt_of_le_of_lt (Nat.sub_le _ _) t.isLt)).2.2.2.2.2.2.1 := fun t h => by
    rw [outsAt0_B m c t h]; frame_out <;> rfl
  rw [Pipeline.eq_sum_fin_of_reset_step_apply_of_flush (fun n h => (outsAt0 m c n h).2.2.2.2.2.2.1) 32 (fun _ => 0)
    (fun t j => ((∑ x : Fin 32, r_v76 A (row t ⟨x.val * 8 + (j 0).val, by have : (j 0).val < 8 := (j 0).isLt; omega⟩) (j 1) : ℝ) : EReal))
    (fun t h j => by rw [keyA t h, eq_ix2 j]; exact (a20 (blk m H t) _ (j 0) (j 1)).trans (congrArg (· + _) (zero6 _)))
    (fun t h j => by rw [keyB t h, eq_ix2 j]; exact a20 (blk m H t) _ (j 0) (j 1))
    t ((flush0_18 t).mp hf) y, zero_add, Cert.Lift.sum fun _ => rfl]
  have e : (win0_18.blk t).view.emb y = ix2 (y 0) (y 1) := by blk_ext [idx t]
  rw [e]
  refine congrArg Real.toEReal (Finset.sum_congr rfl fun s _ => Finset.sum_congr rfl fun x _ => ?_)
  have := points t
  refine congrArg (r_v76 A · (y 1)) (Fin.ext ?_)
  show (32 * (t.val / 32) + s.val) * 256 + (x.val * 8 + (y 0).val) = s.val * 256 + (x.val * 8 + (y 0).val)
  omega

theorem f19 : (dats m 0 c).arrAt 19 (cfgs 0).N = (fun i => ((acc (r_v72 A) (i 0) (i 1) : ℝ) : EReal)) := by
  refine (dats m 0 c).arrAt_eq_of_covers 19 _ (by decide +kernel) fun t hf y => ?_
  blk_simp [idx t]
  rw [after0_19]
  have keyA : ∀ t : Fin cfg0.N, t.val % 32 = 0 → (outsAt0 m c t.val t.isLt).2.2.2.2.2.2.2.1 = k0_pay21 (dx m c t) (k0_pay7 (F := Ideal)) := fun t h => by
    rw [outsAt0_A m c t h]; frame_out <;> rfl
  have keyB : ∀ t : Fin cfg0.N, ¬t.val % 32 = 0 → (outsAt0 m c t.val t.isLt).2.2.2.2.2.2.2.1
      = k0_pay21 (dx m c t) (outsAt0 m c (t.val - 1) (Nat.lt_of_le_of_lt (Nat.sub_le _ _) t.isLt)).2.2.2.2.2.2.2.1 := fun t h => by
    rw [outsAt0_B m c t h]; frame_out <;> rfl
  rw [Pipeline.eq_sum_fin_of_reset_step_apply_of_flush (fun n h => (outsAt0 m c n h).2.2.2.2.2.2.2.1) 32 (fun _ => 0)
    (fun t j => ((∑ x : Fin 32, r_v72 A (row t ⟨x.val * 8 + (j 0).val, by have : (j 0).val < 8 := (j 0).isLt; omega⟩) (j 1) : ℝ) : EReal))
    (fun t h j => by rw [keyA t h, eq_ix2 j]; exact (a21 (blk m H t) _ (j 0) (j 1)).trans (congrArg (· + _) (zero7 _)))
    (fun t h j => by rw [keyB t h, eq_ix2 j]; exact a21 (blk m H t) _ (j 0) (j 1))
    t ((flush0_19 t).mp hf) y, zero_add, Cert.Lift.sum fun _ => rfl]
  have e : (win0_19.blk t).view.emb y = ix2 (y 0) (y 1) := by blk_ext [idx t]
  rw [e]
  refine congrArg Real.toEReal (Finset.sum_congr rfl fun s _ => Finset.sum_congr rfl fun x _ => ?_)
  have := points t
  refine congrArg (r_v72 A · (y 1)) (Fin.ext ?_)
  show (32 * (t.val / 32) + s.val) * 256 + (x.val * 8 + (y 0).val) = s.val * 256 + (x.val * 8 + (y 0).val)
  omega

theorem f20 : (dats m 0 c).arrAt 20 (cfgs 0).N = (fun i => ((acc (r_v115 A) (i 0) (i 1) : ℝ) : EReal)) := by
  refine (dats m 0 c).arrAt_eq_of_covers 20 _ (by decide +kernel) fun t hf y => ?_
  blk_simp [idx t]
  rw [after0_20]
  have keyA : ∀ t : Fin cfg0.N, t.val % 32 = 0 → (outsAt0 m c t.val t.isLt).2.2.2.2.2.2.2.2 = k0_pay2 (iblk m c 7 t) (inner m c t) (dev m c t) (k0_pay8 (F := Ideal)) := fun t h => by
    rw [outsAt0_A m c t h]; frame_out <;> rfl
  have keyB : ∀ t : Fin cfg0.N, ¬t.val % 32 = 0 → (outsAt0 m c t.val t.isLt).2.2.2.2.2.2.2.2
      = k0_pay2 (iblk m c 7 t) (inner m c t) (dev m c t) (outsAt0 m c (t.val - 1) (Nat.lt_of_le_of_lt (Nat.sub_le _ _) t.isLt)).2.2.2.2.2.2.2.2 := fun t h => by
    rw [outsAt0_B m c t h]; frame_out <;> rfl
  rw [Pipeline.eq_sum_fin_of_reset_step_apply_of_flush (fun n h => (outsAt0 m c n h).2.2.2.2.2.2.2.2) 32 (fun _ => 0)
    (fun t j => ((∑ x : Fin 32, r_v115 A (row t ⟨x.val * 8 + (j 0).val, by have : (j 0).val < 8 := (j 0).isLt; omega⟩) (j 1) : ℝ) : EReal))
    (fun t h j => by rw [keyA t h, eq_ix2 j]; exact (a2 (blk m H t) _ (j 0) (j 1)).trans (congrArg (· + _) (zero8 _)))
    (fun t h j => by rw [keyB t h, eq_ix2 j]; exact a2 (blk m H t) _ (j 0) (j 1))
    t ((flush0_20 t).mp hf) y, zero_add, Cert.Lift.sum fun _ => rfl]
  have e : (win0_20.blk t).view.emb y = ix2 (y 0) (y 1) := by blk_ext [idx t]
  rw [e]
  refine congrArg Real.toEReal (Finset.sum_congr rfl fun s _ => Finset.sum_congr rfl fun x _ => ?_)
  have := points t
  refine congrArg (r_v115 A · (y 1)) (Fin.ext ?_)
  show (32 * (t.val / 32) + s.val) * 256 + (x.val * 8 + (y 0).val) = s.val * 256 + (x.val * 8 + (y 0).val)
  omega

end

end Cert.Kernel2Ideal.Value

end
-- ==== Proof.Lift.BackRun.lean ====
/- The backward program's results at arguments holding reals, and its precondition read. -/
module

public import proofs.«01_k».proof.Defs
public import proofs.«01_k».proof.Proof.Gen.Pre_finite2
public import proofs.«01_k».proof.Proof.Lift.Finite
public import proofs.«01_k».proof.Proof.Lift.BackAccs

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Reals

variable (m : (ℓ : Loc nD τ sig) → Buf (Elt Ideal) ℓ)

theorem exit16 (c : Dev nD) : Pipeline.withArrays (cfgs 0).spec c (V0 m c) (fun w => (dats m 0 c).arrAt w (cfgs 0).N) (Proc.tc.devRef main_v14_4) = (dats m 0 c).arrAt 16 (cfgs 0).N :=
  Pipeline.withArrays_arr (cfgs 0).spec (by decide) c _ _ 16

theorem exit17 (c : Dev nD) : Pipeline.withArrays (cfgs 0).spec c (V0 m c) (fun w => (dats m 0 c).arrAt w (cfgs 0).N) (Proc.tc.devRef main_v14_5) = (dats m 0 c).arrAt 17 (cfgs 0).N :=
  Pipeline.withArrays_arr (cfgs 0).spec (by decide) c _ _ 17

theorem exit18 (c : Dev nD) : Pipeline.withArrays (cfgs 0).spec c (V0 m c) (fun w => (dats m 0 c).arrAt w (cfgs 0).N) (Proc.tc.devRef main_v14_6) = (dats m 0 c).arrAt 18 (cfgs 0).N :=
  Pipeline.withArrays_arr (cfgs 0).spec (by decide) c _ _ 18

theorem exit19 (c : Dev nD) : Pipeline.withArrays (cfgs 0).spec c (V0 m c) (fun w => (dats m 0 c).arrAt w (cfgs 0).N) (Proc.tc.devRef main_v14_7) = (dats m 0 c).arrAt 19 (cfgs 0).N :=
  Pipeline.withArrays_arr (cfgs 0).spec (by decide) c _ _ 19

theorem exit20 (c : Dev nD) : Pipeline.withArrays (cfgs 0).spec c (V0 m c) (fun w => (dats m 0 c).arrAt w (cfgs 0).N) (Proc.tc.devRef main_v14_8) = (dats m 0 c).arrAt 20 (cfgs 0).N :=
  Pipeline.withArrays_arr (cfgs 0).spec (by decide) c _ _ 20

theorem zero_sums (x : ℝ) : (0 : ℝ) + ∑ _k : Fin 1, ((0 : ℝ) + x) = x := by simp

section
variable {A : Args} {c : Dev nD} (H : Args' m A c)
include H

theorem v15 : Pipeline.afterTail₀ cfgs (dats m) 0 (V0 m) [hostOps1] c main_v15 = (fun i => ((r_v33 A (i 0) : ℝ) : EReal)) := by
  show StableHlo.after hostOps1 (Pipeline.withArrays (cfgs 0).spec c (V0 m c) fun w => (dats m 0 c).arrAt w (cfgs 0).N) (Proc.tc.devRef main_v15) = _
  have e := exit16 m c
  rw [f16 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v28 A r (i 0))
  exact (sum_acc (r_v28 A) (i 0)).trans (zero_sums _).symm

theorem v16 : Pipeline.afterTail₀ cfgs (dats m) 0 (V0 m) [hostOps1] c main_v16 = (fun i => ((r_v27 A (i 0) : ℝ) : EReal)) := by
  show StableHlo.after hostOps1 (Pipeline.withArrays (cfgs 0).spec c (V0 m c) fun w => (dats m 0 c).arrAt w (cfgs 0).N) (Proc.tc.devRef main_v16) = _
  have e := exit17 m c
  rw [f17 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v14 A r (i 0))
  exact (sum_acc (r_v14 A) (i 0)).trans (zero_sums _).symm

theorem v17 : Pipeline.afterTail₀ cfgs (dats m) 0 (V0 m) [hostOps1] c main_v17 = (fun i => ((r_v81 A (i 0) : ℝ) : EReal)) := by
  show StableHlo.after hostOps1 (Pipeline.withArrays (cfgs 0).spec c (V0 m c) fun w => (dats m 0 c).arrAt w (cfgs 0).N) (Proc.tc.devRef main_v17) = _
  have e := exit18 m c
  rw [f18 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v76 A r (i 0))
  exact (sum_acc (r_v76 A) (i 0)).trans (zero_sums _).symm

theorem v18 : Pipeline.afterTail₀ cfgs (dats m) 0 (V0 m) [hostOps1] c main_v18 = (fun i => ((r_v75 A (i 0) : ℝ) : EReal)) := by
  show StableHlo.after hostOps1 (Pipeline.withArrays (cfgs 0).spec c (V0 m c) fun w => (dats m 0 c).arrAt w (cfgs 0).N) (Proc.tc.devRef main_v18) = _
  have e := exit19 m c
  rw [f19 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v72 A r (i 0))
  exact (sum_acc (r_v72 A) (i 0)).trans (zero_sums _).symm

theorem v19 : Pipeline.afterTail₀ cfgs (dats m) 0 (V0 m) [hostOps1] c main_v19 = (fun i => ((r_v118 A (i 0) : ℝ) : EReal)) := by
  show StableHlo.after hostOps1 (Pipeline.withArrays (cfgs 0).spec c (V0 m c) fun w => (dats m 0 c).arrAt w (cfgs 0).N) (Proc.tc.devRef main_v19) = _
  have e := exit20 m c
  rw [f20 m H] at e
  generalize Pipeline.withArrays (cfgs 0).spec c (V0 m c) (fun w => (dats m 0 c).arrAt w (cfgs 0).N) = W at e ⊢
  entry_read
  rw [e]
  funext i
  pointwise []
  refine (Cert.Lift.sum fun p => rfl).trans (congrArg Real.toEReal ?_)
  show _ = (0 : ℝ) + ∑ k : Fin 1, ((0 : ℝ) + ∑ r, r_v115 A r (i 0))
  exact (sum_acc (r_v115 A) (i 0)).trans (zero_sums _).symm

end

/-- The reals the arguments hold on a device. -/
def args (c : Dev nD) : Args where
  x0 i j := (m ((c : Thread nD τ).loc main_arg0) (ix2 i j)).toReal
  x1 i j := (m ((c : Thread nD τ).loc main_arg1) (ix2 i j)).toReal
  x2 i j := (m ((c : Thread nD τ).loc main_arg2) (ix2 i j)).toReal
  x3 i j := (m ((c : Thread nD τ).loc main_arg3) (ix2 i j)).toReal
  x4 i j := (m ((c : Thread nD τ).loc main_arg4) (ix2 i j)).toReal
  x5 i j := (m ((c : Thread nD τ).loc main_arg5) (ix2 i j)).toReal
  x6 i j := (m ((c : Thread nD τ).loc main_arg6) (ix2 i j)).toReal
  x7 i j := (m ((c : Thread nD τ).loc main_arg7) (ix2 i j)).toReal
  x8 i j := (m ((c : Thread nD τ).loc main_arg8) (ix2 i j)).toReal
  x9 i j := (m ((c : Thread nD τ).loc main_arg9) (ix2 i j)).toReal
  x10 i j := (m ((c : Thread nD τ).loc main_arg10) (ix2 i j)).toReal
  x11 i j := (m ((c : Thread nD τ).loc main_arg11) (ix2 i j)).toReal

theorem holds (h : Cert.Pre_Kernel2Ideal_finite2 m) (c : Dev nD) : Args' m (args m c) c := by
  have e := congrFun (h c) fun i => i.elim0
  obtain ⟨e, e11⟩ := Cert.Lift.and_one e
  obtain ⟨e, e10⟩ := Cert.Lift.and_one e
  obtain ⟨e, e9⟩ := Cert.Lift.and_one e
  obtain ⟨e, e8⟩ := Cert.Lift.and_one e
  obtain ⟨e, e7⟩ := Cert.Lift.and_one e
  obtain ⟨e, e6⟩ := Cert.Lift.and_one e
  obtain ⟨e, e5⟩ := Cert.Lift.and_one e
  obtain ⟨e, e4⟩ := Cert.Lift.and_one e
  obtain ⟨e, e3⟩ := Cert.Lift.and_one e
  obtain ⟨e, e2⟩ := Cert.Lift.and_one e
  obtain ⟨e, e1⟩ := Cert.Lift.and_one e
  obtain ⟨-, e0⟩ := Cert.Lift.and_one e
  exact ⟨Cert.Lift.real_of_all2 _ _ _ _ _ e0, Cert.Lift.real_of_all2 _ _ _ _ _ e1, Cert.Lift.real_of_all2 _ _ _ _ _ e2, Cert.Lift.real_of_all2 _ _ _ _ _ e3, Cert.Lift.real_of_all2 _ _ _ _ _ e4, Cert.Lift.real_of_all2 _ _ _ _ _ e5, Cert.Lift.real_of_all2 _ _ _ _ _ e6, Cert.Lift.real_of_all2 _ _ _ _ _ e7, Cert.Lift.real_of_all2 _ _ _ _ _ e8, Cert.Lift.real_of_all2 _ _ _ _ _ e9, Cert.Lift.real_of_all2 _ _ _ _ _ e10, Cert.Lift.real_of_all2 _ _ _ _ _ e11⟩

end Cert.Kernel2Ideal.Value

end
-- ==== Proof.Lift.BackProof.lean ====
/- The feed-forward backward kernel agrees with its reference at finite arguments. -/
module

public import proofs.«01_k».proof.Defs
public import proofs.«01_k».proof.Proof.Gen.Kernel2
public import proofs.«01_k».proof.Proof.Gen.Reference2Ideal.Run
public import proofs.«01_k».proof.Proof.Gen.Reference2Ideal.Read
public import proofs.«01_k».proof.Proof.Lift.BackRun
public import Idealize.ShloMosaic.Adequacy
public import Idealize.ShloMosaic.Init

@[expose] public section

noncomputable section

namespace Cert.Proof

open Idealize.ShloMosaic Idealize.SL.Sem Cert.Reference2Ideal.Reals Cert.Kernel2Ideal.Value

theorem frame_reference2 : Cert.quiescent_Reference2Ideal := fun m ρ _ =>
  (θ_run Cert.Reference2Ideal.defs _ _).mono (fun r h => ⟨fun c => (h c).2.2.2.2.2.2.2.2.2, sem_eq_zero_of_no_sems (by decide) r.2⟩) (Cert.Reference2Ideal.Value.run m ρ)

theorem algebraic2 : Cert.algebraic_Kernel2Ideal_Reference2Ideal_pre_finite2 := by
  intro m g m' g' hpre hargs
  have H := fun c => Cert.Kernel2Ideal.Value.holds m hpre c
  have e : ∀ c, Cert.Reference2Ideal.Reals.Holds (Cert.Kernel2Ideal.Value.args m c) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7)) (m' (c.tc.loc Cert.Reference2Ideal.main_arg8)) (m' (c.tc.loc Cert.Reference2Ideal.main_arg9)) (m' (c.tc.loc Cert.Reference2Ideal.main_arg10)) (m' (c.tc.loc Cert.Reference2Ideal.main_arg11)) := fun c => by
    obtain ⟨h0, h1, h2, h3, h4, h5, h6, h7, h8, h9, h10, h11⟩ := hargs c
    rw [h0, h1, h2, h3, h4, h5, h6, h7, h8, h9, h10, h11]
    exact H c
  refine ⟨fun c i => ((Cert.Reference2Ideal.Reals.r_v119 (Cert.Kernel2Ideal.Value.args m c) (i 0) (i 1) : ℝ) : EReal), fun c i => ((Cert.Reference2Ideal.Reals.r_v120 (Cert.Kernel2Ideal.Value.args m c) (i 0) (i 1) : ℝ) : EReal), fun c i => ((Cert.Reference2Ideal.Reals.r_v105 (Cert.Kernel2Ideal.Value.args m c) (i 0) (i 1) : ℝ) : EReal), fun c i => ((Cert.Reference2Ideal.Reals.r_v121 (Cert.Kernel2Ideal.Value.args m c) (i 0) (i 1) : ℝ) : EReal), fun c i => ((Cert.Reference2Ideal.Reals.r_v33 (Cert.Kernel2Ideal.Value.args m c) (i 0) : ℝ) : EReal), fun c i => ((Cert.Reference2Ideal.Reals.r_v27 (Cert.Kernel2Ideal.Value.args m c) (i 0) : ℝ) : EReal), fun c i => ((Cert.Reference2Ideal.Reals.r_v81 (Cert.Kernel2Ideal.Value.args m c) (i 0) : ℝ) : EReal), fun c i => ((Cert.Reference2Ideal.Reals.r_v75 (Cert.Kernel2Ideal.Value.args m c) (i 0) : ℝ) : EReal), fun c i => ((Cert.Reference2Ideal.Reals.r_v118 (Cert.Kernel2Ideal.Value.args m c) (i 0) : ℝ) : EReal), ?_, ?_⟩
  · refine (θ_run Cert.Kernel2Ideal.defs _ _).mono (fun r h c => ?_) (θ_run_and (Cert.Kernel2Ideal.Gen.run_main m g) (Cert.Kernel2Ideal.Gen.unchanged m g))
    exact ⟨((h.1 c).1 12).trans (f12 m (H c)), ((h.1 c).1 13).trans (f13 m (H c)), ((h.1 c).1 14).trans (f14 m (H c)), ((h.1 c).1 15).trans (f15 m (H c)), ((h.1 c).2 _ (by decide)).trans (v15 m (H c)), ((h.1 c).2 _ (by decide)).trans (v16 m (H c)), ((h.1 c).2 _ (by decide)).trans (v17 m (H c)), ((h.1 c).2 _ (by decide)).trans (v18 m (H c)), ((h.1 c).2 _ (by decide)).trans (v19 m (H c)), h.2 c⟩
  · refine (θ_run Cert.Reference2Ideal.defs _ _).mono (fun r h c => ?_) (Cert.Reference2Ideal.Value.run m' g')
    obtain ⟨h0, h1, h2, h3, h4, h5, h6, h7, h8, h9⟩ := h c
    exact ⟨h0.trans (funext fun i => l_v119 (e c) i), h1.trans (funext fun i => l_v120 (e c) i), (h2.trans (Cert.Reference2Ideal.Read.val_main_v105_eq m' c)).trans (funext fun i => l_v105 (e c) i), (h3.trans (Cert.Reference2Ideal.Read.val_main_v121_eq m' c)).trans (funext fun i => l_v121 (e c) i), (h4.trans (Cert.Reference2Ideal.Read.val_main_v33_eq _ _ _ _ _ _ _)).trans (funext fun i => l_v33 (e c) i), (h5.trans (Cert.Reference2Ideal.Read.val_main_v27_eq _ _ _ _ _ _)).trans (funext fun i => l_v27 (e c) i), (h6.trans (Cert.Reference2Ideal.Read.val_main_v81_eq m' c)).trans (funext fun i => l_v81 (e c) i), (h7.trans (Cert.Reference2Ideal.Read.val_main_v75_eq _ _ _ _ _ _ _)).trans (funext fun i => l_v75 (e c) i), (h8.trans (Cert.Reference2Ideal.Read.val_main_v118_eq m' c)).trans (funext fun i => l_v118 (e c) i), h9⟩

end Cert.Proof

end
-- ==== Proof.Lift.Down.lean ====
/- The gradient of the down projection's weights: the product of the transposed activations and the cotangent, added up tile by tile. -/
module

public import proofs.«01_k».proof.Proof.Gen.Kernel4Ideal.Frame
public import proofs.«01_k».proof.Proof.Gen.Reference4Ideal.Run
public import proofs.«01_k».proof.Proof.Gen.Reference4Ideal.Read
public import proofs.«01_k».proof.Proof.Lift.Sums
public import Idealize.ShloMosaic.Lib.Pipeline.ValueKit

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem points (t : Fin cfg0.N) : t.val < 8 := lt_of_lt_of_eq t.isLt (show cfg0.N = 8 from N_0)

/-- The row of the arrays that row `x` of point `t`'s blocks is, and the gradient's row that its row `p` is. -/
def row (t : Fin cfg0.N) (x : Fin 2048) : Fin 8192 := ⟨t.val % 4 * 2048 + x.val, by have := points t; omega⟩
def col (t : Fin cfg0.N) (p : Fin 1408) : Fin 2816 := ⟨t.val / 4 * 1408 + p.val, by have := points t; omega⟩

theorem product (u : FVec Ideal S2048x1408 .bf16) (v : FVec Ideal S2048x1024 .bf16) (a : FVec Ideal S1408x1024 .f32) (p : Fin 1408) (q : Fin 1024) :
    k0_pay2 (F := Ideal) u a v (ix2 p q) = a (ix2 p q) + ∑ x : Fin 2048, u (ix2 x p) * v (ix2 x q) := by
  pointwise [k0_pay2]

theorem zero (i : S1408x1024.Idx) : k0_pay1 (F := Ideal) i = 0 := by pointwise [k0_pay1]

theorem rounded (v : FVec Ideal S1408x1024 .f32) (i : S1408x1024.Idx) : k0_pay3 (F := Ideal) v i = v i := by pointwise [k0_pay3]

variable (m : (ℓ : Loc nD τ sig) → Buf (Elt Ideal) ℓ) (c : Dev nD)

/-- The arguments' entries. -/
abbrev lhs (r : Fin 8192) (p : Fin 2816) : EReal := m ((c : Thread nD τ).loc main_arg0) (ix2 r p)
abbrev rhs (r : Fin 8192) (q : Fin 1024) : EReal := m ((c : Thread nD τ).loc main_arg1) (ix2 r q)

theorem left (t : Fin cfg0.N) (x : Fin 2048) (p : Fin 1408) : (iblk m c 0 t : FVec Ideal S2048x1408 .bf16) (ix2 x p) = lhs m c (row t x) (col t p) := by
  blk_point [iblk, V, idx t, row, col]

theorem right (t : Fin cfg0.N) (x : Fin 2048) (q : Fin 1024) : (iblk m c 1 t : FVec Ideal S2048x1024 .bf16) (ix2 x q) = rhs m c (row t x) q := by
  blk_point [iblk, V, idx t, row]

/-- The product of the transposed first argument and the second at row `p` and column `q`. -/
def grad (p : Fin 2816) (q : Fin 1024) : EReal := ∑ r : Fin 8192, lhs m c r p * rhs m c r q

theorem keyA (t : Fin cfg0.N) (h : t.val % 4 = 0) : (outsAt0 m c t.val t.isLt).2 = k0_pay2 (iblk m c 0 t) (k0_pay1 (F := Ideal)) (iblk m c 1 t) := by
  rw [outsAt0_A m c t h (by omega)]; frame_out

theorem keyB (t : Fin cfg0.N) (h : ¬t.val % 4 = 0) :
    (outsAt0 m c t.val t.isLt).2 = k0_pay2 (iblk m c 0 t) (outsAt0 m c (t.val - 1) (Nat.lt_of_le_of_lt (Nat.sub_le _ _) t.isLt)).2 (iblk m c 1 t) := by
  by_cases h3 : t.val % 4 = 3
  · rw [outsAt0_C m c t h h3]; frame_out; exact congrArg (k0_pay2 (iblk m c 0 t) · (iblk m c 1 t)) ((Memref.isWhole_whole _).read_unread _)
  · rw [outsAt0_B m c t h h3]; frame_out; exact congrArg (k0_pay2 (iblk m c 0 t) · (iblk m c 1 t)) ((Memref.isWhole_whole _).read_unread _)

theorem keyC (t : Fin cfg0.N) (h : t.val % 4 = 3) :
    (outsAt0 m c t.val t.isLt).1 = k0_pay3 (outsAt0 m c t.val t.isLt).2 := by
  rw [outsAt0_C m c t (by omega) h]; frame_out

theorem final : (dats m 0 c).arrAt 2 (cfgs 0).N = (fun i => grad m c (i 0) (i 1)) := by
  refine (dats m 0 c).arrAt_eq_of_covers 2 _ (by decide +kernel) fun t hf y => ?_
  have hl := (flush0_2 t).mp hf
  blk_simp [idx t]
  rw [after0_2, keyC m c t hl, rounded,
    Pipeline.eq_sum_fin_of_reset_step_apply_of_flush (fun n h => (outsAt0 m c n h).2) 4 (fun _ => 0)
    (fun t j => ∑ x : Fin 2048, lhs m c (row t x) (col t (j 0)) * rhs m c (row t x) (j 1))
    (fun t h j => by rw [keyA m c t h, eq_ix2 j]; exact (product _ _ _ (j 0) (j 1)).trans (congrArg₂ (· + ·) (zero _) (Finset.sum_congr rfl fun x _ => congrArg₂ (· * ·) (left m c t x _) (right m c t x _))))
    (fun t h j => by rw [keyB m c t h, eq_ix2 j]; exact (product _ _ _ (j 0) (j 1)).trans (congrArg _ (Finset.sum_congr rfl fun x _ => congrArg₂ (· * ·) (left m c t x _) (right m c t x _))))
    t hl y, zero_add]
  have e : (win0_2.blk t).view.emb y = ix2 (col t (y 0)) (y 1) := by blk_ext [idx t, col]
  rw [e]
  refine Eq.trans (α := EReal) (Finset.sum_congr (M := EReal) rfl fun s _ => Finset.sum_congr (M := EReal) rfl fun x _ => ?_) (Cert.Lift.sum_blocks 4 2048 8192 (by decide) rfl (fun s x => by omega)
    fun r => lhs m c r (col t (y 0)) * rhs m c r (y 1))
  have := points t
  have hr : row ⟨4 * (t.val / 4) + s.val, Pipeline.run_point_lt_of_flush t hl s⟩ x = ⟨s.val * 2048 + x.val, by omega⟩ := Fin.ext (by show (4 * (t.val / 4) + s.val) % 4 * 2048 + x.val = s.val * 2048 + x.val; omega)
  have hc : col ⟨4 * (t.val / 4) + s.val, Pipeline.run_point_lt_of_flush t hl s⟩ (y 0) = col t (y 0) := Fin.ext (by show (4 * (t.val / 4) + s.val) / 4 * 1408 + (y 0).val = t.val / 4 * 1408 + (y 0).val; omega)
  rw [hr, hc]

end Cert.Kernel4Ideal.Value

end
-- ==== Proof.Lift.Out.lean ====
/- The gradient of the output projection's weights: the product of the transposed activations and the cotangent, added up tile by tile. -/
module

public import proofs.«01_k».proof.Proof.Gen.Kernel5Ideal.Frame
public import proofs.«01_k».proof.Proof.Gen.Reference5Ideal.Run
public import proofs.«01_k».proof.Proof.Gen.Reference5Ideal.Read
public import proofs.«01_k».proof.Proof.Lift.Sums
public import Idealize.ShloMosaic.Lib.Pipeline.ValueKit

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem points (t : Fin cfg0.N) : t.val < 2 := lt_of_lt_of_eq t.isLt (show cfg0.N = 2 from N_0)

/-- The row of the arrays that row `x` of point `t`'s blocks is, and the gradient's row that its row `p` is. -/
def row (t : Fin cfg0.N) (x : Fin 4096) : Fin 8192 := ⟨t.val % 2 * 4096 + x.val, by have := points t; omega⟩
def col (t : Fin cfg0.N) (p : Fin 1024) : Fin 1024 := ⟨t.val / 2 * 1024 + p.val, by have := points t; omega⟩

theorem product (u : FVec Ideal S4096x1024 .bf16) (v : FVec Ideal S4096x1024 .bf16) (a : FVec Ideal S1024x1024 .f32) (p : Fin 1024) (q : Fin 1024) :
    k0_pay2 (F := Ideal) u a v (ix2 p q) = a (ix2 p q) + ∑ x : Fin 4096, u (ix2 x p) * v (ix2 x q) := by
  pointwise [k0_pay2]

theorem zero (i : S1024x1024.Idx) : k0_pay1 (F := Ideal) i = 0 := by pointwise [k0_pay1]

theorem rounded (v : FVec Ideal S1024x1024 .f32) (i : S1024x1024.Idx) : k0_pay3 (F := Ideal) v i = v i := by pointwise [k0_pay3]

variable (m : (ℓ : Loc nD τ sig) → Buf (Elt Ideal) ℓ) (c : Dev nD)

/-- The arguments' entries. -/
abbrev lhs (r : Fin 8192) (p : Fin 1024) : EReal := m ((c : Thread nD τ).loc main_arg0) (ix2 r p)
abbrev rhs (r : Fin 8192) (q : Fin 1024) : EReal := m ((c : Thread nD τ).loc main_arg1) (ix2 r q)

theorem left (t : Fin cfg0.N) (x : Fin 4096) (p : Fin 1024) : (iblk m c 0 t : FVec Ideal S4096x1024 .bf16) (ix2 x p) = lhs m c (row t x) (col t p) := by
  blk_point [iblk, V, idx t, row, col]

theorem right (t : Fin cfg0.N) (x : Fin 4096) (q : Fin 1024) : (iblk m c 1 t : FVec Ideal S4096x1024 .bf16) (ix2 x q) = rhs m c (row t x) q := by
  blk_point [iblk, V, idx t, row]

/-- The product of the transposed first argument and the second at row `p` and column `q`. -/
def grad (p : Fin 1024) (q : Fin 1024) : EReal := ∑ r : Fin 8192, lhs m c r p * rhs m c r q

theorem keyA (t : Fin cfg0.N) (h : t.val % 2 = 0) : (outsAt0 m c t.val t.isLt).2 = k0_pay2 (iblk m c 0 t) (k0_pay1 (F := Ideal)) (iblk m c 1 t) := by
  rw [outsAt0_A m c t h (by omega)]; frame_out

theorem keyB (t : Fin cfg0.N) (h : ¬t.val % 2 = 0) :
    (outsAt0 m c t.val t.isLt).2 = k0_pay2 (iblk m c 0 t) (outsAt0 m c (t.val - 1) (Nat.lt_of_le_of_lt (Nat.sub_le _ _) t.isLt)).2 (iblk m c 1 t) := by
  rw [outsAt0_B m c t h (by omega)]; frame_out; exact congrArg (k0_pay2 (iblk m c 0 t) · (iblk m c 1 t)) ((Memref.isWhole_whole _).read_unread _)

theorem keyC (t : Fin cfg0.N) (h : t.val % 2 = 1) :
    (outsAt0 m c t.val t.isLt).1 = k0_pay3 (outsAt0 m c t.val t.isLt).2 := by
  rw [outsAt0_B m c t (by omega) h]; frame_out

theorem final : (dats m 0 c).arrAt 2 (cfgs 0).N = (fun i => grad m c (i 0) (i 1)) := by
  refine (dats m 0 c).arrAt_eq_of_covers 2 _ (by decide +kernel) fun t hf y => ?_
  have hl := (flush0_2 t).mp hf
  blk_simp [idx t]
  rw [after0_2, keyC m c t hl, rounded,
    Pipeline.eq_sum_fin_of_reset_step_apply_of_flush (fun n h => (outsAt0 m c n h).2) 2 (fun _ => 0)
    (fun t j => ∑ x : Fin 4096, lhs m c (row t x) (col t (j 0)) * rhs m c (row t x) (j 1))
    (fun t h j => by rw [keyA m c t h, eq_ix2 j]; exact (product _ _ _ (j 0) (j 1)).trans (congrArg₂ (· + ·) (zero _) (Finset.sum_congr rfl fun x _ => congrArg₂ (· * ·) (left m c t x _) (right m c t x _))))
    (fun t h j => by rw [keyB m c t h, eq_ix2 j]; exact (product _ _ _ (j 0) (j 1)).trans (congrArg _ (Finset.sum_congr rfl fun x _ => congrArg₂ (· * ·) (left m c t x _) (right m c t x _))))
    t hl y, zero_add]
  have e : (win0_2.blk t).view.emb y = ix2 (col t (y 0)) (y 1) := by blk_ext [idx t, col]
  rw [e]
  refine Eq.trans (α := EReal) (Finset.sum_congr (M := EReal) rfl fun s _ => Finset.sum_congr (M := EReal) rfl fun x _ => ?_) (Cert.Lift.sum_blocks 2 4096 8192 (by decide) rfl (fun s x => by omega)
    fun r => lhs m c r (col t (y 0)) * rhs m c r (y 1))
  have := points t
  have hr : row ⟨2 * (t.val / 2) + s.val, Pipeline.run_point_lt_of_flush t hl s⟩ x = ⟨s.val * 4096 + x.val, by omega⟩ := Fin.ext (by show (2 * (t.val / 2) + s.val) % 2 * 4096 + x.val = s.val * 4096 + x.val; omega)
  have hc : col ⟨2 * (t.val / 2) + s.val, Pipeline.run_point_lt_of_flush t hl s⟩ (y 0) = col t (y 0) := Fin.ext (by show (2 * (t.val / 2) + s.val) / 2 * 1024 + (y 0).val = t.val / 2 * 1024 + (y 0).val; omega)
  rw [hr, hc]

end Cert.Kernel5Ideal.Value

end
-- ==== Proof.Lift.GateUp.lean ====
/- The gradient of the gate and up projections' weights: the product of the transposed activations and the cotangent, added up tile by tile. -/
module

public import proofs.«01_k».proof.Proof.Gen.Kernel3Ideal.Frame
public import proofs.«01_k».proof.Proof.Gen.Reference3Ideal.Run
public import proofs.«01_k».proof.Proof.Gen.Reference3Ideal.Read
public import proofs.«01_k».proof.Proof.Lift.Sums
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

theorem idx : ∀ t : Fin cfg0.N, (t.val / 4 < 2 → win0_0.index t = ![t.val % 4, t.val / 4]) ∧ (¬t.val / 4 < 2 → win0_1.index t = ![t.val % 4, t.val / 4 - 2])
    ∧ win0_2.index t = ![t.val % 4, 0] ∧ win0_3.index t = ![t.val / 4, 0] ∧ (grid0.coords t 0).val = t.val / 4 :=
  (by decide +kernel : ∀ t : Fin grid0.N, _)

theorem points (t : Fin cfg0.N) : t.val < 16 := lt_of_lt_of_eq t.isLt (show cfg0.N = 16 from N_0)

/-- The row of the arrays that row `x` of point `t`'s blocks is, and the gradient's row that its row `p` is. -/
def row (t : Fin cfg0.N) (x : Fin 2048) : Fin 8192 := ⟨t.val % 4 * 2048 + x.val, by have := points t; omega⟩
def col (t : Fin cfg0.N) (p : Fin 1408) : Fin 5632 := ⟨t.val / 4 * 1408 + p.val, by have := points t; omega⟩

/-- The tile of the product's left factor: the gate's in the first half of the tiles, else the up product's. -/
theorem tile (i : grid0.Coords) (h : (i 0).val < 2) : Scalar.cmpi .slt (BitVec.ofNat 32 (i 0).val) 2#32 = 1#1 :=
  (by decide : ∀ n : Fin 2, Scalar.cmpi .slt (BitVec.ofNat 32 n.val) 2#32 = 1#1) ⟨(i 0).val, h⟩

theorem tile' (i : grid0.Coords) (h : ¬(i 0).val < 2) : Scalar.cmpi .slt (BitVec.ofNat 32 (i 0).val) 2#32 = 0#1 :=
  (by decide : ∀ n : Fin 4, ¬n.val < 2 → Scalar.cmpi .slt (BitVec.ofNat 32 n.val) 2#32 = 0#1) ⟨(i 0).val, (i 0).isLt⟩ h

theorem product (i : grid0.Coords) (u u' : FVec Ideal S2048x1408 .bf16) (v : FVec Ideal S2048x1024 .bf16) (a : FVec Ideal S1408x1024 .f32) (p : Fin 1408) (q : Fin 1024) :
    k0_pay2 (F := Ideal) i u u' a v (ix2 p q) = a (ix2 p q) + ∑ x : Fin 2048, (if (i 0).val < 2 then u (ix2 x p) else u' (ix2 x p)) * v (ix2 x q) := by
  by_cases h : (i 0).val < 2
  · have e := tile i h
    unfold k0_pay2
    rw [e]
    simp only [h, if_true]
    pointwise []
  · have e := tile' i h
    unfold k0_pay2
    rw [e]
    simp only [h, if_false]
    pointwise []

theorem zero (i : S1408x1024.Idx) : k0_pay1 (F := Ideal) i = 0 := by pointwise [k0_pay1]

theorem rounded (v : FVec Ideal S1408x1024 .f32) (i : S1408x1024.Idx) : k0_pay3 (F := Ideal) v i = v i := by pointwise [k0_pay3]

variable (m : (ℓ : Loc nD τ sig) → Buf (Elt Ideal) ℓ) (c : Dev nD)

/-- The arguments' entries: the cotangent's columns are the gate's and then the up product's. -/
abbrev lhs (r : Fin 8192) (p : Fin 5632) : EReal :=
  if h : p.val < 2816 then m ((c : Thread nD τ).loc main_arg1) (ix2 r ⟨p.val, h⟩) else m ((c : Thread nD τ).loc main_arg2) (ix2 r ⟨p.val - 2816, by omega⟩)
abbrev rhs (r : Fin 8192) (q : Fin 1024) : EReal := m ((c : Thread nD τ).loc main_arg0) (ix2 r q)

theorem left (t : Fin cfg0.N) (x : Fin 2048) (p : Fin 1408) :
    (if (grid0.coords t 0).val < 2 then (iblk m c 0 t : FVec Ideal S2048x1408 .bf16) (ix2 x p) else (iblk m c 1 t : FVec Ideal S2048x1408 .bf16) (ix2 x p)) = lhs m c (row t x) (col t p) := by
  have hp := points t
  have hl : (col t p).val = t.val / 4 * 1408 + p.val := rfl
  rw [(idx t).2.2.2.2]
  by_cases h : t.val / 4 < 2
  · have e := (idx t).1 h
    have h' : (col t p).val < 2816 := by omega
    rw [if_pos h, lhs, dif_pos h']
    blk_point [iblk, V, e, row, col]
  · have e := (idx t).2.1 h
    have h' : ¬(col t p).val < 2816 := by omega
    rw [if_neg h, lhs, dif_neg h']
    have hc : (⟨(col t p).val - 2816, by omega⟩ : Fin 2816) = ⟨(t.val / 4 - 2) * 1408 + p.val, by omega⟩ := Fin.ext (by show t.val / 4 * 1408 + p.val - 2816 = (t.val / 4 - 2) * 1408 + p.val; omega)
    rw [hc]
    blk_point [iblk, V, e, row]

theorem right (t : Fin cfg0.N) (x : Fin 2048) (q : Fin 1024) : (iblk m c 2 t : FVec Ideal S2048x1024 .bf16) (ix2 x q) = rhs m c (row t x) q := by
  blk_point [iblk, V, idx t, row]

/-- The product of the transposed first argument and the second at row `p` and column `q`. -/
def grad (p : Fin 5632) (q : Fin 1024) : EReal := ∑ r : Fin 8192, lhs m c r p * rhs m c r q

theorem keyA (t : Fin cfg0.N) (h : t.val % 4 = 0) : (outsAt0 m c t.val t.isLt).2 = k0_pay2 (grid0.coords t) (iblk m c 0 t) (iblk m c 1 t) (k0_pay1 (F := Ideal)) (iblk m c 2 t) := by
  rw [outsAt0_A m c t h (by omega)]; frame_out

theorem keyB (t : Fin cfg0.N) (h : ¬t.val % 4 = 0) :
    (outsAt0 m c t.val t.isLt).2 = k0_pay2 (grid0.coords t) (iblk m c 0 t) (iblk m c 1 t) (outsAt0 m c (t.val - 1) (Nat.lt_of_le_of_lt (Nat.sub_le _ _) t.isLt)).2 (iblk m c 2 t) := by
  by_cases h3 : t.val % 4 = 3
  · rw [outsAt0_C m c t h h3]; frame_out; exact congrArg (k0_pay2 (grid0.coords t) (iblk m c 0 t) (iblk m c 1 t) · (iblk m c 2 t)) ((Memref.isWhole_whole _).read_unread _)
  · rw [outsAt0_B m c t h h3]; frame_out; exact congrArg (k0_pay2 (grid0.coords t) (iblk m c 0 t) (iblk m c 1 t) · (iblk m c 2 t)) ((Memref.isWhole_whole _).read_unread _)

theorem keyC (t : Fin cfg0.N) (h : t.val % 4 = 3) :
    (outsAt0 m c t.val t.isLt).1 = k0_pay3 (outsAt0 m c t.val t.isLt).2 := by
  rw [outsAt0_C m c t (by omega) h]; frame_out

theorem final : (dats m 0 c).arrAt 3 (cfgs 0).N = (fun i => grad m c (i 0) (i 1)) := by
  refine (dats m 0 c).arrAt_eq_of_covers 3 _ (by decide +kernel) fun t hf y => ?_
  have hl := (flush0_3 t).mp hf
  blk_simp [idx t]
  rw [after0_3, keyC m c t hl, rounded,
    Pipeline.eq_sum_fin_of_reset_step_apply_of_flush (fun n h => (outsAt0 m c n h).2) 4 (fun _ => 0)
    (fun t j => ∑ x : Fin 2048, lhs m c (row t x) (col t (j 0)) * rhs m c (row t x) (j 1))
    (fun t h j => by rw [keyA m c t h, eq_ix2 j]; exact (product _ _ _ _ _ (j 0) (j 1)).trans (congrArg₂ (· + ·) (zero _) (Finset.sum_congr rfl fun x _ => congrArg₂ (· * ·) (left m c t x _) (right m c t x _))))
    (fun t h j => by rw [keyB m c t h, eq_ix2 j]; exact (product _ _ _ _ _ (j 0) (j 1)).trans (congrArg _ (Finset.sum_congr rfl fun x _ => congrArg₂ (· * ·) (left m c t x _) (right m c t x _))))
    t hl y, zero_add]
  have e : (win0_3.blk t).view.emb y = ix2 (col t (y 0)) (y 1) := by blk_ext [idx t, col]
  rw [e]
  refine Eq.trans (α := EReal) (Finset.sum_congr (M := EReal) rfl fun s _ => Finset.sum_congr (M := EReal) rfl fun x _ => ?_) (Cert.Lift.sum_blocks 4 2048 8192 (by decide) rfl (fun s x => by omega)
    fun r => lhs m c r (col t (y 0)) * rhs m c r (y 1))
  have := points t
  have hr : row ⟨4 * (t.val / 4) + s.val, Pipeline.run_point_lt_of_flush t hl s⟩ x = ⟨s.val * 2048 + x.val, by omega⟩ := Fin.ext (by show (4 * (t.val / 4) + s.val) % 4 * 2048 + x.val = s.val * 2048 + x.val; omega)
  have hc : col ⟨4 * (t.val / 4) + s.val, Pipeline.run_point_lt_of_flush t hl s⟩ (y 0) = col t (y 0) := Fin.ext (by show (4 * (t.val / 4) + s.val) / 4 * 1408 + (y 0).val = t.val / 4 * 1408 + (y 0).val; omega)
  rw [hr, hc]

end Cert.Kernel3Ideal.Value

end
-- ==== Proof.Lift.Wgrads.lean ====
/- The weight gradients agree with the reference's: the frames of the references and the equality of the results. -/
module

public import proofs.«01_k».proof.Proof.Lift.Down
public import proofs.«01_k».proof.Proof.Lift.Out
public import proofs.«01_k».proof.Proof.Lift.GateUp
public import proofs.«01_k».proof.Proof.Gen.Kernel3
public import proofs.«01_k».proof.Proof.Gen.Kernel4
public import proofs.«01_k».proof.Proof.Gen.Kernel5
public import Idealize.ShloMosaic.Adequacy

@[expose] public section

set_option maxRecDepth 16384

noncomputable section

namespace Cert.Proof

open Idealize.ShloMosaic Idealize.ShloMosaic.TcCoe Idealize.SL.Sem

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

open Cert.Reference4Ideal Cert.Reference4Ideal.Read in
/-- The reference's gradient of the down projection's weights. -/
theorem gradient4 (x0 : FVec Ideal S8192x2816 .f32) (x1 : FVec Ideal S8192x1024 .f32) (i : S2816x1024.Idx) :
    val_main_v4 (F := Ideal) x0 x1 i = ∑ r : Fin 8192, (x0 (ix2 r (i 0)) : EReal) * x1 (ix2 r (i 1)) := by
  show val_main_v3 (F := Ideal) x0 x1 i = _
  rw [val_main_v3_apply, val_main_v2_apply]
  refine Finset.sum_congr (M := EReal) rfl fun r _ => (mul_comm _ _).trans (congrArg₂ (· * ·) (congrArg x0 (Cert.Lift.ext2 rfl rfl)) (congrArg x1 (Cert.Lift.ext2 rfl rfl)))

theorem algebraic4 : Cert.algebraic_Kernel4Ideal_Reference4Ideal := by
  intro m g m' g' _ hargs
  refine ⟨fun c i => Cert.Kernel4Ideal.Value.grad m c (i 0) (i 1), ?_, ?_⟩
  · refine (θ_run Cert.Kernel4Ideal.defs _ _).mono (fun r h c => ?_) (θ_run_and (Cert.Kernel4Ideal.Gen.run_main m g) (Cert.Kernel4Ideal.Gen.unchanged m g))
    exact ⟨((h.1 c).1 2).trans (Cert.Kernel4Ideal.Value.final m c), h.2 c⟩
  · refine (θ_run Cert.Reference4Ideal.defs _ _).mono (fun r h c => ?_) (Cert.Reference4Ideal.Value.run m' g')
    obtain ⟨h0, h1⟩ := h c
    exact ⟨(h0.trans (Cert.Reference4Ideal.Read.val_main_v4_eq _ _)).trans (funext fun i => (gradient4 _ _ i).trans (by rw [(hargs c).1, (hargs c).2]; rfl)), h1⟩

theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

open Cert.Reference5Ideal Cert.Reference5Ideal.Read in
/-- The reference's gradient of the output projection's weights. -/
theorem gradient5 (x0 : FVec Ideal S8192x1024 .f32) (x1 : FVec Ideal S8192x1024 .f32) (i : S1024x1024.Idx) :
    val_main_v4 (F := Ideal) x0 x1 i = ∑ r : Fin 8192, (x0 (ix2 r (i 0)) : EReal) * x1 (ix2 r (i 1)) := by
  show val_main_v3 (F := Ideal) x0 x1 i = _
  rw [val_main_v3_apply, val_main_v2_apply]
  refine Finset.sum_congr (M := EReal) rfl fun r _ => (mul_comm _ _).trans (congrArg₂ (· * ·) (congrArg x0 (Cert.Lift.ext2 rfl rfl)) (congrArg x1 (Cert.Lift.ext2 rfl rfl)))

theorem algebraic5 : Cert.algebraic_Kernel5Ideal_Reference5Ideal := by
  intro m g m' g' _ hargs
  refine ⟨fun c i => Cert.Kernel5Ideal.Value.grad m c (i 0) (i 1), ?_, ?_⟩
  · refine (θ_run Cert.Kernel5Ideal.defs _ _).mono (fun r h c => ?_) (θ_run_and (Cert.Kernel5Ideal.Gen.run_main m g) (Cert.Kernel5Ideal.Gen.unchanged m g))
    exact ⟨((h.1 c).1 2).trans (Cert.Kernel5Ideal.Value.final m c), h.2 c⟩
  · refine (θ_run Cert.Reference5Ideal.defs _ _).mono (fun r h c => ?_) (Cert.Reference5Ideal.Value.run m' g')
    obtain ⟨h0, h1⟩ := h c
    exact ⟨(h0.trans (Cert.Reference5Ideal.Read.val_main_v4_eq _ _)).trans (funext fun i => (gradient5 _ _ i).trans (by rw [(hargs c).1, (hargs c).2]; rfl)), h1⟩

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

open Cert.Reference3Ideal Cert.Reference3Ideal.Read in
/-- The cotangent of the joined projections: the gate's columns and then the up product's. -/
theorem joined (x1 x2 : FVec Ideal S8192x2816 .f32) (r : Fin 8192) (p : Fin 5632) :
    val_main_v2 (F := Ideal) x1 x2 (ix2 r p) = if h : p.val < 2816 then x1 (ix2 r ⟨p.val, h⟩) else x2 (ix2 r ⟨p.val - 2816, by omega⟩) := by
  unfold val_main_v2
  by_cases h : p.val < 2816
  · rw [dif_pos h]
    exact concatenate_pair_apply_left (t := S8192x5632) 1 x1 x2 _ (ix2 r p) rfl (ix2 r ⟨p.val, h⟩) (fun b => match b with
      | ⟨0, _⟩ => rfl
      | ⟨1, _⟩ => rfl)
  · rw [dif_neg h]
    exact concatenate_pair_apply_right (t := S8192x5632) 1 x1 x2 _ (ix2 r p) rfl rfl (ix2 r ⟨p.val - 2816, by omega⟩) (fun b hb => match b with
      | ⟨0, _⟩ => rfl
      | ⟨1, _⟩ => absurd rfl hb) (by show p.val - 2816 + 2816 = p.val; omega)

open Cert.Reference3Ideal Cert.Reference3Ideal.Read in
/-- The reference's gradient of the gate and up projections' weights. -/
theorem gradient3 (x0 : FVec Ideal S8192x1024 .f32) (x1 x2 : FVec Ideal S8192x2816 .f32) (i : S5632x1024.Idx) :
    val_main_v6 (F := Ideal) x0 x1 x2 i = ∑ r : Fin 8192, ((if h : (i 0).val < 2816 then x1 (ix2 r ⟨(i 0).val, h⟩)
      else x2 (ix2 r ⟨(i 0).val - 2816, by have : (i 0).val < 5632 := (i 0).isLt; omega⟩)) : EReal) * x0 (ix2 r (i 1)) := by
  show val_main_v5 (F := Ideal) x0 x1 x2 i = _
  rw [val_main_v5_apply, val_main_v4_apply, val_main_v3_apply]
  refine Finset.sum_congr (M := EReal) rfl fun r _ => congrArg₂ (· * ·) ?_ (congrArg x0 (Cert.Lift.ext2 rfl rfl))
  have e : lidx_main_v3 (idx_main_v4 (idx_main_v5 i)) r = ix2 r (i 0) := Cert.Lift.ext2 rfl rfl
  exact (congrArg (val_main_v2 (F := Ideal) x1 x2) e).trans (joined x1 x2 r (i 0))

theorem algebraic3 : Cert.algebraic_Kernel3Ideal_Reference3Ideal := by
  intro m g m' g' _ hargs
  refine ⟨fun c i => Cert.Kernel3Ideal.Value.grad m c (i 0) (i 1), ?_, ?_⟩
  · refine (θ_run Cert.Kernel3Ideal.defs _ _).mono (fun r h c => ?_) (θ_run_and (Cert.Kernel3Ideal.Gen.run_main m g) (Cert.Kernel3Ideal.Gen.unchanged m g))
    exact ⟨((h.1 c).1 3).trans (Cert.Kernel3Ideal.Value.final m c), h.2 c⟩
  · refine (θ_run Cert.Reference3Ideal.defs _ _).mono (fun r h c => ?_) (Cert.Reference3Ideal.Value.run m' g')
    obtain ⟨h0, h1⟩ := h c
    exact ⟨(h0.trans (Cert.Reference3Ideal.Read.val_main_v6_eq _ _ _)).trans (funext fun i => (gradient3 _ _ _ i).trans (by rw [(hargs c).1, (hargs c).2.1, (hargs c).2.2]; rfl)), h1⟩

end Cert.Proof

end
-- ==== Proof.Lift.Din.lean ====
/- The input projection's derivative: what each payload of the body holds at an index. -/
module

public import proofs.«01_k».proof.Proof.Gen.Kernel6Ideal.Frame
public import proofs.«01_k».proof.Proof.Lift.Sums
public import Idealize.ShloMosaic.Lib.Pipeline.Value
public import Idealize.ShloMosaic.Lib.Pipeline.ValueKit

@[expose] public section

set_option maxRecDepth 16384

noncomputable section

namespace Cert.Lift

open Idealize.ShloMosaic

/-- Three arrays of 512, 256 and 1024 columns side by side, read at an index. -/
theorem beside (n : ℕ) (x : (⟨2, ![n, 512]⟩ : Shape).Idx → EReal) (y : (⟨2, ![n, 256]⟩ : Shape).Idx → EReal) (z : (⟨2, ![n, 1024]⟩ : Shape).Idx → EReal)
    (h : Shape.Concatenates [⟨2, ![n, 512]⟩, ⟨2, ![n, 256]⟩, ⟨2, ![n, 1024]⟩] (⟨2, ![n, 1792]⟩ : Shape) 1) (r : Fin n) (k : Fin 1792) :
    concatenate (⟨2, ![n, 1792]⟩ : Shape) 1 [⟨_, x⟩, ⟨_, y⟩, ⟨_, z⟩] h (ix2 r k)
      = if h₁ : k.val < 512 then x (ix2 r ⟨k.val, h₁⟩) else if h₂ : k.val < 768 then y (ix2 r ⟨k.val - 512, by omega⟩) else z (ix2 r ⟨k.val - 768, by omega⟩) := by
  split_ifs with h₁ h₂
  · refine concatenate_apply_piece 1 [⟨(⟨2, ![n, 512]⟩ : Shape), x⟩, ⟨(⟨2, ![n, 256]⟩ : Shape), y⟩, ⟨(⟨2, ![n, 1024]⟩ : Shape), z⟩] h (ix2 r k) 0 (by simp) _ x rfl rfl 0 rfl (ix2 r ⟨k.val, h₁⟩) (fun b hb => ?_) ?_
    · match b with
      | ⟨0, _⟩ => rfl
      | ⟨1, _⟩ => exact absurd rfl hb
    · show 0 + k.val = k.val
      omega
  · refine concatenate_apply_piece 1 [⟨(⟨2, ![n, 512]⟩ : Shape), x⟩, ⟨(⟨2, ![n, 256]⟩ : Shape), y⟩, ⟨(⟨2, ![n, 1024]⟩ : Shape), z⟩] h (ix2 r k) 1 (by simp) _ y rfl rfl 512 rfl (ix2 r ⟨k.val - 512, by omega⟩) (fun b hb => ?_) ?_
    · match b with
      | ⟨0, _⟩ => rfl
      | ⟨1, _⟩ => exact absurd rfl hb
    · show 512 + (k.val - 512) = k.val
      omega
  · refine concatenate_apply_piece 1 [⟨(⟨2, ![n, 512]⟩ : Shape), x⟩, ⟨(⟨2, ![n, 256]⟩ : Shape), y⟩, ⟨(⟨2, ![n, 1024]⟩ : Shape), z⟩] h (ix2 r k) 2 (by simp) _ z rfl rfl 768 rfl (ix2 r ⟨k.val - 768, by omega⟩) (fun b hb => ?_) ?_
    · match b with
      | ⟨0, _⟩ => rfl
      | ⟨1, _⟩ => exact absurd rfl hb
    · show 768 + (k.val - 768) = k.val
      omega

/-- The derivative of the projected columns: the columns 512 to 768 get a second part. -/
def joint (f : Fin 1792 → EReal) (g : Fin 256 → EReal) (k : Fin 1792) : EReal :=
  if h₁ : k.val < 512 then f k else if h₂ : k.val < 768 then f k + g ⟨k.val - 512, by omega⟩ else f k

end Cert.Lift

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Lift (joint)

section
variable (x0 : FVec Ideal S512x1792 .bf16) (x1 : FVec Ideal S512x256 .f32) (x2 : FVec Ideal S1792x1024 .bf16) (x3 : FVec Ideal S512x1024 .f32)

theorem p6 (r : Fin 512) (k : Fin 1792) : k0_pay6 (F := Ideal) x0 x1 (ix2 r k) = joint (fun k => x0 (ix2 r k)) (fun k => x1 (ix2 r k)) k := by
  unfold k0_pay6
  refine (Cert.Lift.beside 512 _ _ _ concatenates_S512x512_S512x256_S512x1024_S512x1792_d1 r k).trans ?_
  unfold joint
  split_ifs with h₁ h₂
  · pointwise []
  · pointwise []
    exact congrArg (fun j : Fin 1792 => (x0 (ix2 r j) : EReal) + x1 (ix2 r ⟨k.val - 512, by omega⟩)) (Fin.ext (show 512 + (k.val - 512) = k.val by omega))
  · pointwise []
    exact congrArg (fun j : Fin 1792 => (x0 (ix2 r j) : EReal)) (Fin.ext (show 768 + (k.val - 768) = k.val by omega))

theorem p9 (r : Fin 512) (q : Fin 1024) : k0_pay9 (F := Ideal) x0 x1 x2 (ix2 r q)
      = ∑ k : Fin 1792, joint (fun k => x0 (ix2 r k)) (fun k => x1 (ix2 r k)) k * x2 (ix2 k q) := by
  pointwise [k0_pay9]
  exact Finset.sum_congr (M := EReal) rfl fun k _ => congrArg (· * _) (p6 x0 x1 r k)

theorem p7 (v : FVec Ideal S8x1792 .f32) (p : Fin 8) (k : Fin 1792) : k0_pay7 (F := Ideal) x0 x1 v (ix2 p k)
      = v (ix2 p k) + ∑ x : Fin 64, k0_pay6 (F := Ideal) x0 x1 (ix2 ⟨x.val * 8 + p.val, by omega⟩ k) := by
  unfold k0_pay7
  generalize k0_pay6 (F := Ideal) x0 x1 = y
  pointwise []

theorem p10 (v : FVec Ideal S8x1024 .f32) (p : Fin 8) (q : Fin 1024) : k0_pay10 (F := Ideal) x0 x1 x2 v x3 (ix2 p q)
      = v (ix2 p q) + ∑ x : Fin 64, k0_pay9 (F := Ideal) x0 x1 x2 (ix2 ⟨x.val * 8 + p.val, by omega⟩ q) * x3 (ix2 ⟨x.val * 8 + p.val, by omega⟩ q) := by
  unfold k0_pay10
  generalize k0_pay9 (F := Ideal) x0 x1 x2 = y
  pointwise []

theorem p1 (y : FVec Ideal S512x1024 .f32) (v : FVec Ideal S8x1024 .f32) (p : Fin 8) (q : Fin 1024) : k0_pay1 (F := Ideal) y v (ix2 p q)
      = v (ix2 p q) + ∑ x : Fin 64, y (ix2 ⟨x.val * 8 + p.val, by omega⟩ q) := by
  pointwise [k0_pay1]

theorem p2 (y : FVec Ideal S512x1024 .f32) (s : FVec Ideal S1x1024 .f32) (z : FVec Ideal S512x1024 .f32) (r : Fin 512) (q : Fin 1024) : k0_pay2 (F := Ideal) y s z (ix2 r q)
      = y (ix2 r q) * (1 + s (ix2 0 q)) + Ideal.ofBits .f32 0x3F9837F0#32 * z (ix2 r q) := by
  pointwise [k0_pay2]

end

theorem zero3 (i : S8x1792.Idx) : k0_pay3 (F := Ideal) i = 0 := by pointwise [k0_pay3]
theorem zero4 (i : S8x1024.Idx) : k0_pay4 (F := Ideal) i = 0 := by pointwise [k0_pay4]
theorem zero5 (i : S8x1024.Idx) : k0_pay5 (F := Ideal) i = 0 := by pointwise [k0_pay5]

end Cert.Kernel6Ideal.Value

end
-- ==== Proof.Lift.DinRun.lean ====
/- The input projection's derivative: the arrays the kernel leaves, and the host's sums of its lanes. -/
module

public import proofs.«01_k».proof.Proof.Lift.Din

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Lift (joint)

theorem idx : ∀ t : Fin cfg0.N, win0_0.index t = ![t.val, 0] ∧ win0_1.index t = ![t.val, 0] ∧ win0_2.index t = ![0, 0] ∧ win0_3.index t = ![t.val, 0] ∧ win0_4.index t = ![t.val, 0]
    ∧ win0_5.index t = ![0, 0] ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, _)

theorem points (t : Fin cfg0.N) : t.val < 16 := lt_of_lt_of_eq t.isLt (show cfg0.N = 16 from N_0)

/-- The row of the arrays that row `p` of point `t`'s blocks is. -/
def row (t : Fin cfg0.N) (p : Fin 512) : Fin 8192 := ⟨t.val * 512 + p.val, by have := points t; omega⟩

/-- Row `x * 8 + p` of each point's rows, summed over the rows and the points. -/
def acc {n : ℕ} (f : Fin 8192 → Fin n → EReal) (p : Fin 8) (q : Fin n) : EReal :=
  ∑ s : Fin 16, ∑ x : Fin 64, f ⟨s.val * 512 + (x.val * 8 + p.val), by omega⟩ q

/-- All the rows' sum, taken by points, groups and lanes. -/
theorem sum_acc {n : ℕ} (f : Fin 8192 → Fin n → EReal) (q : Fin n) : ∑ p : Fin 8, acc f p q = ∑ r, f r q := by
  unfold acc
  rw [Finset.sum_comm]
  simp only [← Fintype.sum_prod_type']
  refine Fintype.sum_equiv
    { toFun := fun a : Fin 16 × (Fin 8 × Fin 64) => (⟨a.1.val * 512 + (a.2.2.val * 8 + a.2.1.val), by omega⟩ : Fin 8192)
      invFun := fun r => (⟨r.val / 512, by omega⟩, (⟨r.val % 8, by omega⟩, ⟨r.val % 512 / 8, by omega⟩))
      left_inv := fun a => by ext <;> simp only <;> omega
      right_inv := fun r => by ext; simp only; omega } _ _ fun a => rfl

variable (m : (ℓ : Loc nD τ sig) → Buf (Elt Ideal) ℓ) (c : Dev nD)

/-- The arguments' elements on a device. -/
def a0 (r : Fin 8192) (k : Fin 1792) : EReal := m ((c : Thread nD τ).loc main_arg0) (ix2 r k)
def a1 (r : Fin 8192) (k : Fin 256) : EReal := m ((c : Thread nD τ).loc main_arg1) (ix2 r k)
def a2 (q : Fin 1024) (k : Fin 1792) : EReal := m ((c : Thread nD τ).loc main_arg2) (ix2 q k)
def a3 (r : Fin 8192) (q : Fin 1024) : EReal := m ((c : Thread nD τ).loc main_arg3) (ix2 r q)
def a4 (r : Fin 8192) (q : Fin 1024) : EReal := m ((c : Thread nD τ).loc main_arg4) (ix2 r q)
def a5 (q : Fin 1024) : EReal := m ((c : Thread nD τ).loc main_arg5) (ix2 0 q)

/-- The projected columns' derivative, and the derivative by the modulated input. -/
def dp (r : Fin 8192) (k : Fin 1792) : EReal := joint (a0 m c r) (a1 m c r) k
def dh (r : Fin 8192) (q : Fin 1024) : EReal := ∑ k : Fin 1792, dp m c r k * a2 m c q k
def dx (r : Fin 8192) (q : Fin 1024) : EReal := dh m c r q * (1 + a5 m c q) + Ideal.ofBits .f32 0x3F9837F0#32 * a4 m c r q

theorem b0 (t : Fin cfg0.N) (p : Fin 512) (k : Fin 1792) : iblk m c 0 t (ix2 p k) = a0 m c (row t p) k := by
  unfold a0
  blk_point [iblk, V, idx t, row]
theorem b1 (t : Fin cfg0.N) (p : Fin 512) (k : Fin 256) : iblk m c 1 t (ix2 p k) = a1 m c (row t p) k := by
  unfold a1
  blk_point [iblk, V, idx t, row]
/-- The transposed weights at the region's entry. -/
theorem entry_v2 (i : S1792x1024.Idx) : V m c main_v2 i = m ((c : Thread nD τ).loc main_arg2) (ix2 (i 1) (i 0)) := by
  show StableHlo.after (List.flatten [hostOps0]) (fun b => m (c, b)) (Proc.tc.devRef main_v2) i = _
  simp only [hostOps0, StableHlo.TRef.binary, StableHlo.TRef.nullary, StableHlo.TRef.unary, StableHlo.TRef.toBuf, StableHlo.TRef.ofBuf, cast_eq,
    List.flatten_cons, List.flatten_nil, List.append_nil, List.cons_append, List.nil_append]
  entry_read
  pointwise []
theorem b2 (t : Fin cfg0.N) (k : Fin 1792) (q : Fin 1024) : iblk m c 2 t (ix2 k q) = a2 m c q k := by
  refine Eq.trans ?_ (entry_v2 m c (ix2 k q))
  have e : (win0_2.blk t).view.emb (ix2 k q) = ix2 k q := by blk_ext [idx t]
  exact congrArg (V m c main_v2) e
theorem b3 (t : Fin cfg0.N) (p : Fin 512) (q : Fin 1024) : iblk m c 3 t (ix2 p q) = a3 m c (row t p) q := by
  unfold a3
  blk_point [iblk, V, idx t, row]
theorem b4 (t : Fin cfg0.N) (p : Fin 512) (q : Fin 1024) : iblk m c 4 t (ix2 p q) = a4 m c (row t p) q := by
  unfold a4
  blk_point [iblk, V, idx t, row]
theorem b5 (t : Fin cfg0.N) (q : Fin 1024) : iblk m c 5 t (ix2 0 q) = a5 m c q := by
  unfold a5
  blk_point [iblk, V, idx t, row]

/-- The two derivatives at a point. -/
abbrev dpt (t : Fin cfg0.N) := k0_pay6 (F := Ideal) (iblk m c 0 t) (iblk m c 1 t)
abbrev dht (t : Fin cfg0.N) := k0_pay9 (F := Ideal) (iblk m c 0 t) (iblk m c 1 t) (iblk m c 2 t)

theorem e6 (t : Fin cfg0.N) (p : Fin 512) (k : Fin 1792) : dpt m c t (ix2 p k) = dp m c (row t p) k := by
  refine (p6 _ _ p k).trans ?_
  unfold dp
  exact congrArg₂ (fun f g => joint f g k) (funext fun k => b0 m c t p k) (funext fun k => b1 m c t p k)

theorem e9 (t : Fin cfg0.N) (p : Fin 512) (q : Fin 1024) : dht m c t (ix2 p q) = dh m c (row t p) q := by
  refine (p9 _ _ _ p q).trans (Finset.sum_congr (M := EReal) rfl fun k _ => congrArg₂ (· * ·) ?_ (b2 m c t k q))
  exact (p6 _ _ p k).symm.trans (e6 m c t p k)

theorem f6 : (dats m 0 c).arrAt 6 (cfgs 0).N = (fun i => dx m c (i 0) (i 1)) := by
  refine (dats m 0 c).arrAt_eq_of_covers 6 _ (by decide +kernel) fun t _ y => ?_
  blk_simp [idx t]
  rw [after0_6]
  have key : (outsAt0 m c t.val t.isLt).1 = k0_pay2 (dht m c t) (iblk m c 5 t) (iblk m c 4 t) := by
    by_cases h : t.val % 16 = 0
    · rw [outsAt0_A m c t h]; frame_out <;> rfl
    · rw [outsAt0_B m c t h]; frame_out <;> rfl
  have e : (win0_6.blk t).view.emb y = ix2 (row t (y 0)) (y 1) := by blk_ext [idx t, row]
  rw [key, e, eq_ix2 y]
  exact (p2 _ _ _ (y 0) (y 1)).trans (congrArg₂ (· + ·) (congrArg₂ (· * ·) (e9 m c t (y 0) (y 1)) (congrArg (1 + ·) (b5 m c t (y 1)))) (congrArg (_ * ·) (b4 m c t (y 0) (y 1))))

theorem f7 : (dats m 0 c).arrAt 7 (cfgs 0).N = (fun i => dp m c (i 0) (i 1)) := by
  refine (dats m 0 c).arrAt_eq_of_covers 7 _ (by decide +kernel) fun t _ y => ?_
  blk_simp [idx t]
  rw [after0_7]
  have key : (outsAt0 m c t.val t.isLt).2.1 = k0_pay8 (F := Ideal) (iblk m c 0 t) (iblk m c 1 t) := by
    by_cases h : t.val % 16 = 0
    · rw [outsAt0_A m c t h]; frame_out <;> rfl
    · rw [outsAt0_B m c t h]; frame_out <;> rfl
  have e : (win0_7.blk t).view.emb y = ix2 (row t (y 0)) (y 1) := by blk_ext [idx t, row]
  rw [key, e, eq_ix2 y]
  exact e6 m c t (y 0) (y 1)

theorem f8 : (dats m 0 c).arrAt 8 (cfgs 0).N = (fun i => acc (dp m c) (i 0) (i 1)) := by
  refine (dats m 0 c).arrAt_eq_of_covers 8 _ (by decide +kernel) fun t hf y => ?_
  blk_simp [idx t]
  rw [after0_8]
  have keyA : ∀ t : Fin cfg0.N, t.val % 16 = 0 → (outsAt0 m c t.val t.isLt).2.2.1 = k0_pay7 (iblk m c 0 t) (iblk m c 1 t) (k0_pay3 (F := Ideal)) := fun t h => by
    rw [outsAt0_A m c t h]; frame_out <;> rfl
  have keyB : ∀ t : Fin cfg0.N, ¬t.val % 16 = 0 → (outsAt0 m c t.val t.isLt).2.2.1
      = k0_pay7 (iblk m c 0 t) (iblk m c 1 t) (outsAt0 m c (t.val - 1) (Nat.lt_of_le_of_lt (Nat.sub_le _ _) t.isLt)).2.2.1 := fun t h => by
    rw [outsAt0_B m c t h]; frame_out <;> rfl
  have step : ∀ (t : Fin cfg0.N) (v : FVec Ideal S8x1792 .f32) (p : Fin 8) (q : Fin 1792), k0_pay7 (iblk m c 0 t) (iblk m c 1 t) v (ix2 p q)
      = v (ix2 p q) + ∑ x : Fin 64, dp m c (row t ⟨x.val * 8 + p.val, by omega⟩) q := fun t v p q =>
    (p7 _ _ v p q).trans (congrArg (_ + ·) (Finset.sum_congr (M := EReal) rfl fun x _ => e6 m c t _ q))
  rw [Pipeline.eq_sum_fin_of_reset_step_apply_of_flush (fun n h => (outsAt0 m c n h).2.2.1) 16 (fun _ => 0)
    (fun t j => ∑ x : Fin 64, dp m c (row t ⟨x.val * 8 + (j 0).val, by have : (j 0).val < 8 := (j 0).isLt; omega⟩) (j 1))
    (fun t h j => by rw [keyA t h, eq_ix2 j]; exact (step t _ (j 0) (j 1)).trans (congrArg (· + _) (zero3 _)))
    (fun t h j => by rw [keyB t h, eq_ix2 j]; exact step t _ (j 0) (j 1))
    t ((flush0_8 t).mp hf) y, zero_add]
  have e : (win0_8.blk t).view.emb y = ix2 (y 0) (y 1) := by blk_ext [idx t]
  rw [e]
  refine Finset.sum_congr (M := EReal) rfl fun s _ => Finset.sum_congr (M := EReal) rfl fun x _ => ?_
  have := points t
  refine congrArg (dp m c · (y 1)) (Fin.ext ?_)
  show (16 * (t.val / 16) + s.val) * 512 + (x.val * 8 + (y 0).val) = s.val * 512 + (x.val * 8 + (y 0).val)
  omega

theorem f9 : (dats m 0 c).arrAt 9 (cfgs 0).N = (fun i => acc (fun r q => dh m c r q * a3 m c r q) (i 0) (i 1)) := by
  refine (dats m 0 c).arrAt_eq_of_covers 9 _ (by decide +kernel) fun t hf y => ?_
  blk_simp [idx t]
  rw [after0_9]
  have keyA : ∀ t : Fin cfg0.N, t.val % 16 = 0 → (outsAt0 m c t.val t.isLt).2.2.2.1
      = k0_pay10 (iblk m c 0 t) (iblk m c 1 t) (iblk m c 2 t) (k0_pay4 (F := Ideal)) (iblk m c 3 t) := fun t h => by
    rw [outsAt0_A m c t h]; frame_out <;> rfl
  have keyB : ∀ t : Fin cfg0.N, ¬t.val % 16 = 0 → (outsAt0 m c t.val t.isLt).2.2.2.1
      = k0_pay10 (iblk m c 0 t) (iblk m c 1 t) (iblk m c 2 t) (outsAt0 m c (t.val - 1) (Nat.lt_of_le_of_lt (Nat.sub_le _ _) t.isLt)).2.2.2.1 (iblk m c 3 t) := fun t h => by
    rw [outsAt0_B m c t h]; frame_out <;> rfl
  have step : ∀ (t : Fin cfg0.N) (v : FVec Ideal S8x1024 .f32) (p : Fin 8) (q : Fin 1024), k0_pay10 (iblk m c 0 t) (iblk m c 1 t) (iblk m c 2 t) v (iblk m c 3 t) (ix2 p q)
      = v (ix2 p q) + ∑ x : Fin 64, dh m c (row t ⟨x.val * 8 + p.val, by omega⟩) q * a3 m c (row t ⟨x.val * 8 + p.val, by omega⟩) q := fun t v p q =>
    (p10 _ _ _ _ v p q).trans (congrArg (_ + ·) (Finset.sum_congr (M := EReal) rfl fun x _ => congrArg₂ (· * ·) (e9 m c t _ q) (b3 m c t _ q)))
  rw [Pipeline.eq_sum_fin_of_reset_step_apply_of_flush (fun n h => (outsAt0 m c n h).2.2.2.1) 16 (fun _ => 0)
    (fun t j => ∑ x : Fin 64, dh m c (row t ⟨x.val * 8 + (j 0).val, by have : (j 0).val < 8 := (j 0).isLt; omega⟩) (j 1)
      * a3 m c (row t ⟨x.val * 8 + (j 0).val, by have : (j 0).val < 8 := (j 0).isLt; omega⟩) (j 1))
    (fun t h j => by rw [keyA t h, eq_ix2 j]; exact (step t _ (j 0) (j 1)).trans (congrArg (· + _) (zero4 _)))
    (fun t h j => by rw [keyB t h, eq_ix2 j]; exact step t _ (j 0) (j 1))
    t ((flush0_9 t).mp hf) y, zero_add]
  have e : (win0_9.blk t).view.emb y = ix2 (y 0) (y 1) := by blk_ext [idx t]
  rw [e]
  refine Finset.sum_congr (M := EReal) rfl fun s _ => Finset.sum_congr (M := EReal) rfl fun x _ => ?_
  have := points t
  refine congrArg (fun r => dh m c r (y 1) * a3 m c r (y 1)) (Fin.ext ?_)
  show (16 * (t.val / 16) + s.val) * 512 + (x.val * 8 + (y 0).val) = s.val * 512 + (x.val * 8 + (y 0).val)
  omega

theorem f10 : (dats m 0 c).arrAt 10 (cfgs 0).N = (fun i => acc (dh m c) (i 0) (i 1)) := by
  refine (dats m 0 c).arrAt_eq_of_covers 10 _ (by decide +kernel) fun t hf y => ?_
  blk_simp [idx t]
  rw [after0_10]
  have keyA : ∀ t : Fin cfg0.N, t.val % 16 = 0 → (outsAt0 m c t.val t.isLt).2.2.2.2 = k0_pay1 (dht m c t) (k0_pay5 (F := Ideal)) := fun t h => by
    rw [outsAt0_A m c t h]; frame_out <;> rfl
  have keyB : ∀ t : Fin cfg0.N, ¬t.val % 16 = 0 → (outsAt0 m c t.val t.isLt).2.2.2.2
      = k0_pay1 (dht m c t) (outsAt0 m c (t.val - 1) (Nat.lt_of_le_of_lt (Nat.sub_le _ _) t.isLt)).2.2.2.2 := fun t h => by
    rw [outsAt0_B m c t h]; frame_out <;> rfl
  have step : ∀ (t : Fin cfg0.N) (v : FVec Ideal S8x1024 .f32) (p : Fin 8) (q : Fin 1024), k0_pay1 (dht m c t) v (ix2 p q)
      = v (ix2 p q) + ∑ x : Fin 64, dh m c (row t ⟨x.val * 8 + p.val, by omega⟩) q := fun t v p q =>
    (p1 _ v p q).trans (congrArg (_ + ·) (Finset.sum_congr (M := EReal) rfl fun x _ => e9 m c t _ q))
  rw [Pipeline.eq_sum_fin_of_reset_step_apply_of_flush (fun n h => (outsAt0 m c n h).2.2.2.2) 16 (fun _ => 0)
    (fun t j => ∑ x : Fin 64, dh m c (row t ⟨x.val * 8 + (j 0).val, by have : (j 0).val < 8 := (j 0).isLt; omega⟩) (j 1))
    (fun t h j => by rw [keyA t h, eq_ix2 j]; exact (step t _ (j 0) (j 1)).trans (congrArg (· + _) (zero5 _)))
    (fun t h j => by rw [keyB t h, eq_ix2 j]; exact step t _ (j 0) (j 1))
    t ((flush0_10 t).mp hf) y, zero_add]
  have e : (win0_10.blk t).view.emb y = ix2 (y 0) (y 1) := by blk_ext [idx t]
  rw [e]
  refine Finset.sum_congr (M := EReal) rfl fun s _ => Finset.sum_congr (M := EReal) rfl fun x _ => ?_
  have := points t
  refine congrArg (dh m c · (y 1)) (Fin.ext ?_)
  show (16 * (t.val / 16) + s.val) * 512 + (x.val * 8 + (y 0).val) = s.val * 512 + (x.val * 8 + (y 0).val)
  omega

/-- The three host sums over the lanes. -/
theorem v4 : Pipeline.afterTail₀ cfgs (dats m) 0 (V0 m) [hostOps1] c main_v4 = (fun i => ∑ r, dp m c r (i 0)) := by
  show StableHlo.after hostOps1 (Pipeline.withArrays (cfgs 0).spec c (V0 m c) fun w => (dats m 0 c).arrAt w (cfgs 0).N) (Proc.tc.devRef main_v4) = _
  have e : Pipeline.withArrays (cfgs 0).spec c (V0 m c) (fun w => (dats m 0 c).arrAt w (cfgs 0).N) (Proc.tc.devRef main_v3_2) = (dats m 0 c).arrAt 8 (cfgs 0).N :=
    Pipeline.withArrays_arr (cfgs 0).spec (by decide) c _ _ 8
  rw [f8 m c] at e
  generalize Pipeline.withArrays (cfgs 0).spec c (V0 m c) (fun w => (dats m 0 c).arrAt w (cfgs 0).N) = W at e ⊢
  entry_read
  rw [e]
  funext i
  pointwise []
  exact sum_acc (dp m c) (i 0)

theorem v5 : Pipeline.afterTail₀ cfgs (dats m) 0 (V0 m) [hostOps1] c main_v5 = (fun i => ∑ r, dh m c r (i 0) * a3 m c r (i 0)) := by
  show StableHlo.after hostOps1 (Pipeline.withArrays (cfgs 0).spec c (V0 m c) fun w => (dats m 0 c).arrAt w (cfgs 0).N) (Proc.tc.devRef main_v5) = _
  have e : Pipeline.withArrays (cfgs 0).spec c (V0 m c) (fun w => (dats m 0 c).arrAt w (cfgs 0).N) (Proc.tc.devRef main_v3_3) = (dats m 0 c).arrAt 9 (cfgs 0).N :=
    Pipeline.withArrays_arr (cfgs 0).spec (by decide) c _ _ 9
  rw [f9 m c] at e
  generalize Pipeline.withArrays (cfgs 0).spec c (V0 m c) (fun w => (dats m 0 c).arrAt w (cfgs 0).N) = W at e ⊢
  entry_read
  rw [e]
  funext i
  pointwise []
  exact sum_acc (fun r q => dh m c r q * a3 m c r q) (i 0)

theorem v6 : Pipeline.afterTail₀ cfgs (dats m) 0 (V0 m) [hostOps1] c main_v6 = (fun i => ∑ r, dh m c r (i 0)) := by
  show StableHlo.after hostOps1 (Pipeline.withArrays (cfgs 0).spec c (V0 m c) fun w => (dats m 0 c).arrAt w (cfgs 0).N) (Proc.tc.devRef main_v6) = _
  have e : Pipeline.withArrays (cfgs 0).spec c (V0 m c) (fun w => (dats m 0 c).arrAt w (cfgs 0).N) (Proc.tc.devRef main_v3_4) = (dats m 0 c).arrAt 10 (cfgs 0).N :=
    Pipeline.withArrays_arr (cfgs 0).spec (by decide) c _ _ 10
  rw [f10 m c] at e
  generalize Pipeline.withArrays (cfgs 0).spec c (V0 m c) (fun w => (dats m 0 c).arrAt w (cfgs 0).N) = W at e ⊢
  entry_read
  rw [e]
  funext i
  pointwise []
  exact sum_acc (dh m c) (i 0)

end Cert.Kernel6Ideal.Value

end
-- ==== Proof.Lift.DinProof.lean ====
/- The input projection's derivative agrees with its reference. -/
module

public import proofs.«01_k».proof.Defs
public import proofs.«01_k».proof.Proof.Gen.Kernel6
public import proofs.«01_k».proof.Proof.Gen.Reference6Ideal.Run
public import proofs.«01_k».proof.Proof.Gen.Reference6Ideal.Read
public import proofs.«01_k».proof.Proof.Lift.DinRun
public import Idealize.ShloMosaic.Adequacy

@[expose] public section

set_option maxRecDepth 16384

noncomputable section

namespace Cert.Reference6Ideal.Gradient

open Idealize.ShloMosaic Idealize.ShloMosaic.TcCoe Idealize.SL.Sem
open Cert.Reference6Ideal Cert.Reference6Ideal.Read
open Cert.Lift (joint)

variable (x0 : FVec Ideal S8192x1792 .f32) (x1 : FVec Ideal S8192x256 .f32) (x2 : FVec Ideal S1024x1792 .f32) (x3 x4 : FVec Ideal S8192x1024 .f32) (x5 : FVec Ideal S1x1024 .f32)

/-- The reference's derivative of the projected columns. -/
def dp (r : Fin 8192) (k : Fin 1792) : EReal := joint (fun k => x0 (ix2 r k)) (fun k => x1 (ix2 r k)) k

/-- The reference's derivative by the modulated input. -/
def dh (r : Fin 8192) (q : Fin 1024) : EReal := ∑ k : Fin 1792, dp x0 x1 r k * x2 (ix2 q k)

theorem l4 (r : Fin 8192) (k : Fin 1792) : val_main_v4 (F := Ideal) x0 x1 (ix2 r k) = dp x0 x1 r k := by
  unfold val_main_v4
  refine (Cert.Lift.beside 8192 _ _ _ _ r k).trans ?_
  unfold dp joint
  split_ifs with h₁ h₂
  · exact (val_main_v0_apply (F := Ideal) x0 _).trans (congrArg x0 (Cert.Lift.ext2 rfl rfl))
  · refine (val_main_v2_apply (F := Ideal) x0 x1 _).trans ?_
    rw [val_main_v1_apply]
    have e : idx_main_v1 (ix2 r (⟨k.val - 512, by omega⟩ : Fin 256)) = ix2 r k := Cert.Lift.ext2 rfl (show 512 + (k.val - 512) = k.val by omega)
    rw [e]
    rfl
  · rw [val_main_v3_apply]
    have e : idx_main_v3 (ix2 r (⟨k.val - 768, by omega⟩ : Fin 1024)) = ix2 r k := Cert.Lift.ext2 rfl (show 768 + (k.val - 768) = k.val by omega)
    rw [e]

theorem l13 (r : Fin 8192) (q : Fin 1024) : val_main_v13 (F := Ideal) x0 x1 x2 (ix2 r q) = dh x0 x1 x2 r q := by
  rw [val_main_v13_apply]
  unfold dh
  refine Finset.sum_congr (M := EReal) rfl fun k _ => ?_
  have e : lidx_main_v13 (ix2 r q) k = ix2 r k := Cert.Lift.ext2 rfl rfl
  have e' : ridx_main_v13 (ix2 r q) k = ix2 q k := Cert.Lift.ext2 rfl rfl
  rw [e, e', l4]

theorem l10 (q : S1792.Idx) : val_main_v10 (F := Ideal) x0 x1 q = ∑ r, dp x0 x1 r (q 0) := by
  rw [val_main_v10_apply]
  refine (congrArg (· + _) (show val_main_cst_0 (F := Ideal) _ = (0 : EReal) by rw [val_main_cst_0_apply]; exact Ideal.ofBits_zero_f32)).trans ((zero_add _).trans (Finset.sum_congr (M := EReal) rfl fun r _ => ?_))
  have e : idx_main_v10 q r = ix2 r (q 0) := Cert.Lift.ext2 rfl rfl
  exact (congrArg (val_main_v4 (F := Ideal) x0 x1) e).trans (l4 x0 x1 r (q 0))

theorem l12 (q : S1792.Idx) : val_main_v12 (F := Ideal) x0 x1 q = ∑ r, dp x0 x1 r (q 0) := by
  rw [val_main_v12_apply]
  refine (congrArg (· + _) (show val_main_cst_1 (F := Ideal) _ = (0 : EReal) by rw [val_main_cst_1_apply]; exact Ideal.ofBits_zero_f32)).trans ((zero_add _).trans ((Fintype.sum_unique (M := EReal) _).trans ?_))
  rw [val_main_v11_apply, l10]
  exact congrArg (fun k : Fin 1792 => @Finset.sum (Fin 8192) EReal _ Finset.univ fun r => dp x0 x1 r k) (Fin.ext (show 0 * 1792 + (q 0).val = (q 0).val by omega))

theorem l24 (q : S1024.Idx) : val_main_v24 (F := Ideal) x0 x1 x2 q = ∑ r, dh x0 x1 x2 r (q 0) := by
  rw [val_main_v24_apply]
  refine (congrArg (· + _) (show val_main_cst_3 (F := Ideal) _ = (0 : EReal) by rw [val_main_cst_3_apply]; exact Ideal.ofBits_zero_f32)).trans ((zero_add _).trans (Finset.sum_congr (M := EReal) rfl fun r _ => ?_))
  have e : idx_main_v24 q r = ix2 r (q 0) := Cert.Lift.ext2 rfl rfl
  exact (congrArg (val_main_v13 (F := Ideal) x0 x1 x2) e).trans (l13 x0 x1 x2 r (q 0))

theorem l26 (q : S1024.Idx) : val_main_v26 (F := Ideal) x0 x1 x2 q = ∑ r, dh x0 x1 x2 r (q 0) := by
  rw [val_main_v26_apply]
  refine (congrArg (· + _) (show val_main_cst_4 (F := Ideal) _ = (0 : EReal) by rw [val_main_cst_4_apply]; exact Ideal.ofBits_zero_f32)).trans ((zero_add _).trans ((Fintype.sum_unique (M := EReal) _).trans ?_))
  rw [val_main_v25_apply, l24]
  exact congrArg (fun k : Fin 1024 => @Finset.sum (Fin 8192) EReal _ Finset.univ fun r => dh x0 x1 x2 r k) (Fin.ext (show 0 * 1024 + (q 0).val = (q 0).val by omega))

theorem l28 (q : S1024.Idx) : val_main_v28 (F := Ideal) x0 x1 x2 x3 q = ∑ r, dh x0 x1 x2 r (q 0) * x3 (ix2 r (q 0)) := by
  rw [val_main_v28_apply]
  refine (congrArg (· + _) (show val_main_cst_5 (F := Ideal) _ = (0 : EReal) by rw [val_main_cst_5_apply]; exact Ideal.ofBits_zero_f32)).trans ((zero_add _).trans (Finset.sum_congr (M := EReal) rfl fun r _ => ?_))
  have e : idx_main_v28 q r = ix2 r (q 0) := Cert.Lift.ext2 rfl rfl
  refine (congrArg (val_main_v27 (F := Ideal) x0 x1 x2 x3) e).trans ((val_main_v27_apply (F := Ideal) x0 x1 x2 x3 _).trans ?_)
  exact (congrArg ((x3 (ix2 r (q 0)) : EReal) * ·) (l13 x0 x1 x2 r (q 0))).trans (mul_comm _ _)

theorem l32 (q : S1024.Idx) : val_main_v32 (F := Ideal) x0 x1 x2 x3 q = ∑ r, dh x0 x1 x2 r (q 0) * x3 (ix2 r (q 0)) := by
  rw [val_main_v32_apply]
  refine (congrArg (· + _) (show val_main_cst_6 (F := Ideal) _ = (0 : EReal) by rw [val_main_cst_6_apply]; exact Ideal.ofBits_zero_f32)).trans ((zero_add _).trans ((Fintype.sum_unique (M := EReal) _).trans ?_))
  rw [val_main_v29_apply, l28]
  exact congrArg (fun k : Fin 1024 => @Finset.sum (Fin 8192) EReal _ Finset.univ fun r => dh x0 x1 x2 r k * x3 (ix2 r k)) (Fin.ext (show 0 * 1024 + (q 0).val = (q 0).val by omega))

theorem l35 (i : S8192x1024.Idx) : val_main_v35 (F := Ideal) x0 x1 x2 x4 x5 i
      = dh x0 x1 x2 (i 0) (i 1) * (1 + x5 (ix2 0 (i 1))) + Ideal.ofBits .f32 0x3F9837F0#32 * x4 (ix2 (i 0) (i 1)) := by
  obtain ⟨r, q, rfl⟩ : ∃ r q, i = ix2 r q := ⟨i 0, i 1, eq_ix2 i⟩
  rw [val_main_v35_apply, val_main_v31_apply, l13, val_main_v30_apply, val_main_v18_apply, val_main_v17_apply, val_main_v16_apply, val_main_v14_apply, val_main_v34_apply, val_main_v33_apply,
    val_main_cst_2_apply, val_main_cst_7_apply]
  have e : idx_main_v14 (idx_main_v18 (idx_main_v30 (ix2 r q))) = ix2 0 q := Cert.Lift.ext2 rfl (Nat.mod_eq_of_lt q.isLt)
  rw [e]
  exact congrArg (fun z : EReal => dh x0 x1 x2 r q * (z + x5 (ix2 0 q)) + Ideal.ofBits .f32 0x3F9837F0#32 * x4 (ix2 r q)) Ideal.ofBits_one_f32

end Cert.Reference6Ideal.Gradient

namespace Cert.Proof

open Idealize.ShloMosaic Idealize.ShloMosaic.TcCoe Idealize.SL.Sem

theorem frame_reference6 : Cert.quiescent_Reference6Ideal := fun m ρ _ =>
  (θ_run Cert.Reference6Ideal.defs _ _).mono (fun r h => ⟨fun c => (h c).2.2.2.2.2, sem_eq_zero_of_no_sems (by decide) r.2⟩) (Cert.Reference6Ideal.Value.run m ρ)

open Cert.Kernel6Ideal.Value in
theorem algebraic6 : Cert.algebraic_Kernel6Ideal_Reference6Ideal := by
  intro m g m' g' _ hargs
  refine ⟨fun c i => dx m c (i 0) (i 1), fun c i => dp m c (i 0) (i 1), fun c i => @Finset.sum (Fin 8192) EReal _ Finset.univ fun r => dp m c r (i 0),
    fun c i => @Finset.sum (Fin 8192) EReal _ Finset.univ fun r => dh m c r (i 0) * a3 m c r (i 0), fun c i => @Finset.sum (Fin 8192) EReal _ Finset.univ fun r => dh m c r (i 0), ?_, ?_⟩
  · refine (θ_run Cert.Kernel6Ideal.defs _ _).mono (fun r h c => ?_) (θ_run_and (Cert.Kernel6Ideal.Gen.run_main m g) (Cert.Kernel6Ideal.Gen.unchanged m g))
    exact ⟨((h.1 c).1 6).trans (f6 m c), ((h.1 c).1 7).trans (f7 m c), ((h.1 c).2 _ (by decide)).trans (v4 m c), ((h.1 c).2 _ (by decide)).trans (v5 m c),
      ((h.1 c).2 _ (by decide)).trans (v6 m c), h.2 c⟩
  · refine (θ_run Cert.Reference6Ideal.defs _ _).mono (fun r h c => ?_) (Cert.Reference6Ideal.Value.run m' g')
    obtain ⟨h0, h1, h2, h3, h4, h5⟩ := h c
    obtain ⟨e0, e1, e2, e3, e4, e5⟩ := hargs c
    refine ⟨(h0.trans (Cert.Reference6Ideal.Read.val_main_v35_eq _ _ _ _ _)).trans (funext fun i => (Cert.Reference6Ideal.Gradient.l35 _ _ _ _ _ i).trans ?_),
      (h1.trans (Cert.Reference6Ideal.Read.val_main_v36_eq _ _)).trans (funext fun i => ?_),
      (h2.trans (Cert.Reference6Ideal.Read.val_main_v12_eq _ _)).trans (funext fun i => (Cert.Reference6Ideal.Gradient.l12 _ _ i).trans ?_),
      (h3.trans (Cert.Reference6Ideal.Read.val_main_v32_eq _ _ _ _)).trans (funext fun i => (Cert.Reference6Ideal.Gradient.l32 _ _ _ _ i).trans ?_),
      (h4.trans (Cert.Reference6Ideal.Read.val_main_v26_eq _ _ _)).trans (funext fun i => (Cert.Reference6Ideal.Gradient.l26 _ _ _ i).trans ?_), h5⟩
    · rw [e0, e1, e2, e4, e5]; rfl
    · refine (congrArg (Cert.Reference6Ideal.Read.val_main_v4 (F := Ideal) _ _) (eq_ix2 i)).trans ((Cert.Reference6Ideal.Gradient.l4 _ _ (i 0) (i 1)).trans ?_)
      rw [e0, e1]; rfl
    · rw [e0, e1]; rfl
    · rw [e0, e1, e2, e3]; rfl
    · rw [e0, e1, e2]; rfl

end Cert.Proof

end
-- ==== Proof.Lift.Step.lean ====
/- One step of the optimiser on an entry: the moments and the change of the weight. -/
module

public import Idealize.ShloMosaic.Lib.Pipeline.ValueKit

@[expose] public section

noncomputable section

namespace Cert.Lift

open Idealize.ShloMosaic

/-- The first and second moment after a gradient `g`. -/
def firstMoment (g m : EReal) : EReal := Ideal.ofBits .f32 0x3F666666#32 * m + Ideal.ofBits .f32 0x3DCCCCCD#32 * g
def secondMoment (g v : EReal) : EReal := Ideal.ofBits .f32 0x3F7FBE77#32 * v + Ideal.ofBits .f32 0x3A83126F#32 * (g * g)

/-- The change of a weight `w`. -/
def change (g w m v : EReal) : EReal :=
  Ideal.ofBits .f32 0xBA83126F#32 * (Ideal.div (Ideal.div (firstMoment g m) (Ideal.ofBits .f32 0x3F26BD02#32))
    (Ideal.sqrt (Ideal.div (secondMoment g v) (Ideal.ofBits .f32 0x3C231ACC#32)) + Ideal.ofBits .f32 0x322BCC77#32) + Ideal.ofBits .f32 0x3C23D70A#32 * w)

theorem change_congr {g g' w w' m m' v v' : EReal} (hg : g = g') (hw : w = w') (hm : m = m') (hv : v = v') : change g w m v = change g' w' m' v' := by
  rw [hg, hw, hm, hv]

end Cert.Lift

end
-- ==== Proof.Lift.Adam7.lean ====
/- The optimiser's step on the gate and up projections' weights. -/
module

public import proofs.«01_k».proof.Defs
public import proofs.«01_k».proof.Proof.Gen.Kernel7
public import proofs.«01_k».proof.Proof.Gen.Kernel7Ideal.Frame
public import proofs.«01_k».proof.Proof.Gen.Reference7Ideal.Run
public import proofs.«01_k».proof.Proof.Gen.Reference7Ideal.Read
public import proofs.«01_k».proof.Proof.Lift.Step
public import proofs.«01_k».proof.Proof.Lift.Sums
public import Idealize.ShloMosaic.Lib.Pipeline.ValueKit
public import Idealize.ShloMosaic.Adequacy

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem points (t : Fin cfg0.N) : t.val < 2 := lt_of_lt_of_eq t.isLt (show cfg0.N = 2 from N_0)

/-- The row of the arrays that row `p` of point `t`'s blocks is. -/
def row (t : Fin cfg0.N) (p : Fin 352) : Fin 704 := ⟨t.val * 352 + p.val, by have := points t; omega⟩

theorem first (x0 : FVec Ideal S8x352x1024 .bf16) (x1 x2 x3 : FVec Ideal S352x1024 .f32) (p : Fin 352) (q : Fin 1024) : k0_pay6 (F := Ideal) x0 x1 x2 x3 (ix2 p q) = ∑ s : Fin 8, (x0 (ix3 s p q) : EReal) := by
  rw [Fin.sum_univ_eight]
  pointwise [k0_pay6, k0_pay4]

theorem moment1 (u v : FVec Ideal S352x1024 .f32) (p : Fin 352) (q : Fin 1024) : k0_pay1 (F := Ideal) u v (ix2 p q) = Cert.Lift.firstMoment (u (ix2 p q)) (v (ix2 p q)) := by
  pointwise [k0_pay1]
  rfl

theorem moment2 (u v : FVec Ideal S352x1024 .f32) (p : Fin 352) (q : Fin 1024) : k0_pay2 (F := Ideal) u v (ix2 p q) = Cert.Lift.secondMoment (u (ix2 p q)) (v (ix2 p q)) := by
  pointwise [k0_pay2]
  rfl

theorem change (u w m v : FVec Ideal S352x1024 .f32) (p : Fin 352) (q : Fin 1024) :
    k0_pay3 (F := Ideal) u (k0_pay5 (F := Ideal) w) m v (ix2 p q) = Cert.Lift.change (u (ix2 p q)) (w (ix2 p q)) (m (ix2 p q)) (v (ix2 p q)) := by
  pointwise [k0_pay3, k0_pay1, k0_pay2, k0_pay5]
  rfl

variable (m : (ℓ : Loc nD τ sig) → Buf (Elt Ideal) ℓ) (c : Dev nD)

/-- Entry of the gradient's parts. -/
abbrev a0 (s : Fin 8) (r : Fin 704) (q : Fin 1024) : EReal := m ((c : Thread nD τ).loc main_arg0) (ix3 s r q)
/-- Entry of argument 1. -/
abbrev a1 (r : Fin 704) (q : Fin 1024) : EReal := m ((c : Thread nD τ).loc main_arg1) (ix2 q r)
/-- Entry of argument 2. -/
abbrev a2 (r : Fin 704) (q : Fin 1024) : EReal := m ((c : Thread nD τ).loc main_arg2) (ix2 q r)
/-- Entry of argument 3. -/
abbrev a3 (r : Fin 704) (q : Fin 1024) : EReal := m ((c : Thread nD τ).loc main_arg3) (ix2 q r)

theorem b0 (t : Fin cfg0.N) (s : Fin 8) (p : Fin 352) (q : Fin 1024) : (iblk m c 0 t : FVec Ideal S8x352x1024 .bf16) (ix3 s p q) = a0 m c s (row t p) q := by
  blk_point [iblk, V, idx t, row]

theorem b1 (t : Fin cfg0.N) (p : Fin 352) (q : Fin 1024) : (iblk m c 1 t : FVec Ideal S352x1024 .f32) (ix2 p q) = a1 m c (row t p) q := by
  blk_point [iblk, V, idx t, row]

theorem b2 (t : Fin cfg0.N) (p : Fin 352) (q : Fin 1024) : (iblk m c 2 t : FVec Ideal S352x1024 .f32) (ix2 p q) = a2 m c (row t p) q := by
  blk_point [iblk, V, idx t, row]

theorem b3 (t : Fin cfg0.N) (p : Fin 352) (q : Fin 1024) : (iblk m c 3 t : FVec Ideal S352x1024 .f32) (ix2 p q) = a3 m c (row t p) q := by
  blk_point [iblk, V, idx t, row]

/-- The gradient's entry. -/
def grad (r : Fin 704) (q : Fin 1024) : EReal := ∑ s : Fin 8, a0 m c s r q

theorem summed (t : Fin cfg0.N) (p : Fin 352) (q : Fin 1024) : k0_pay6 (F := Ideal) (iblk m c 0 t) (iblk m c 1 t) (iblk m c 2 t) (iblk m c 3 t) (ix2 p q) = grad m c (row t p) q :=
  (first _ _ _ _ p q).trans (Finset.sum_congr (M := EReal) rfl fun s _ => b0 m c t s p q)

theorem f4 : (dats m 0 c).arrAt 4 (cfgs 0).N = (fun i => grad m c (i 0) (i 1)) := by
  refine (dats m 0 c).arrAt_eq_of_covers 4 _ (by decide +kernel) fun t _ y => ?_
  blk_simp [idx t]
  rw [after0_4]
  have key : out0_4 (iblk m c 0 t) (iblk m c 1 t) (iblk m c 2 t) (iblk m c 3 t) = k0_pay6 (iblk m c 0 t) (iblk m c 1 t) (iblk m c 2 t) (iblk m c 3 t) := by
    unfold out0_4
    frame_out
  have e : (win0_4.blk t).view.emb y = ix2 (row t (y 0)) (y 1) := by blk_ext [idx t, row]
  rw [key, e, eq_ix2 y]
  exact summed m c t (y 0) (y 1)

theorem f5 : (dats m 0 c).arrAt 5 (cfgs 0).N = (fun i => Cert.Lift.change (grad m c (i 0) (i 1)) (a1 m c (i 0) (i 1)) (a2 m c (i 0) (i 1)) (a3 m c (i 0) (i 1))) := by
  refine (dats m 0 c).arrAt_eq_of_covers 5 _ (by decide +kernel) fun t _ y => ?_
  blk_simp [idx t]
  rw [after0_5]
  have key : out0_5 (iblk m c 0 t) (iblk m c 1 t) (iblk m c 2 t) (iblk m c 3 t) = k0_pay3 (k0_pay6 (iblk m c 0 t) (iblk m c 1 t) (iblk m c 2 t) (iblk m c 3 t)) (k0_pay5 (iblk m c 1 t)) (iblk m c 2 t) (iblk m c 3 t) := by
    unfold out0_5
    frame_out
  have e : (win0_5.blk t).view.emb y = ix2 (row t (y 0)) (y 1) := by blk_ext [idx t, row]
  rw [key, e, eq_ix2 y]
  exact (change _ _ _ _ (y 0) (y 1)).trans (by rw [summed m c t (y 0) (y 1), b1 m c t (y 0) (y 1), b2 m c t (y 0) (y 1), b3 m c t (y 0) (y 1)]; rfl)

theorem f6 : (dats m 0 c).arrAt 6 (cfgs 0).N = (fun i => Cert.Lift.firstMoment (grad m c (i 0) (i 1)) (a2 m c (i 0) (i 1))) := by
  refine (dats m 0 c).arrAt_eq_of_covers 6 _ (by decide +kernel) fun t _ y => ?_
  blk_simp [idx t]
  rw [after0_6]
  have key : out0_6 (iblk m c 0 t) (iblk m c 1 t) (iblk m c 2 t) (iblk m c 3 t) = k0_pay1 (k0_pay6 (iblk m c 0 t) (iblk m c 1 t) (iblk m c 2 t) (iblk m c 3 t)) (iblk m c 2 t) := by
    unfold out0_6
    frame_out
  have e : (win0_6.blk t).view.emb y = ix2 (row t (y 0)) (y 1) := by blk_ext [idx t, row]
  rw [key, e, eq_ix2 y]
  exact (moment1 _ _ (y 0) (y 1)).trans (by rw [summed m c t (y 0) (y 1), b2 m c t (y 0) (y 1)]; rfl)

theorem f7 : (dats m 0 c).arrAt 7 (cfgs 0).N = (fun i => Cert.Lift.secondMoment (grad m c (i 0) (i 1)) (a3 m c (i 0) (i 1))) := by
  refine (dats m 0 c).arrAt_eq_of_covers 7 _ (by decide +kernel) fun t _ y => ?_
  blk_simp [idx t]
  rw [after0_7]
  have key : out0_7 (iblk m c 0 t) (iblk m c 1 t) (iblk m c 2 t) (iblk m c 3 t) = k0_pay2 (k0_pay6 (iblk m c 0 t) (iblk m c 1 t) (iblk m c 2 t) (iblk m c 3 t)) (iblk m c 3 t) := by
    unfold out0_7
    frame_out
  have e : (win0_7.blk t).view.emb y = ix2 (row t (y 0)) (y 1) := by blk_ext [idx t, row]
  rw [key, e, eq_ix2 y]
  exact (moment2 _ _ (y 0) (y 1)).trans (by rw [summed m c t (y 0) (y 1), b3 m c t (y 0) (y 1)]; rfl)

end Cert.Kernel7Ideal.Value

namespace Cert.Reference7Ideal.Step

open Cert.Reference7Ideal Cert.Reference7Ideal.Gen Cert.Reference7Ideal.Read Idealize.ShloMosaic Idealize.ShloMosaic.TcCoe Idealize.SL.Sem

variable (x0 : FVec Ideal S8x704x1024 .f32) (x1 x2 x3 : FVec Ideal S1024x704 .f32) (i : S1024x704.Idx)

theorem grad : val_main_v1 (F := Ideal) x0 i = (∑ s : Fin 8, (x0 (ix3 s (i 1) (i 0)) : EReal)) := by
  rw [val_main_v1_apply, val_main_v0_apply]
  refine (congrArg (· + _) (show val_main_cst (F := Ideal) _ = (0 : EReal) by rw [val_main_cst_apply]; exact Ideal.ofBits_zero_f32)).trans ((zero_add _).trans ?_)
  exact Finset.sum_congr (M := EReal) rfl fun s _ => congrArg x0 (funext fun a => match a with
    | ⟨0, _⟩ => rfl
    | ⟨1, _⟩ => rfl
    | ⟨2, _⟩ => rfl)

theorem first : val_main_v6 (F := Ideal) x0 x2 i = Cert.Lift.firstMoment (∑ s : Fin 8, (x0 (ix3 s (i 1) (i 0)) : EReal)) (x2 i) := by
  rw [← grad x0 i]
  simp only [val_main_v6_apply, val_main_v5_apply, val_main_v4_apply, val_main_v3_apply, val_main_v2_apply, val_main_cst_0_apply, val_main_cst_1_apply]
  rfl

theorem second : val_main_v12 (F := Ideal) x0 x3 i = Cert.Lift.secondMoment (∑ s : Fin 8, (x0 (ix3 s (i 1) (i 0)) : EReal)) (x3 i) := by
  rw [← grad x0 i]
  simp only [val_main_v12_apply, val_main_v11_apply, val_main_v10_apply, val_main_v9_apply, val_main_v8_apply, val_main_v7_apply, val_main_cst_2_apply, val_main_cst_3_apply]
  rfl

theorem change : val_main_v25 (F := Ideal) x0 x1 x2 x3 i = Cert.Lift.change (∑ s : Fin 8, (x0 (ix3 s (i 1) (i 0)) : EReal)) (x1 i) (x2 i) (x3 i) := by
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, first, second, val_main_cst_4_apply, val_main_cst_5_apply, val_main_cst_6_apply, val_main_cst_7_apply, val_main_cst_8_apply]
  rfl

theorem grad' (j : S704x1024.Idx) : val_main_v26 (F := Ideal) x0 j = (∑ s : Fin 8, (x0 (ix3 s (j 0) (j 1)) : EReal)) := by
  rw [val_main_v26_apply, grad]
  rfl

theorem change' (j : S704x1024.Idx) : val_main_v27 (F := Ideal) x0 x1 x2 x3 j = Cert.Lift.change (∑ s : Fin 8, (x0 (ix3 s (j 0) (j 1)) : EReal)) (x1 (ix2 (j 1) (j 0))) (x2 (ix2 (j 1) (j 0))) (x3 (ix2 (j 1) (j 0))) := by
  rw [val_main_v27_apply, change]
  have e1 : x1 (idx_main_v27 j) = x1 (ix2 (j 1) (j 0)) := congrArg x1 (Cert.Lift.ext2 rfl rfl)
  have e2 : x2 (idx_main_v27 j) = x2 (ix2 (j 1) (j 0)) := congrArg x2 (Cert.Lift.ext2 rfl rfl)
  have e3 : x3 (idx_main_v27 j) = x3 (ix2 (j 1) (j 0)) := congrArg x3 (Cert.Lift.ext2 rfl rfl)
  rw [e1, e2, e3]
  rfl

theorem first' (j : S704x1024.Idx) : val_main_v28 (F := Ideal) x0 x2 j = Cert.Lift.firstMoment (∑ s : Fin 8, (x0 (ix3 s (j 0) (j 1)) : EReal)) (x2 (ix2 (j 1) (j 0))) := by
  rw [val_main_v28_apply, first]
  have e2 : x2 (idx_main_v28 j) = x2 (ix2 (j 1) (j 0)) := congrArg x2 (Cert.Lift.ext2 rfl rfl)
  rw [e2]
  rfl

theorem second' (j : S704x1024.Idx) : val_main_v29 (F := Ideal) x0 x3 j = Cert.Lift.secondMoment (∑ s : Fin 8, (x0 (ix3 s (j 0) (j 1)) : EReal)) (x3 (ix2 (j 1) (j 0))) := by
  rw [val_main_v29_apply, second]
  have e3 : x3 (idx_main_v29 j) = x3 (ix2 (j 1) (j 0)) := congrArg x3 (Cert.Lift.ext2 rfl rfl)
  rw [e3]
  rfl

end Cert.Reference7Ideal.Step

namespace Cert.Proof

open Idealize.ShloMosaic Idealize.ShloMosaic.TcCoe Idealize.SL.Sem

theorem frame_reference7 : Cert.quiescent_Reference7Ideal := fun m ρ _ =>
  (θ_run Cert.Reference7Ideal.defs _ _).mono (fun r h => ⟨fun c => (h c).2.2.2.2, sem_eq_zero_of_no_sems (by decide) r.2⟩) (Cert.Reference7Ideal.Value.run m ρ)

open Cert.Kernel7Ideal.Value in
theorem algebraic7 : Cert.algebraic_Kernel7Ideal_Reference7Ideal := by
  intro m g m' g' _ hargs
  refine ⟨fun c i => grad m c (i 0) (i 1), fun c i => Cert.Lift.change (grad m c (i 0) (i 1)) (a1 m c (i 0) (i 1)) (a2 m c (i 0) (i 1)) (a3 m c (i 0) (i 1)), fun c i => Cert.Lift.firstMoment (grad m c (i 0) (i 1)) (a2 m c (i 0) (i 1)), fun c i => Cert.Lift.secondMoment (grad m c (i 0) (i 1)) (a3 m c (i 0) (i 1)), ?_, ?_⟩
  · refine (θ_run Cert.Kernel7Ideal.defs _ _).mono (fun r h c => ?_) (θ_run_and (Cert.Kernel7Ideal.Gen.run_main m g) (Cert.Kernel7Ideal.Gen.unchanged m g))
    exact ⟨((h.1 c).1 4).trans (f4 m c), ((h.1 c).1 5).trans (f5 m c), ((h.1 c).1 6).trans (f6 m c), ((h.1 c).1 7).trans (f7 m c), h.2 c⟩
  · refine (θ_run Cert.Reference7Ideal.defs _ _).mono (fun r h c => ?_) (Cert.Reference7Ideal.Value.run m' g')
    obtain ⟨h0, h1, h2, h3, h4⟩ := h c
    obtain ⟨e0, e1, e2, e3⟩ := hargs c
    exact ⟨(h0.trans (Cert.Reference7Ideal.Read.val_main_v26_eq _)).trans (funext fun i => (Cert.Reference7Ideal.Step.grad' _ i).trans (by rw [e0, eq_ix2 i]; rfl)),
      (h1.trans (Cert.Reference7Ideal.Read.val_main_v27_eq _ _ _ _)).trans (funext fun i => (Cert.Reference7Ideal.Step.change' _ _ _ _ i).trans (by rw [e0, e1, e2, e3, eq_ix2 i]; rfl)),
      (h2.trans (Cert.Reference7Ideal.Read.val_main_v28_eq _ _)).trans (funext fun i => (Cert.Reference7Ideal.Step.first' _ _ i).trans (by rw [e0, e2, eq_ix2 i]; rfl)),
      (h3.trans (Cert.Reference7Ideal.Read.val_main_v29_eq _ _)).trans (funext fun i => (Cert.Reference7Ideal.Step.second' _ _ i).trans (by rw [e0, e3, eq_ix2 i]; rfl)), h4⟩

end Cert.Proof

end
-- ==== Proof.Lift.Adam8.lean ====
/- The optimiser's step on the down projection's weights. -/
module

public import proofs.«01_k».proof.Defs
public import proofs.«01_k».proof.Proof.Gen.Kernel8
public import proofs.«01_k».proof.Proof.Gen.Kernel8Ideal.Frame
public import proofs.«01_k».proof.Proof.Gen.Reference8Ideal.Run
public import proofs.«01_k».proof.Proof.Gen.Reference8Ideal.Read
public import proofs.«01_k».proof.Proof.Lift.Step
public import proofs.«01_k».proof.Proof.Lift.Sums
public import Idealize.ShloMosaic.Lib.Pipeline.ValueKit
public import Idealize.ShloMosaic.Adequacy

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem points (t : Fin cfg0.N) : t.val < 2 := lt_of_lt_of_eq t.isLt (show cfg0.N = 2 from N_0)

/-- The row of the arrays that row `p` of point `t`'s blocks is. -/
def row (t : Fin cfg0.N) (p : Fin 176) : Fin 352 := ⟨t.val * 176 + p.val, by have := points t; omega⟩

theorem first (x0 : FVec Ideal S8x176x1024 .bf16) (x1 x2 x3 : FVec Ideal S176x1024 .f32) (p : Fin 176) (q : Fin 1024) : k0_pay5 (F := Ideal) x0 x1 x2 x3 (ix2 p q) = ∑ s : Fin 8, (x0 (ix3 s p q) : EReal) := by
  rw [Fin.sum_univ_eight]
  pointwise [k0_pay5, k0_pay4]

theorem moment1 (u v : FVec Ideal S176x1024 .f32) (p : Fin 176) (q : Fin 1024) : k0_pay1 (F := Ideal) u v (ix2 p q) = Cert.Lift.firstMoment (u (ix2 p q)) (v (ix2 p q)) := by
  pointwise [k0_pay1]
  rfl

theorem moment2 (u v : FVec Ideal S176x1024 .f32) (p : Fin 176) (q : Fin 1024) : k0_pay2 (F := Ideal) u v (ix2 p q) = Cert.Lift.secondMoment (u (ix2 p q)) (v (ix2 p q)) := by
  pointwise [k0_pay2]
  rfl

theorem change (u w m v : FVec Ideal S176x1024 .f32) (p : Fin 176) (q : Fin 1024) :
    k0_pay3 (F := Ideal) u w m v (ix2 p q) = Cert.Lift.change (u (ix2 p q)) (w (ix2 p q)) (m (ix2 p q)) (v (ix2 p q)) := by
  pointwise [k0_pay3, k0_pay1, k0_pay2]
  rfl

variable (m : (ℓ : Loc nD τ sig) → Buf (Elt Ideal) ℓ) (c : Dev nD)

/-- Entry of the gradient's parts. -/
abbrev a0 (s : Fin 8) (r : Fin 352) (q : Fin 1024) : EReal := m ((c : Thread nD τ).loc main_arg0) (ix3 s r q)
/-- Entry of argument 1. -/
abbrev a1 (r : Fin 352) (q : Fin 1024) : EReal := m ((c : Thread nD τ).loc main_arg1) (ix2 r q)
/-- Entry of argument 2. -/
abbrev a2 (r : Fin 352) (q : Fin 1024) : EReal := m ((c : Thread nD τ).loc main_arg2) (ix2 r q)
/-- Entry of argument 3. -/
abbrev a3 (r : Fin 352) (q : Fin 1024) : EReal := m ((c : Thread nD τ).loc main_arg3) (ix2 r q)

theorem b0 (t : Fin cfg0.N) (s : Fin 8) (p : Fin 176) (q : Fin 1024) : (iblk m c 0 t : FVec Ideal S8x176x1024 .bf16) (ix3 s p q) = a0 m c s (row t p) q := by
  blk_point [iblk, V, idx t, row]

theorem b1 (t : Fin cfg0.N) (p : Fin 176) (q : Fin 1024) : (iblk m c 1 t : FVec Ideal S176x1024 .f32) (ix2 p q) = a1 m c (row t p) q := by
  blk_point [iblk, V, idx t, row]

theorem b2 (t : Fin cfg0.N) (p : Fin 176) (q : Fin 1024) : (iblk m c 2 t : FVec Ideal S176x1024 .f32) (ix2 p q) = a2 m c (row t p) q := by
  blk_point [iblk, V, idx t, row]

theorem b3 (t : Fin cfg0.N) (p : Fin 176) (q : Fin 1024) : (iblk m c 3 t : FVec Ideal S176x1024 .f32) (ix2 p q) = a3 m c (row t p) q := by
  blk_point [iblk, V, idx t, row]

/-- The gradient's entry. -/
def grad (r : Fin 352) (q : Fin 1024) : EReal := ∑ s : Fin 8, a0 m c s r q

theorem summed (t : Fin cfg0.N) (p : Fin 176) (q : Fin 1024) : k0_pay5 (F := Ideal) (iblk m c 0 t) (iblk m c 1 t) (iblk m c 2 t) (iblk m c 3 t) (ix2 p q) = grad m c (row t p) q :=
  (first _ _ _ _ p q).trans (Finset.sum_congr (M := EReal) rfl fun s _ => b0 m c t s p q)

theorem f4 : (dats m 0 c).arrAt 4 (cfgs 0).N = (fun i => grad m c (i 0) (i 1)) := by
  refine (dats m 0 c).arrAt_eq_of_covers 4 _ (by decide +kernel) fun t _ y => ?_
  blk_simp [idx t]
  rw [after0_4]
  have key : out0_4 (iblk m c 0 t) (iblk m c 1 t) (iblk m c 2 t) (iblk m c 3 t) = k0_pay5 (iblk m c 0 t) (iblk m c 1 t) (iblk m c 2 t) (iblk m c 3 t) := by
    unfold out0_4
    frame_out
  have e : (win0_4.blk t).view.emb y = ix2 (row t (y 0)) (y 1) := by blk_ext [idx t, row]
  rw [key, e, eq_ix2 y]
  exact summed m c t (y 0) (y 1)

theorem f5 : (dats m 0 c).arrAt 5 (cfgs 0).N = (fun i => Cert.Lift.change (grad m c (i 0) (i 1)) (a1 m c (i 0) (i 1)) (a2 m c (i 0) (i 1)) (a3 m c (i 0) (i 1))) := by
  refine (dats m 0 c).arrAt_eq_of_covers 5 _ (by decide +kernel) fun t _ y => ?_
  blk_simp [idx t]
  rw [after0_5]
  have key : out0_5 (iblk m c 0 t) (iblk m c 1 t) (iblk m c 2 t) (iblk m c 3 t) = k0_pay3 (k0_pay5 (iblk m c 0 t) (iblk m c 1 t) (iblk m c 2 t) (iblk m c 3 t)) (iblk m c 1 t) (iblk m c 2 t) (iblk m c 3 t) := by
    unfold out0_5
    frame_out
  have e : (win0_5.blk t).view.emb y = ix2 (row t (y 0)) (y 1) := by blk_ext [idx t, row]
  rw [key, e, eq_ix2 y]
  exact (change _ _ _ _ (y 0) (y 1)).trans (by rw [summed m c t (y 0) (y 1), b1 m c t (y 0) (y 1), b2 m c t (y 0) (y 1), b3 m c t (y 0) (y 1)]; rfl)

theorem f6 : (dats m 0 c).arrAt 6 (cfgs 0).N = (fun i => Cert.Lift.firstMoment (grad m c (i 0) (i 1)) (a2 m c (i 0) (i 1))) := by
  refine (dats m 0 c).arrAt_eq_of_covers 6 _ (by decide +kernel) fun t _ y => ?_
  blk_simp [idx t]
  rw [after0_6]
  have key : out0_6 (iblk m c 0 t) (iblk m c 1 t) (iblk m c 2 t) (iblk m c 3 t) = k0_pay1 (k0_pay5 (iblk m c 0 t) (iblk m c 1 t) (iblk m c 2 t) (iblk m c 3 t)) (iblk m c 2 t) := by
    unfold out0_6
    frame_out
  have e : (win0_6.blk t).view.emb y = ix2 (row t (y 0)) (y 1) := by blk_ext [idx t, row]
  rw [key, e, eq_ix2 y]
  exact (moment1 _ _ (y 0) (y 1)).trans (by rw [summed m c t (y 0) (y 1), b2 m c t (y 0) (y 1)]; rfl)

theorem f7 : (dats m 0 c).arrAt 7 (cfgs 0).N = (fun i => Cert.Lift.secondMoment (grad m c (i 0) (i 1)) (a3 m c (i 0) (i 1))) := by
  refine (dats m 0 c).arrAt_eq_of_covers 7 _ (by decide +kernel) fun t _ y => ?_
  blk_simp [idx t]
  rw [after0_7]
  have key : out0_7 (iblk m c 0 t) (iblk m c 1 t) (iblk m c 2 t) (iblk m c 3 t) = k0_pay2 (k0_pay5 (iblk m c 0 t) (iblk m c 1 t) (iblk m c 2 t) (iblk m c 3 t)) (iblk m c 3 t) := by
    unfold out0_7
    frame_out
  have e : (win0_7.blk t).view.emb y = ix2 (row t (y 0)) (y 1) := by blk_ext [idx t, row]
  rw [key, e, eq_ix2 y]
  exact (moment2 _ _ (y 0) (y 1)).trans (by rw [summed m c t (y 0) (y 1), b3 m c t (y 0) (y 1)]; rfl)

end Cert.Kernel8Ideal.Value

namespace Cert.Reference8Ideal.Step

open Cert.Reference8Ideal Cert.Reference8Ideal.Gen Cert.Reference8Ideal.Read Idealize.ShloMosaic Idealize.ShloMosaic.TcCoe Idealize.SL.Sem

variable (x0 : FVec Ideal S8x352x1024 .f32) (x1 x2 x3 : FVec Ideal S352x1024 .f32) (i : S352x1024.Idx)

theorem grad : val_main_v0 (F := Ideal) x0 i = (∑ s : Fin 8, (x0 (ix3 s (i 0) (i 1)) : EReal)) := by
  rw [val_main_v0_apply]
  refine (congrArg (· + _) (show val_main_cst (F := Ideal) _ = (0 : EReal) by rw [val_main_cst_apply]; exact Ideal.ofBits_zero_f32)).trans ((zero_add _).trans ?_)
  exact Finset.sum_congr (M := EReal) rfl fun s _ => congrArg x0 (funext fun a => match a with
    | ⟨0, _⟩ => rfl
    | ⟨1, _⟩ => rfl
    | ⟨2, _⟩ => rfl)

theorem first : val_main_v5 (F := Ideal) x0 x2 i = Cert.Lift.firstMoment (∑ s : Fin 8, (x0 (ix3 s (i 0) (i 1)) : EReal)) (x2 i) := by
  rw [← grad x0 i]
  simp only [val_main_v5_apply, val_main_v4_apply, val_main_v3_apply, val_main_v2_apply, val_main_v1_apply, val_main_cst_0_apply, val_main_cst_1_apply]
  rfl

theorem second : val_main_v11 (F := Ideal) x0 x3 i = Cert.Lift.secondMoment (∑ s : Fin 8, (x0 (ix3 s (i 0) (i 1)) : EReal)) (x3 i) := by
  rw [← grad x0 i]
  simp only [val_main_v11_apply, val_main_v10_apply, val_main_v9_apply, val_main_v8_apply, val_main_v7_apply, val_main_v6_apply, val_main_cst_2_apply, val_main_cst_3_apply]
  rfl

theorem change : val_main_v24 (F := Ideal) x0 x1 x2 x3 i = Cert.Lift.change (∑ s : Fin 8, (x0 (ix3 s (i 0) (i 1)) : EReal)) (x1 i) (x2 i) (x3 i) := by
  simp only [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, first, second, val_main_cst_4_apply, val_main_cst_5_apply, val_main_cst_6_apply, val_main_cst_7_apply, val_main_cst_8_apply]
  rfl

end Cert.Reference8Ideal.Step

namespace Cert.Proof

open Idealize.ShloMosaic Idealize.ShloMosaic.TcCoe Idealize.SL.Sem

theorem frame_reference8 : Cert.quiescent_Reference8Ideal := fun m ρ _ =>
  (θ_run Cert.Reference8Ideal.defs _ _).mono (fun r h => ⟨fun c => (h c).2.2.2.2, sem_eq_zero_of_no_sems (by decide) r.2⟩) (Cert.Reference8Ideal.Value.run m ρ)

open Cert.Kernel8Ideal.Value in
theorem algebraic8 : Cert.algebraic_Kernel8Ideal_Reference8Ideal := by
  intro m g m' g' _ hargs
  refine ⟨fun c i => grad m c (i 0) (i 1), fun c i => Cert.Lift.change (grad m c (i 0) (i 1)) (a1 m c (i 0) (i 1)) (a2 m c (i 0) (i 1)) (a3 m c (i 0) (i 1)), fun c i => Cert.Lift.firstMoment (grad m c (i 0) (i 1)) (a2 m c (i 0) (i 1)), fun c i => Cert.Lift.secondMoment (grad m c (i 0) (i 1)) (a3 m c (i 0) (i 1)), ?_, ?_⟩
  · refine (θ_run Cert.Kernel8Ideal.defs _ _).mono (fun r h c => ?_) (θ_run_and (Cert.Kernel8Ideal.Gen.run_main m g) (Cert.Kernel8Ideal.Gen.unchanged m g))
    exact ⟨((h.1 c).1 4).trans (f4 m c), ((h.1 c).1 5).trans (f5 m c), ((h.1 c).1 6).trans (f6 m c), ((h.1 c).1 7).trans (f7 m c), h.2 c⟩
  · refine (θ_run Cert.Reference8Ideal.defs _ _).mono (fun r h c => ?_) (Cert.Reference8Ideal.Value.run m' g')
    obtain ⟨h0, h1, h2, h3, h4⟩ := h c
    obtain ⟨e0, e1, e2, e3⟩ := hargs c
    exact ⟨(h0.trans (Cert.Reference8Ideal.Read.val_main_v0_eq _)).trans (funext fun i => (Cert.Reference8Ideal.Step.grad _ i).trans (by rw [e0, eq_ix2 i]; rfl)),
      (h1.trans (Cert.Reference8Ideal.Read.val_main_v24_eq _ _ _ _)).trans (funext fun i => (Cert.Reference8Ideal.Step.change _ _ _ _ i).trans (by rw [e0, e1, e2, e3, eq_ix2 i]; rfl)),
      (h2.trans (Cert.Reference8Ideal.Read.val_main_v5_eq _ _)).trans (funext fun i => (Cert.Reference8Ideal.Step.first _ _ i).trans (by rw [e0, e2, eq_ix2 i]; rfl)),
      (h3.trans (Cert.Reference8Ideal.Read.val_main_v11_eq _ _)).trans (funext fun i => (Cert.Reference8Ideal.Step.second _ _ i).trans (by rw [e0, e3, eq_ix2 i]; rfl)), h4⟩

end Cert.Proof

end
-- ==== Proof.Lift.Adam9.lean ====
/- The optimiser's step on the output projection's weights. -/
module

public import proofs.«01_k».proof.Defs
public import proofs.«01_k».proof.Proof.Gen.Kernel9
public import proofs.«01_k».proof.Proof.Gen.Kernel9Ideal.Frame
public import proofs.«01_k».proof.Proof.Gen.Reference9Ideal.Run
public import proofs.«01_k».proof.Proof.Gen.Reference9Ideal.Read
public import proofs.«01_k».proof.Proof.Lift.Step
public import proofs.«01_k».proof.Proof.Lift.Sums
public import Idealize.ShloMosaic.Lib.Pipeline.ValueKit
public import Idealize.ShloMosaic.Adequacy

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem points (t : Fin cfg0.N) : t.val < 1 := lt_of_lt_of_eq t.isLt (show cfg0.N = 1 from N_0)

/-- The row of the arrays that row `p` of point `t`'s blocks is. -/
def row (t : Fin cfg0.N) (p : Fin 128) : Fin 128 := ⟨t.val * 128 + p.val, by have := points t; omega⟩

theorem first (x0 : FVec Ideal S8x128x1024 .bf16) (x1 x2 x3 : FVec Ideal S128x1024 .f32) (p : Fin 128) (q : Fin 1024) : k0_pay5 (F := Ideal) x0 x1 x2 x3 (ix2 p q) = ∑ s : Fin 8, (x0 (ix3 s p q) : EReal) := by
  rw [Fin.sum_univ_eight]
  pointwise [k0_pay5, k0_pay4]

theorem moment1 (u v : FVec Ideal S128x1024 .f32) (p : Fin 128) (q : Fin 1024) : k0_pay1 (F := Ideal) u v (ix2 p q) = Cert.Lift.firstMoment (u (ix2 p q)) (v (ix2 p q)) := by
  pointwise [k0_pay1]
  rfl

theorem moment2 (u v : FVec Ideal S128x1024 .f32) (p : Fin 128) (q : Fin 1024) : k0_pay2 (F := Ideal) u v (ix2 p q) = Cert.Lift.secondMoment (u (ix2 p q)) (v (ix2 p q)) := by
  pointwise [k0_pay2]
  rfl

theorem change (u w m v : FVec Ideal S128x1024 .f32) (p : Fin 128) (q : Fin 1024) :
    k0_pay3 (F := Ideal) u w m v (ix2 p q) = Cert.Lift.change (u (ix2 p q)) (w (ix2 p q)) (m (ix2 p q)) (v (ix2 p q)) := by
  pointwise [k0_pay3, k0_pay1, k0_pay2]
  rfl

variable (m : (ℓ : Loc nD τ sig) → Buf (Elt Ideal) ℓ) (c : Dev nD)

/-- Entry of the gradient's parts. -/
abbrev a0 (s : Fin 8) (r : Fin 128) (q : Fin 1024) : EReal := m ((c : Thread nD τ).loc main_arg0) (ix3 s r q)
/-- Entry of argument 1. -/
abbrev a1 (r : Fin 128) (q : Fin 1024) : EReal := m ((c : Thread nD τ).loc main_arg1) (ix2 r q)
/-- Entry of argument 2. -/
abbrev a2 (r : Fin 128) (q : Fin 1024) : EReal := m ((c : Thread nD τ).loc main_arg2) (ix2 r q)
/-- Entry of argument 3. -/
abbrev a3 (r : Fin 128) (q : Fin 1024) : EReal := m ((c : Thread nD τ).loc main_arg3) (ix2 r q)

theorem b0 (t : Fin cfg0.N) (s : Fin 8) (p : Fin 128) (q : Fin 1024) : (iblk m c 0 t : FVec Ideal S8x128x1024 .bf16) (ix3 s p q) = a0 m c s (row t p) q := by
  blk_point [iblk, V, idx t, row]

theorem b1 (t : Fin cfg0.N) (p : Fin 128) (q : Fin 1024) : (iblk m c 1 t : FVec Ideal S128x1024 .f32) (ix2 p q) = a1 m c (row t p) q := by
  blk_point [iblk, V, idx t, row]

theorem b2 (t : Fin cfg0.N) (p : Fin 128) (q : Fin 1024) : (iblk m c 2 t : FVec Ideal S128x1024 .f32) (ix2 p q) = a2 m c (row t p) q := by
  blk_point [iblk, V, idx t, row]

theorem b3 (t : Fin cfg0.N) (p : Fin 128) (q : Fin 1024) : (iblk m c 3 t : FVec Ideal S128x1024 .f32) (ix2 p q) = a3 m c (row t p) q := by
  blk_point [iblk, V, idx t, row]

/-- The gradient's entry. -/
def grad (r : Fin 128) (q : Fin 1024) : EReal := ∑ s : Fin 8, a0 m c s r q

theorem summed (t : Fin cfg0.N) (p : Fin 128) (q : Fin 1024) : k0_pay5 (F := Ideal) (iblk m c 0 t) (iblk m c 1 t) (iblk m c 2 t) (iblk m c 3 t) (ix2 p q) = grad m c (row t p) q :=
  (first _ _ _ _ p q).trans (Finset.sum_congr (M := EReal) rfl fun s _ => b0 m c t s p q)

theorem f4 : (dats m 0 c).arrAt 4 (cfgs 0).N = (fun i => grad m c (i 0) (i 1)) := by
  refine (dats m 0 c).arrAt_eq_of_covers 4 _ (by decide +kernel) fun t _ y => ?_
  blk_simp [idx t]
  rw [after0_4]
  have key : out0_4 (iblk m c 0 t) (iblk m c 1 t) (iblk m c 2 t) (iblk m c 3 t) = k0_pay5 (iblk m c 0 t) (iblk m c 1 t) (iblk m c 2 t) (iblk m c 3 t) := by
    unfold out0_4
    frame_out
  have e : (win0_4.blk t).view.emb y = ix2 (row t (y 0)) (y 1) := by blk_ext [idx t, row]
  rw [key, e, eq_ix2 y]
  exact summed m c t (y 0) (y 1)

theorem f5 : (dats m 0 c).arrAt 5 (cfgs 0).N = (fun i => Cert.Lift.change (grad m c (i 0) (i 1)) (a1 m c (i 0) (i 1)) (a2 m c (i 0) (i 1)) (a3 m c (i 0) (i 1))) := by
  refine (dats m 0 c).arrAt_eq_of_covers 5 _ (by decide +kernel) fun t _ y => ?_
  blk_simp [idx t]
  rw [after0_5]
  have key : out0_5 (iblk m c 0 t) (iblk m c 1 t) (iblk m c 2 t) (iblk m c 3 t) = k0_pay3 (k0_pay5 (iblk m c 0 t) (iblk m c 1 t) (iblk m c 2 t) (iblk m c 3 t)) (iblk m c 1 t) (iblk m c 2 t) (iblk m c 3 t) := by
    unfold out0_5
    frame_out
  have e : (win0_5.blk t).view.emb y = ix2 (row t (y 0)) (y 1) := by blk_ext [idx t, row]
  rw [key, e, eq_ix2 y]
  exact (change _ _ _ _ (y 0) (y 1)).trans (by rw [summed m c t (y 0) (y 1), b1 m c t (y 0) (y 1), b2 m c t (y 0) (y 1), b3 m c t (y 0) (y 1)]; rfl)

theorem f6 : (dats m 0 c).arrAt 6 (cfgs 0).N = (fun i => Cert.Lift.firstMoment (grad m c (i 0) (i 1)) (a2 m c (i 0) (i 1))) := by
  refine (dats m 0 c).arrAt_eq_of_covers 6 _ (by decide +kernel) fun t _ y => ?_
  blk_simp [idx t]
  rw [after0_6]
  have key : out0_6 (iblk m c 0 t) (iblk m c 1 t) (iblk m c 2 t) (iblk m c 3 t) = k0_pay1 (k0_pay5 (iblk m c 0 t) (iblk m c 1 t) (iblk m c 2 t) (iblk m c 3 t)) (iblk m c 2 t) := by
    unfold out0_6
    frame_out
  have e : (win0_6.blk t).view.emb y = ix2 (row t (y 0)) (y 1) := by blk_ext [idx t, row]
  rw [key, e, eq_ix2 y]
  exact (moment1 _ _ (y 0) (y 1)).trans (by rw [summed m c t (y 0) (y 1), b2 m c t (y 0) (y 1)]; rfl)

theorem f7 : (dats m 0 c).arrAt 7 (cfgs 0).N = (fun i => Cert.Lift.secondMoment (grad m c (i 0) (i 1)) (a3 m c (i 0) (i 1))) := by
  refine (dats m 0 c).arrAt_eq_of_covers 7 _ (by decide +kernel) fun t _ y => ?_
  blk_simp [idx t]
  rw [after0_7]
  have key : out0_7 (iblk m c 0 t) (iblk m c 1 t) (iblk m c 2 t) (iblk m c 3 t) = k0_pay2 (k0_pay5 (iblk m c 0 t) (iblk m c 1 t) (iblk m c 2 t) (iblk m c 3 t)) (iblk m c 3 t) := by
    unfold out0_7
    frame_out
  have e : (win0_7.blk t).view.emb y = ix2 (row t (y 0)) (y 1) := by blk_ext [idx t, row]
  rw [key, e, eq_ix2 y]
  exact (moment2 _ _ (y 0) (y 1)).trans (by rw [summed m c t (y 0) (y 1), b3 m c t (y 0) (y 1)]; rfl)

end Cert.Kernel9Ideal.Value

namespace Cert.Reference9Ideal.Step

open Cert.Reference9Ideal Cert.Reference9Ideal.Gen Cert.Reference9Ideal.Read Idealize.ShloMosaic Idealize.ShloMosaic.TcCoe Idealize.SL.Sem

variable (x0 : FVec Ideal S8x128x1024 .f32) (x1 x2 x3 : FVec Ideal S128x1024 .f32) (i : S128x1024.Idx)

theorem grad : val_main_v0 (F := Ideal) x0 i = (∑ s : Fin 8, (x0 (ix3 s (i 0) (i 1)) : EReal)) := by
  rw [val_main_v0_apply]
  refine (congrArg (· + _) (show val_main_cst (F := Ideal) _ = (0 : EReal) by rw [val_main_cst_apply]; exact Ideal.ofBits_zero_f32)).trans ((zero_add _).trans ?_)
  exact Finset.sum_congr (M := EReal) rfl fun s _ => congrArg x0 (funext fun a => match a with
    | ⟨0, _⟩ => rfl
    | ⟨1, _⟩ => rfl
    | ⟨2, _⟩ => rfl)

theorem first : val_main_v5 (F := Ideal) x0 x2 i = Cert.Lift.firstMoment (∑ s : Fin 8, (x0 (ix3 s (i 0) (i 1)) : EReal)) (x2 i) := by
  rw [← grad x0 i]
  simp only [val_main_v5_apply, val_main_v4_apply, val_main_v3_apply, val_main_v2_apply, val_main_v1_apply, val_main_cst_0_apply, val_main_cst_1_apply]
  rfl

theorem second : val_main_v11 (F := Ideal) x0 x3 i = Cert.Lift.secondMoment (∑ s : Fin 8, (x0 (ix3 s (i 0) (i 1)) : EReal)) (x3 i) := by
  rw [← grad x0 i]
  simp only [val_main_v11_apply, val_main_v10_apply, val_main_v9_apply, val_main_v8_apply, val_main_v7_apply, val_main_v6_apply, val_main_cst_2_apply, val_main_cst_3_apply]
  rfl

theorem change : val_main_v24 (F := Ideal) x0 x1 x2 x3 i = Cert.Lift.change (∑ s : Fin 8, (x0 (ix3 s (i 0) (i 1)) : EReal)) (x1 i) (x2 i) (x3 i) := by
  simp only [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, first, second, val_main_cst_4_apply, val_main_cst_5_apply, val_main_cst_6_apply, val_main_cst_7_apply, val_main_cst_8_apply]
  rfl

end Cert.Reference9Ideal.Step

namespace Cert.Proof

open Idealize.ShloMosaic Idealize.ShloMosaic.TcCoe Idealize.SL.Sem

theorem frame_reference9 : Cert.quiescent_Reference9Ideal := fun m ρ _ =>
  (θ_run Cert.Reference9Ideal.defs _ _).mono (fun r h => ⟨fun c => (h c).2.2.2.2, sem_eq_zero_of_no_sems (by decide) r.2⟩) (Cert.Reference9Ideal.Value.run m ρ)

open Cert.Kernel9Ideal.Value in
theorem algebraic9 : Cert.algebraic_Kernel9Ideal_Reference9Ideal := by
  intro m g m' g' _ hargs
  refine ⟨fun c i => grad m c (i 0) (i 1), fun c i => Cert.Lift.change (grad m c (i 0) (i 1)) (a1 m c (i 0) (i 1)) (a2 m c (i 0) (i 1)) (a3 m c (i 0) (i 1)), fun c i => Cert.Lift.firstMoment (grad m c (i 0) (i 1)) (a2 m c (i 0) (i 1)), fun c i => Cert.Lift.secondMoment (grad m c (i 0) (i 1)) (a3 m c (i 0) (i 1)), ?_, ?_⟩
  · refine (θ_run Cert.Kernel9Ideal.defs _ _).mono (fun r h c => ?_) (θ_run_and (Cert.Kernel9Ideal.Gen.run_main m g) (Cert.Kernel9Ideal.Gen.unchanged m g))
    exact ⟨((h.1 c).1 4).trans (f4 m c), ((h.1 c).1 5).trans (f5 m c), ((h.1 c).1 6).trans (f6 m c), ((h.1 c).1 7).trans (f7 m c), h.2 c⟩
  · refine (θ_run Cert.Reference9Ideal.defs _ _).mono (fun r h c => ?_) (Cert.Reference9Ideal.Value.run m' g')
    obtain ⟨h0, h1, h2, h3, h4⟩ := h c
    obtain ⟨e0, e1, e2, e3⟩ := hargs c
    exact ⟨(h0.trans (Cert.Reference9Ideal.Read.val_main_v0_eq _)).trans (funext fun i => (Cert.Reference9Ideal.Step.grad _ i).trans (by rw [e0, eq_ix2 i]; rfl)),
      (h1.trans (Cert.Reference9Ideal.Read.val_main_v24_eq _ _ _ _)).trans (funext fun i => (Cert.Reference9Ideal.Step.change _ _ _ _ i).trans (by rw [e0, e1, e2, e3, eq_ix2 i]; rfl)),
      (h2.trans (Cert.Reference9Ideal.Read.val_main_v5_eq _ _)).trans (funext fun i => (Cert.Reference9Ideal.Step.first _ _ i).trans (by rw [e0, e2, eq_ix2 i]; rfl)),
      (h3.trans (Cert.Reference9Ideal.Read.val_main_v11_eq _ _)).trans (funext fun i => (Cert.Reference9Ideal.Step.second _ _ i).trans (by rw [e0, e3, eq_ix2 i]; rfl)), h4⟩

end Cert.Proof

end
-- ==== Proof.Lift.Adam10.lean ====
/- The optimiser's step on the input projection's weights. -/
module

public import proofs.«01_k».proof.Defs
public import proofs.«01_k».proof.Proof.Gen.Kernel10
public import proofs.«01_k».proof.Proof.Gen.Kernel10Ideal.Frame
public import proofs.«01_k».proof.Proof.Gen.Reference10Ideal.Run
public import proofs.«01_k».proof.Proof.Gen.Reference10Ideal.Read
public import proofs.«01_k».proof.Proof.Lift.Step
public import proofs.«01_k».proof.Proof.Lift.Sums
public import Idealize.ShloMosaic.Lib.Pipeline.ValueKit
public import Idealize.ShloMosaic.Adequacy

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem points (t : Fin cfg0.N) : t.val < 2 := lt_of_lt_of_eq t.isLt (show cfg0.N = 2 from N_0)

/-- The row of the arrays that row `p` of point `t`'s blocks is. -/
def row (t : Fin cfg0.N) (p : Fin 112) : Fin 224 := ⟨t.val * 112 + p.val, by have := points t; omega⟩

theorem first (x0 : FVec Ideal S8x112x1024 .bf16) (x1 x2 x3 : FVec Ideal S112x1024 .f32) (p : Fin 112) (q : Fin 1024) : k0_pay6 (F := Ideal) x0 x1 x2 x3 (ix2 p q) = ∑ s : Fin 8, (x0 (ix3 s p q) : EReal) := by
  rw [Fin.sum_univ_eight]
  pointwise [k0_pay6, k0_pay4]

theorem moment1 (u v : FVec Ideal S112x1024 .f32) (p : Fin 112) (q : Fin 1024) : k0_pay1 (F := Ideal) u v (ix2 p q) = Cert.Lift.firstMoment (u (ix2 p q)) (v (ix2 p q)) := by
  pointwise [k0_pay1]
  rfl

theorem moment2 (u v : FVec Ideal S112x1024 .f32) (p : Fin 112) (q : Fin 1024) : k0_pay2 (F := Ideal) u v (ix2 p q) = Cert.Lift.secondMoment (u (ix2 p q)) (v (ix2 p q)) := by
  pointwise [k0_pay2]
  rfl

theorem change (u w m v : FVec Ideal S112x1024 .f32) (p : Fin 112) (q : Fin 1024) :
    k0_pay3 (F := Ideal) u (k0_pay5 (F := Ideal) w) m v (ix2 p q) = Cert.Lift.change (u (ix2 p q)) (w (ix2 p q)) (m (ix2 p q)) (v (ix2 p q)) := by
  pointwise [k0_pay3, k0_pay1, k0_pay2, k0_pay5]
  rfl

variable (m : (ℓ : Loc nD τ sig) → Buf (Elt Ideal) ℓ) (c : Dev nD)

/-- Entry of the gradient's parts. -/
abbrev a0 (s : Fin 8) (r : Fin 224) (q : Fin 1024) : EReal := m ((c : Thread nD τ).loc main_arg0) (ix3 s r q)
/-- Entry of argument 1. -/
abbrev a1 (r : Fin 224) (q : Fin 1024) : EReal := m ((c : Thread nD τ).loc main_arg1) (ix2 q r)
/-- Entry of argument 2. -/
abbrev a2 (r : Fin 224) (q : Fin 1024) : EReal := m ((c : Thread nD τ).loc main_arg2) (ix2 q r)
/-- Entry of argument 3. -/
abbrev a3 (r : Fin 224) (q : Fin 1024) : EReal := m ((c : Thread nD τ).loc main_arg3) (ix2 q r)

theorem b0 (t : Fin cfg0.N) (s : Fin 8) (p : Fin 112) (q : Fin 1024) : (iblk m c 0 t : FVec Ideal S8x112x1024 .bf16) (ix3 s p q) = a0 m c s (row t p) q := by
  blk_point [iblk, V, idx t, row]

theorem b1 (t : Fin cfg0.N) (p : Fin 112) (q : Fin 1024) : (iblk m c 1 t : FVec Ideal S112x1024 .f32) (ix2 p q) = a1 m c (row t p) q := by
  blk_point [iblk, V, idx t, row]

theorem b2 (t : Fin cfg0.N) (p : Fin 112) (q : Fin 1024) : (iblk m c 2 t : FVec Ideal S112x1024 .f32) (ix2 p q) = a2 m c (row t p) q := by
  blk_point [iblk, V, idx t, row]

theorem b3 (t : Fin cfg0.N) (p : Fin 112) (q : Fin 1024) : (iblk m c 3 t : FVec Ideal S112x1024 .f32) (ix2 p q) = a3 m c (row t p) q := by
  blk_point [iblk, V, idx t, row]

/-- The gradient's entry. -/
def grad (r : Fin 224) (q : Fin 1024) : EReal := ∑ s : Fin 8, a0 m c s r q

theorem summed (t : Fin cfg0.N) (p : Fin 112) (q : Fin 1024) : k0_pay6 (F := Ideal) (iblk m c 0 t) (iblk m c 1 t) (iblk m c 2 t) (iblk m c 3 t) (ix2 p q) = grad m c (row t p) q :=
  (first _ _ _ _ p q).trans (Finset.sum_congr (M := EReal) rfl fun s _ => b0 m c t s p q)

theorem f4 : (dats m 0 c).arrAt 4 (cfgs 0).N = (fun i => grad m c (i 0) (i 1)) := by
  refine (dats m 0 c).arrAt_eq_of_covers 4 _ (by decide +kernel) fun t _ y => ?_
  blk_simp [idx t]
  rw [after0_4]
  have key : out0_4 (iblk m c 0 t) (iblk m c 1 t) (iblk m c 2 t) (iblk m c 3 t) = k0_pay6 (iblk m c 0 t) (iblk m c 1 t) (iblk m c 2 t) (iblk m c 3 t) := by
    unfold out0_4
    frame_out
  have e : (win0_4.blk t).view.emb y = ix2 (row t (y 0)) (y 1) := by blk_ext [idx t, row]
  rw [key, e, eq_ix2 y]
  exact summed m c t (y 0) (y 1)

theorem f5 : (dats m 0 c).arrAt 5 (cfgs 0).N = (fun i => Cert.Lift.change (grad m c (i 0) (i 1)) (a1 m c (i 0) (i 1)) (a2 m c (i 0) (i 1)) (a3 m c (i 0) (i 1))) := by
  refine (dats m 0 c).arrAt_eq_of_covers 5 _ (by decide +kernel) fun t _ y => ?_
  blk_simp [idx t]
  rw [after0_5]
  have key : out0_5 (iblk m c 0 t) (iblk m c 1 t) (iblk m c 2 t) (iblk m c 3 t) = k0_pay3 (k0_pay6 (iblk m c 0 t) (iblk m c 1 t) (iblk m c 2 t) (iblk m c 3 t)) (k0_pay5 (iblk m c 1 t)) (iblk m c 2 t) (iblk m c 3 t) := by
    unfold out0_5
    frame_out
  have e : (win0_5.blk t).view.emb y = ix2 (row t (y 0)) (y 1) := by blk_ext [idx t, row]
  rw [key, e, eq_ix2 y]
  exact (change _ _ _ _ (y 0) (y 1)).trans (by rw [summed m c t (y 0) (y 1), b1 m c t (y 0) (y 1), b2 m c t (y 0) (y 1), b3 m c t (y 0) (y 1)]; rfl)

theorem f6 : (dats m 0 c).arrAt 6 (cfgs 0).N = (fun i => Cert.Lift.firstMoment (grad m c (i 0) (i 1)) (a2 m c (i 0) (i 1))) := by
  refine (dats m 0 c).arrAt_eq_of_covers 6 _ (by decide +kernel) fun t _ y => ?_
  blk_simp [idx t]
  rw [after0_6]
  have key : out0_6 (iblk m c 0 t) (iblk m c 1 t) (iblk m c 2 t) (iblk m c 3 t) = k0_pay1 (k0_pay6 (iblk m c 0 t) (iblk m c 1 t) (iblk m c 2 t) (iblk m c 3 t)) (iblk m c 2 t) := by
    unfold out0_6
    frame_out
  have e : (win0_6.blk t).view.emb y = ix2 (row t (y 0)) (y 1) := by blk_ext [idx t, row]
  rw [key, e, eq_ix2 y]
  exact (moment1 _ _ (y 0) (y 1)).trans (by rw [summed m c t (y 0) (y 1), b2 m c t (y 0) (y 1)]; rfl)

theorem f7 : (dats m 0 c).arrAt 7 (cfgs 0).N = (fun i => Cert.Lift.secondMoment (grad m c (i 0) (i 1)) (a3 m c (i 0) (i 1))) := by
  refine (dats m 0 c).arrAt_eq_of_covers 7 _ (by decide +kernel) fun t _ y => ?_
  blk_simp [idx t]
  rw [after0_7]
  have key : out0_7 (iblk m c 0 t) (iblk m c 1 t) (iblk m c 2 t) (iblk m c 3 t) = k0_pay2 (k0_pay6 (iblk m c 0 t) (iblk m c 1 t) (iblk m c 2 t) (iblk m c 3 t)) (iblk m c 3 t) := by
    unfold out0_7
    frame_out
  have e : (win0_7.blk t).view.emb y = ix2 (row t (y 0)) (y 1) := by blk_ext [idx t, row]
  rw [key, e, eq_ix2 y]
  exact (moment2 _ _ (y 0) (y 1)).trans (by rw [summed m c t (y 0) (y 1), b3 m c t (y 0) (y 1)]; rfl)

end Cert.Kernel10Ideal.Value

namespace Cert.Reference10Ideal.Step

open Cert.Reference10Ideal Cert.Reference10Ideal.Gen Cert.Reference10Ideal.Read Idealize.ShloMosaic Idealize.ShloMosaic.TcCoe Idealize.SL.Sem

variable (x0 : FVec Ideal S8x224x1024 .f32) (x1 x2 x3 : FVec Ideal S1024x224 .f32) (i : S1024x224.Idx)

theorem grad : val_main_v1 (F := Ideal) x0 i = (∑ s : Fin 8, (x0 (ix3 s (i 1) (i 0)) : EReal)) := by
  rw [val_main_v1_apply, val_main_v0_apply]
  refine (congrArg (· + _) (show val_main_cst (F := Ideal) _ = (0 : EReal) by rw [val_main_cst_apply]; exact Ideal.ofBits_zero_f32)).trans ((zero_add _).trans ?_)
  exact Finset.sum_congr (M := EReal) rfl fun s _ => congrArg x0 (funext fun a => match a with
    | ⟨0, _⟩ => rfl
    | ⟨1, _⟩ => rfl
    | ⟨2, _⟩ => rfl)

theorem first : val_main_v6 (F := Ideal) x0 x2 i = Cert.Lift.firstMoment (∑ s : Fin 8, (x0 (ix3 s (i 1) (i 0)) : EReal)) (x2 i) := by
  rw [← grad x0 i]
  simp only [val_main_v6_apply, val_main_v5_apply, val_main_v4_apply, val_main_v3_apply, val_main_v2_apply, val_main_cst_0_apply, val_main_cst_1_apply]
  rfl

theorem second : val_main_v12 (F := Ideal) x0 x3 i = Cert.Lift.secondMoment (∑ s : Fin 8, (x0 (ix3 s (i 1) (i 0)) : EReal)) (x3 i) := by
  rw [← grad x0 i]
  simp only [val_main_v12_apply, val_main_v11_apply, val_main_v10_apply, val_main_v9_apply, val_main_v8_apply, val_main_v7_apply, val_main_cst_2_apply, val_main_cst_3_apply]
  rfl

theorem change : val_main_v25 (F := Ideal) x0 x1 x2 x3 i = Cert.Lift.change (∑ s : Fin 8, (x0 (ix3 s (i 1) (i 0)) : EReal)) (x1 i) (x2 i) (x3 i) := by
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, first, second, val_main_cst_4_apply, val_main_cst_5_apply, val_main_cst_6_apply, val_main_cst_7_apply, val_main_cst_8_apply]
  rfl

theorem grad' (j : S224x1024.Idx) : val_main_v26 (F := Ideal) x0 j = (∑ s : Fin 8, (x0 (ix3 s (j 0) (j 1)) : EReal)) := by
  rw [val_main_v26_apply, grad]
  rfl

theorem change' (j : S224x1024.Idx) : val_main_v27 (F := Ideal) x0 x1 x2 x3 j = Cert.Lift.change (∑ s : Fin 8, (x0 (ix3 s (j 0) (j 1)) : EReal)) (x1 (ix2 (j 1) (j 0))) (x2 (ix2 (j 1) (j 0))) (x3 (ix2 (j 1) (j 0))) := by
  rw [val_main_v27_apply, change]
  have e1 : x1 (idx_main_v27 j) = x1 (ix2 (j 1) (j 0)) := congrArg x1 (Cert.Lift.ext2 rfl rfl)
  have e2 : x2 (idx_main_v27 j) = x2 (ix2 (j 1) (j 0)) := congrArg x2 (Cert.Lift.ext2 rfl rfl)
  have e3 : x3 (idx_main_v27 j) = x3 (ix2 (j 1) (j 0)) := congrArg x3 (Cert.Lift.ext2 rfl rfl)
  rw [e1, e2, e3]
  rfl

theorem first' (j : S224x1024.Idx) : val_main_v28 (F := Ideal) x0 x2 j = Cert.Lift.firstMoment (∑ s : Fin 8, (x0 (ix3 s (j 0) (j 1)) : EReal)) (x2 (ix2 (j 1) (j 0))) := by
  rw [val_main_v28_apply, first]
  have e2 : x2 (idx_main_v28 j) = x2 (ix2 (j 1) (j 0)) := congrArg x2 (Cert.Lift.ext2 rfl rfl)
  rw [e2]
  rfl

theorem second' (j : S224x1024.Idx) : val_main_v29 (F := Ideal) x0 x3 j = Cert.Lift.secondMoment (∑ s : Fin 8, (x0 (ix3 s (j 0) (j 1)) : EReal)) (x3 (ix2 (j 1) (j 0))) := by
  rw [val_main_v29_apply, second]
  have e3 : x3 (idx_main_v29 j) = x3 (ix2 (j 1) (j 0)) := congrArg x3 (Cert.Lift.ext2 rfl rfl)
  rw [e3]
  rfl

end Cert.Reference10Ideal.Step

namespace Cert.Proof

open Idealize.ShloMosaic Idealize.ShloMosaic.TcCoe Idealize.SL.Sem

theorem frame_reference10 : Cert.quiescent_Reference10Ideal := fun m ρ _ =>
  (θ_run Cert.Reference10Ideal.defs _ _).mono (fun r h => ⟨fun c => (h c).2.2.2.2, sem_eq_zero_of_no_sems (by decide) r.2⟩) (Cert.Reference10Ideal.Value.run m ρ)

open Cert.Kernel10Ideal.Value in
theorem algebraic10 : Cert.algebraic_Kernel10Ideal_Reference10Ideal := by
  intro m g m' g' _ hargs
  refine ⟨fun c i => grad m c (i 0) (i 1), fun c i => Cert.Lift.change (grad m c (i 0) (i 1)) (a1 m c (i 0) (i 1)) (a2 m c (i 0) (i 1)) (a3 m c (i 0) (i 1)), fun c i => Cert.Lift.firstMoment (grad m c (i 0) (i 1)) (a2 m c (i 0) (i 1)), fun c i => Cert.Lift.secondMoment (grad m c (i 0) (i 1)) (a3 m c (i 0) (i 1)), ?_, ?_⟩
  · refine (θ_run Cert.Kernel10Ideal.defs _ _).mono (fun r h c => ?_) (θ_run_and (Cert.Kernel10Ideal.Gen.run_main m g) (Cert.Kernel10Ideal.Gen.unchanged m g))
    exact ⟨((h.1 c).1 4).trans (f4 m c), ((h.1 c).1 5).trans (f5 m c), ((h.1 c).1 6).trans (f6 m c), ((h.1 c).1 7).trans (f7 m c), h.2 c⟩
  · refine (θ_run Cert.Reference10Ideal.defs _ _).mono (fun r h c => ?_) (Cert.Reference10Ideal.Value.run m' g')
    obtain ⟨h0, h1, h2, h3, h4⟩ := h c
    obtain ⟨e0, e1, e2, e3⟩ := hargs c
    exact ⟨(h0.trans (Cert.Reference10Ideal.Read.val_main_v26_eq _)).trans (funext fun i => (Cert.Reference10Ideal.Step.grad' _ i).trans (by rw [e0, eq_ix2 i]; rfl)),
      (h1.trans (Cert.Reference10Ideal.Read.val_main_v27_eq _ _ _ _)).trans (funext fun i => (Cert.Reference10Ideal.Step.change' _ _ _ _ i).trans (by rw [e0, e1, e2, e3, eq_ix2 i]; rfl)),
      (h2.trans (Cert.Reference10Ideal.Read.val_main_v28_eq _ _)).trans (funext fun i => (Cert.Reference10Ideal.Step.first' _ _ i).trans (by rw [e0, e2, eq_ix2 i]; rfl)),
      (h3.trans (Cert.Reference10Ideal.Read.val_main_v29_eq _ _)).trans (funext fun i => (Cert.Reference10Ideal.Step.second' _ _ i).trans (by rw [e0, e3, eq_ix2 i]; rfl)), h4⟩

end Cert.Proof

end
-- ==== Proof.Lift.Adam11.lean ====
/- The optimiser's step on the spatial gate's weights. -/
module

public import proofs.«01_k».proof.Defs
public import proofs.«01_k».proof.Proof.Gen.Kernel11
public import proofs.«01_k».proof.Proof.Gen.Kernel11Ideal.Frame
public import proofs.«01_k».proof.Proof.Gen.Reference11Ideal.Run
public import proofs.«01_k».proof.Proof.Gen.Reference11Ideal.Read
public import proofs.«01_k».proof.Proof.Lift.Step
public import proofs.«01_k».proof.Proof.Lift.Sums
public import Idealize.ShloMosaic.Lib.Pipeline.ValueKit
public import Idealize.ShloMosaic.Adequacy

@[expose] public section

set_option maxRecDepth 16384

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem points (t : Fin cfg0.N) : t.val < 2 := lt_of_lt_of_eq t.isLt (show cfg0.N = 2 from N_0)

/-- The row of the arrays that row `p` of point `t`'s blocks is. -/
def row (t : Fin cfg0.N) (p : Fin 512) : Fin 1024 := ⟨t.val * 512 + p.val, by have := points t; omega⟩

theorem first (x0 : FVec Ideal S8x512x128 .bf16) (x1 x2 x3 : FVec Ideal S512x128 .f32) (p : Fin 512) (q : Fin 128) : k0_pay5 (F := Ideal) x0 x1 x2 x3 (ix2 p q) = ∑ s : Fin 8, (x0 (ix3 s p q) : EReal) := by
  rw [Fin.sum_univ_eight]
  pointwise [k0_pay5, k0_pay4]

theorem moment1 (u v : FVec Ideal S512x128 .f32) (p : Fin 512) (q : Fin 128) : k0_pay1 (F := Ideal) u v (ix2 p q) = Cert.Lift.firstMoment (u (ix2 p q)) (v (ix2 p q)) := by
  pointwise [k0_pay1]
  rfl

theorem moment2 (u v : FVec Ideal S512x128 .f32) (p : Fin 512) (q : Fin 128) : k0_pay2 (F := Ideal) u v (ix2 p q) = Cert.Lift.secondMoment (u (ix2 p q)) (v (ix2 p q)) := by
  pointwise [k0_pay2]
  rfl

theorem change (u w m v : FVec Ideal S512x128 .f32) (p : Fin 512) (q : Fin 128) :
    k0_pay3 (F := Ideal) u w m v (ix2 p q) = Cert.Lift.change (u (ix2 p q)) (w (ix2 p q)) (m (ix2 p q)) (v (ix2 p q)) := by
  pointwise [k0_pay3, k0_pay1, k0_pay2]
  rfl

variable (m : (ℓ : Loc nD τ sig) → Buf (Elt Ideal) ℓ) (c : Dev nD)

/-- Entry of the gradient's parts. -/
abbrev a0 (s : Fin 8) (r : Fin 1024) (q : Fin 128) : EReal := m ((c : Thread nD τ).loc main_arg0) (ix3 s r q)
/-- Entry of argument 1. -/
abbrev a1 (r : Fin 1024) (q : Fin 128) : EReal := m ((c : Thread nD τ).loc main_arg1) (ix2 r q)
/-- Entry of argument 2. -/
abbrev a2 (r : Fin 1024) (q : Fin 128) : EReal := m ((c : Thread nD τ).loc main_arg2) (ix2 r q)
/-- Entry of argument 3. -/
abbrev a3 (r : Fin 1024) (q : Fin 128) : EReal := m ((c : Thread nD τ).loc main_arg3) (ix2 r q)

theorem b0 (t : Fin cfg0.N) (s : Fin 8) (p : Fin 512) (q : Fin 128) : (iblk m c 0 t : FVec Ideal S8x512x128 .bf16) (ix3 s p q) = a0 m c s (row t p) q := by
  blk_point [iblk, V, idx t, row]

theorem b1 (t : Fin cfg0.N) (p : Fin 512) (q : Fin 128) : (iblk m c 1 t : FVec Ideal S512x128 .f32) (ix2 p q) = a1 m c (row t p) q := by
  blk_point [iblk, V, idx t, row]

theorem b2 (t : Fin cfg0.N) (p : Fin 512) (q : Fin 128) : (iblk m c 2 t : FVec Ideal S512x128 .f32) (ix2 p q) = a2 m c (row t p) q := by
  blk_point [iblk, V, idx t, row]

theorem b3 (t : Fin cfg0.N) (p : Fin 512) (q : Fin 128) : (iblk m c 3 t : FVec Ideal S512x128 .f32) (ix2 p q) = a3 m c (row t p) q := by
  blk_point [iblk, V, idx t, row]

/-- The gradient's entry. -/
def grad (r : Fin 1024) (q : Fin 128) : EReal := ∑ s : Fin 8, a0 m c s r q

theorem summed (t : Fin cfg0.N) (p : Fin 512) (q : Fin 128) : k0_pay5 (F := Ideal) (iblk m c 0 t) (iblk m c 1 t) (iblk m c 2 t) (iblk m c 3 t) (ix2 p q) = grad m c (row t p) q :=
  (first _ _ _ _ p q).trans (Finset.sum_congr (M := EReal) rfl fun s _ => b0 m c t s p q)

theorem f4 : (dats m 0 c).arrAt 4 (cfgs 0).N = (fun i => grad m c (i 0) (i 1)) := by
  refine (dats m 0 c).arrAt_eq_of_covers 4 _ (by decide +kernel) fun t _ y => ?_
  blk_simp [idx t]
  rw [after0_4]
  have key : out0_4 (iblk m c 0 t) (iblk m c 1 t) (iblk m c 2 t) (iblk m c 3 t) = k0_pay5 (iblk m c 0 t) (iblk m c 1 t) (iblk m c 2 t) (iblk m c 3 t) := by
    unfold out0_4
    frame_out
  have e : (win0_4.blk t).view.emb y = ix2 (row t (y 0)) (y 1) := by blk_ext [idx t, row]
  rw [key, e, eq_ix2 y]
  exact summed m c t (y 0) (y 1)

theorem f5 : (dats m 0 c).arrAt 5 (cfgs 0).N = (fun i => Cert.Lift.change (grad m c (i 0) (i 1)) (a1 m c (i 0) (i 1)) (a2 m c (i 0) (i 1)) (a3 m c (i 0) (i 1))) := by
  refine (dats m 0 c).arrAt_eq_of_covers 5 _ (by decide +kernel) fun t _ y => ?_
  blk_simp [idx t]
  rw [after0_5]
  have key : out0_5 (iblk m c 0 t) (iblk m c 1 t) (iblk m c 2 t) (iblk m c 3 t) = k0_pay3 (k0_pay5 (iblk m c 0 t) (iblk m c 1 t) (iblk m c 2 t) (iblk m c 3 t)) (iblk m c 1 t) (iblk m c 2 t) (iblk m c 3 t) := by
    unfold out0_5
    frame_out
  have e : (win0_5.blk t).view.emb y = ix2 (row t (y 0)) (y 1) := by blk_ext [idx t, row]
  rw [key, e, eq_ix2 y]
  exact (change _ _ _ _ (y 0) (y 1)).trans (by rw [summed m c t (y 0) (y 1), b1 m c t (y 0) (y 1), b2 m c t (y 0) (y 1), b3 m c t (y 0) (y 1)]; rfl)

theorem f6 : (dats m 0 c).arrAt 6 (cfgs 0).N = (fun i => Cert.Lift.firstMoment (grad m c (i 0) (i 1)) (a2 m c (i 0) (i 1))) := by
  refine (dats m 0 c).arrAt_eq_of_covers 6 _ (by decide +kernel) fun t _ y => ?_
  blk_simp [idx t]
  rw [after0_6]
  have key : out0_6 (iblk m c 0 t) (iblk m c 1 t) (iblk m c 2 t) (iblk m c 3 t) = k0_pay1 (k0_pay5 (iblk m c 0 t) (iblk m c 1 t) (iblk m c 2 t) (iblk m c 3 t)) (iblk m c 2 t) := by
    unfold out0_6
    frame_out
  have e : (win0_6.blk t).view.emb y = ix2 (row t (y 0)) (y 1) := by blk_ext [idx t, row]
  rw [key, e, eq_ix2 y]
  exact (moment1 _ _ (y 0) (y 1)).trans (by rw [summed m c t (y 0) (y 1), b2 m c t (y 0) (y 1)]; rfl)

theorem f7 : (dats m 0 c).arrAt 7 (cfgs 0).N = (fun i => Cert.Lift.secondMoment (grad m c (i 0) (i 1)) (a3 m c (i 0) (i 1))) := by
  refine (dats m 0 c).arrAt_eq_of_covers 7 _ (by decide +kernel) fun t _ y => ?_
  blk_simp [idx t]
  rw [after0_7]
  have key : out0_7 (iblk m c 0 t) (iblk m c 1 t) (iblk m c 2 t) (iblk m c 3 t) = k0_pay2 (k0_pay5 (iblk m c 0 t) (iblk m c 1 t) (iblk m c 2 t) (iblk m c 3 t)) (iblk m c 3 t) := by
    unfold out0_7
    frame_out
  have e : (win0_7.blk t).view.emb y = ix2 (row t (y 0)) (y 1) := by blk_ext [idx t, row]
  rw [key, e, eq_ix2 y]
  exact (moment2 _ _ (y 0) (y 1)).trans (by rw [summed m c t (y 0) (y 1), b3 m c t (y 0) (y 1)]; rfl)

end Cert.Kernel11Ideal.Value

namespace Cert.Reference11Ideal.Step

open Cert.Reference11Ideal Cert.Reference11Ideal.Gen Cert.Reference11Ideal.Read Idealize.ShloMosaic Idealize.ShloMosaic.TcCoe Idealize.SL.Sem

variable (x0 : FVec Ideal S8x1024x128 .f32) (x1 x2 x3 : FVec Ideal S1024x128 .f32) (i : S1024x128.Idx)

theorem grad : val_main_v0 (F := Ideal) x0 i = (∑ s : Fin 8, (x0 (ix3 s (i 0) (i 1)) : EReal)) := by
  rw [val_main_v0_apply]
  refine (congrArg (· + _) (show val_main_cst (F := Ideal) _ = (0 : EReal) by rw [val_main_cst_apply]; exact Ideal.ofBits_zero_f32)).trans ((zero_add _).trans ?_)
  exact Finset.sum_congr (M := EReal) rfl fun s _ => congrArg x0 (funext fun a => match a with
    | ⟨0, _⟩ => rfl
    | ⟨1, _⟩ => rfl
    | ⟨2, _⟩ => rfl)

theorem first : val_main_v5 (F := Ideal) x0 x2 i = Cert.Lift.firstMoment (∑ s : Fin 8, (x0 (ix3 s (i 0) (i 1)) : EReal)) (x2 i) := by
  rw [← grad x0 i]
  simp only [val_main_v5_apply, val_main_v4_apply, val_main_v3_apply, val_main_v2_apply, val_main_v1_apply, val_main_cst_0_apply, val_main_cst_1_apply]
  rfl

theorem second : val_main_v11 (F := Ideal) x0 x3 i = Cert.Lift.secondMoment (∑ s : Fin 8, (x0 (ix3 s (i 0) (i 1)) : EReal)) (x3 i) := by
  rw [← grad x0 i]
  simp only [val_main_v11_apply, val_main_v10_apply, val_main_v9_apply, val_main_v8_apply, val_main_v7_apply, val_main_v6_apply, val_main_cst_2_apply, val_main_cst_3_apply]
  rfl

theorem change : val_main_v24 (F := Ideal) x0 x1 x2 x3 i = Cert.Lift.change (∑ s : Fin 8, (x0 (ix3 s (i 0) (i 1)) : EReal)) (x1 i) (x2 i) (x3 i) := by
  simp only [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, first, second, val_main_cst_4_apply, val_main_cst_5_apply, val_main_cst_6_apply, val_main_cst_7_apply, val_main_cst_8_apply]
  rfl

end Cert.Reference11Ideal.Step

namespace Cert.Proof

open Idealize.ShloMosaic Idealize.ShloMosaic.TcCoe Idealize.SL.Sem

theorem frame_reference11 : Cert.quiescent_Reference11Ideal := fun m ρ _ =>
  (θ_run Cert.Reference11Ideal.defs _ _).mono (fun r h => ⟨fun c => (h c).2.2.2.2, sem_eq_zero_of_no_sems (by decide) r.2⟩) (Cert.Reference11Ideal.Value.run m ρ)

open Cert.Kernel11Ideal.Value in
theorem algebraic11 : Cert.algebraic_Kernel11Ideal_Reference11Ideal := by
  intro m g m' g' _ hargs
  refine ⟨fun c i => grad m c (i 0) (i 1), fun c i => Cert.Lift.change (grad m c (i 0) (i 1)) (a1 m c (i 0) (i 1)) (a2 m c (i 0) (i 1)) (a3 m c (i 0) (i 1)), fun c i => Cert.Lift.firstMoment (grad m c (i 0) (i 1)) (a2 m c (i 0) (i 1)), fun c i => Cert.Lift.secondMoment (grad m c (i 0) (i 1)) (a3 m c (i 0) (i 1)), ?_, ?_⟩
  · refine (θ_run Cert.Kernel11Ideal.defs _ _).mono (fun r h c => ?_) (θ_run_and (Cert.Kernel11Ideal.Gen.run_main m g) (Cert.Kernel11Ideal.Gen.unchanged m g))
    exact ⟨((h.1 c).1 4).trans (f4 m c), ((h.1 c).1 5).trans (f5 m c), ((h.1 c).1 6).trans (f6 m c), ((h.1 c).1 7).trans (f7 m c), h.2 c⟩
  · refine (θ_run Cert.Reference11Ideal.defs _ _).mono (fun r h c => ?_) (Cert.Reference11Ideal.Value.run m' g')
    obtain ⟨h0, h1, h2, h3, h4⟩ := h c
    obtain ⟨e0, e1, e2, e3⟩ := hargs c
    exact ⟨(h0.trans (Cert.Reference11Ideal.Read.val_main_v0_eq _)).trans (funext fun i => (Cert.Reference11Ideal.Step.grad _ i).trans (by rw [e0, eq_ix2 i]; rfl)),
      (h1.trans (Cert.Reference11Ideal.Read.val_main_v24_eq _ _ _ _)).trans (funext fun i => (Cert.Reference11Ideal.Step.change _ _ _ _ i).trans (by rw [e0, e1, e2, e3, eq_ix2 i]; rfl)),
      (h2.trans (Cert.Reference11Ideal.Read.val_main_v5_eq _ _)).trans (funext fun i => (Cert.Reference11Ideal.Step.first _ _ i).trans (by rw [e0, e2, eq_ix2 i]; rfl)),
      (h3.trans (Cert.Reference11Ideal.Read.val_main_v11_eq _ _)).trans (funext fun i => (Cert.Reference11Ideal.Step.second _ _ i).trans (by rw [e0, e3, eq_ix2 i]; rfl)), h4⟩

end Cert.Proof

end
-- ==== Proof.Lift.AdamProof.lean ====
/- The optimiser's kernels agree with their references. -/
module

public import proofs.«01_k».proof.Proof.Lift.Adam7
public import proofs.«01_k».proof.Proof.Lift.Adam8
public import proofs.«01_k».proof.Proof.Lift.Adam9
public import proofs.«01_k».proof.Proof.Lift.Adam10
public import proofs.«01_k».proof.Proof.Lift.Adam11
-- ==== Proof.Lift.Small14.lean ====
/- The optimiser's step on the modulation's weights. -/
module

public import proofs.«01_k».proof.Defs
public import proofs.«01_k».proof.Proof.Gen.Kernel14
public import proofs.«01_k».proof.Proof.Gen.Kernel14Ideal.Frame
public import proofs.«01_k».proof.Proof.Gen.Reference14Ideal.Run
public import proofs.«01_k».proof.Proof.Gen.Reference14Ideal.Read
public import proofs.«01_k».proof.Proof.Lift.Step
public import proofs.«01_k».proof.Proof.Lift.Sums
public import Idealize.ShloMosaic.Lib.Pipeline.ValueKit
public import Idealize.ShloMosaic.Lib.KernelVsHost
public import Idealize.ShloMosaic.Lib.IdealHost
public import Idealize.ShloMosaic.Adequacy

@[expose] public section

set_option maxRecDepth 16384

noncomputable section

namespace Cert.Lift

open Idealize.ShloMosaic

/-- The gated linear unit's activation of an entry. -/
def silu (x : EReal) : EReal := x * Ideal.div 1 (1 + Ideal.exp (-x))

/-- A sum whose terms are zero from the eighth on is the sum of the first eight. -/
theorem front (f : Fin 128 → EReal) (h : ∀ k : Fin 128, 8 ≤ k.val → f k = 0) : ∑ k : Fin 128, f k = ∑ k : Fin 8, f ⟨k.val, by omega⟩ := by
  refine (Fin.sum_univ_add (M := EReal) (a := 8) (b := 120) f).trans ?_
  rw [Finset.sum_eq_zero (M := EReal) (s := Finset.univ) (f := fun k : Fin 120 => f (Fin.natAdd 8 k)) fun k _ => h _ (by show 8 ≤ 8 + k.val; omega), add_zero]
  rfl

end Cert.Lift

namespace Cert.Kernel14Ideal.Value

open Cert.Kernel14Ideal Cert.Kernel14Ideal.Gen Idealize.ShloMosaic Idealize.ShloMosaic.TcCoe Idealize.SL.Sem
open Idealize.ShloMosaic.Pipeline (Dat)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem first (x0 : FVec Ideal S1024x128 .f32) (x1 : FVec Ideal S128x768 .f32) (p : Fin 1024) (q : Fin 768) :
    k0_pay2 (F := Ideal) x0 x1 (ix2 p q) = ∑ k : Fin 128, Cert.Lift.silu (x0 (ix2 p k)) * x1 (ix2 k q) := by
  pointwise [k0_pay2]
  refine Finset.sum_congr (M := EReal) rfl fun k _ => congrArg (· * _) ?_
  unfold Cert.Lift.silu
  rw [zero_sub]

theorem moment1 (x0 : FVec Ideal S1024x128 .f32) (x1 : FVec Ideal S128x768 .f32) (v : FVec Ideal S1024x768 .f32) (p : Fin 1024) (q : Fin 768) :
    k0_pay3 (F := Ideal) x0 x1 v (ix2 p q) = Cert.Lift.firstMoment (k0_pay2 (F := Ideal) x0 x1 (ix2 p q)) (v (ix2 p q)) := by
  unfold k0_pay3
  rfl

theorem moment2 (x0 : FVec Ideal S1024x128 .f32) (x1 : FVec Ideal S128x768 .f32) (v : FVec Ideal S1024x768 .f32) (p : Fin 1024) (q : Fin 768) :
    k0_pay4 (F := Ideal) x0 x1 v (ix2 p q) = Cert.Lift.secondMoment (k0_pay2 (F := Ideal) x0 x1 (ix2 p q)) (v (ix2 p q)) := by
  unfold k0_pay4
  rfl

theorem change (x0 : FVec Ideal S1024x128 .f32) (x1 : FVec Ideal S128x768 .f32) (w m v : FVec Ideal S1024x768 .f32) (p : Fin 1024) (q : Fin 768) :
    k0_pay1 (F := Ideal) w (k0_pay5 x0 x1 m v) (Scalar.ofBits .f32 0x3C23D70A#32) (ix2 p q) =
      Cert.Lift.change (k0_pay2 (F := Ideal) x0 x1 (ix2 p q)) (w (ix2 p q)) (m (ix2 p q)) (v (ix2 p q)) := by
  unfold k0_pay1 k0_pay5 Cert.Lift.change
  rw [← moment1, ← moment2]
  rfl

variable (m : (ℓ : Loc nD τ sig) → Buf (Elt Ideal) ℓ) (c : Dev nD)

/-- The arguments' entries. -/
abbrev a0 (k : Fin 8) (p : Fin 1024) : EReal := m ((c : Thread nD τ).loc main_arg0) (ix2 k p)
abbrev a1 (k : Fin 8) (q : Fin 768) : EReal := m ((c : Thread nD τ).loc main_arg1) (ix2 k q)
abbrev a2 (p : Fin 1024) (q : Fin 768) : EReal := m ((c : Thread nD τ).loc main_arg2) (ix2 p q)
abbrev a3 (p : Fin 1024) (q : Fin 768) : EReal := m ((c : Thread nD τ).loc main_arg3) (ix2 p q)
abbrev a4 (p : Fin 1024) (q : Fin 768) : EReal := m ((c : Thread nD τ).loc main_arg4) (ix2 p q)

theorem host1 : (V m c main_v1 : FVec Ideal S1024x128 .f32) = pad S1024x128 ![0, 0] ![0, 120] ![0, 0]
    (transpose S1024x8 [1, 0] (m ((c : Thread nD τ).loc main_arg0) : FVec Ideal S8x1024 .f32) transposes_S8x1024_S1024x8_1_0)
    (sitofp (F := Ideal) .f32 (constantI S_ 32 0#32)) pads_S1024x8_S1024x128_000_01200 h_S_ := by
  show StableHlo.after (List.flatten [hostOps0, hostOps0_1, hostOps0_2, hostOps0_3]) (fun b => m (c, b)) (Proc.tc.devRef main_v1) = _
  simp only [hostOps0, hostOps0_1, hostOps0_2, hostOps0_3, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem host2 : (V m c main_v2 : FVec Ideal S128x768 .f32) = pad S128x768 ![0, 0] ![120, 0] ![0, 0]
    (m ((c : Thread nD τ).loc main_arg1) : FVec Ideal S8x768 .f32)
    (sitofp (F := Ideal) .f32 (constantI S_ 32 0#32)) pads_S8x768_S128x768_01200_000 h_S_ := by
  show StableHlo.after (List.flatten [hostOps0, hostOps0_1, hostOps0_2, hostOps0_3]) (fun b => m (c, b)) (Proc.tc.devRef main_v2) = _
  simp only [hostOps0, hostOps0_1, hostOps0_2, hostOps0_3, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem b0 (t : Fin cfg0.N) (p : Fin 1024) (k : Fin 8) : (iblk m c 0 t : FVec Ideal S1024x128 .f32) (ix2 p (⟨k.val, by omega⟩ : Fin 128)) = a0 m c k p := by
  have e : (win0_0.blk t).view.emb (ix2 p (⟨k.val, by omega⟩ : Fin 128)) = ix2 p (⟨k.val, by omega⟩ : Fin 128) := by blk_ext [idx t]
  refine (congrArg (V m c main_v1) e).trans ((congrFun (host1 m c) _).trans ?_)
  refine (pad_apply_of_inside _ _ _ _ _ _ _ _ (ix2 p k) fun a => match a with
    | ⟨0, _⟩ => (show p.val = 0 + p.val * (0 + 1) by omega)
    | ⟨1, _⟩ => (show k.val = 0 + k.val * (0 + 1) by omega)).trans ?_
  exact congrArg (m ((c : Thread nD τ).loc main_arg0)) (Cert.Lift.ext2 rfl rfl)

theorem b1 (t : Fin cfg0.N) (k : Fin 8) (q : Fin 768) : (iblk m c 1 t : FVec Ideal S128x768 .f32) (ix2 (⟨k.val, by omega⟩ : Fin 128) q) = a1 m c k q := by
  have e : (win0_1.blk t).view.emb (ix2 (⟨k.val, by omega⟩ : Fin 128) q) = ix2 (⟨k.val, by omega⟩ : Fin 128) q := by blk_ext [idx t]
  refine (congrArg (V m c main_v2) e).trans ((congrFun (host2 m c) _).trans ?_)
  exact pad_apply_of_inside _ _ _ _ _ _ _ _ (ix2 k q) fun a => match a with
    | ⟨0, _⟩ => (show k.val = 0 + k.val * (0 + 1) by omega)
    | ⟨1, _⟩ => (show q.val = 0 + q.val * (0 + 1) by omega)

theorem b1' (t : Fin cfg0.N) (k : Fin 128) (hk : 8 ≤ k.val) (q : Fin 768) : (iblk m c 1 t : FVec Ideal S128x768 .f32) (ix2 k q) = (0 : EReal) := by
  have e : (win0_1.blk t).view.emb (ix2 k q) = ix2 k q := by blk_ext [idx t]
  refine (congrArg (V m c main_v2) e).trans ((congrFun (host2 m c) _).trans ?_)
  refine (pad_apply_of_not_inside _ _ _ _ _ _ _ _ (⟨0, by decide⟩ : Fin S8x768.rank) fun h => ?_).trans ?_
  · have h2 : (k.val - 0) / (0 + 1) < 8 := h.2.2
    omega
  · show (((0#32 : BitVec 32).toInt : ℝ) : EReal) = 0
    simp

theorem b2 (t : Fin cfg0.N) (p : Fin 1024) (q : Fin 768) : (iblk m c 2 t : FVec Ideal S1024x768 .f32) (ix2 p q) = a2 m c p q := by
  blk_point [iblk, V, idx t]

theorem b3 (t : Fin cfg0.N) (p : Fin 1024) (q : Fin 768) : (iblk m c 3 t : FVec Ideal S1024x768 .f32) (ix2 p q) = a3 m c p q := by
  blk_point [iblk, V, idx t]

theorem b4 (t : Fin cfg0.N) (p : Fin 1024) (q : Fin 768) : (iblk m c 4 t : FVec Ideal S1024x768 .f32) (ix2 p q) = a4 m c p q := by
  blk_point [iblk, V, idx t]

/-- The gradient's entry. -/
def grad (p : Fin 1024) (q : Fin 768) : EReal := ∑ k : Fin 8, a1 m c k q * Cert.Lift.silu (a0 m c k p)

theorem summed (t : Fin cfg0.N) (p : Fin 1024) (q : Fin 768) : k0_pay2 (F := Ideal) (iblk m c 0 t) (iblk m c 1 t) (ix2 p q) = grad m c p q := by
  refine (first _ _ p q).trans ((Cert.Lift.front _ fun k hk => ?_).trans (Finset.sum_congr (M := EReal) rfl fun k _ => ?_))
  · exact (congrArg (Cert.Lift.silu _ * ·) (b1' m c t k hk q)).trans (mul_zero _)
  · exact (mul_comm _ _).trans (congrArg₂ (fun u v => u * Cert.Lift.silu v) (b1 m c t k q) (b0 m c t p k))

theorem f5 : (dats m 0 c).arrAt 5 (cfgs 0).N = (fun i => grad m c (i 0) (i 1)) := by
  refine (dats m 0 c).arrAt_eq_of_covers 5 _ (by decide +kernel) fun t _ y => ?_
  blk_simp [idx t]
  rw [after0_5]
  have key : out0_5 (iblk m c 0 t) (iblk m c 1 t) (iblk m c 2 t) (iblk m c 3 t) (iblk m c 4 t) = k0_pay2 (iblk m c 0 t) (iblk m c 1 t) := by
    unfold out0_5
    frame_out
  have e : (win0_5.blk t).view.emb y = ix2 (y 0) (y 1) := by blk_ext [idx t]
  rw [key, e, eq_ix2 y]
  exact summed m c t (y 0) (y 1)

theorem f6 : (dats m 0 c).arrAt 6 (cfgs 0).N = (fun i => Cert.Lift.change (grad m c (i 0) (i 1)) (a2 m c (i 0) (i 1)) (a3 m c (i 0) (i 1)) (a4 m c (i 0) (i 1))) := by
  refine (dats m 0 c).arrAt_eq_of_covers 6 _ (by decide +kernel) fun t _ y => ?_
  blk_simp [idx t]
  rw [after0_6]
  have key : out0_6 (iblk m c 0 t) (iblk m c 1 t) (iblk m c 2 t) (iblk m c 3 t) (iblk m c 4 t) = k0_pay1 (iblk m c 2 t) (k0_pay5 (iblk m c 0 t) (iblk m c 1 t) (iblk m c 3 t) (iblk m c 4 t)) (Scalar.ofBits .f32 0x3C23D70A#32) := by
    unfold out0_6
    frame_out
  have e : (win0_6.blk t).view.emb y = ix2 (y 0) (y 1) := by blk_ext [idx t]
  rw [key, e, eq_ix2 y]
  exact (change _ _ _ _ _ (y 0) (y 1)).trans (by rw [summed m c t (y 0) (y 1), b2 m c t (y 0) (y 1), b3 m c t (y 0) (y 1), b4 m c t (y 0) (y 1)]; rfl)

theorem f7 : (dats m 0 c).arrAt 7 (cfgs 0).N = (fun i => Cert.Lift.firstMoment (grad m c (i 0) (i 1)) (a3 m c (i 0) (i 1))) := by
  refine (dats m 0 c).arrAt_eq_of_covers 7 _ (by decide +kernel) fun t _ y => ?_
  blk_simp [idx t]
  rw [after0_7]
  have key : out0_7 (iblk m c 0 t) (iblk m c 1 t) (iblk m c 2 t) (iblk m c 3 t) (iblk m c 4 t) = k0_pay3 (iblk m c 0 t) (iblk m c 1 t) (iblk m c 3 t) := by
    unfold out0_7
    frame_out
  have e : (win0_7.blk t).view.emb y = ix2 (y 0) (y 1) := by blk_ext [idx t]
  rw [key, e, eq_ix2 y]
  exact (moment1 _ _ _ (y 0) (y 1)).trans (by rw [summed m c t (y 0) (y 1), b3 m c t (y 0) (y 1)]; rfl)

theorem f8 : (dats m 0 c).arrAt 8 (cfgs 0).N = (fun i => Cert.Lift.secondMoment (grad m c (i 0) (i 1)) (a4 m c (i 0) (i 1))) := by
  refine (dats m 0 c).arrAt_eq_of_covers 8 _ (by decide +kernel) fun t _ y => ?_
  blk_simp [idx t]
  rw [after0_8]
  have key : out0_8 (iblk m c 0 t) (iblk m c 1 t) (iblk m c 2 t) (iblk m c 3 t) (iblk m c 4 t) = k0_pay4 (iblk m c 0 t) (iblk m c 1 t) (iblk m c 4 t) := by
    unfold out0_8
    frame_out
  have e : (win0_8.blk t).view.emb y = ix2 (y 0) (y 1) := by blk_ext [idx t]
  rw [key, e, eq_ix2 y]
  exact (moment2 _ _ _ (y 0) (y 1)).trans (by rw [summed m c t (y 0) (y 1), b4 m c t (y 0) (y 1)]; rfl)

end Cert.Kernel14Ideal.Value

namespace Cert.Reference14Ideal.Step

open Cert.Reference14Ideal Cert.Reference14Ideal.Gen Cert.Reference14Ideal.Read Idealize.ShloMosaic Idealize.ShloMosaic.TcCoe Idealize.SL.Sem

variable (x0 : FVec Ideal S8x1024 .f32) (x1 : FVec Ideal S8x768 .f32) (x2 x3 x4 : FVec Ideal S1024x768 .f32) (i : S1024x768.Idx)

theorem active (j : S8x1024.Idx) : val_main_v0 (F := Ideal) x0 j = Cert.Lift.silu (x0 j) := by
  simp only [val_main_v0_apply, val_main_call0_v5_apply, val_main_call0_v4_apply, val_main_call0_v3_apply, val_main_call0_v2_apply, val_main_call0_v1_apply, val_main_call0_v0_apply, val_main_call0_cst_apply, val_main_call0_cst_0_apply]
  unfold Cert.Lift.silu
  rw [← Ideal.ofBits_one_f32]
  rfl

theorem grad : val_main_v3 (F := Ideal) x0 x1 i = (∑ k : Fin 8, (x1 (ix2 k (i 1)) : EReal) * Cert.Lift.silu (x0 (ix2 k (i 0)))) := by
  rw [val_main_v3_apply, val_main_v2_apply]
  exact Finset.sum_congr (M := EReal) rfl fun k _ => congrArg₂ (· * ·) (congrArg x1 (Cert.Lift.ext2 rfl rfl)) ((active x0 _).trans (congrArg (fun j => Cert.Lift.silu (x0 j)) (Cert.Lift.ext2 rfl rfl)))

theorem first : val_main_v8 (F := Ideal) x0 x1 x3 i = Cert.Lift.firstMoment (∑ k : Fin 8, (x1 (ix2 k (i 1)) : EReal) * Cert.Lift.silu (x0 (ix2 k (i 0)))) (x3 i) := by
  rw [← grad x0 x1 i]
  simp only [val_main_v8_apply, val_main_v7_apply, val_main_v6_apply, val_main_v5_apply, val_main_v4_apply, val_main_cst_apply, val_main_cst_0_apply]
  rfl

theorem second : val_main_v14 (F := Ideal) x0 x1 x4 i = Cert.Lift.secondMoment (∑ k : Fin 8, (x1 (ix2 k (i 1)) : EReal) * Cert.Lift.silu (x0 (ix2 k (i 0)))) (x4 i) := by
  rw [← grad x0 x1 i]
  simp only [val_main_v14_apply, val_main_v13_apply, val_main_v12_apply, val_main_v11_apply, val_main_v10_apply, val_main_v9_apply, val_main_cst_1_apply, val_main_cst_2_apply]
  rfl

theorem change : val_main_v27 (F := Ideal) x0 x1 x2 x3 x4 i = Cert.Lift.change (∑ k : Fin 8, (x1 (ix2 k (i 1)) : EReal) * Cert.Lift.silu (x0 (ix2 k (i 0)))) (x2 i) (x3 i) (x4 i) := by
  unfold Cert.Lift.change
  rw [← first x0 x1 x3 i, ← second x0 x1 x4 i]
  simp only [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_cst_3_apply, val_main_cst_4_apply, val_main_cst_5_apply, val_main_cst_6_apply, val_main_cst_7_apply]
  rfl

end Cert.Reference14Ideal.Step

namespace Cert.Proof

open Idealize.ShloMosaic Idealize.ShloMosaic.TcCoe Idealize.SL.Sem

theorem frame_reference14 : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run m ρ)

open Cert.Kernel14Ideal.Value in
theorem algebraic14 : Cert.algebraic_Kernel14Ideal_Reference14Ideal := by
  intro m g m' g' _ hargs
  refine ⟨fun c i => grad m c (i 0) (i 1), fun c i => Cert.Lift.change (grad m c (i 0) (i 1)) (a2 m c (i 0) (i 1)) (a3 m c (i 0) (i 1)) (a4 m c (i 0) (i 1)), fun c i => Cert.Lift.firstMoment (grad m c (i 0) (i 1)) (a3 m c (i 0) (i 1)), fun c i => Cert.Lift.secondMoment (grad m c (i 0) (i 1)) (a4 m c (i 0) (i 1)), ?_, ?_⟩
  · refine (θ_run Cert.Kernel14Ideal.defs _ _).mono (fun r h c => ?_) (θ_run_and (Cert.Kernel14Ideal.Gen.run_main m g) (Cert.Kernel14Ideal.Gen.unchanged m g))
    exact ⟨((h.1 c).1 5).trans (f5 m c), ((h.1 c).1 6).trans (f6 m c), ((h.1 c).1 7).trans (f7 m c), ((h.1 c).1 8).trans (f8 m c), h.2 c⟩
  · refine (θ_run Cert.Reference14Ideal.defs _ _).mono (fun r h c => ?_) (Cert.Reference14Ideal.Value.run m' g')
    obtain ⟨h0, h1, h2, h3, h4⟩ := h c
    obtain ⟨e0, e1, e2, e3, e4⟩ := hargs c
    exact ⟨(h0.trans (Cert.Reference14Ideal.Read.val_main_v3_eq _ _)).trans (funext fun i => (Cert.Reference14Ideal.Step.grad _ _ i).trans (by rw [e0, e1, eq_ix2 i]; rfl)),
      (h1.trans (Cert.Reference14Ideal.Read.val_main_v27_eq _ _ _ _ _)).trans (funext fun i => (Cert.Reference14Ideal.Step.change _ _ _ _ _ i).trans (by rw [e0, e1, e2, e3, e4, eq_ix2 i]; rfl)),
      (h2.trans (Cert.Reference14Ideal.Read.val_main_v8_eq _ _ _)).trans (funext fun i => (Cert.Reference14Ideal.Step.first _ _ _ i).trans (by rw [e0, e1, e3, eq_ix2 i]; rfl)),
      (h3.trans (Cert.Reference14Ideal.Read.val_main_v14_eq _ _ _)).trans (funext fun i => (Cert.Reference14Ideal.Step.second _ _ _ i).trans (by rw [e0, e1, e4, eq_ix2 i]; rfl)), h4⟩

end Cert.Proof

end
-- ==== Proof.Lift.In.lean ====
/- The gradient of the input projection's weights: the product of the transposed activations and the cotangent, added up tile by tile. -/
module

public import proofs.«01_k».proof.Proof.Gen.Kernel15Ideal.Frame
public import proofs.«01_k».proof.Proof.Gen.Reference15Ideal.Run
public import proofs.«01_k».proof.Proof.Gen.Reference15Ideal.Read
public import proofs.«01_k».proof.Proof.Lift.Sums
public import Idealize.ShloMosaic.Lib.Pipeline.ValueKit

@[expose] public section

set_option maxRecDepth 16384

noncomputable section

namespace Cert.Kernel15Ideal.Value

open Cert.Kernel15Ideal Cert.Kernel15Ideal.Gen Idealize.ShloMosaic Idealize.ShloMosaic.TcCoe Idealize.SL.Sem
open Idealize.ShloMosaic.Pipeline (Dat)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem points (t : Fin cfg0.N) : t.val < 4 := lt_of_lt_of_eq t.isLt (show cfg0.N = 4 from N_0)

/-- The row of the arrays that row `x` of point `t`'s blocks is, and the gradient's row that its row `p` is. -/
def row (t : Fin cfg0.N) (x : Fin 4096) : Fin 8192 := ⟨t.val % 2 * 4096 + x.val, by have := points t; omega⟩
def col (t : Fin cfg0.N) (p : Fin 896) : Fin 1792 := ⟨t.val / 2 * 896 + p.val, by have := points t; omega⟩

theorem product (u : FVec Ideal S4096x896 .bf16) (v : FVec Ideal S4096x1024 .bf16) (a : FVec Ideal S896x1024 .f32) (p : Fin 896) (q : Fin 1024) :
    k0_pay2 (F := Ideal) u a v (ix2 p q) = a (ix2 p q) + ∑ x : Fin 4096, u (ix2 x p) * v (ix2 x q) := by
  pointwise [k0_pay2]

theorem zero (i : S896x1024.Idx) : k0_pay1 (F := Ideal) i = 0 := by pointwise [k0_pay1]

theorem rounded (v : FVec Ideal S896x1024 .f32) (i : S896x1024.Idx) : k0_pay3 (F := Ideal) v i = v i := by pointwise [k0_pay3]

variable (m : (ℓ : Loc nD τ sig) → Buf (Elt Ideal) ℓ) (c : Dev nD)

/-- The arguments' entries. -/
abbrev lhs (r : Fin 8192) (p : Fin 1792) : EReal := m ((c : Thread nD τ).loc main_arg0) (ix2 r p)
abbrev rhs (r : Fin 8192) (q : Fin 1024) : EReal := m ((c : Thread nD τ).loc main_arg1) (ix2 r q)

theorem left (t : Fin cfg0.N) (x : Fin 4096) (p : Fin 896) : (iblk m c 0 t : FVec Ideal S4096x896 .bf16) (ix2 x p) = lhs m c (row t x) (col t p) := by
  blk_point [iblk, V, idx t, row, col]

theorem right (t : Fin cfg0.N) (x : Fin 4096) (q : Fin 1024) : (iblk m c 1 t : FVec Ideal S4096x1024 .bf16) (ix2 x q) = rhs m c (row t x) q := by
  blk_point [iblk, V, idx t, row]

/-- The product of the transposed first argument and the second at row `p` and column `q`. -/
def grad (p : Fin 1792) (q : Fin 1024) : EReal := ∑ r : Fin 8192, lhs m c r p * rhs m c r q

theorem keyA (t : Fin cfg0.N) (h : t.val % 2 = 0) : (outsAt0 m c t.val t.isLt).2 = k0_pay2 (iblk m c 0 t) (k0_pay1 (F := Ideal)) (iblk m c 1 t) := by
  rw [outsAt0_A m c t h (by omega)]; frame_out

theorem keyB (t : Fin cfg0.N) (h : ¬t.val % 2 = 0) :
    (outsAt0 m c t.val t.isLt).2 = k0_pay2 (iblk m c 0 t) (outsAt0 m c (t.val - 1) (Nat.lt_of_le_of_lt (Nat.sub_le _ _) t.isLt)).2 (iblk m c 1 t) := by
  rw [outsAt0_B m c t h (by omega)]; frame_out; exact congrArg (k0_pay2 (iblk m c 0 t) · (iblk m c 1 t)) ((Memref.isWhole_whole _).read_unread _)

theorem keyC (t : Fin cfg0.N) (h : t.val % 2 = 1) :
    (outsAt0 m c t.val t.isLt).1 = k0_pay3 (outsAt0 m c t.val t.isLt).2 := by
  rw [outsAt0_B m c t (by omega) h]; frame_out

theorem final : (dats m 0 c).arrAt 2 (cfgs 0).N = (fun i => grad m c (i 0) (i 1)) := by
  refine (dats m 0 c).arrAt_eq_of_covers 2 _ (by decide +kernel) fun t hf y => ?_
  have hl := (flush0_2 t).mp hf
  blk_simp [idx t]
  rw [after0_2, keyC m c t hl, rounded,
    Pipeline.eq_sum_fin_of_reset_step_apply_of_flush (fun n h => (outsAt0 m c n h).2) 2 (fun _ => 0)
    (fun t j => ∑ x : Fin 4096, lhs m c (row t x) (col t (j 0)) * rhs m c (row t x) (j 1))
    (fun t h j => by rw [keyA m c t h, eq_ix2 j]; exact (product _ _ _ (j 0) (j 1)).trans (congrArg₂ (· + ·) (zero _) (Finset.sum_congr rfl fun x _ => congrArg₂ (· * ·) (left m c t x _) (right m c t x _))))
    (fun t h j => by rw [keyB m c t h, eq_ix2 j]; exact (product _ _ _ (j 0) (j 1)).trans (congrArg _ (Finset.sum_congr rfl fun x _ => congrArg₂ (· * ·) (left m c t x _) (right m c t x _))))
    t hl y, zero_add]
  have e : (win0_2.blk t).view.emb y = ix2 (col t (y 0)) (y 1) := by blk_ext [idx t, col]
  rw [e]
  refine Eq.trans (α := EReal) (Finset.sum_congr (M := EReal) rfl fun s _ => Finset.sum_congr (M := EReal) rfl fun x _ => ?_) (Cert.Lift.sum_blocks 2 4096 8192 (by decide) rfl (fun s x => by omega)
    fun r => lhs m c r (col t (y 0)) * rhs m c r (y 1))
  have := points t
  have hr : row ⟨2 * (t.val / 2) + s.val, Pipeline.run_point_lt_of_flush t hl s⟩ x = ⟨s.val * 4096 + x.val, by omega⟩ := Fin.ext (by show (2 * (t.val / 2) + s.val) % 2 * 4096 + x.val = s.val * 4096 + x.val; omega)
  have hc : col ⟨2 * (t.val / 2) + s.val, Pipeline.run_point_lt_of_flush t hl s⟩ (y 0) = col t (y 0) := Fin.ext (by show (2 * (t.val / 2) + s.val) / 2 * 896 + (y 0).val = t.val / 2 * 896 + (y 0).val; omega)
  rw [hr, hc]

end Cert.Kernel15Ideal.Value

end
-- ==== Proof.Lift.InProof.lean ====
/- The gradient of the input projection's weights agrees with the reference's. -/
module

public import proofs.«01_k».proof.Proof.Lift.In
public import proofs.«01_k».proof.Proof.Gen.Kernel15
public import Idealize.ShloMosaic.Adequacy

@[expose] public section

set_option maxRecDepth 16384

noncomputable section

namespace Cert.Proof

open Idealize.ShloMosaic Idealize.ShloMosaic.TcCoe Idealize.SL.Sem

theorem frame_reference15 : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

open Cert.Reference15Ideal Cert.Reference15Ideal.Read in
/-- The reference's gradient of the input projection's weights. -/
theorem gradient15 (x0 : FVec Ideal S8192x1792 .f32) (x1 : FVec Ideal S8192x1024 .f32) (i : S1792x1024.Idx) :
    val_main_v5 (F := Ideal) x0 x1 i = ∑ r : Fin 8192, (x0 (ix2 r (i 0)) : EReal) * x1 (ix2 r (i 1)) := by
  show val_main_v4 (F := Ideal) x0 x1 i = _
  rw [val_main_v4_apply, val_main_v3_apply, val_main_v2_apply]
  refine Finset.sum_congr (M := EReal) rfl fun r _ => congrArg₂ (· * ·) (congrArg x0 (Cert.Lift.ext2 rfl rfl)) (congrArg x1 (Cert.Lift.ext2 rfl rfl))

theorem algebraic15 : Cert.algebraic_Kernel15Ideal_Reference15Ideal := by
  intro m g m' g' _ hargs
  refine ⟨fun c i => Cert.Kernel15Ideal.Value.grad m c (i 0) (i 1), ?_, ?_⟩
  · refine (θ_run Cert.Kernel15Ideal.defs _ _).mono (fun r h c => ?_) (θ_run_and (Cert.Kernel15Ideal.Gen.run_main m g) (Cert.Kernel15Ideal.Gen.unchanged m g))
    exact ⟨((h.1 c).1 2).trans (Cert.Kernel15Ideal.Value.final m c), h.2 c⟩
  · refine (θ_run Cert.Reference15Ideal.defs _ _).mono (fun r h c => ?_) (Cert.Reference15Ideal.Value.run m' g')
    obtain ⟨h0, h1⟩ := h c
    exact ⟨(h0.trans (Cert.Reference15Ideal.Read.val_main_v5_eq _ _)).trans (funext fun i => (gradient15 _ _ i).trans (by rw [(hargs c).1, (hargs c).2]; rfl)), h1⟩

end Cert.Proof

end
-- ==== Proof.Lift.Flat.lean ====
/- Rows of 128 and flat rows. -/
module

public import proofs.«01_k».proof.Proof.Lift.Sums
public import Idealize.ShloMosaic.Lib.Pipeline.ValueKit
public import Idealize.ShloMosaic.Lib.KernelVsHost

@[expose] public section

set_option maxRecDepth 16384

noncomputable section

namespace Cert.Lift

open Idealize.ShloMosaic

/-- Parts of one row, flattened. -/
theorem flat1 {N : ℕ} (x : FVec Ideal (⟨3, ![8, 1, N]⟩ : Shape) .f32) (h : (⟨3, ![8, 1, N]⟩ : Shape).ShapeCasts ⟨2, ![8, N]⟩) (s : Fin 8) (k : Fin N) :
    shapeCast (⟨2, ![8, N]⟩ : Shape) x h (ix2 s k) = x (ix3 s (0 : Fin 1) k) :=
  shapeCast_apply _ _ _ _ ((rowMajor_val3 _ N N (Nat.one_mul N) rfl).trans (Eq.trans (by show s.val * N + 0 * N + k.val = s.val * N + k.val; rw [Nat.zero_mul, Nat.add_zero]) (rowMajor_val2 _ N rfl).symm))

/-- One row seen in rows of 128. -/
theorem view1 {R N : ℕ} (x : FVec Ideal (⟨2, ![1, N]⟩ : Shape) .f32) (h : (⟨2, ![1, N]⟩ : Shape).ShapeCasts ⟨2, ![R, 128]⟩) (p : Fin R) (q : Fin 128) (hk : p.val * 128 + q.val < N) :
    shapeCast (⟨2, ![R, 128]⟩ : Shape) x h (ix2 p q) = x (ix2 (0 : Fin 1) (⟨p.val * 128 + q.val, hk⟩ : Fin N)) :=
  shapeCast_apply _ _ _ _ ((rowMajor_val2 _ N rfl).trans (Eq.trans (by show 0 * N + (p.val * 128 + q.val) = p.val * 128 + q.val; rw [Nat.zero_mul, Nat.zero_add]) (rowMajor_val2 _ 128 rfl).symm))

/-- Rows of 128 seen as one row again. -/
theorem back1 {R N : ℕ} (f : Fin N → EReal) (hN : ∀ (p : Fin R) (q : Fin 128), p.val * 128 + q.val < N) (hR : ∀ k : Fin N, k.val / 128 < R) (h : (⟨2, ![R, 128]⟩ : Shape).ShapeCasts ⟨2, ![1, N]⟩) :
    (shapeCast (⟨2, ![1, N]⟩ : Shape) (fun j : (⟨2, ![R, 128]⟩ : Shape).Idx => f ⟨(j 0).val * 128 + (j 1).val, hN (j 0) (j 1)⟩) h : FVec Ideal (⟨2, ![1, N]⟩ : Shape) .f32) = fun i => f ⟨(i 1).val, (i 1).isLt⟩ := by
  funext i
  have h0 : (i 0).val < 1 := (i 0).isLt
  refine (shapeCast_apply _ _ i (ix2 (⟨(i 1).val / 128, hR ⟨(i 1).val, (i 1).isLt⟩⟩ : Fin R) (⟨(i 1).val % 128, by omega⟩ : Fin 128)) ((rowMajor_val2 _ 128 rfl).trans (Eq.trans (by show (i 1).val / 128 * 128 + (i 1).val % 128 = (i 0).val * N + (i 1).val; rw [show (i 0).val = 0 by omega, Nat.zero_mul]; omega) (rowMajor_val2 _ N rfl).symm))).trans ?_
  exact congrArg f (Fin.ext (by show (i 1).val / 128 * 128 + (i 1).val % 128 = (i 1).val; omega))

end Cert.Lift

end
-- ==== Proof.Lift.Packed13.lean ====
/- The packed parts of the small weights' gradients: their entries. -/
module

public import proofs.«01_k».proof.Proof.Gen.Kernel13Ideal.Frame
public import proofs.«01_k».proof.Proof.Lift.Step
public import proofs.«01_k».proof.Proof.Lift.Flat
public import Idealize.ShloMosaic.Lib.Pipeline.ValueKit
public import Idealize.ShloMosaic.Lib.KernelVsHost
public import Idealize.ShloMosaic.Lib.StableHlo.RunRead

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

theorem at0 : ∀ t : Fin cfg0.N, win0_0.index t = ![0, 0, 0] :=
  (by decide +kernel : ∀ t : Fin grid0.N, _)

/-- The packed array of the modulation's biases: padded with zeros, in rows of 128. -/
def packed_ada (x : FVec Ideal S8x1x6144 .f32) : FVec Ideal S8x48x128 .f32 :=
  shapeCast S8x48x128 (pad S8x6144 ![0, 0] ![0, 0] ![0, 0] (shapeCast S8x6144 x shapeCasts_S8x1x6144_S8x6144) (sitofp (F := Ideal) .f32 (constantI S_ 32 0#32)) pads_S8x6144_S8x6144_000_000 h_S_) shapeCasts_S8x6144_S8x48x128

theorem packed_ada_apply (x : FVec Ideal S8x1x6144 .f32) (s : Fin 8) (p : Fin 48) (q : Fin 128) (h : p.val * 128 + q.val < 6144) :
    packed_ada x (ix3 s p q) = x (ix3 s (0 : Fin 1) (⟨p * 128 + q, h⟩ : Fin 6144)) := by
  unfold packed_ada
  refine (shapeCast_apply _ _ (ix3 s p q) (ix2 s (⟨p.val * 128 + q.val, by omega⟩ : Fin 6144)) (by rw [rowMajor_val2 _ 6144 rfl, rowMajor_val3 _ 6144 128 rfl rfl]; show s.val * 6144 + (p.val * 128 + q.val) = s.val * 6144 + p.val * 128 + q.val; omega)).trans ?_
  refine (pad_apply_of_inside _ _ _ _ _ _ _ _ (ix2 s (⟨p.val * 128 + q.val, h⟩ : Fin 6144)) fun a => match a with
    | ⟨0, _⟩ => (show s.val = 0 + s.val * (0 + 1) by omega)
    | ⟨1, _⟩ => (show p.val * 128 + q.val = 0 + (p.val * 128 + q.val) * (0 + 1) by omega)).trans ?_
  exact shapeCast_apply _ _ _ _ (by rw [rowMajor_val3 _ 6144 6144 rfl rfl, rowMajor_val2 _ 6144 rfl]; show s.val * 6144 + 0 * 6144 + (p.val * 128 + q.val) = s.val * 6144 + (p.val * 128 + q.val); omega)

/-- The packed array of the input projection's biases: padded with zeros, in rows of 128. -/
def packed_in (x : FVec Ideal S8x1x1792 .f32) : FVec Ideal S8x16x128 .f32 :=
  shapeCast S8x16x128 (pad S8x2048 ![0, 0] ![0, 256] ![0, 0] (shapeCast S8x1792 x shapeCasts_S8x1x1792_S8x1792) (sitofp (F := Ideal) .f32 (constantI S_ 32 0#32)) pads_S8x1792_S8x2048_000_02560 h_S_) shapeCasts_S8x2048_S8x16x128

theorem packed_in_apply (x : FVec Ideal S8x1x1792 .f32) (s : Fin 8) (p : Fin 16) (q : Fin 128) (h : p.val * 128 + q.val < 1792) :
    packed_in x (ix3 s p q) = x (ix3 s (0 : Fin 1) (⟨p * 128 + q, h⟩ : Fin 1792)) := by
  unfold packed_in
  refine (shapeCast_apply _ _ (ix3 s p q) (ix2 s (⟨p.val * 128 + q.val, by omega⟩ : Fin 2048)) (by rw [rowMajor_val2 _ 2048 rfl, rowMajor_val3 _ 2048 128 rfl rfl]; show s.val * 2048 + (p.val * 128 + q.val) = s.val * 2048 + p.val * 128 + q.val; omega)).trans ?_
  refine (pad_apply_of_inside _ _ _ _ _ _ _ _ (ix2 s (⟨p.val * 128 + q.val, h⟩ : Fin 1792)) fun a => match a with
    | ⟨0, _⟩ => (show s.val = 0 + s.val * (0 + 1) by omega)
    | ⟨1, _⟩ => (show p.val * 128 + q.val = 0 + (p.val * 128 + q.val) * (0 + 1) by omega)).trans ?_
  exact shapeCast_apply _ _ _ _ (by rw [rowMajor_val3 _ 1792 1792 rfl rfl, rowMajor_val2 _ 1792 rfl]; show s.val * 1792 + 0 * 1792 + (p.val * 128 + q.val) = s.val * 1792 + (p.val * 128 + q.val); omega)

/-- The packed array of the losses: padded with zeros, in rows of 128. -/
def packed_loss (x : FVec Ideal S8x1 .f32) : FVec Ideal S8x8x128 .f32 :=
  shapeCast S8x8x128 (pad S8x1024 ![0, 0] ![0, 1023] ![0, 0] x (sitofp (F := Ideal) .f32 (constantI S_ 32 0#32)) pads_S8x1_S8x1024_000_010230 h_S_) shapeCasts_S8x1024_S8x8x128

theorem packed_loss_apply (x : FVec Ideal S8x1 .f32) (s : Fin 8) (p : Fin 8) (q : Fin 128) (h : p.val * 128 + q.val < 1) :
    packed_loss x (ix3 s p q) = x (ix2 s (0 : Fin 1)) := by
  unfold packed_loss
  refine (shapeCast_apply _ _ (ix3 s p q) (ix2 s (⟨p.val * 128 + q.val, by omega⟩ : Fin 1024)) (by rw [rowMajor_val2 _ 1024 rfl, rowMajor_val3 _ 1024 128 rfl rfl]; show s.val * 1024 + (p.val * 128 + q.val) = s.val * 1024 + p.val * 128 + q.val; omega)).trans ?_
  exact pad_apply_of_inside _ _ _ _ _ _ _ _ (ix2 s (0 : Fin 1)) fun a => match a with
    | ⟨0, _⟩ => (show s.val = 0 + s.val * (0 + 1) by omega)
    | ⟨1, _⟩ => (show p.val * 128 + q.val = 0 + 0 * (0 + 1) by omega)

/-- The packed parts: the arrays above one another. -/
def packed (x0 : FVec Ideal S8x1x6144 .f32) (x1 : FVec Ideal S8x1x1792 .f32) (x2 : FVec Ideal S8x1 .f32) : FVec Ideal S8x72x128 .f32 :=
  concatenate S8x72x128 1 [⟨S8x48x128, packed_ada x0⟩, ⟨S8x16x128, packed_in x1⟩, ⟨S8x8x128, packed_loss x2⟩] concatenates_S8x48x128_S8x16x128_S8x8x128_S8x72x128_d1

theorem piece_ada (x0 : FVec Ideal S8x1x6144 .f32) (x1 : FVec Ideal S8x1x1792 .f32) (x2 : FVec Ideal S8x1 .f32) (s : Fin 8) (p : Fin 48) (q : Fin 128) :
    packed x0 x1 x2 (ix3 s (⟨0 + p.val, by omega⟩ : Fin 72) q) = packed_ada x0 (ix3 s p q) := by
  unfold packed
  refine concatenate_apply_piece 1 [⟨S8x48x128, packed_ada x0⟩, ⟨S8x16x128, packed_in x1⟩, ⟨S8x8x128, packed_loss x2⟩] concatenates_S8x48x128_S8x16x128_S8x8x128_S8x72x128_d1 _ 0 (by simp) _ (packed_ada x0) rfl rfl 0 rfl (ix3 s p q) (fun b hb => ?_) rfl
  match b with
  | ⟨0, _⟩ => rfl
  | ⟨1, _⟩ => exact absurd rfl hb
  | ⟨2, _⟩ => rfl

theorem piece_in (x0 : FVec Ideal S8x1x6144 .f32) (x1 : FVec Ideal S8x1x1792 .f32) (x2 : FVec Ideal S8x1 .f32) (s : Fin 8) (p : Fin 16) (q : Fin 128) :
    packed x0 x1 x2 (ix3 s (⟨48 + p.val, by omega⟩ : Fin 72) q) = packed_in x1 (ix3 s p q) := by
  unfold packed
  refine concatenate_apply_piece 1 [⟨S8x48x128, packed_ada x0⟩, ⟨S8x16x128, packed_in x1⟩, ⟨S8x8x128, packed_loss x2⟩] concatenates_S8x48x128_S8x16x128_S8x8x128_S8x72x128_d1 _ 1 (by simp) _ (packed_in x1) rfl rfl 48 rfl (ix3 s p q) (fun b hb => ?_) rfl
  match b with
  | ⟨0, _⟩ => rfl
  | ⟨1, _⟩ => exact absurd rfl hb
  | ⟨2, _⟩ => rfl

theorem piece_loss (x0 : FVec Ideal S8x1x6144 .f32) (x1 : FVec Ideal S8x1x1792 .f32) (x2 : FVec Ideal S8x1 .f32) (s : Fin 8) (p : Fin 8) (q : Fin 128) :
    packed x0 x1 x2 (ix3 s (⟨64 + p.val, by omega⟩ : Fin 72) q) = packed_loss x2 (ix3 s p q) := by
  unfold packed
  refine concatenate_apply_piece 1 [⟨S8x48x128, packed_ada x0⟩, ⟨S8x16x128, packed_in x1⟩, ⟨S8x8x128, packed_loss x2⟩] concatenates_S8x48x128_S8x16x128_S8x8x128_S8x72x128_d1 _ 2 (by simp) _ (packed_loss x2) rfl rfl 64 rfl (ix3 s p q) (fun b hb => ?_) rfl
  match b with
  | ⟨0, _⟩ => rfl
  | ⟨1, _⟩ => exact absurd rfl hb
  | ⟨2, _⟩ => rfl

variable (m : (ℓ : Loc nD τ sig) → Buf (Elt Ideal) ℓ) (c : Dev nD)

/-- What the arrays hold before the last line of host operations. -/
def before : Valuation τ sig (Elt Ideal) := StableHlo.after (List.flatten [hostOps0, hostOps0_1, hostOps0_2, hostOps0_3, hostOps0_4, hostOps0_5]) (fun b => m (c, b))

theorem after_last (l l' : List (HloOp τ sig (Elt Ideal))) (W : Valuation τ sig (Elt Ideal)) : StableHlo.after (l ++ l') W = StableHlo.after l' (StableHlo.after l W) := by
  induction l generalizing W with
  | nil => rfl
  | cons op l ih => exact ih _

theorem V_last (r : Ref sig .tc) : V m c r = StableHlo.after hostOps0_6 (before m c) (Proc.devRef .tc r) := by
  unfold before
  rw [← after_last]
  show StableHlo.after (List.flatten [hostOps0, hostOps0_1, hostOps0_2, hostOps0_3, hostOps0_4, hostOps0_5, hostOps0_6]) (fun b => m (c, b)) (Proc.devRef .tc r) = _
  exact congrArg (fun l => StableHlo.after l (fun b => m (c, b)) (Proc.devRef .tc r)) (by simp only [List.flatten_cons, List.flatten_nil, List.append_nil, List.append_assoc])

/-- What the arrays hold after the region. -/
def region : Valuation τ sig (Elt Ideal) := Pipeline.withArrays (cfgs 0).spec c (V0 m c) fun w => (dats m 0 c).arrAt w (cfgs 0).N

/-- The last line leaves the arguments as they were. -/
theorem last_arg (W : Valuation τ sig (Elt Ideal)) (r : Ref sig .tc) (hr : r ∉ [main_v7, main_v8, main_v9, main_v10, main_v11, main_v12, main_v13, main_v14]) : StableHlo.after hostOps0_6 W (Proc.devRef .tc r) = W (Proc.devRef .tc r) :=
  StableHlo.after_unwritten [main_v7, main_v8, main_v9, main_v10, main_v11, main_v12, main_v13, main_v14] rfl hr W

theorem before_arg (r : Ref sig .tc) (hr : r ∉ [main_v7, main_v8, main_v9, main_v10, main_v11, main_v12, main_v13, main_v14]) : before m c (Proc.devRef .tc r) = V m c r :=
  ((V_last m c r).trans (last_arg _ r hr)).symm

/-- What the last line's first operation leaves stays. -/
theorem V_first (r : Ref sig .tc) (hr : r ∉ [main_v8, main_v9, main_v10, main_v11, main_v12, main_v13, main_v14]) : V m c r = StableHlo.after (List.take 1 hostOps0_6) (before m c) (Proc.devRef .tc r) :=
  (V_last m c r).trans (StableHlo.after_unwritten (ops := List.drop 1 hostOps0_6) [main_v8, main_v9, main_v10, main_v11, main_v12, main_v13, main_v14] rfl hr (StableHlo.after (List.take 1 hostOps0_6) (before m c)))

theorem stacked (W : Valuation τ sig (Elt Ideal)) : (StableHlo.after hostOps0_6 W (Proc.devRef .tc main_v8) : FVec Ideal S8x72x128 .f32) =
    concatenate S8x72x128 1 [⟨S8x48x128, (StableHlo.after (List.take 1 hostOps0_6) W (Proc.devRef .tc main_v2) : FVec Ideal S8x48x128 .f32)⟩, ⟨S8x16x128, (StableHlo.after (List.take 1 hostOps0_6) W (Proc.devRef .tc main_v5) : FVec Ideal S8x16x128 .f32)⟩, ⟨S8x8x128, (StableHlo.after (List.take 1 hostOps0_6) W (Proc.devRef .tc main_v7) : FVec Ideal S8x8x128 .f32)⟩] concatenates_S8x48x128_S8x16x128_S8x8x128_S8x72x128_d1 :=
  (StableHlo.after_unwritten (ops := List.drop 2 hostOps0_6) [main_v9, main_v10, main_v11, main_v12, main_v13, main_v14] rfl (by decide) (StableHlo.after (List.take 2 hostOps0_6) W)).trans (StableHlo.nary_result _ _ _ _ _ _)

set_option maxHeartbeats 2000000 in
theorem host_ada : (V m c main_v2 : FVec Ideal S8x48x128 .f32) = packed_ada (m ((c : Thread nD τ).loc main_arg0)) := by
  show StableHlo.after (List.flatten [hostOps0, hostOps0_1, hostOps0_2, hostOps0_3, hostOps0_4, hostOps0_5, hostOps0_6]) (fun b => m (c, b)) (Proc.tc.devRef main_v2) = _
  simp only [hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

set_option maxHeartbeats 2000000 in
theorem host_in : (V m c main_v5 : FVec Ideal S8x16x128 .f32) = packed_in (m ((c : Thread nD τ).loc main_arg1)) := by
  show StableHlo.after (List.flatten [hostOps0, hostOps0_1, hostOps0_2, hostOps0_3, hostOps0_4, hostOps0_5, hostOps0_6]) (fun b => m (c, b)) (Proc.tc.devRef main_v5) = _
  simp only [hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

set_option maxHeartbeats 2000000 in
theorem host_loss : (V m c main_v7 : FVec Ideal S8x8x128 .f32) = packed_loss (m ((c : Thread nD τ).loc main_arg2)) := by
  show StableHlo.after (List.flatten [hostOps0, hostOps0_1, hostOps0_2, hostOps0_3, hostOps0_4, hostOps0_5, hostOps0_6]) (fun b => m (c, b)) (Proc.tc.devRef main_v7) = _
  simp only [hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq, List.flatten_cons, List.flatten_nil, List.append_nil, List.cons_append, List.nil_append]
  entry_read
  rfl

theorem host0 : (V m c main_v8 : FVec Ideal S8x72x128 .f32) = packed (m ((c : Thread nD τ).loc main_arg0)) (m ((c : Thread nD τ).loc main_arg1)) (m ((c : Thread nD τ).loc main_arg2)) := by
  unfold packed
  rw [← host_ada m c, ← host_in m c, ← host_loss m c, V_first m c main_v2 (by decide), V_first m c main_v5 (by decide), V_first m c main_v7 (by decide)]
  exact (V_last m c main_v8).trans (stacked (before m c))

/-- Device `s`'s loss. -/
abbrev part_loss (s : Fin 8) : EReal := m ((c : Thread nD τ).loc main_arg2) (ix2 s (0 : Fin 1))

end Cert.Kernel13Ideal.Value

end
-- ==== Proof.Lift.Small13ada.lean ====
/- The optimiser's step on the modulation's biases. -/
module

public import proofs.«01_k».proof.Proof.Lift.Packed13
public import proofs.«01_k».proof.Proof.Gen.Reference13Ideal.Read

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

theorem at1 : ∀ t : Fin cfg0.N, win0_1.index t = ![0, 0] :=
  (by decide +kernel : ∀ t : Fin grid0.N, _)

theorem at2 : ∀ t : Fin cfg0.N, win0_2.index t = ![0, 0] :=
  (by decide +kernel : ∀ t : Fin grid0.N, _)

theorem at3 : ∀ t : Fin cfg0.N, win0_3.index t = ![0, 0] :=
  (by decide +kernel : ∀ t : Fin grid0.N, _)

theorem at7 : ∀ t : Fin cfg0.N, win0_7.index t = ![0, 0] :=
  (by decide +kernel : ∀ t : Fin grid0.N, _)

theorem at8 : ∀ t : Fin cfg0.N, win0_8.index t = ![0, 0] :=
  (by decide +kernel : ∀ t : Fin grid0.N, _)

theorem at9 : ∀ t : Fin cfg0.N, win0_9.index t = ![0, 0] :=
  (by decide +kernel : ∀ t : Fin grid0.N, _)

theorem at10 : ∀ t : Fin cfg0.N, win0_10.index t = ![0, 0] :=
  (by decide +kernel : ∀ t : Fin grid0.N, _)

section

variable {x0 : FVec Ideal S8x72x128 .f32} {x1 : FVec Ideal S48x128 .f32} {x2 : FVec Ideal S48x128 .f32} {x3 : FVec Ideal S48x128 .f32} {x4 : FVec Ideal S14x128 .f32} {x5 : FVec Ideal S14x128 .f32} {x6 : FVec Ideal S14x128 .f32}

/-- The sum of the eight parts at an entry of the view. -/
abbrev sum_ada (x0 : FVec Ideal S8x72x128 .f32) (p : Fin 48) (q : Fin 128) : EReal := ∑ s : Fin 8, (x0 (ix3 s (⟨0 + p.val, by omega⟩ : Fin 72) q) : EReal)

set_option maxHeartbeats 2000000 in
theorem out7 (p : Fin 48) (q : Fin 128) : out0_7 (F := Ideal) x0 x1 x2 x3 x4 x5 x6 (ix2 p q) = sum_ada x0 p q := by
  refine (congrFun (?_ : _ = k0_pay18 (F := Ideal) x0 x1 x2 x3 x4 x5 x6) (ix2 p q)).trans ?_
  · unfold out0_7
    frame_out
  unfold sum_ada
  rw [Fin.sum_univ_eight]
  pointwise [k0_pay2, k0_pay18]

set_option maxHeartbeats 2000000 in
theorem out8 (p : Fin 48) (q : Fin 128) : out0_8 (F := Ideal) x0 x1 x2 x3 x4 x5 x6 (ix2 p q) = Cert.Lift.change (sum_ada x0 p q) (x1 (ix2 p q)) (x2 (ix2 p q)) (x3 (ix2 p q)) := by
  refine (congrFun (?_ : _ = k0_pay8 (F := Ideal) (k0_pay18 x0 x1 x2 x3 x4 x5 x6) (k0_pay3 x1) (k0_pay19 x0 x1 x2 x3 x4 x5 x6) (k0_pay20 x0 x1 x2 x3 x4 x5 x6)) (ix2 p q)).trans ?_
  · unfold out0_8
    frame_out
  unfold sum_ada
  rw [Fin.sum_univ_eight]
  pointwise [k0_pay2, k0_pay3, k0_pay4, k0_pay5, k0_pay6, k0_pay7, k0_pay8, k0_pay18, k0_pay19, k0_pay20]
  rfl

set_option maxHeartbeats 2000000 in
theorem out9 (p : Fin 48) (q : Fin 128) : out0_9 (F := Ideal) x0 x1 x2 x3 x4 x5 x6 (ix2 p q) = Cert.Lift.firstMoment (sum_ada x0 p q) (x2 (ix2 p q)) := by
  refine (congrFun (?_ : _ = k0_pay6 (F := Ideal) (k0_pay18 x0 x1 x2 x3 x4 x5 x6) (k0_pay19 x0 x1 x2 x3 x4 x5 x6)) (ix2 p q)).trans ?_
  · unfold out0_9
    frame_out
  unfold sum_ada
  rw [Fin.sum_univ_eight]
  pointwise [k0_pay2, k0_pay4, k0_pay6, k0_pay18, k0_pay19]
  rfl

set_option maxHeartbeats 2000000 in
theorem out10 (p : Fin 48) (q : Fin 128) : out0_10 (F := Ideal) x0 x1 x2 x3 x4 x5 x6 (ix2 p q) = Cert.Lift.secondMoment (sum_ada x0 p q) (x3 (ix2 p q)) := by
  refine (congrFun (?_ : _ = k0_pay7 (F := Ideal) (k0_pay18 x0 x1 x2 x3 x4 x5 x6) (k0_pay20 x0 x1 x2 x3 x4 x5 x6)) (ix2 p q)).trans ?_
  · unfold out0_10
    frame_out
  unfold sum_ada
  rw [Fin.sum_univ_eight]
  pointwise [k0_pay2, k0_pay5, k0_pay7, k0_pay18, k0_pay20]
  rfl

end

variable (m : (ℓ : Loc nD τ sig) → Buf (Elt Ideal) ℓ) (c : Dev nD)

/-- Device `s`'s part of the gradient of the modulation's biases. -/
abbrev part_ada (s : Fin 8) (k : Fin 6144) : EReal := m ((c : Thread nD τ).loc main_arg0) (ix3 s (0 : Fin 1) k)

/-- The position of an entry of the view among the 6144 entries. -/
abbrev pos_ada (p : Fin 48) (q : Fin 128) : Fin 6144 := ⟨p.val * 128 + q.val, by omega⟩

theorem entry_ada (t : Fin cfg0.N) (s : Fin 8) (p : Fin 48) (q : Fin 128) : (iblk m c 0 t : FVec Ideal S8x72x128 .f32) (ix3 s (⟨0 + p.val, by omega⟩ : Fin 72) q) = part_ada m c s (pos_ada p q) := by
  have e : (win0_0.blk t).view.emb (ix3 s (⟨0 + p.val, by omega⟩ : Fin 72) q) = (ix3 s (⟨0 + p.val, by omega⟩ : Fin 72) q) := by blk_ext [at0 t]
  exact (congrArg (V m c main_v8) e).trans ((congrFun (host0 m c) _).trans ((piece_ada _ _ _ s p q).trans (packed_ada_apply _ s p q (pos_ada p q).isLt)))

/-- Entry of the weights of the modulation's biases. -/
abbrev w_ada (k : Fin 6144) : EReal := m ((c : Thread nD τ).loc main_arg3) (ix2 (0 : Fin 1) k)

theorem host_w_ada : (V m c main_v9 : FVec Ideal S48x128 .f32) = shapeCast S48x128 (m ((c : Thread nD τ).loc main_arg3) : FVec Ideal S1x6144 .f32) shapeCasts_S1x6144_S48x128 := by
  have e : before m c (Proc.devRef .tc main_arg3) = m ((c : Thread nD τ).loc main_arg3) := (before_arg m c main_arg3 (by decide)).trans (V_main_arg3 m c)
  rw [V_last]
  generalize before m c = W at e ⊢
  show StableHlo.after hostOps0_6 W (Proc.tc.devRef main_v9) = _
  entry_read
  rw [e]
  rfl

theorem entry_w_ada (t : Fin cfg0.N) (p : Fin 48) (q : Fin 128) : (iblk m c 1 t : FVec Ideal S48x128 .f32) (ix2 p q) = w_ada m c (pos_ada p q) := by
  have e : (win0_1.blk t).view.emb (ix2 p q) = ix2 p q := by blk_ext [at1 t]
  exact (congrArg (V m c main_v9) e).trans ((congrFun (host_w_ada m c) _).trans (Cert.Lift.view1 _ _ p q _))

/-- Entry of the first moments of the modulation's biases. -/
abbrev a_ada (k : Fin 6144) : EReal := m ((c : Thread nD τ).loc main_arg5) (ix2 (0 : Fin 1) k)

theorem host_a_ada : (V m c main_v10 : FVec Ideal S48x128 .f32) = shapeCast S48x128 (m ((c : Thread nD τ).loc main_arg5) : FVec Ideal S1x6144 .f32) shapeCasts_S1x6144_S48x128 := by
  have e : before m c (Proc.devRef .tc main_arg5) = m ((c : Thread nD τ).loc main_arg5) := (before_arg m c main_arg5 (by decide)).trans (V_main_arg5 m c)
  rw [V_last]
  generalize before m c = W at e ⊢
  show StableHlo.after hostOps0_6 W (Proc.tc.devRef main_v10) = _
  entry_read
  rw [e]
  rfl

theorem entry_a_ada (t : Fin cfg0.N) (p : Fin 48) (q : Fin 128) : (iblk m c 2 t : FVec Ideal S48x128 .f32) (ix2 p q) = a_ada m c (pos_ada p q) := by
  have e : (win0_2.blk t).view.emb (ix2 p q) = ix2 p q := by blk_ext [at2 t]
  exact (congrArg (V m c main_v10) e).trans ((congrFun (host_a_ada m c) _).trans (Cert.Lift.view1 _ _ p q _))

/-- Entry of the second moments of the modulation's biases. -/
abbrev b_ada (k : Fin 6144) : EReal := m ((c : Thread nD τ).loc main_arg7) (ix2 (0 : Fin 1) k)

theorem host_b_ada : (V m c main_v11 : FVec Ideal S48x128 .f32) = shapeCast S48x128 (m ((c : Thread nD τ).loc main_arg7) : FVec Ideal S1x6144 .f32) shapeCasts_S1x6144_S48x128 := by
  have e : before m c (Proc.devRef .tc main_arg7) = m ((c : Thread nD τ).loc main_arg7) := (before_arg m c main_arg7 (by decide)).trans (V_main_arg7 m c)
  rw [V_last]
  generalize before m c = W at e ⊢
  show StableHlo.after hostOps0_6 W (Proc.tc.devRef main_v11) = _
  entry_read
  rw [e]
  rfl

theorem entry_b_ada (t : Fin cfg0.N) (p : Fin 48) (q : Fin 128) : (iblk m c 3 t : FVec Ideal S48x128 .f32) (ix2 p q) = b_ada m c (pos_ada p q) := by
  have e : (win0_3.blk t).view.emb (ix2 p q) = ix2 p q := by blk_ext [at3 t]
  exact (congrArg (V m c main_v11) e).trans ((congrFun (host_b_ada m c) _).trans (Cert.Lift.view1 _ _ p q _))

/-- The gradient's entry, and the change and the moments after the step. -/
def grad_ada (k : Fin 6144) : EReal := ∑ s : Fin 8, part_ada m c s k
def change_ada (k : Fin 6144) : EReal := Cert.Lift.change (grad_ada m c k) (w_ada m c k) (a_ada m c k) (b_ada m c k)
def first_ada (k : Fin 6144) : EReal := Cert.Lift.firstMoment (grad_ada m c k) (a_ada m c k)
def second_ada (k : Fin 6144) : EReal := Cert.Lift.secondMoment (grad_ada m c k) (b_ada m c k)

theorem summed_ada (t : Fin cfg0.N) (p : Fin 48) (q : Fin 128) : sum_ada (iblk m c 0 t) p q = grad_ada m c (pos_ada p q) :=
  Finset.sum_congr (M := EReal) rfl fun s _ => entry_ada m c t s p q

/-- The position of an entry of the modulation's biases. -/
abbrev flat_ada (i : S1x6144.Idx) : Fin 6144 := ⟨(i 1).val, (i 1).isLt⟩

theorem final7 : (dats m 0 c).arrAt 7 (cfgs 0).N = (fun i => grad_ada m c (pos_ada (i 0) (i 1))) := by
  refine (dats m 0 c).arrAt_eq_of_covers 7 _ (by decide +kernel) fun t _ y => ?_
  blk_simp [at7 t]
  rw [after0_7]
  have e : (win0_7.blk t).view.emb y = ix2 (y 0) (y 1) := by blk_ext [at7 t]
  rw [e]
  exact (congrArg _ (eq_ix2 y)).trans ((out7 (y 0) (y 1)).trans (summed_ada m c t (y 0) (y 1)))

theorem result7 : Pipeline.afterTail₀ cfgs (dats m) 0 (V0 m) [hostOps1] c main_v16 = (fun i => grad_ada m c (flat_ada i)) := by
  have e : region m c (Proc.tc.devRef main_v15_0) = _ := (Pipeline.withArrays_arr (cfgs 0).spec (by decide) c _ _ 7).trans (final7 m c)
  show StableHlo.after hostOps1 (region m c) (Proc.tc.devRef main_v16) = _
  generalize region m c = W at e ⊢
  entry_read
  rw [e]
  exact Cert.Lift.back1 (grad_ada m c) (fun p q => by omega) (fun k => by omega) _

theorem final8 : (dats m 0 c).arrAt 8 (cfgs 0).N = (fun i => change_ada m c (pos_ada (i 0) (i 1))) := by
  refine (dats m 0 c).arrAt_eq_of_covers 8 _ (by decide +kernel) fun t _ y => ?_
  blk_simp [at8 t]
  rw [after0_8]
  have e : (win0_8.blk t).view.emb y = ix2 (y 0) (y 1) := by blk_ext [at8 t]
  rw [e]
  exact (congrArg _ (eq_ix2 y)).trans ((out8 (y 0) (y 1)).trans (Cert.Lift.change_congr (summed_ada m c t (y 0) (y 1)) (entry_w_ada m c t (y 0) (y 1)) (entry_a_ada m c t (y 0) (y 1)) (entry_b_ada m c t (y 0) (y 1))))

theorem result8 : Pipeline.afterTail₀ cfgs (dats m) 0 (V0 m) [hostOps1] c main_v17 = (fun i => change_ada m c (flat_ada i)) := by
  have e : region m c (Proc.tc.devRef main_v15_1) = _ := (Pipeline.withArrays_arr (cfgs 0).spec (by decide) c _ _ 8).trans (final8 m c)
  show StableHlo.after hostOps1 (region m c) (Proc.tc.devRef main_v17) = _
  generalize region m c = W at e ⊢
  entry_read
  rw [e]
  exact Cert.Lift.back1 (change_ada m c) (fun p q => by omega) (fun k => by omega) _

theorem final9 : (dats m 0 c).arrAt 9 (cfgs 0).N = (fun i => first_ada m c (pos_ada (i 0) (i 1))) := by
  refine (dats m 0 c).arrAt_eq_of_covers 9 _ (by decide +kernel) fun t _ y => ?_
  blk_simp [at9 t]
  rw [after0_9]
  have e : (win0_9.blk t).view.emb y = ix2 (y 0) (y 1) := by blk_ext [at9 t]
  rw [e]
  exact (congrArg _ (eq_ix2 y)).trans ((out9 (y 0) (y 1)).trans (congrArg₂ Cert.Lift.firstMoment (summed_ada m c t (y 0) (y 1)) (entry_a_ada m c t (y 0) (y 1))))

theorem result9 : Pipeline.afterTail₀ cfgs (dats m) 0 (V0 m) [hostOps1] c main_v18 = (fun i => first_ada m c (flat_ada i)) := by
  have e : region m c (Proc.tc.devRef main_v15_2) = _ := (Pipeline.withArrays_arr (cfgs 0).spec (by decide) c _ _ 9).trans (final9 m c)
  show StableHlo.after hostOps1 (region m c) (Proc.tc.devRef main_v18) = _
  generalize region m c = W at e ⊢
  entry_read
  rw [e]
  exact Cert.Lift.back1 (first_ada m c) (fun p q => by omega) (fun k => by omega) _

theorem final10 : (dats m 0 c).arrAt 10 (cfgs 0).N = (fun i => second_ada m c (pos_ada (i 0) (i 1))) := by
  refine (dats m 0 c).arrAt_eq_of_covers 10 _ (by decide +kernel) fun t _ y => ?_
  blk_simp [at10 t]
  rw [after0_10]
  have e : (win0_10.blk t).view.emb y = ix2 (y 0) (y 1) := by blk_ext [at10 t]
  rw [e]
  exact (congrArg _ (eq_ix2 y)).trans ((out10 (y 0) (y 1)).trans (congrArg₂ Cert.Lift.secondMoment (summed_ada m c t (y 0) (y 1)) (entry_b_ada m c t (y 0) (y 1))))

theorem result10 : Pipeline.afterTail₀ cfgs (dats m) 0 (V0 m) [hostOps1] c main_v19 = (fun i => second_ada m c (flat_ada i)) := by
  have e : region m c (Proc.tc.devRef main_v15_3) = _ := (Pipeline.withArrays_arr (cfgs 0).spec (by decide) c _ _ 10).trans (final10 m c)
  show StableHlo.after hostOps1 (region m c) (Proc.tc.devRef main_v19) = _
  generalize region m c = W at e ⊢
  entry_read
  rw [e]
  exact Cert.Lift.back1 (second_ada m c) (fun p q => by omega) (fun k => by omega) _

end Cert.Kernel13Ideal.Value

namespace Cert.Reference13Ideal.Step

open Cert.Reference13Ideal Cert.Reference13Ideal.Gen Cert.Reference13Ideal.Read Idealize.ShloMosaic Idealize.ShloMosaic.TcCoe Idealize.SL.Sem
open Cert.Kernel13Ideal.Value (flat_ada)

variable (x : FVec Ideal S8x1x6144 .f32) (w a b : FVec Ideal S1x6144 .f32) (i : S1x6144.Idx)

theorem at_ada : i = (ix2 (0 : Fin 1) (flat_ada i)) := by
  have h0 : (i 0).val < 1 := (i 0).isLt; have h1 : (i 1).val < 6144 := (i 1).isLt
  exact funext fun a => match a with
    | ⟨0, _⟩ => Fin.ext (show (i 0).val = 0 by omega)
    | ⟨1, _⟩ => rfl

theorem grad_ada : val_main_v0 (F := Ideal) x i = (∑ s : Fin 8, (x (ix3 s (0 : Fin 1) (flat_ada i)) : EReal)) := by
  have h0 : (i 0).val < 1 := (i 0).isLt; have h1 : (i 1).val < 6144 := (i 1).isLt
  rw [val_main_v0_apply]
  refine (congrArg (· + _) (show val_main_cst (F := Ideal) _ = (0 : EReal) by rw [val_main_cst_apply]; exact Ideal.ofBits_zero_f32)).trans ((zero_add _).trans ?_)
  exact Finset.sum_congr (M := EReal) rfl fun s _ => congrArg x (funext fun a => match a with
    | ⟨0, _⟩ => rfl
    | ⟨1, _⟩ => Fin.ext (show (i 0).val = 0 by omega)
    | ⟨2, _⟩ => rfl)

theorem step1_ada : val_main_v6 (F := Ideal) x a i = Cert.Lift.firstMoment (val_main_v0 (F := Ideal) x i) (a i) := by
  simp only [val_main_v6_apply, val_main_v5_apply, val_main_v4_apply, val_main_cst_2_apply, val_main_v3_apply, val_main_v2_apply, val_main_cst_1_apply]
  rfl

theorem step2_ada : val_main_v12 (F := Ideal) x b i = Cert.Lift.secondMoment (val_main_v0 (F := Ideal) x i) (b i) := by
  simp only [val_main_v12_apply, val_main_v11_apply, val_main_v10_apply, val_main_cst_4_apply, val_main_v9_apply, val_main_v8_apply, val_main_v7_apply, val_main_cst_3_apply]
  rfl

theorem first_ada : val_main_v6 (F := Ideal) x a i = Cert.Lift.firstMoment (∑ s : Fin 8, (x (ix3 s (0 : Fin 1) (flat_ada i)) : EReal)) (a (ix2 (0 : Fin 1) (flat_ada i))) :=
  (step1_ada x a i).trans (congrArg₂ Cert.Lift.firstMoment (grad_ada x i) (congrArg a (at_ada i)))

theorem second_ada : val_main_v12 (F := Ideal) x b i = Cert.Lift.secondMoment (∑ s : Fin 8, (x (ix3 s (0 : Fin 1) (flat_ada i)) : EReal)) (b (ix2 (0 : Fin 1) (flat_ada i))) :=
  (step2_ada x b i).trans (congrArg₂ Cert.Lift.secondMoment (grad_ada x i) (congrArg b (at_ada i)))

theorem change_ada : val_main_v25 (F := Ideal) x w a b i = Cert.Lift.change (∑ s : Fin 8, (x (ix3 s (0 : Fin 1) (flat_ada i)) : EReal)) (w (ix2 (0 : Fin 1) (flat_ada i))) (a (ix2 (0 : Fin 1) (flat_ada i))) (b (ix2 (0 : Fin 1) (flat_ada i))) := by
  refine Eq.trans (?_ : _ = Cert.Lift.change (val_main_v0 (F := Ideal) x i) (w i) (a i) (b i)) (Cert.Lift.change_congr (grad_ada x i) (congrArg w (at_ada i)) (congrArg a (at_ada i)) (congrArg b (at_ada i)))
  unfold Cert.Lift.change
  rw [← step1_ada, ← step2_ada]
  simp only [val_main_v25_apply, val_main_v24_apply, val_main_cst_9_apply, val_main_v23_apply, val_main_v22_apply, val_main_v21_apply, val_main_cst_8_apply, val_main_v20_apply, val_main_v19_apply, val_main_v18_apply, val_main_cst_7_apply, val_main_v17_apply, val_main_v16_apply, val_main_v15_apply, val_main_cst_6_apply, val_main_v14_apply, val_main_v13_apply, val_main_cst_5_apply]
  rfl

end Cert.Reference13Ideal.Step

end
-- ==== Proof.Lift.Small13in.lean ====
/- The optimiser's step on the input projection's biases. -/
module

public import proofs.«01_k».proof.Proof.Lift.Packed13
public import proofs.«01_k».proof.Proof.Gen.Reference13Ideal.Read

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

theorem at4 : ∀ t : Fin cfg0.N, win0_4.index t = ![0, 0] :=
  (by decide +kernel : ∀ t : Fin grid0.N, _)

theorem at5 : ∀ t : Fin cfg0.N, win0_5.index t = ![0, 0] :=
  (by decide +kernel : ∀ t : Fin grid0.N, _)

theorem at6 : ∀ t : Fin cfg0.N, win0_6.index t = ![0, 0] :=
  (by decide +kernel : ∀ t : Fin grid0.N, _)

theorem at11 : ∀ t : Fin cfg0.N, win0_11.index t = ![0, 0] :=
  (by decide +kernel : ∀ t : Fin grid0.N, _)

theorem at12 : ∀ t : Fin cfg0.N, win0_12.index t = ![0, 0] :=
  (by decide +kernel : ∀ t : Fin grid0.N, _)

theorem at13 : ∀ t : Fin cfg0.N, win0_13.index t = ![0, 0] :=
  (by decide +kernel : ∀ t : Fin grid0.N, _)

theorem at14 : ∀ t : Fin cfg0.N, win0_14.index t = ![0, 0] :=
  (by decide +kernel : ∀ t : Fin grid0.N, _)

section

variable {x0 : FVec Ideal S8x72x128 .f32} {x1 : FVec Ideal S48x128 .f32} {x2 : FVec Ideal S48x128 .f32} {x3 : FVec Ideal S48x128 .f32} {x4 : FVec Ideal S14x128 .f32} {x5 : FVec Ideal S14x128 .f32} {x6 : FVec Ideal S14x128 .f32}

/-- The sum of the eight parts at an entry of the view. -/
abbrev sum_in (x0 : FVec Ideal S8x72x128 .f32) (p : Fin 14) (q : Fin 128) : EReal := ∑ s : Fin 8, (x0 (ix3 s (⟨48 + p.val, by omega⟩ : Fin 72) q) : EReal)

set_option maxHeartbeats 2000000 in
theorem out11 (p : Fin 14) (q : Fin 128) : out0_11 (F := Ideal) x0 x1 x2 x3 x4 x5 x6 (ix2 p q) = sum_in x0 p q := by
  refine (congrFun (?_ : _ = k0_pay10 (F := Ideal) (k0_pay21 x0 x1 x2 x3 x4 x5 x6) (View.ld x0 r0_11) (View.ld x0 r0_12) (View.ld x0 r0_13) (View.ld x0 r0_14) (View.ld x0 r0_15) (View.ld x0 r0_16)) (ix2 p q)).trans ?_
  · unfold out0_11
    frame_out
  unfold sum_in
  rw [Fin.sum_univ_eight]
  pointwise [k0_pay9, k0_pay10, k0_pay21]

set_option maxHeartbeats 2000000 in
theorem out12 (p : Fin 14) (q : Fin 128) : out0_12 (F := Ideal) x0 x1 x2 x3 x4 x5 x6 (ix2 p q) = Cert.Lift.change (sum_in x0 p q) (x4 (ix2 p q)) (x5 (ix2 p q)) (x6 (ix2 p q)) := by
  refine (congrFun (?_ : _ = k0_pay16 (F := Ideal) (k0_pay11 x4) (k0_pay22 x0 x1 x2 x3 x4 x5 x6) (k0_pay23 x0 x1 x2 x3 x4 x5 x6) (k0_pay24 x0 x1 x2 x3 x4 x5 x6) (Scalar.ofBits .f32 0x3A83126F#32)) (ix2 p q)).trans ?_
  · unfold out0_12
    frame_out
  unfold sum_in
  rw [Fin.sum_univ_eight]
  pointwise [k0_pay9, k0_pay10, k0_pay11, k0_pay12, k0_pay13, k0_pay14, k0_pay15, k0_pay16, k0_pay21, k0_pay22, k0_pay23, k0_pay24]
  rfl

set_option maxHeartbeats 2000000 in
theorem out13 (p : Fin 14) (q : Fin 128) : out0_13 (F := Ideal) x0 x1 x2 x3 x4 x5 x6 (ix2 p q) = Cert.Lift.firstMoment (sum_in x0 p q) (x5 (ix2 p q)) := by
  refine (congrFun (?_ : _ = k0_pay22 (F := Ideal) x0 x1 x2 x3 x4 x5 x6) (ix2 p q)).trans ?_
  · unfold out0_13
    frame_out
  unfold sum_in
  rw [Fin.sum_univ_eight]
  pointwise [k0_pay9, k0_pay10, k0_pay12, k0_pay21, k0_pay22]
  rfl

set_option maxHeartbeats 2000000 in
theorem out14 (p : Fin 14) (q : Fin 128) : out0_14 (F := Ideal) x0 x1 x2 x3 x4 x5 x6 (ix2 p q) = Cert.Lift.secondMoment (sum_in x0 p q) (x6 (ix2 p q)) := by
  refine (congrFun (?_ : _ = k0_pay15 (F := Ideal) (k0_pay23 x0 x1 x2 x3 x4 x5 x6) (k0_pay24 x0 x1 x2 x3 x4 x5 x6) (Scalar.ofBits .f32 0x3A83126F#32)) (ix2 p q)).trans ?_
  · unfold out0_14
    frame_out
  unfold sum_in
  rw [Fin.sum_univ_eight]
  pointwise [k0_pay9, k0_pay10, k0_pay13, k0_pay14, k0_pay15, k0_pay21, k0_pay23, k0_pay24]
  rfl

end

variable (m : (ℓ : Loc nD τ sig) → Buf (Elt Ideal) ℓ) (c : Dev nD)

/-- Device `s`'s part of the gradient of the input projection's biases. -/
abbrev part_in (s : Fin 8) (k : Fin 1792) : EReal := m ((c : Thread nD τ).loc main_arg1) (ix3 s (0 : Fin 1) k)

/-- The position of an entry of the view among the 1792 entries. -/
abbrev pos_in (p : Fin 14) (q : Fin 128) : Fin 1792 := ⟨p.val * 128 + q.val, by omega⟩

theorem entry_in (t : Fin cfg0.N) (s : Fin 8) (p : Fin 14) (q : Fin 128) : (iblk m c 0 t : FVec Ideal S8x72x128 .f32) (ix3 s (⟨48 + p.val, by omega⟩ : Fin 72) q) = part_in m c s (pos_in p q) := by
  have e : (win0_0.blk t).view.emb (ix3 s (⟨48 + p.val, by omega⟩ : Fin 72) q) = (ix3 s (⟨48 + p.val, by omega⟩ : Fin 72) q) := by blk_ext [at0 t]
  exact (congrArg (V m c main_v8) e).trans ((congrFun (host0 m c) _).trans ((piece_in _ _ _ s (⟨p.val, by omega⟩ : Fin 16) q).trans (packed_in_apply _ s (⟨p.val, by omega⟩ : Fin 16) q (pos_in p q).isLt)))

/-- Entry of the weights of the input projection's biases. -/
abbrev w_in (k : Fin 1792) : EReal := m ((c : Thread nD τ).loc main_arg4) (ix2 (0 : Fin 1) k)

theorem host_w_in : (V m c main_v12 : FVec Ideal S14x128 .f32) = shapeCast S14x128 (m ((c : Thread nD τ).loc main_arg4) : FVec Ideal S1x1792 .f32) shapeCasts_S1x1792_S14x128 := by
  have e : before m c (Proc.devRef .tc main_arg4) = m ((c : Thread nD τ).loc main_arg4) := (before_arg m c main_arg4 (by decide)).trans (V_main_arg4 m c)
  rw [V_last]
  generalize before m c = W at e ⊢
  show StableHlo.after hostOps0_6 W (Proc.tc.devRef main_v12) = _
  entry_read
  rw [e]
  rfl

theorem entry_w_in (t : Fin cfg0.N) (p : Fin 14) (q : Fin 128) : (iblk m c 4 t : FVec Ideal S14x128 .f32) (ix2 p q) = w_in m c (pos_in p q) := by
  have e : (win0_4.blk t).view.emb (ix2 p q) = ix2 p q := by blk_ext [at4 t]
  exact (congrArg (V m c main_v12) e).trans ((congrFun (host_w_in m c) _).trans (Cert.Lift.view1 _ _ p q _))

/-- Entry of the first moments of the input projection's biases. -/
abbrev a_in (k : Fin 1792) : EReal := m ((c : Thread nD τ).loc main_arg6) (ix2 (0 : Fin 1) k)

theorem host_a_in : (V m c main_v13 : FVec Ideal S14x128 .f32) = shapeCast S14x128 (m ((c : Thread nD τ).loc main_arg6) : FVec Ideal S1x1792 .f32) shapeCasts_S1x1792_S14x128 := by
  have e : before m c (Proc.devRef .tc main_arg6) = m ((c : Thread nD τ).loc main_arg6) := (before_arg m c main_arg6 (by decide)).trans (V_main_arg6 m c)
  rw [V_last]
  generalize before m c = W at e ⊢
  show StableHlo.after hostOps0_6 W (Proc.tc.devRef main_v13) = _
  entry_read
  rw [e]
  rfl

theorem entry_a_in (t : Fin cfg0.N) (p : Fin 14) (q : Fin 128) : (iblk m c 5 t : FVec Ideal S14x128 .f32) (ix2 p q) = a_in m c (pos_in p q) := by
  have e : (win0_5.blk t).view.emb (ix2 p q) = ix2 p q := by blk_ext [at5 t]
  exact (congrArg (V m c main_v13) e).trans ((congrFun (host_a_in m c) _).trans (Cert.Lift.view1 _ _ p q _))

/-- Entry of the second moments of the input projection's biases. -/
abbrev b_in (k : Fin 1792) : EReal := m ((c : Thread nD τ).loc main_arg8) (ix2 (0 : Fin 1) k)

theorem host_b_in : (V m c main_v14 : FVec Ideal S14x128 .f32) = shapeCast S14x128 (m ((c : Thread nD τ).loc main_arg8) : FVec Ideal S1x1792 .f32) shapeCasts_S1x1792_S14x128 := by
  have e : before m c (Proc.devRef .tc main_arg8) = m ((c : Thread nD τ).loc main_arg8) := (before_arg m c main_arg8 (by decide)).trans (V_main_arg8 m c)
  rw [V_last]
  generalize before m c = W at e ⊢
  show StableHlo.after hostOps0_6 W (Proc.tc.devRef main_v14) = _
  entry_read
  rw [e]
  rfl

theorem entry_b_in (t : Fin cfg0.N) (p : Fin 14) (q : Fin 128) : (iblk m c 6 t : FVec Ideal S14x128 .f32) (ix2 p q) = b_in m c (pos_in p q) := by
  have e : (win0_6.blk t).view.emb (ix2 p q) = ix2 p q := by blk_ext [at6 t]
  exact (congrArg (V m c main_v14) e).trans ((congrFun (host_b_in m c) _).trans (Cert.Lift.view1 _ _ p q _))

/-- The gradient's entry, and the change and the moments after the step. -/
def grad_in (k : Fin 1792) : EReal := ∑ s : Fin 8, part_in m c s k
def change_in (k : Fin 1792) : EReal := Cert.Lift.change (grad_in m c k) (w_in m c k) (a_in m c k) (b_in m c k)
def first_in (k : Fin 1792) : EReal := Cert.Lift.firstMoment (grad_in m c k) (a_in m c k)
def second_in (k : Fin 1792) : EReal := Cert.Lift.secondMoment (grad_in m c k) (b_in m c k)

theorem summed_in (t : Fin cfg0.N) (p : Fin 14) (q : Fin 128) : sum_in (iblk m c 0 t) p q = grad_in m c (pos_in p q) :=
  Finset.sum_congr (M := EReal) rfl fun s _ => entry_in m c t s p q

/-- The position of an entry of the input projection's biases. -/
abbrev flat_in (i : S1x1792.Idx) : Fin 1792 := ⟨(i 1).val, (i 1).isLt⟩

theorem final11 : (dats m 0 c).arrAt 11 (cfgs 0).N = (fun i => grad_in m c (pos_in (i 0) (i 1))) := by
  refine (dats m 0 c).arrAt_eq_of_covers 11 _ (by decide +kernel) fun t _ y => ?_
  blk_simp [at11 t]
  rw [after0_11]
  have e : (win0_11.blk t).view.emb y = ix2 (y 0) (y 1) := by blk_ext [at11 t]
  rw [e]
  exact (congrArg _ (eq_ix2 y)).trans ((out11 (y 0) (y 1)).trans (summed_in m c t (y 0) (y 1)))

theorem result11 : Pipeline.afterTail₀ cfgs (dats m) 0 (V0 m) [hostOps1] c main_v20 = (fun i => grad_in m c (flat_in i)) := by
  have e : region m c (Proc.tc.devRef main_v15_4) = _ := (Pipeline.withArrays_arr (cfgs 0).spec (by decide) c _ _ 11).trans (final11 m c)
  show StableHlo.after hostOps1 (region m c) (Proc.tc.devRef main_v20) = _
  generalize region m c = W at e ⊢
  entry_read
  rw [e]
  exact Cert.Lift.back1 (grad_in m c) (fun p q => by omega) (fun k => by omega) _

theorem final12 : (dats m 0 c).arrAt 12 (cfgs 0).N = (fun i => change_in m c (pos_in (i 0) (i 1))) := by
  refine (dats m 0 c).arrAt_eq_of_covers 12 _ (by decide +kernel) fun t _ y => ?_
  blk_simp [at12 t]
  rw [after0_12]
  have e : (win0_12.blk t).view.emb y = ix2 (y 0) (y 1) := by blk_ext [at12 t]
  rw [e]
  exact (congrArg _ (eq_ix2 y)).trans ((out12 (y 0) (y 1)).trans (Cert.Lift.change_congr (summed_in m c t (y 0) (y 1)) (entry_w_in m c t (y 0) (y 1)) (entry_a_in m c t (y 0) (y 1)) (entry_b_in m c t (y 0) (y 1))))

theorem result12 : Pipeline.afterTail₀ cfgs (dats m) 0 (V0 m) [hostOps1] c main_v21 = (fun i => change_in m c (flat_in i)) := by
  have e : region m c (Proc.tc.devRef main_v15_5) = _ := (Pipeline.withArrays_arr (cfgs 0).spec (by decide) c _ _ 12).trans (final12 m c)
  show StableHlo.after hostOps1 (region m c) (Proc.tc.devRef main_v21) = _
  generalize region m c = W at e ⊢
  entry_read
  rw [e]
  exact Cert.Lift.back1 (change_in m c) (fun p q => by omega) (fun k => by omega) _

theorem final13 : (dats m 0 c).arrAt 13 (cfgs 0).N = (fun i => first_in m c (pos_in (i 0) (i 1))) := by
  refine (dats m 0 c).arrAt_eq_of_covers 13 _ (by decide +kernel) fun t _ y => ?_
  blk_simp [at13 t]
  rw [after0_13]
  have e : (win0_13.blk t).view.emb y = ix2 (y 0) (y 1) := by blk_ext [at13 t]
  rw [e]
  exact (congrArg _ (eq_ix2 y)).trans ((out13 (y 0) (y 1)).trans (congrArg₂ Cert.Lift.firstMoment (summed_in m c t (y 0) (y 1)) (entry_a_in m c t (y 0) (y 1))))

theorem result13 : Pipeline.afterTail₀ cfgs (dats m) 0 (V0 m) [hostOps1] c main_v22 = (fun i => first_in m c (flat_in i)) := by
  have e : region m c (Proc.tc.devRef main_v15_6) = _ := (Pipeline.withArrays_arr (cfgs 0).spec (by decide) c _ _ 13).trans (final13 m c)
  show StableHlo.after hostOps1 (region m c) (Proc.tc.devRef main_v22) = _
  generalize region m c = W at e ⊢
  entry_read
  rw [e]
  exact Cert.Lift.back1 (first_in m c) (fun p q => by omega) (fun k => by omega) _

theorem final14 : (dats m 0 c).arrAt 14 (cfgs 0).N = (fun i => second_in m c (pos_in (i 0) (i 1))) := by
  refine (dats m 0 c).arrAt_eq_of_covers 14 _ (by decide +kernel) fun t _ y => ?_
  blk_simp [at14 t]
  rw [after0_14]
  have e : (win0_14.blk t).view.emb y = ix2 (y 0) (y 1) := by blk_ext [at14 t]
  rw [e]
  exact (congrArg _ (eq_ix2 y)).trans ((out14 (y 0) (y 1)).trans (congrArg₂ Cert.Lift.secondMoment (summed_in m c t (y 0) (y 1)) (entry_b_in m c t (y 0) (y 1))))

theorem result14 : Pipeline.afterTail₀ cfgs (dats m) 0 (V0 m) [hostOps1] c main_v23 = (fun i => second_in m c (flat_in i)) := by
  have e : region m c (Proc.tc.devRef main_v15_7) = _ := (Pipeline.withArrays_arr (cfgs 0).spec (by decide) c _ _ 14).trans (final14 m c)
  show StableHlo.after hostOps1 (region m c) (Proc.tc.devRef main_v23) = _
  generalize region m c = W at e ⊢
  entry_read
  rw [e]
  exact Cert.Lift.back1 (second_in m c) (fun p q => by omega) (fun k => by omega) _

end Cert.Kernel13Ideal.Value

namespace Cert.Reference13Ideal.Step

open Cert.Reference13Ideal Cert.Reference13Ideal.Gen Cert.Reference13Ideal.Read Idealize.ShloMosaic Idealize.ShloMosaic.TcCoe Idealize.SL.Sem
open Cert.Kernel13Ideal.Value (flat_in)

variable (x : FVec Ideal S8x1x1792 .f32) (w a b : FVec Ideal S1x1792 .f32) (i : S1x1792.Idx)

theorem at_in : i = (ix2 (0 : Fin 1) (flat_in i)) := by
  have h0 : (i 0).val < 1 := (i 0).isLt; have h1 : (i 1).val < 1792 := (i 1).isLt
  exact funext fun a => match a with
    | ⟨0, _⟩ => Fin.ext (show (i 0).val = 0 by omega)
    | ⟨1, _⟩ => rfl

theorem grad_in : val_main_v1 (F := Ideal) x i = (∑ s : Fin 8, (x (ix3 s (0 : Fin 1) (flat_in i)) : EReal)) := by
  have h0 : (i 0).val < 1 := (i 0).isLt; have h1 : (i 1).val < 1792 := (i 1).isLt
  rw [val_main_v1_apply]
  refine (congrArg (· + _) (show val_main_cst_0 (F := Ideal) _ = (0 : EReal) by rw [val_main_cst_0_apply]; exact Ideal.ofBits_zero_f32)).trans ((zero_add _).trans ?_)
  exact Finset.sum_congr (M := EReal) rfl fun s _ => congrArg x (funext fun a => match a with
    | ⟨0, _⟩ => rfl
    | ⟨1, _⟩ => Fin.ext (show (i 0).val = 0 by omega)
    | ⟨2, _⟩ => rfl)

theorem step1_in : val_main_v30 (F := Ideal) x a i = Cert.Lift.firstMoment (val_main_v1 (F := Ideal) x i) (a i) := by
  simp only [val_main_v30_apply, val_main_v29_apply, val_main_v28_apply, val_main_cst_11_apply, val_main_v27_apply, val_main_v26_apply, val_main_cst_10_apply]
  rfl

theorem step2_in : val_main_v36 (F := Ideal) x b i = Cert.Lift.secondMoment (val_main_v1 (F := Ideal) x i) (b i) := by
  simp only [val_main_v36_apply, val_main_v35_apply, val_main_v34_apply, val_main_cst_13_apply, val_main_v33_apply, val_main_v32_apply, val_main_v31_apply, val_main_cst_12_apply]
  rfl

theorem first_in : val_main_v30 (F := Ideal) x a i = Cert.Lift.firstMoment (∑ s : Fin 8, (x (ix3 s (0 : Fin 1) (flat_in i)) : EReal)) (a (ix2 (0 : Fin 1) (flat_in i))) :=
  (step1_in x a i).trans (congrArg₂ Cert.Lift.firstMoment (grad_in x i) (congrArg a (at_in i)))

theorem second_in : val_main_v36 (F := Ideal) x b i = Cert.Lift.secondMoment (∑ s : Fin 8, (x (ix3 s (0 : Fin 1) (flat_in i)) : EReal)) (b (ix2 (0 : Fin 1) (flat_in i))) :=
  (step2_in x b i).trans (congrArg₂ Cert.Lift.secondMoment (grad_in x i) (congrArg b (at_in i)))

theorem change_in : val_main_v49 (F := Ideal) x w a b i = Cert.Lift.change (∑ s : Fin 8, (x (ix3 s (0 : Fin 1) (flat_in i)) : EReal)) (w (ix2 (0 : Fin 1) (flat_in i))) (a (ix2 (0 : Fin 1) (flat_in i))) (b (ix2 (0 : Fin 1) (flat_in i))) := by
  refine Eq.trans (?_ : _ = Cert.Lift.change (val_main_v1 (F := Ideal) x i) (w i) (a i) (b i)) (Cert.Lift.change_congr (grad_in x i) (congrArg w (at_in i)) (congrArg a (at_in i)) (congrArg b (at_in i)))
  unfold Cert.Lift.change
  rw [← step1_in, ← step2_in]
  simp only [val_main_v49_apply, val_main_v48_apply, val_main_cst_18_apply, val_main_v47_apply, val_main_v46_apply, val_main_v45_apply, val_main_cst_17_apply, val_main_v44_apply, val_main_v43_apply, val_main_v42_apply, val_main_cst_16_apply, val_main_v41_apply, val_main_v40_apply, val_main_v39_apply, val_main_cst_15_apply, val_main_v38_apply, val_main_v37_apply, val_main_cst_14_apply]
  rfl

end Cert.Reference13Ideal.Step

end
-- ==== Proof.Lift.Small13loss.lean ====
/- The sum of the losses. -/
module

public import proofs.«01_k».proof.Proof.Lift.Packed13
public import proofs.«01_k».proof.Proof.Gen.Reference13Ideal.Read

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

theorem at15 : ∀ t : Fin cfg0.N, win0_15.index t = ![0, 0] :=
  (by decide +kernel : ∀ t : Fin grid0.N, _)

theorem out15 (x0 : FVec Ideal S8x72x128 .f32) (x1 : FVec Ideal S48x128 .f32) (x2 : FVec Ideal S48x128 .f32) (x3 : FVec Ideal S48x128 .f32) (x4 : FVec Ideal S14x128 .f32) (x5 : FVec Ideal S14x128 .f32) (x6 : FVec Ideal S14x128 .f32) (p : Fin 8) (q : Fin 128)   : out0_15 (F := Ideal) x0 x1 x2 x3 x4 x5 x6 (ix2 p q) = ∑ s : Fin 8, (x0 (ix3 s (⟨64 + p.val, by omega⟩ : Fin 72) q) : EReal) := by
  have key : out0_15 (F := Ideal) x0 x1 x2 x3 x4 x5 x6 = k0_pay1 (F := Ideal) (k0_pay17 (F := Ideal) (View.ld x0 r0_18) (View.ld x0 r0_19) (View.ld x0 r0_20) (View.ld x0 r0_21)) (View.ld x0 r0_22) (View.ld x0 r0_23) (View.ld x0 r0_24) (View.ld x0 r0_25) := by
    unfold out0_15
    frame_out
  rw [key, Fin.sum_univ_eight]
  pointwise [k0_pay1, k0_pay17]

variable (m : (ℓ : Loc nD τ sig) → Buf (Elt Ideal) ℓ) (c : Dev nD)

/-- The last eight rows, summed over the devices. -/
def lastRows (i : S8x128.Idx) : EReal :=
  @Finset.sum (Fin 8) EReal _ Finset.univ fun s => (V m c main_v8 : FVec Ideal S8x72x128 .f32) (ix3 s (⟨64 + (i 0).val, by have h : (i 0).val < 8 := (i 0).isLt; omega⟩ : Fin 72) (i 1))

theorem final15 : (dats m 0 c).arrAt 15 (cfgs 0).N = lastRows m c := by
  refine (dats m 0 c).arrAt_eq_of_covers 15 _ (by decide +kernel) fun t _ y => ?_
  blk_simp [at15 t]
  rw [after0_15]
  have e : (win0_15.blk t).view.emb y = ix2 (y 0) (y 1) := by blk_ext [at15 t]
  rw [e]
  refine Eq.trans (congrArg _ (eq_ix2 y)) ((out15 _ _ _ _ _ _ _ (y 0) (y 1)).trans (Finset.sum_congr (M := EReal) rfl fun s _ => ?_))
  have e : (win0_0.blk t).view.emb (ix3 s (⟨64 + (y 0).val, by have h : (y 0).val < 8 := (y 0).isLt; omega⟩ : Fin 72) (y 1)) = ix3 s (⟨64 + (y 0).val, by have h : (y 0).val < 8 := (y 0).isLt; omega⟩ : Fin 72) (y 1) := by blk_ext [at0 t]
  exact congrArg (V m c main_v8) e

/-- The sum of the losses. -/
def total : EReal := ∑ s : Fin 8, part_loss m c s

theorem result15 : Pipeline.afterTail₀ cfgs (dats m) 0 (V0 m) [hostOps1] c main_v25 = (fun _ => total m c) := by
  show StableHlo.after hostOps1 (Pipeline.withArrays (cfgs 0).spec c (V0 m c) fun w => (dats m 0 c).arrAt w (cfgs 0).N) (Proc.tc.devRef main_v25) = _
  have e : Pipeline.withArrays (cfgs 0).spec c (V0 m c) (fun w => (dats m 0 c).arrAt w (cfgs 0).N) (Proc.tc.devRef main_v15_8) = (dats m 0 c).arrAt 15 (cfgs 0).N :=
    Pipeline.withArrays_arr (cfgs 0).spec (by decide) c _ _ 15
  rw [final15 m c] at e
  generalize Pipeline.withArrays (cfgs 0).spec c (V0 m c) (fun w => (dats m 0 c).arrAt w (cfgs 0).N) = W at e ⊢
  entry_read
  rw [e]
  funext i
  pointwise []
  exact Finset.sum_congr (M := EReal) rfl fun s _ => (congrFun (host0 m c) _).trans ((piece_loss _ _ _ s 0 0).trans (packed_loss_apply _ s 0 0 (by decide)))

end Cert.Kernel13Ideal.Value

namespace Cert.Reference13Ideal.Step

open Cert.Reference13Ideal Cert.Reference13Ideal.Gen Cert.Reference13Ideal.Read Idealize.ShloMosaic Idealize.ShloMosaic.TcCoe Idealize.SL.Sem

theorem total (x : FVec Ideal S8x1 .f32) (i : S_.Idx) : val_main_v50 (F := Ideal) x i = (∑ s : Fin 8, (x (ix2 s (0 : Fin 1)) : EReal)) := by
  rw [val_main_v50_apply]
  refine (congrArg (· + _) (show val_main_cst_19 (F := Ideal) _ = (0 : EReal) by rw [val_main_cst_19_apply]; exact Ideal.ofBits_zero_f32)).trans ((zero_add _).trans ((ValueIdx.sum_idx2 (M := EReal) x).trans ?_))
  exact Finset.sum_congr (M := EReal) rfl fun s _ => Fin.sum_univ_one _

end Cert.Reference13Ideal.Step

end
-- ==== Proof.Lift.Small13.lean ====
/- The optimiser's step on small weights agrees with the reference's. -/
module

public import proofs.«01_k».proof.Defs
public import proofs.«01_k».proof.Proof.Gen.Kernel13
public import proofs.«01_k».proof.Proof.Gen.Reference13Ideal.Run
public import proofs.«01_k».proof.Proof.Lift.Small13ada
public import proofs.«01_k».proof.Proof.Lift.Small13in
public import proofs.«01_k».proof.Proof.Lift.Small13loss
public import Idealize.ShloMosaic.Adequacy

@[expose] public section

set_option maxRecDepth 16384

noncomputable section

namespace Cert.Proof

open Idealize.ShloMosaic Idealize.ShloMosaic.TcCoe Idealize.SL.Sem

theorem frame_reference13 : Cert.quiescent_Reference13Ideal := fun m ρ _ =>
  (θ_run Cert.Reference13Ideal.defs _ _).mono (fun r h => ⟨fun c => (h c).2.2.2.2.2.2.2.2.2, sem_eq_zero_of_no_sems (by decide) r.2⟩) (Cert.Reference13Ideal.Value.run m ρ)

open Cert.Kernel13Ideal.Value in
theorem algebraic13 : Cert.algebraic_Kernel13Ideal_Reference13Ideal := by
  intro m g m' g' _ hargs
  refine ⟨fun c i => grad_ada m c (flat_ada i), fun c i => change_ada m c (flat_ada i), fun c i => first_ada m c (flat_ada i), fun c i => second_ada m c (flat_ada i), fun c i => grad_in m c (flat_in i), fun c i => change_in m c (flat_in i), fun c i => first_in m c (flat_in i), fun c i => second_in m c (flat_in i), fun c _ => total m c, ?_, ?_⟩
  · refine (θ_run Cert.Kernel13Ideal.defs _ _).mono (fun r h c => ?_) (θ_run_and (Cert.Kernel13Ideal.Gen.run_main m g) (Cert.Kernel13Ideal.Gen.unchanged m g))
    exact ⟨((h.1 c).2 _ (by decide)).trans (result7 m c),
      ((h.1 c).2 _ (by decide)).trans (result8 m c),
      ((h.1 c).2 _ (by decide)).trans (result9 m c),
      ((h.1 c).2 _ (by decide)).trans (result10 m c),
      ((h.1 c).2 _ (by decide)).trans (result11 m c),
      ((h.1 c).2 _ (by decide)).trans (result12 m c),
      ((h.1 c).2 _ (by decide)).trans (result13 m c),
      ((h.1 c).2 _ (by decide)).trans (result14 m c),
      ((h.1 c).2 _ (by decide)).trans (result15 m c), h.2 c⟩
  · refine (θ_run Cert.Reference13Ideal.defs _ _).mono (fun r h c => ?_) (Cert.Reference13Ideal.Value.run m' g')
    obtain ⟨h0, h1, h2, h3, h4, h5, h6, h7, h8, h9⟩ := h c
    obtain ⟨e0, e1, e2, e3, e4, e5, e6, e7, e8⟩ := hargs c
    exact ⟨(h0.trans (Cert.Reference13Ideal.Read.val_main_v0_eq _)).trans (funext fun i => (Cert.Reference13Ideal.Step.grad_ada _ i).trans (by rw [e0]; rfl)),
      (h1.trans (Cert.Reference13Ideal.Read.val_main_v25_eq _ _ _ _)).trans (funext fun i => (Cert.Reference13Ideal.Step.change_ada _ _ _ _ i).trans (by rw [e0, e3, e5, e7]; rfl)),
      (h2.trans (Cert.Reference13Ideal.Read.val_main_v6_eq _ _)).trans (funext fun i => (Cert.Reference13Ideal.Step.first_ada _ _ i).trans (by rw [e0, e5]; rfl)),
      (h3.trans (Cert.Reference13Ideal.Read.val_main_v12_eq _ _)).trans (funext fun i => (Cert.Reference13Ideal.Step.second_ada _ _ i).trans (by rw [e0, e7]; rfl)),
      (h4.trans (Cert.Reference13Ideal.Read.val_main_v1_eq _)).trans (funext fun i => (Cert.Reference13Ideal.Step.grad_in _ i).trans (by rw [e1]; rfl)),
      (h5.trans (Cert.Reference13Ideal.Read.val_main_v49_eq _ _ _ _)).trans (funext fun i => (Cert.Reference13Ideal.Step.change_in _ _ _ _ i).trans (by rw [e1, e4, e6, e8]; rfl)),
      (h6.trans (Cert.Reference13Ideal.Read.val_main_v30_eq _ _)).trans (funext fun i => (Cert.Reference13Ideal.Step.first_in _ _ i).trans (by rw [e1, e6]; rfl)),
      (h7.trans (Cert.Reference13Ideal.Read.val_main_v36_eq _ _)).trans (funext fun i => (Cert.Reference13Ideal.Step.second_in _ _ i).trans (by rw [e1, e8]; rfl)),
      (h8.trans (Cert.Reference13Ideal.Read.val_main_v50_eq _)).trans (funext fun i => (Cert.Reference13Ideal.Step.total _ i).trans (by rw [e2]; rfl)), h9⟩

end Cert.Proof

end
-- ==== Proof.lean ====
/- The kernels of the training step computed over the reals and their references: frames, preserved programs, equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Pre_finite
public import proofs.«01_k».proof.Proof.Gen.Pre_finite2
public import proofs.«01_k».proof.Proof.Lift.FfnProof
public import proofs.«01_k».proof.Proof.Lift.BackProof
public import proofs.«01_k».proof.Proof.Lift.Wgrads
public import proofs.«01_k».proof.Proof.Lift.DinProof
public import proofs.«01_k».proof.Proof.Lift.AdamProof
public import proofs.«01_k».proof.Proof.Lift.Small14
public import proofs.«01_k».proof.Proof.Lift.InProof
public import proofs.«01_k».proof.Proof.Lift.Small13
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  trivial, algebraic, trivial, algebraic2, trivial, algebraic3, trivial, algebraic4, trivial, algebraic5, trivial, algebraic6, trivial, algebraic7, trivial, algebraic8, trivial, algebraic9, trivial, algebraic10, trivial, algebraic11, trivial, algebraic13, trivial, algebraic14, trivial, algebraic15⟩

end Cert.Proof

end
